-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeStep (m : (ℓ : Loc Cert.MergeStep.nD Cert.MergeStep.τ Cert.MergeStep.sig) → Buf (Elt Bits) ℓ) : Prop :=
  True

def Pre_MergeStepIdeal (m : (ℓ : Loc Cert.MergeStepIdeal.nD Cert.MergeStepIdeal.τ Cert.MergeStepIdeal.sig) → Buf (Elt Ideal) ℓ) : Prop :=
  True

def Pre_MergeStepReferenceIdeal (m : (ℓ : Loc Cert.MergeStepReferenceIdeal.nD Cert.MergeStepReferenceIdeal.τ Cert.MergeStepReferenceIdeal.sig) → Buf (Elt Ideal) ℓ) : Prop :=
  True

def Pre_ProjStep (m : (ℓ : Loc Cert.ProjStep.nD Cert.ProjStep.τ Cert.ProjStep.sig) → Buf (Elt Bits) ℓ) : Prop :=
  True

def Pre_ProjStepIdeal (m : (ℓ : Loc Cert.ProjStepIdeal.nD Cert.ProjStepIdeal.τ Cert.ProjStepIdeal.sig) → Buf (Elt Ideal) ℓ) : Prop :=
  True

def Pre_ProjStepReferenceIdeal (m : (ℓ : Loc Cert.ProjStepReferenceIdeal.nD Cert.ProjStepReferenceIdeal.τ Cert.ProjStepReferenceIdeal.sig) → Buf (Elt Ideal) ℓ) : Prop :=
  True

def Pre_Inter (m : (ℓ : Loc Cert.Inter.nD Cert.Inter.τ Cert.Inter.sig) → Buf (Elt Bits) ℓ) : Prop :=
  True

def Pre_InterIdeal (m : (ℓ : Loc Cert.InterIdeal.nD Cert.InterIdeal.τ Cert.InterIdeal.sig) → Buf (Elt Ideal) ℓ) : Prop :=
  True

def Pre_InterReferenceIdeal (m : (ℓ : Loc Cert.InterReferenceIdeal.nD Cert.InterReferenceIdeal.τ Cert.InterReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_MergeStep [hMergeStep : Cert.MergeStep.Facts] : Prop :=
  ∀ (m : (ℓ : Loc Cert.MergeStep.nD Cert.MergeStep.τ Cert.MergeStep.sig) → Buf (Elt Bits) ℓ) (g : Dev Cert.MergeStep.nD → PrngReg), Pre_MergeStep m →
    θ_run (Cert.MergeStep.defs (F := Bits)) (onTc (τ := Cert.MergeStep.τ) (Cert.MergeStep.main (F := Bits))) ⟨m, fun _ => 0, g⟩ (fun r => (∀ c : Dev Cert.MergeStep.nD,
      r.2.mem ((c.tc : Thread Cert.MergeStep.nD Cert.MergeStep.τ).loc Cert.MergeStep.main_arg0) = m ((c.tc : Thread Cert.MergeStep.nD Cert.MergeStep.τ).loc Cert.MergeStep.main_arg0)
      ∧ r.2.mem ((c.tc : Thread Cert.MergeStep.nD Cert.MergeStep.τ).loc Cert.MergeStep.main_arg1) = m ((c.tc : Thread Cert.MergeStep.nD Cert.MergeStep.τ).loc Cert.MergeStep.main_arg1)
      ∧ r.2.mem ((c.tc : Thread Cert.MergeStep.nD Cert.MergeStep.τ).loc Cert.MergeStep.main_arg2) = m ((c.tc : Thread Cert.MergeStep.nD Cert.MergeStep.τ).loc Cert.MergeStep.main_arg2)
      ∧ r.2.mem ((c.tc : Thread Cert.MergeStep.nD Cert.MergeStep.τ).loc Cert.MergeStep.main_arg3) = m ((c.tc : Thread Cert.MergeStep.nD Cert.MergeStep.τ).loc Cert.MergeStep.main_arg3)
      ∧ r.2.mem ((c.tc : Thread Cert.MergeStep.nD Cert.MergeStep.τ).loc Cert.MergeStep.main_arg4) = m ((c.tc : Thread Cert.MergeStep.nD Cert.MergeStep.τ).loc Cert.MergeStep.main_arg4)
      ∧ r.2.mem ((c.tc : Thread Cert.MergeStep.nD Cert.MergeStep.τ).loc Cert.MergeStep.main_arg5) = m ((c.tc : Thread Cert.MergeStep.nD Cert.MergeStep.τ).loc Cert.MergeStep.main_arg5)
      ∧ r.2.mem ((c.tc : Thread Cert.MergeStep.nD Cert.MergeStep.τ).loc Cert.MergeStep.main_arg6) = m ((c.tc : Thread Cert.MergeStep.nD Cert.MergeStep.τ).loc Cert.MergeStep.main_arg6))
      ∧ r.2.sem = fun _ => 0)

def quiescent_MergeStepIdeal [hMergeStepIdeal : Cert.MergeStepIdeal.Facts] : Prop :=
  ∀ (m : (ℓ : Loc Cert.MergeStepIdeal.nD Cert.MergeStepIdeal.τ Cert.MergeStepIdeal.sig) → Buf (Elt Ideal) ℓ) (g : Dev Cert.MergeStepIdeal.nD → PrngReg), Pre_MergeStepIdeal m →
    θ_run (Cert.MergeStepIdeal.defs (F := Ideal)) (onTc (τ := Cert.MergeStepIdeal.τ) (Cert.MergeStepIdeal.main (F := Ideal))) ⟨m, fun _ => 0, g⟩ (fun r => (∀ c : Dev Cert.MergeStepIdeal.nD,
      r.2.mem ((c.tc : Thread Cert.MergeStepIdeal.nD Cert.MergeStepIdeal.τ).loc Cert.MergeStepIdeal.main_arg0) = m ((c.tc : Thread Cert.MergeStepIdeal.nD Cert.MergeStepIdeal.τ).loc Cert.MergeStepIdeal.main_arg0)
      ∧ r.2.mem ((c.tc : Thread Cert.MergeStepIdeal.nD Cert.MergeStepIdeal.τ).loc Cert.MergeStepIdeal.main_arg1) = m ((c.tc : Thread Cert.MergeStepIdeal.nD Cert.MergeStepIdeal.τ).loc Cert.MergeStepIdeal.main_arg1)
      ∧ r.2.mem ((c.tc : Thread Cert.MergeStepIdeal.nD Cert.MergeStepIdeal.τ).loc Cert.MergeStepIdeal.main_arg2) = m ((c.tc : Thread Cert.MergeStepIdeal.nD Cert.MergeStepIdeal.τ).loc Cert.MergeStepIdeal.main_arg2)
      ∧ r.2.mem ((c.tc : Thread Cert.MergeStepIdeal.nD Cert.MergeStepIdeal.τ).loc Cert.MergeStepIdeal.main_arg3) = m ((c.tc : Thread Cert.MergeStepIdeal.nD Cert.MergeStepIdeal.τ).loc Cert.MergeStepIdeal.main_arg3)
      ∧ r.2.mem ((c.tc : Thread Cert.MergeStepIdeal.nD Cert.MergeStepIdeal.τ).loc Cert.MergeStepIdeal.main_arg4) = m ((c.tc : Thread Cert.MergeStepIdeal.nD Cert.MergeStepIdeal.τ).loc Cert.MergeStepIdeal.main_arg4)
      ∧ r.2.mem ((c.tc : Thread Cert.MergeStepIdeal.nD Cert.MergeStepIdeal.τ).loc Cert.MergeStepIdeal.main_arg5) = m ((c.tc : Thread Cert.MergeStepIdeal.nD Cert.MergeStepIdeal.τ).loc Cert.MergeStepIdeal.main_arg5)
      ∧ r.2.mem ((c.tc : Thread Cert.MergeStepIdeal.nD Cert.MergeStepIdeal.τ).loc Cert.MergeStepIdeal.main_arg6) = m ((c.tc : Thread Cert.MergeStepIdeal.nD Cert.MergeStepIdeal.τ).loc Cert.MergeStepIdeal.main_arg6))
      ∧ r.2.sem = fun _ => 0)

def quiescent_MergeStepReferenceIdeal [hMergeStepReferenceIdeal : Cert.MergeStepReferenceIdeal.Facts] : Prop :=
  ∀ (m : (ℓ : Loc Cert.MergeStepReferenceIdeal.nD Cert.MergeStepReferenceIdeal.τ Cert.MergeStepReferenceIdeal.sig) → Buf (Elt Ideal) ℓ) (g : Dev Cert.MergeStepReferenceIdeal.nD → PrngReg), Pre_MergeStepReferenceIdeal m →
    θ_run (Cert.MergeStepReferenceIdeal.defs (F := Ideal)) (onTc (τ := Cert.MergeStepReferenceIdeal.τ) (Cert.MergeStepReferenceIdeal.main (F := Ideal))) ⟨m, fun _ => 0, g⟩ (fun r => (∀ c : Dev Cert.MergeStepReferenceIdeal.nD,
      r.2.mem ((c.tc : Thread Cert.MergeStepReferenceIdeal.nD Cert.MergeStepReferenceIdeal.τ).loc Cert.MergeStepReferenceIdeal.main_arg0) = m ((c.tc : Thread Cert.MergeStepReferenceIdeal.nD Cert.MergeStepReferenceIdeal.τ).loc Cert.MergeStepReferenceIdeal.main_arg0)
      ∧ r.2.mem ((c.tc : Thread Cert.MergeStepReferenceIdeal.nD Cert.MergeStepReferenceIdeal.τ).loc Cert.MergeStepReferenceIdeal.main_arg1) = m ((c.tc : Thread Cert.MergeStepReferenceIdeal.nD Cert.MergeStepReferenceIdeal.τ).loc Cert.MergeStepReferenceIdeal.main_arg1)
      ∧ r.2.mem ((c.tc : Thread Cert.MergeStepReferenceIdeal.nD Cert.MergeStepReferenceIdeal.τ).loc Cert.MergeStepReferenceIdeal.main_arg2) = m ((c.tc : Thread Cert.MergeStepReferenceIdeal.nD Cert.MergeStepReferenceIdeal.τ).loc Cert.MergeStepReferenceIdeal.main_arg2)
      ∧ r.2.mem ((c.tc : Thread Cert.MergeStepReferenceIdeal.nD Cert.MergeStepReferenceIdeal.τ).loc Cert.MergeStepReferenceIdeal.main_arg3) = m ((c.tc : Thread Cert.MergeStepReferenceIdeal.nD Cert.MergeStepReferenceIdeal.τ).loc Cert.MergeStepReferenceIdeal.main_arg3)
      ∧ r.2.mem ((c.tc : Thread Cert.MergeStepReferenceIdeal.nD Cert.MergeStepReferenceIdeal.τ).loc Cert.MergeStepReferenceIdeal.main_arg4) = m ((c.tc : Thread Cert.MergeStepReferenceIdeal.nD Cert.MergeStepReferenceIdeal.τ).loc Cert.MergeStepReferenceIdeal.main_arg4)
      ∧ r.2.mem ((c.tc : Thread Cert.MergeStepReferenceIdeal.nD Cert.MergeStepReferenceIdeal.τ).loc Cert.MergeStepReferenceIdeal.main_arg5) = m ((c.tc : Thread Cert.MergeStepReferenceIdeal.nD Cert.MergeStepReferenceIdeal.τ).loc Cert.MergeStepReferenceIdeal.main_arg5)
      ∧ r.2.mem ((c.tc : Thread Cert.MergeStepReferenceIdeal.nD Cert.MergeStepReferenceIdeal.τ).loc Cert.MergeStepReferenceIdeal.main_arg6) = m ((c.tc : Thread Cert.MergeStepReferenceIdeal.nD Cert.MergeStepReferenceIdeal.τ).loc Cert.MergeStepReferenceIdeal.main_arg6))
      ∧ r.2.sem = fun _ => 0)

def quiescent_ProjStep [hProjStep : Cert.ProjStep.Facts] : Prop :=
  ∀ (m : (ℓ : Loc Cert.ProjStep.nD Cert.ProjStep.τ Cert.ProjStep.sig) → Buf (Elt Bits) ℓ) (g : Dev Cert.ProjStep.nD → PrngReg), Pre_ProjStep m →
    θ_run (Cert.ProjStep.defs (F := Bits)) (onTc (τ := Cert.ProjStep.τ) (Cert.ProjStep.main (F := Bits))) ⟨m, fun _ => 0, g⟩ (fun r => (∀ c : Dev Cert.ProjStep.nD,
      r.2.mem ((c.tc : Thread Cert.ProjStep.nD Cert.ProjStep.τ).loc Cert.ProjStep.main_arg0) = m ((c.tc : Thread Cert.ProjStep.nD Cert.ProjStep.τ).loc Cert.ProjStep.main_arg0)
      ∧ r.2.mem ((c.tc : Thread Cert.ProjStep.nD Cert.ProjStep.τ).loc Cert.ProjStep.main_arg1) = m ((c.tc : Thread Cert.ProjStep.nD Cert.ProjStep.τ).loc Cert.ProjStep.main_arg1)
      ∧ r.2.mem ((c.tc : Thread Cert.ProjStep.nD Cert.ProjStep.τ).loc Cert.ProjStep.main_arg2) = m ((c.tc : Thread Cert.ProjStep.nD Cert.ProjStep.τ).loc Cert.ProjStep.main_arg2)
      ∧ r.2.mem ((c.tc : Thread Cert.ProjStep.nD Cert.ProjStep.τ).loc Cert.ProjStep.main_arg3) = m ((c.tc : Thread Cert.ProjStep.nD Cert.ProjStep.τ).loc Cert.ProjStep.main_arg3)
      ∧ r.2.mem ((c.tc : Thread Cert.ProjStep.nD Cert.ProjStep.τ).loc Cert.ProjStep.main_arg4) = m ((c.tc : Thread Cert.ProjStep.nD Cert.ProjStep.τ).loc Cert.ProjStep.main_arg4)
      ∧ r.2.mem ((c.tc : Thread Cert.ProjStep.nD Cert.ProjStep.τ).loc Cert.ProjStep.main_arg5) = m ((c.tc : Thread Cert.ProjStep.nD Cert.ProjStep.τ).loc Cert.ProjStep.main_arg5))
      ∧ r.2.sem = fun _ => 0)

def quiescent_ProjStepIdeal [hProjStepIdeal : Cert.ProjStepIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg), Pre_ProjStepIdeal m →
    θ_run (Cert.ProjStepIdeal.defs (F := Ideal)) (onTc (τ := Cert.ProjStepIdeal.τ) (Cert.ProjStepIdeal.main (F := Ideal))) ⟨m, fun _ => 0, g⟩ (fun r => (∀ c : Dev Cert.ProjStepIdeal.nD,
      r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
      ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
      ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2)
      ∧ r.2.mem ((c.tc : Thread Cert.ProjStepIdeal.nD Cert.ProjStepIdeal.τ).loc Cert.ProjStepIdeal.main_arg3) = m ((c.tc : Thread Cert.ProjStepIdeal.nD Cert.ProjStepIdeal.τ).loc Cert.ProjStepIdeal.main_arg3)
      ∧ r.2.mem ((c.tc : Thread Cert.ProjStepIdeal.nD Cert.ProjStepIdeal.τ).loc Cert.ProjStepIdeal.main_arg4) = m ((c.tc : Thread Cert.ProjStepIdeal.nD Cert.ProjStepIdeal.τ).loc Cert.ProjStepIdeal.main_arg4)
      ∧ r.2.mem ((c.tc : Thread Cert.ProjStepIdeal.nD Cert.ProjStepIdeal.τ).loc Cert.ProjStepIdeal.main_arg5) = m ((c.tc : Thread Cert.ProjStepIdeal.nD Cert.ProjStepIdeal.τ).loc Cert.ProjStepIdeal.main_arg5))
      ∧ r.2.sem = fun _ => 0)

def quiescent_ProjStepReferenceIdeal [hProjStepReferenceIdeal : Cert.ProjStepReferenceIdeal.Facts] : Prop :=
  ∀ (m : (ℓ : Loc Cert.ProjStepReferenceIdeal.nD Cert.ProjStepReferenceIdeal.τ Cert.ProjStepReferenceIdeal.sig) → Buf (Elt Ideal) ℓ) (g : Dev Cert.ProjStepReferenceIdeal.nD → PrngReg), Pre_ProjStepReferenceIdeal m →
    θ_run (Cert.ProjStepReferenceIdeal.defs (F := Ideal)) (onTc (τ := Cert.ProjStepReferenceIdeal.τ) (Cert.ProjStepReferenceIdeal.main (F := Ideal))) ⟨m, fun _ => 0, g⟩ (fun r => (∀ c : Dev Cert.ProjStepReferenceIdeal.nD,
      r.2.mem ((c.tc : Thread Cert.ProjStepReferenceIdeal.nD Cert.ProjStepReferenceIdeal.τ).loc Cert.ProjStepReferenceIdeal.main_arg0) = m ((c.tc : Thread Cert.ProjStepReferenceIdeal.nD Cert.ProjStepReferenceIdeal.τ).loc Cert.ProjStepReferenceIdeal.main_arg0)
      ∧ r.2.mem ((c.tc : Thread Cert.ProjStepReferenceIdeal.nD Cert.ProjStepReferenceIdeal.τ).loc Cert.ProjStepReferenceIdeal.main_arg1) = m ((c.tc : Thread Cert.ProjStepReferenceIdeal.nD Cert.ProjStepReferenceIdeal.τ).loc Cert.ProjStepReferenceIdeal.main_arg1)
      ∧ r.2.mem ((c.tc : Thread Cert.ProjStepReferenceIdeal.nD Cert.ProjStepReferenceIdeal.τ).loc Cert.ProjStepReferenceIdeal.main_arg2) = m ((c.tc : Thread Cert.ProjStepReferenceIdeal.nD Cert.ProjStepReferenceIdeal.τ).loc Cert.ProjStepReferenceIdeal.main_arg2)
      ∧ r.2.mem ((c.tc : Thread Cert.ProjStepReferenceIdeal.nD Cert.ProjStepReferenceIdeal.τ).loc Cert.ProjStepReferenceIdeal.main_arg3) = m ((c.tc : Thread Cert.ProjStepReferenceIdeal.nD Cert.ProjStepReferenceIdeal.τ).loc Cert.ProjStepReferenceIdeal.main_arg3)
      ∧ r.2.mem ((c.tc : Thread Cert.ProjStepReferenceIdeal.nD Cert.ProjStepReferenceIdeal.τ).loc Cert.ProjStepReferenceIdeal.main_arg4) = m ((c.tc : Thread Cert.ProjStepReferenceIdeal.nD Cert.ProjStepReferenceIdeal.τ).loc Cert.ProjStepReferenceIdeal.main_arg4)
      ∧ r.2.mem ((c.tc : Thread Cert.ProjStepReferenceIdeal.nD Cert.ProjStepReferenceIdeal.τ).loc Cert.ProjStepReferenceIdeal.main_arg5) = m ((c.tc : Thread Cert.ProjStepReferenceIdeal.nD Cert.ProjStepReferenceIdeal.τ).loc Cert.ProjStepReferenceIdeal.main_arg5))
      ∧ r.2.sem = fun _ => 0)

def quiescent_Inter [hInter : Cert.Inter.Facts] : Prop :=
  ∀ (m : (ℓ : Loc Cert.Inter.nD Cert.Inter.τ Cert.Inter.sig) → Buf (Elt Bits) ℓ) (g : Dev Cert.Inter.nD → PrngReg), Pre_Inter m →
    θ_run (Cert.Inter.defs (F := Bits)) (onTc (τ := Cert.Inter.τ) (Cert.Inter.main (F := Bits))) ⟨m, fun _ => 0, g⟩ (fun r => (∀ c : Dev Cert.Inter.nD,
      r.2.mem ((c.tc : Thread Cert.Inter.nD Cert.Inter.τ).loc Cert.Inter.main_arg0) = m ((c.tc : Thread Cert.Inter.nD Cert.Inter.τ).loc Cert.Inter.main_arg0)
      ∧ r.2.mem ((c.tc : Thread Cert.Inter.nD Cert.Inter.τ).loc Cert.Inter.main_arg1) = m ((c.tc : Thread Cert.Inter.nD Cert.Inter.τ).loc Cert.Inter.main_arg1)
      ∧ r.2.mem ((c.tc : Thread Cert.Inter.nD Cert.Inter.τ).loc Cert.Inter.main_arg2) = m ((c.tc : Thread Cert.Inter.nD Cert.Inter.τ).loc Cert.Inter.main_arg2)
      ∧ r.2.mem ((c.tc : Thread Cert.Inter.nD Cert.Inter.τ).loc Cert.Inter.main_arg3) = m ((c.tc : Thread Cert.Inter.nD Cert.Inter.τ).loc Cert.Inter.main_arg3)
      ∧ r.2.mem ((c.tc : Thread Cert.Inter.nD Cert.Inter.τ).loc Cert.Inter.main_arg4) = m ((c.tc : Thread Cert.Inter.nD Cert.Inter.τ).loc Cert.Inter.main_arg4)
      ∧ r.2.mem ((c.tc : Thread Cert.Inter.nD Cert.Inter.τ).loc Cert.Inter.main_arg5) = m ((c.tc : Thread Cert.Inter.nD Cert.Inter.τ).loc Cert.Inter.main_arg5)
      ∧ r.2.mem ((c.tc : Thread Cert.Inter.nD Cert.Inter.τ).loc Cert.Inter.main_arg6) = m ((c.tc : Thread Cert.Inter.nD Cert.Inter.τ).loc Cert.Inter.main_arg6)
      ∧ r.2.mem ((c.tc : Thread Cert.Inter.nD Cert.Inter.τ).loc Cert.Inter.main_arg7) = m ((c.tc : Thread Cert.Inter.nD Cert.Inter.τ).loc Cert.Inter.main_arg7))
      ∧ r.2.sem = fun _ => 0)

def quiescent_InterIdeal [hInterIdeal : Cert.InterIdeal.Facts] : Prop :=
  ∀ (m : (ℓ : Loc Cert.InterIdeal.nD Cert.InterIdeal.τ Cert.InterIdeal.sig) → Buf (Elt Ideal) ℓ) (g : Dev Cert.InterIdeal.nD → PrngReg), Pre_InterIdeal m →
    θ_run (Cert.InterIdeal.defs (F := Ideal)) (onTc (τ := Cert.InterIdeal.τ) (Cert.InterIdeal.main (F := Ideal))) ⟨m, fun _ => 0, g⟩ (fun r => (∀ c : Dev Cert.InterIdeal.nD,
      r.2.mem ((c.tc : Thread Cert.InterIdeal.nD Cert.InterIdeal.τ).loc Cert.InterIdeal.main_arg0) = m ((c.tc : Thread Cert.InterIdeal.nD Cert.InterIdeal.τ).loc Cert.InterIdeal.main_arg0)
      ∧ r.2.mem ((c.tc : Thread Cert.InterIdeal.nD Cert.InterIdeal.τ).loc Cert.InterIdeal.main_arg1) = m ((c.tc : Thread Cert.InterIdeal.nD Cert.InterIdeal.τ).loc Cert.InterIdeal.main_arg1)
      ∧ r.2.mem ((c.tc : Thread Cert.InterIdeal.nD Cert.InterIdeal.τ).loc Cert.InterIdeal.main_arg2) = m ((c.tc : Thread Cert.InterIdeal.nD Cert.InterIdeal.τ).loc Cert.InterIdeal.main_arg2)
      ∧ r.2.mem ((c.tc : Thread Cert.InterIdeal.nD Cert.InterIdeal.τ).loc Cert.InterIdeal.main_arg3) = m ((c.tc : Thread Cert.InterIdeal.nD Cert.InterIdeal.τ).loc Cert.InterIdeal.main_arg3)
      ∧ r.2.mem ((c.tc : Thread Cert.InterIdeal.nD Cert.InterIdeal.τ).loc Cert.InterIdeal.main_arg4) = m ((c.tc : Thread Cert.InterIdeal.nD Cert.InterIdeal.τ).loc Cert.InterIdeal.main_arg4)
      ∧ r.2.mem ((c.tc : Thread Cert.InterIdeal.nD Cert.InterIdeal.τ).loc Cert.InterIdeal.main_arg5) = m ((c.tc : Thread Cert.InterIdeal.nD Cert.InterIdeal.τ).loc Cert.InterIdeal.main_arg5)
      ∧ r.2.mem ((c.tc : Thread Cert.InterIdeal.nD Cert.InterIdeal.τ).loc Cert.InterIdeal.main_arg6) = m ((c.tc : Thread Cert.InterIdeal.nD Cert.InterIdeal.τ).loc Cert.InterIdeal.main_arg6)
      ∧ r.2.mem ((c.tc : Thread Cert.InterIdeal.nD Cert.InterIdeal.τ).loc Cert.InterIdeal.main_arg7) = m ((c.tc : Thread Cert.InterIdeal.nD Cert.InterIdeal.τ).loc Cert.InterIdeal.main_arg7))
      ∧ r.2.sem = fun _ => 0)

def quiescent_InterReferenceIdeal [hInterReferenceIdeal : Cert.InterReferenceIdeal.Facts] : Prop :=
  ∀ (m : (ℓ : Loc Cert.InterReferenceIdeal.nD Cert.InterReferenceIdeal.τ Cert.InterReferenceIdeal.sig) → Buf (Elt Ideal) ℓ) (g : Dev Cert.InterReferenceIdeal.nD → PrngReg), Pre_InterReferenceIdeal m →
    θ_run (Cert.InterReferenceIdeal.defs (F := Ideal)) (onTc (τ := Cert.InterReferenceIdeal.τ) (Cert.InterReferenceIdeal.main (F := Ideal))) ⟨m, fun _ => 0, g⟩ (fun r => (∀ c : Dev Cert.InterReferenceIdeal.nD,
      r.2.mem ((c.tc : Thread Cert.InterReferenceIdeal.nD Cert.InterReferenceIdeal.τ).loc Cert.InterReferenceIdeal.main_arg0) = m ((c.tc : Thread Cert.InterReferenceIdeal.nD Cert.InterReferenceIdeal.τ).loc Cert.InterReferenceIdeal.main_arg0)
      ∧ r.2.mem ((c.tc : Thread Cert.InterReferenceIdeal.nD Cert.InterReferenceIdeal.τ).loc Cert.InterReferenceIdeal.main_arg1) = m ((c.tc : Thread Cert.InterReferenceIdeal.nD Cert.InterReferenceIdeal.τ).loc Cert.InterReferenceIdeal.main_arg1)
      ∧ r.2.mem ((c.tc : Thread Cert.InterReferenceIdeal.nD Cert.InterReferenceIdeal.τ).loc Cert.InterReferenceIdeal.main_arg2) = m ((c.tc : Thread Cert.InterReferenceIdeal.nD Cert.InterReferenceIdeal.τ).loc Cert.InterReferenceIdeal.main_arg2)
      ∧ r.2.mem ((c.tc : Thread Cert.InterReferenceIdeal.nD Cert.InterReferenceIdeal.τ).loc Cert.InterReferenceIdeal.main_arg3) = m ((c.tc : Thread Cert.InterReferenceIdeal.nD Cert.InterReferenceIdeal.τ).loc Cert.InterReferenceIdeal.main_arg3)
      ∧ r.2.mem ((c.tc : Thread Cert.InterReferenceIdeal.nD Cert.InterReferenceIdeal.τ).loc Cert.InterReferenceIdeal.main_arg4) = m ((c.tc : Thread Cert.InterReferenceIdeal.nD Cert.InterReferenceIdeal.τ).loc Cert.InterReferenceIdeal.main_arg4)
      ∧ r.2.mem ((c.tc : Thread Cert.InterReferenceIdeal.nD Cert.InterReferenceIdeal.τ).loc Cert.InterReferenceIdeal.main_arg5) = m ((c.tc : Thread Cert.InterReferenceIdeal.nD Cert.InterReferenceIdeal.τ).loc Cert.InterReferenceIdeal.main_arg5)
      ∧ r.2.mem ((c.tc : Thread Cert.InterReferenceIdeal.nD Cert.InterReferenceIdeal.τ).loc Cert.InterReferenceIdeal.main_arg6) = m ((c.tc : Thread Cert.InterReferenceIdeal.nD Cert.InterReferenceIdeal.τ).loc Cert.InterReferenceIdeal.main_arg6)
      ∧ r.2.mem ((c.tc : Thread Cert.InterReferenceIdeal.nD Cert.InterReferenceIdeal.τ).loc Cert.InterReferenceIdeal.main_arg7) = m ((c.tc : Thread Cert.InterReferenceIdeal.nD Cert.InterReferenceIdeal.τ).loc Cert.InterReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)) (v3 : (c : Dev Cert.ProjIdeal.nD) → Buf (Elt Ideal) ((c.tc : Thread Cert.ProjIdeal.nD Cert.ProjIdeal.τ).loc Cert.ProjIdeal.main_v21_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_v21_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v79) = v0 c
          ∧ r.2.mem ((c.tc : Thread Cert.ProjReferenceIdeal.nD Cert.ProjReferenceIdeal.τ).loc Cert.ProjReferenceIdeal.main_v80) = v1 c
          ∧ r.2.mem ((c.tc : Thread Cert.ProjReferenceIdeal.nD Cert.ProjReferenceIdeal.τ).loc Cert.ProjReferenceIdeal.main_v81) = v2 c
          ∧ r.2.mem ((c.tc : Thread Cert.ProjReferenceIdeal.nD Cert.ProjReferenceIdeal.τ).loc Cert.ProjReferenceIdeal.main_v82) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_MergeStep_MergeStepIdeal : Prop :=
  True

def algebraic_MergeStepIdeal_MergeStepReferenceIdeal [hMergeStepIdeal : Cert.MergeStepIdeal.Facts] [hMergeStepReferenceIdeal : Cert.MergeStepReferenceIdeal.Facts] : Prop :=
  ∀ (m : (ℓ : Loc Cert.MergeStepIdeal.nD Cert.MergeStepIdeal.τ Cert.MergeStepIdeal.sig) → Buf (Elt Ideal) ℓ) (g : Dev Cert.MergeStepIdeal.nD → PrngReg)
    (m' : (ℓ : Loc Cert.MergeStepReferenceIdeal.nD Cert.MergeStepReferenceIdeal.τ Cert.MergeStepReferenceIdeal.sig) → Buf (Elt Ideal) ℓ) (g' : Dev Cert.MergeStepReferenceIdeal.nD → PrngReg), Pre_MergeStepIdeal m →
    (∀ c : Dev Cert.MergeStepIdeal.nD,
      m' ((c.tc : Thread Cert.MergeStepReferenceIdeal.nD Cert.MergeStepReferenceIdeal.τ).loc Cert.MergeStepReferenceIdeal.main_arg0) = m ((c.tc : Thread Cert.MergeStepIdeal.nD Cert.MergeStepIdeal.τ).loc Cert.MergeStepIdeal.main_arg0)
      ∧ m' ((c.tc : Thread Cert.MergeStepReferenceIdeal.nD Cert.MergeStepReferenceIdeal.τ).loc Cert.MergeStepReferenceIdeal.main_arg1) = m ((c.tc : Thread Cert.MergeStepIdeal.nD Cert.MergeStepIdeal.τ).loc Cert.MergeStepIdeal.main_arg1)
      ∧ m' ((c.tc : Thread Cert.MergeStepReferenceIdeal.nD Cert.MergeStepReferenceIdeal.τ).loc Cert.MergeStepReferenceIdeal.main_arg2) = m ((c.tc : Thread Cert.MergeStepIdeal.nD Cert.MergeStepIdeal.τ).loc Cert.MergeStepIdeal.main_arg2)
      ∧ m' ((c.tc : Thread Cert.MergeStepReferenceIdeal.nD Cert.MergeStepReferenceIdeal.τ).loc Cert.MergeStepReferenceIdeal.main_arg3) = m ((c.tc : Thread Cert.MergeStepIdeal.nD Cert.MergeStepIdeal.τ).loc Cert.MergeStepIdeal.main_arg3)
      ∧ m' ((c.tc : Thread Cert.MergeStepReferenceIdeal.nD Cert.MergeStepReferenceIdeal.τ).loc Cert.MergeStepReferenceIdeal.main_arg4) = m ((c.tc : Thread Cert.MergeStepIdeal.nD Cert.MergeStepIdeal.τ).loc Cert.MergeStepIdeal.main_arg4)
      ∧ m' ((c.tc : Thread Cert.MergeStepReferenceIdeal.nD Cert.MergeStepReferenceIdeal.τ).loc Cert.MergeStepReferenceIdeal.main_arg5) = m ((c.tc : Thread Cert.MergeStepIdeal.nD Cert.MergeStepIdeal.τ).loc Cert.MergeStepIdeal.main_arg5)
      ∧ m' ((c.tc : Thread Cert.MergeStepReferenceIdeal.nD Cert.MergeStepReferenceIdeal.τ).loc Cert.MergeStepReferenceIdeal.main_arg6) = m ((c.tc : Thread Cert.MergeStepIdeal.nD Cert.MergeStepIdeal.τ).loc Cert.MergeStepIdeal.main_arg6)) →
    ∃ (v0 : (c : Dev Cert.MergeStepIdeal.nD) → Buf (Elt Ideal) ((c.tc : Thread Cert.MergeStepIdeal.nD Cert.MergeStepIdeal.τ).loc Cert.MergeStepIdeal.main_v4)),
      θ_run (Cert.MergeStepIdeal.defs (F := Ideal)) (onTc (τ := Cert.MergeStepIdeal.τ) (Cert.MergeStepIdeal.main (F := Ideal))) ⟨m, fun _ => 0, g⟩ (fun r => ∀ c : Dev Cert.MergeStepIdeal.nD,
          r.2.mem ((c.tc : Thread Cert.MergeStepIdeal.nD Cert.MergeStepIdeal.τ).loc Cert.MergeStepIdeal.main_v4) = v0 c
          ∧ r.2.mem ((c.tc : Thread Cert.MergeStepIdeal.nD Cert.MergeStepIdeal.τ).loc Cert.MergeStepIdeal.main_arg0) = m ((c.tc : Thread Cert.MergeStepIdeal.nD Cert.MergeStepIdeal.τ).loc Cert.MergeStepIdeal.main_arg0)
          ∧ r.2.mem ((c.tc : Thread Cert.MergeStepIdeal.nD Cert.MergeStepIdeal.τ).loc Cert.MergeStepIdeal.main_arg1) = m ((c.tc : Thread Cert.MergeStepIdeal.nD Cert.MergeStepIdeal.τ).loc Cert.MergeStepIdeal.main_arg1)
          ∧ r.2.mem ((c.tc : Thread Cert.MergeStepIdeal.nD Cert.MergeStepIdeal.τ).loc Cert.MergeStepIdeal.main_arg2) = m ((c.tc : Thread Cert.MergeStepIdeal.nD Cert.MergeStepIdeal.τ).loc Cert.MergeStepIdeal.main_arg2)
          ∧ r.2.mem ((c.tc : Thread Cert.MergeStepIdeal.nD Cert.MergeStepIdeal.τ).loc Cert.MergeStepIdeal.main_arg3) = m ((c.tc : Thread Cert.MergeStepIdeal.nD Cert.MergeStepIdeal.τ).loc Cert.MergeStepIdeal.main_arg3)
          ∧ r.2.mem ((c.tc : Thread Cert.MergeStepIdeal.nD Cert.MergeStepIdeal.τ).loc Cert.MergeStepIdeal.main_arg4) = m ((c.tc : Thread Cert.MergeStepIdeal.nD Cert.MergeStepIdeal.τ).loc Cert.MergeStepIdeal.main_arg4)
          ∧ r.2.mem ((c.tc : Thread Cert.MergeStepIdeal.nD Cert.MergeStepIdeal.τ).loc Cert.MergeStepIdeal.main_arg5) = m ((c.tc : Thread Cert.MergeStepIdeal.nD Cert.MergeStepIdeal.τ).loc Cert.MergeStepIdeal.main_arg5)
          ∧ r.2.mem ((c.tc : Thread Cert.MergeStepIdeal.nD Cert.MergeStepIdeal.τ).loc Cert.MergeStepIdeal.main_arg6) = m ((c.tc : Thread Cert.MergeStepIdeal.nD Cert.MergeStepIdeal.τ).loc Cert.MergeStepIdeal.main_arg6))
      ∧ θ_run (Cert.MergeStepReferenceIdeal.defs (F := Ideal)) (onTc (τ := Cert.MergeStepReferenceIdeal.τ) (Cert.MergeStepReferenceIdeal.main (F := Ideal))) ⟨m', fun _ => 0, g'⟩ (fun r => ∀ c : Dev Cert.MergeStepReferenceIdeal.nD,
          r.2.mem ((c.tc : Thread Cert.MergeStepReferenceIdeal.nD Cert.MergeStepReferenceIdeal.τ).loc Cert.MergeStepReferenceIdeal.main_v21) = v0 c
          ∧ r.2.mem ((c.tc : Thread Cert.MergeStepReferenceIdeal.nD Cert.MergeStepReferenceIdeal.τ).loc Cert.MergeStepReferenceIdeal.main_arg0) = m' ((c.tc : Thread Cert.MergeStepReferenceIdeal.nD Cert.MergeStepReferenceIdeal.τ).loc Cert.MergeStepReferenceIdeal.main_arg0)
          ∧ r.2.mem ((c.tc : Thread Cert.MergeStepReferenceIdeal.nD Cert.MergeStepReferenceIdeal.τ).loc Cert.MergeStepReferenceIdeal.main_arg1) = m' ((c.tc : Thread Cert.MergeStepReferenceIdeal.nD Cert.MergeStepReferenceIdeal.τ).loc Cert.MergeStepReferenceIdeal.main_arg1)
          ∧ r.2.mem ((c.tc : Thread Cert.MergeStepReferenceIdeal.nD Cert.MergeStepReferenceIdeal.τ).loc Cert.MergeStepReferenceIdeal.main_arg2) = m' ((c.tc : Thread Cert.MergeStepReferenceIdeal.nD Cert.MergeStepReferenceIdeal.τ).loc Cert.MergeStepReferenceIdeal.main_arg2)
          ∧ r.2.mem ((c.tc : Thread Cert.MergeStepReferenceIdeal.nD Cert.MergeStepReferenceIdeal.τ).loc Cert.MergeStepReferenceIdeal.main_arg3) = m' ((c.tc : Thread Cert.MergeStepReferenceIdeal.nD Cert.MergeStepReferenceIdeal.τ).loc Cert.MergeStepReferenceIdeal.main_arg3)
          ∧ r.2.mem ((c.tc : Thread Cert.MergeStepReferenceIdeal.nD Cert.MergeStepReferenceIdeal.τ).loc Cert.MergeStepReferenceIdeal.main_arg4) = m' ((c.tc : Thread Cert.MergeStepReferenceIdeal.nD Cert.MergeStepReferenceIdeal.τ).loc Cert.MergeStepReferenceIdeal.main_arg4)
          ∧ r.2.mem ((c.tc : Thread Cert.MergeStepReferenceIdeal.nD Cert.MergeStepReferenceIdeal.τ).loc Cert.MergeStepReferenceIdeal.main_arg5) = m' ((c.tc : Thread Cert.MergeStepReferenceIdeal.nD Cert.MergeStepReferenceIdeal.τ).loc Cert.MergeStepReferenceIdeal.main_arg5)
          ∧ r.2.mem ((c.tc : Thread Cert.MergeStepReferenceIdeal.nD Cert.MergeStepReferenceIdeal.τ).loc Cert.MergeStepReferenceIdeal.main_arg6) = m' ((c.tc : Thread Cert.MergeStepReferenceIdeal.nD Cert.MergeStepReferenceIdeal.τ).loc Cert.MergeStepReferenceIdeal.main_arg6))

def preserves_ProjStep_ProjStepIdeal : Prop :=
  True

def algebraic_ProjStepIdeal_ProjStepReferenceIdeal [hProjStepIdeal : Cert.ProjStepIdeal.Facts] [hProjStepReferenceIdeal : Cert.ProjStepReferenceIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg)
    (m' : (ℓ : Loc Cert.ProjStepReferenceIdeal.nD Cert.ProjStepReferenceIdeal.τ Cert.ProjStepReferenceIdeal.sig) → Buf (Elt Ideal) ℓ) (g' : Dev Cert.ProjStepReferenceIdeal.nD → PrngReg), Pre_ProjStepIdeal m →
    (∀ c : Dev Cert.ProjStepIdeal.nD,
      m' ((c.tc : Thread Cert.ProjStepReferenceIdeal.nD Cert.ProjStepReferenceIdeal.τ).loc Cert.ProjStepReferenceIdeal.main_arg0) = m ((c.tc : Thread Cert.ProjStepIdeal.nD Cert.ProjStepIdeal.τ).loc Cert.ProjStepIdeal.main_arg0)
      ∧ m' ((c.tc : Thread Cert.ProjStepReferenceIdeal.nD Cert.ProjStepReferenceIdeal.τ).loc Cert.ProjStepReferenceIdeal.main_arg1) = m ((c.tc : Thread Cert.ProjStepIdeal.nD Cert.ProjStepIdeal.τ).loc Cert.ProjStepIdeal.main_arg1)
      ∧ m' ((c.tc : Thread Cert.ProjStepReferenceIdeal.nD Cert.ProjStepReferenceIdeal.τ).loc Cert.ProjStepReferenceIdeal.main_arg2) = m ((c.tc : Thread Cert.ProjStepIdeal.nD Cert.ProjStepIdeal.τ).loc Cert.ProjStepIdeal.main_arg2)
      ∧ m' ((c.tc : Thread Cert.ProjStepReferenceIdeal.nD Cert.ProjStepReferenceIdeal.τ).loc Cert.ProjStepReferenceIdeal.main_arg3) = m ((c.tc : Thread Cert.ProjStepIdeal.nD Cert.ProjStepIdeal.τ).loc Cert.ProjStepIdeal.main_arg3)
      ∧ m' ((c.tc : Thread Cert.ProjStepReferenceIdeal.nD Cert.ProjStepReferenceIdeal.τ).loc Cert.ProjStepReferenceIdeal.main_arg4) = m ((c.tc : Thread Cert.ProjStepIdeal.nD Cert.ProjStepIdeal.τ).loc Cert.ProjStepIdeal.main_arg4)
      ∧ m' ((c.tc : Thread Cert.ProjStepReferenceIdeal.nD Cert.ProjStepReferenceIdeal.τ).loc Cert.ProjStepReferenceIdeal.main_arg5) = m ((c.tc : Thread Cert.ProjStepIdeal.nD Cert.ProjStepIdeal.τ).loc Cert.ProjStepIdeal.main_arg5)) →
    ∃ (v0 : (c : Dev Cert.ProjStepIdeal.nD) → Buf (Elt Ideal) ((c.tc : Thread Cert.ProjStepIdeal.nD Cert.ProjStepIdeal.τ).loc Cert.ProjStepIdeal.main_v21_0)) (v1 : (c : Dev Cert.ProjStepIdeal.nD) → Buf (Elt Ideal) ((c.tc : Thread Cert.ProjStepIdeal.nD Cert.ProjStepIdeal.τ).loc Cert.ProjStepIdeal.main_v21_1)) (v2 : (c : Dev Cert.ProjStepIdeal.nD) → Buf (Elt Ideal) ((c.tc : Thread Cert.ProjStepIdeal.nD Cert.ProjStepIdeal.τ).loc Cert.ProjStepIdeal.main_v21_2)) (v3 : (c : Dev Cert.ProjStepIdeal.nD) → Buf (Elt Ideal) ((c.tc : Thread Cert.ProjStepIdeal.nD Cert.ProjStepIdeal.τ).loc Cert.ProjStepIdeal.main_v21_3)),
      θ_run (Cert.ProjStepIdeal.defs (F := Ideal)) (onTc (τ := Cert.ProjStepIdeal.τ) (Cert.ProjStepIdeal.main (F := Ideal))) ⟨m, fun _ => 0, g⟩ (fun r => ∀ c : Dev Cert.ProjStepIdeal.nD,
          r.2.mem ((c.tc : Thread Cert.ProjStepIdeal.nD Cert.ProjStepIdeal.τ).loc Cert.ProjStepIdeal.main_v21_0) = v0 c
          ∧ r.2.mem ((c.tc : Thread Cert.ProjStepIdeal.nD Cert.ProjStepIdeal.τ).loc Cert.ProjStepIdeal.main_v21_1) = v1 c
          ∧ r.2.mem ((c.tc : Thread Cert.ProjStepIdeal.nD Cert.ProjStepIdeal.τ).loc Cert.ProjStepIdeal.main_v21_2) = v2 c
          ∧ r.2.mem ((c.tc : Thread Cert.ProjStepIdeal.nD Cert.ProjStepIdeal.τ).loc Cert.ProjStepIdeal.main_v21_3) = v3 c
          ∧ r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
          ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
          ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2)
          ∧ r.2.mem ((c.tc : Thread Cert.ProjStepIdeal.nD Cert.ProjStepIdeal.τ).loc Cert.ProjStepIdeal.main_arg3) = m ((c.tc : Thread Cert.ProjStepIdeal.nD Cert.ProjStepIdeal.τ).loc Cert.ProjStepIdeal.main_arg3)
          ∧ r.2.mem ((c.tc : Thread Cert.ProjStepIdeal.nD Cert.ProjStepIdeal.τ).loc Cert.ProjStepIdeal.main_arg4) = m ((c.tc : Thread Cert.ProjStepIdeal.nD Cert.ProjStepIdeal.τ).loc Cert.ProjStepIdeal.main_arg4)
          ∧ r.2.mem ((c.tc : Thread Cert.ProjStepIdeal.nD Cert.ProjStepIdeal.τ).loc Cert.ProjStepIdeal.main_arg5) = m ((c.tc : Thread Cert.ProjStepIdeal.nD Cert.ProjStepIdeal.τ).loc Cert.ProjStepIdeal.main_arg5))
      ∧ θ_run (Cert.ProjStepReferenceIdeal.defs (F := Ideal)) (onTc (τ := Cert.ProjStepReferenceIdeal.τ) (Cert.ProjStepReferenceIdeal.main (F := Ideal))) ⟨m', fun _ => 0, g'⟩ (fun r => ∀ c : Dev Cert.ProjStepReferenceIdeal.nD,
          r.2.mem ((c.tc : Thread Cert.ProjStepReferenceIdeal.nD Cert.ProjStepReferenceIdeal.τ).loc Cert.ProjStepReferenceIdeal.main_v79) = v0 c
          ∧ r.2.mem ((c.tc : Thread Cert.ProjStepReferenceIdeal.nD Cert.ProjStepReferenceIdeal.τ).loc Cert.ProjStepReferenceIdeal.main_v80) = v1 c
          ∧ r.2.mem ((c.tc : Thread Cert.ProjStepReferenceIdeal.nD Cert.ProjStepReferenceIdeal.τ).loc Cert.ProjStepReferenceIdeal.main_v81) = v2 c
          ∧ r.2.mem ((c.tc : Thread Cert.ProjStepReferenceIdeal.nD Cert.ProjStepReferenceIdeal.τ).loc Cert.ProjStepReferenceIdeal.main_v82) = v3 c
          ∧ r.2.mem ((c.tc : Thread Cert.ProjStepReferenceIdeal.nD Cert.ProjStepReferenceIdeal.τ).loc Cert.ProjStepReferenceIdeal.main_arg0) = m' ((c.tc : Thread Cert.ProjStepReferenceIdeal.nD Cert.ProjStepReferenceIdeal.τ).loc Cert.ProjStepReferenceIdeal.main_arg0)
          ∧ r.2.mem ((c.tc : Thread Cert.ProjStepReferenceIdeal.nD Cert.ProjStepReferenceIdeal.τ).loc Cert.ProjStepReferenceIdeal.main_arg1) = m' ((c.tc : Thread Cert.ProjStepReferenceIdeal.nD Cert.ProjStepReferenceIdeal.τ).loc Cert.ProjStepReferenceIdeal.main_arg1)
          ∧ r.2.mem ((c.tc : Thread Cert.ProjStepReferenceIdeal.nD Cert.ProjStepReferenceIdeal.τ).loc Cert.ProjStepReferenceIdeal.main_arg2) = m' ((c.tc : Thread Cert.ProjStepReferenceIdeal.nD Cert.ProjStepReferenceIdeal.τ).loc Cert.ProjStepReferenceIdeal.main_arg2)
          ∧ r.2.mem ((c.tc : Thread Cert.ProjStepReferenceIdeal.nD Cert.ProjStepReferenceIdeal.τ).loc Cert.ProjStepReferenceIdeal.main_arg3) = m' ((c.tc : Thread Cert.ProjStepReferenceIdeal.nD Cert.ProjStepReferenceIdeal.τ).loc Cert.ProjStepReferenceIdeal.main_arg3)
          ∧ r.2.mem ((c.tc : Thread Cert.ProjStepReferenceIdeal.nD Cert.ProjStepReferenceIdeal.τ).loc Cert.ProjStepReferenceIdeal.main_arg4) = m' ((c.tc : Thread Cert.ProjStepReferenceIdeal.nD Cert.ProjStepReferenceIdeal.τ).loc Cert.ProjStepReferenceIdeal.main_arg4)
          ∧ r.2.mem ((c.tc : Thread Cert.ProjStepReferenceIdeal.nD Cert.ProjStepReferenceIdeal.τ).loc Cert.ProjStepReferenceIdeal.main_arg5) = m' ((c.tc : Thread Cert.ProjStepReferenceIdeal.nD Cert.ProjStepReferenceIdeal.τ).loc Cert.ProjStepReferenceIdeal.main_arg5))

def preserves_Inter_InterIdeal : Prop :=
  True

def algebraic_InterIdeal_InterReferenceIdeal [hInterIdeal : Cert.InterIdeal.Facts] [hInterReferenceIdeal : Cert.InterReferenceIdeal.Facts] : Prop :=
  ∀ (m : (ℓ : Loc Cert.InterIdeal.nD Cert.InterIdeal.τ Cert.InterIdeal.sig) → Buf (Elt Ideal) ℓ) (g : Dev Cert.InterIdeal.nD → PrngReg)
    (m' : (ℓ : Loc Cert.InterReferenceIdeal.nD Cert.InterReferenceIdeal.τ Cert.InterReferenceIdeal.sig) → Buf (Elt Ideal) ℓ) (g' : Dev Cert.InterReferenceIdeal.nD → PrngReg), Pre_InterIdeal m →
    (∀ c : Dev Cert.InterIdeal.nD,
      m' ((c.tc : Thread Cert.InterReferenceIdeal.nD Cert.InterReferenceIdeal.τ).loc Cert.InterReferenceIdeal.main_arg0) = m ((c.tc : Thread Cert.InterIdeal.nD Cert.InterIdeal.τ).loc Cert.InterIdeal.main_arg0)
      ∧ m' ((c.tc : Thread Cert.InterReferenceIdeal.nD Cert.InterReferenceIdeal.τ).loc Cert.InterReferenceIdeal.main_arg1) = m ((c.tc : Thread Cert.InterIdeal.nD Cert.InterIdeal.τ).loc Cert.InterIdeal.main_arg1)
      ∧ m' ((c.tc : Thread Cert.InterReferenceIdeal.nD Cert.InterReferenceIdeal.τ).loc Cert.InterReferenceIdeal.main_arg2) = m ((c.tc : Thread Cert.InterIdeal.nD Cert.InterIdeal.τ).loc Cert.InterIdeal.main_arg2)
      ∧ m' ((c.tc : Thread Cert.InterReferenceIdeal.nD Cert.InterReferenceIdeal.τ).loc Cert.InterReferenceIdeal.main_arg3) = m ((c.tc : Thread Cert.InterIdeal.nD Cert.InterIdeal.τ).loc Cert.InterIdeal.main_arg3)
      ∧ m' ((c.tc : Thread Cert.InterReferenceIdeal.nD Cert.InterReferenceIdeal.τ).loc Cert.InterReferenceIdeal.main_arg4) = m ((c.tc : Thread Cert.InterIdeal.nD Cert.InterIdeal.τ).loc Cert.InterIdeal.main_arg4)
      ∧ m' ((c.tc : Thread Cert.InterReferenceIdeal.nD Cert.InterReferenceIdeal.τ).loc Cert.InterReferenceIdeal.main_arg5) = m ((c.tc : Thread Cert.InterIdeal.nD Cert.InterIdeal.τ).loc Cert.InterIdeal.main_arg5)
      ∧ m' ((c.tc : Thread Cert.InterReferenceIdeal.nD Cert.InterReferenceIdeal.τ).loc Cert.InterReferenceIdeal.main_arg6) = m ((c.tc : Thread Cert.InterIdeal.nD Cert.InterIdeal.τ).loc Cert.InterIdeal.main_arg6)
      ∧ m' ((c.tc : Thread Cert.InterReferenceIdeal.nD Cert.InterReferenceIdeal.τ).loc Cert.InterReferenceIdeal.main_arg7) = m ((c.tc : Thread Cert.InterIdeal.nD Cert.InterIdeal.τ).loc Cert.InterIdeal.main_arg7)) →
    ∃ (v0 : (c : Dev Cert.InterIdeal.nD) → Buf (Elt Ideal) ((c.tc : Thread Cert.InterIdeal.nD Cert.InterIdeal.τ).loc Cert.InterIdeal.main_v8_0)) (v1 : (c : Dev Cert.InterIdeal.nD) → Buf (Elt Ideal) ((c.tc : Thread Cert.InterIdeal.nD Cert.InterIdeal.τ).loc Cert.InterIdeal.main_v8_1)),
      θ_run (Cert.InterIdeal.defs (F := Ideal)) (onTc (τ := Cert.InterIdeal.τ) (Cert.InterIdeal.main (F := Ideal))) ⟨m, fun _ => 0, g⟩ (fun r => ∀ c : Dev Cert.InterIdeal.nD,
          r.2.mem ((c.tc : Thread Cert.InterIdeal.nD Cert.InterIdeal.τ).loc Cert.InterIdeal.main_v8_0) = v0 c
          ∧ r.2.mem ((c.tc : Thread Cert.InterIdeal.nD Cert.InterIdeal.τ).loc Cert.InterIdeal.main_v8_1) = v1 c
          ∧ r.2.mem ((c.tc : Thread Cert.InterIdeal.nD Cert.InterIdeal.τ).loc Cert.InterIdeal.main_arg0) = m ((c.tc : Thread Cert.InterIdeal.nD Cert.InterIdeal.τ).loc Cert.InterIdeal.main_arg0)
          ∧ r.2.mem ((c.tc : Thread Cert.InterIdeal.nD Cert.InterIdeal.τ).loc Cert.InterIdeal.main_arg1) = m ((c.tc : Thread Cert.InterIdeal.nD Cert.InterIdeal.τ).loc Cert.InterIdeal.main_arg1)
          ∧ r.2.mem ((c.tc : Thread Cert.InterIdeal.nD Cert.InterIdeal.τ).loc Cert.InterIdeal.main_arg2) = m ((c.tc : Thread Cert.InterIdeal.nD Cert.InterIdeal.τ).loc Cert.InterIdeal.main_arg2)
          ∧ r.2.mem ((c.tc : Thread Cert.InterIdeal.nD Cert.InterIdeal.τ).loc Cert.InterIdeal.main_arg3) = m ((c.tc : Thread Cert.InterIdeal.nD Cert.InterIdeal.τ).loc Cert.InterIdeal.main_arg3)
          ∧ r.2.mem ((c.tc : Thread Cert.InterIdeal.nD Cert.InterIdeal.τ).loc Cert.InterIdeal.main_arg4) = m ((c.tc : Thread Cert.InterIdeal.nD Cert.InterIdeal.τ).loc Cert.InterIdeal.main_arg4)
          ∧ r.2.mem ((c.tc : Thread Cert.InterIdeal.nD Cert.InterIdeal.τ).loc Cert.InterIdeal.main_arg5) = m ((c.tc : Thread Cert.InterIdeal.nD Cert.InterIdeal.τ).loc Cert.InterIdeal.main_arg5)
          ∧ r.2.mem ((c.tc : Thread Cert.InterIdeal.nD Cert.InterIdeal.τ).loc Cert.InterIdeal.main_arg6) = m ((c.tc : Thread Cert.InterIdeal.nD Cert.InterIdeal.τ).loc Cert.InterIdeal.main_arg6)
          ∧ r.2.mem ((c.tc : Thread Cert.InterIdeal.nD Cert.InterIdeal.τ).loc Cert.InterIdeal.main_arg7) = m ((c.tc : Thread Cert.InterIdeal.nD Cert.InterIdeal.τ).loc Cert.InterIdeal.main_arg7))
      ∧ θ_run (Cert.InterReferenceIdeal.defs (F := Ideal)) (onTc (τ := Cert.InterReferenceIdeal.τ) (Cert.InterReferenceIdeal.main (F := Ideal))) ⟨m', fun _ => 0, g'⟩ (fun r => ∀ c : Dev Cert.InterReferenceIdeal.nD,
          r.2.mem ((c.tc : Thread Cert.InterReferenceIdeal.nD Cert.InterReferenceIdeal.τ).loc Cert.InterReferenceIdeal.main_v37) = v0 c
          ∧ r.2.mem ((c.tc : Thread Cert.InterReferenceIdeal.nD Cert.InterReferenceIdeal.τ).loc Cert.InterReferenceIdeal.main_v38) = v1 c
          ∧ r.2.mem ((c.tc : Thread Cert.InterReferenceIdeal.nD Cert.InterReferenceIdeal.τ).loc Cert.InterReferenceIdeal.main_arg0) = m' ((c.tc : Thread Cert.InterReferenceIdeal.nD Cert.InterReferenceIdeal.τ).loc Cert.InterReferenceIdeal.main_arg0)
          ∧ r.2.mem ((c.tc : Thread Cert.InterReferenceIdeal.nD Cert.InterReferenceIdeal.τ).loc Cert.InterReferenceIdeal.main_arg1) = m' ((c.tc : Thread Cert.InterReferenceIdeal.nD Cert.InterReferenceIdeal.τ).loc Cert.InterReferenceIdeal.main_arg1)
          ∧ r.2.mem ((c.tc : Thread Cert.InterReferenceIdeal.nD Cert.InterReferenceIdeal.τ).loc Cert.InterReferenceIdeal.main_arg2) = m' ((c.tc : Thread Cert.InterReferenceIdeal.nD Cert.InterReferenceIdeal.τ).loc Cert.InterReferenceIdeal.main_arg2)
          ∧ r.2.mem ((c.tc : Thread Cert.InterReferenceIdeal.nD Cert.InterReferenceIdeal.τ).loc Cert.InterReferenceIdeal.main_arg3) = m' ((c.tc : Thread Cert.InterReferenceIdeal.nD Cert.InterReferenceIdeal.τ).loc Cert.InterReferenceIdeal.main_arg3)
          ∧ r.2.mem ((c.tc : Thread Cert.InterReferenceIdeal.nD Cert.InterReferenceIdeal.τ).loc Cert.InterReferenceIdeal.main_arg4) = m' ((c.tc : Thread Cert.InterReferenceIdeal.nD Cert.InterReferenceIdeal.τ).loc Cert.InterReferenceIdeal.main_arg4)
          ∧ r.2.mem ((c.tc : Thread Cert.InterReferenceIdeal.nD Cert.InterReferenceIdeal.τ).loc Cert.InterReferenceIdeal.main_arg5) = m' ((c.tc : Thread Cert.InterReferenceIdeal.nD Cert.InterReferenceIdeal.τ).loc Cert.InterReferenceIdeal.main_arg5)
          ∧ r.2.mem ((c.tc : Thread Cert.InterReferenceIdeal.nD Cert.InterReferenceIdeal.τ).loc Cert.InterReferenceIdeal.main_arg6) = m' ((c.tc : Thread Cert.InterReferenceIdeal.nD Cert.InterReferenceIdeal.τ).loc Cert.InterReferenceIdeal.main_arg6)
          ∧ r.2.mem ((c.tc : Thread Cert.InterReferenceIdeal.nD Cert.InterReferenceIdeal.τ).loc Cert.InterReferenceIdeal.main_arg7) = m' ((c.tc : Thread Cert.InterReferenceIdeal.nD Cert.InterReferenceIdeal.τ).loc Cert.InterReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hMergeStep : Cert.MergeStep.Facts) (hMergeStepIdeal : Cert.MergeStepIdeal.Facts) (hMergeStepReferenceIdeal : Cert.MergeStepReferenceIdeal.Facts) (hProjStep : Cert.ProjStep.Facts) (hProjStepIdeal : Cert.ProjStepIdeal.Facts) (hProjStepReferenceIdeal : Cert.ProjStepReferenceIdeal.Facts) (hInter : Cert.Inter.Facts) (hInterIdeal : Cert.InterIdeal.Facts) (hInterReferenceIdeal : Cert.InterReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MergeStep (hMergeStep := hMergeStep)
    ∧ quiescent_MergeStepIdeal (hMergeStepIdeal := hMergeStepIdeal)
    ∧ quiescent_MergeStepReferenceIdeal (hMergeStepReferenceIdeal := hMergeStepReferenceIdeal)
    ∧ quiescent_ProjStep (hProjStep := hProjStep)
    ∧ quiescent_ProjStepIdeal (hProjStepIdeal := hProjStepIdeal)
    ∧ quiescent_ProjStepReferenceIdeal (hProjStepReferenceIdeal := hProjStepReferenceIdeal)
    ∧ quiescent_Inter (hInter := hInter)
    ∧ quiescent_InterIdeal (hInterIdeal := hInterIdeal)
    ∧ quiescent_InterReferenceIdeal (hInterReferenceIdeal := hInterReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_MergeStep_MergeStepIdeal
    ∧ algebraic_MergeStepIdeal_MergeStepReferenceIdeal (hMergeStepIdeal := hMergeStepIdeal) (hMergeStepReferenceIdeal := hMergeStepReferenceIdeal)
    ∧ preserves_ProjStep_ProjStepIdeal
    ∧ algebraic_ProjStepIdeal_ProjStepReferenceIdeal (hProjStepIdeal := hProjStepIdeal) (hProjStepReferenceIdeal := hProjStepReferenceIdeal)
    ∧ preserves_Inter_InterIdeal
    ∧ algebraic_InterIdeal_InterReferenceIdeal (hInterIdeal := hInterIdeal) (hInterReferenceIdeal := hInterReferenceIdeal)
-- ==== Pre_finite.lean ====
abbrev S32x1x3072 : Shape := ⟨3, ![32, 1, 3072]⟩
abbrev S32x1x8 : Shape := ⟨3, ![32, 1, 8]⟩
abbrev S32x1x1024 : Shape := ⟨3, ![32, 1, 1024]⟩
abbrev S32x3x3072 : Shape := ⟨3, ![32, 3, 3072]⟩
abbrev S32x8x128x128 : Shape := ⟨4, ![32, 8, 128, 128]⟩
abbrev S4x3072 : Shape := ⟨2, ![4, 3072]⟩
abbrev S8 : Shape := ⟨1, ![8]⟩
abbrev S128 : Shape := ⟨1, ![128]⟩
abbrev S_ : Shape := ⟨0, ![]⟩

class Facts : Prop where
  bcast_S_S32x1x3072 : S_.BroadcastsInDim S32x1x3072 (![] : Fin 0 → Fin S32x1x3072.rank)
  reducesTo_S32x1x3072_S_d0_1_2 : S32x1x3072.ReducesTo [0, 1, 2] S_
  h_S_ : 0 < S_.numel
  bcast_S_S32x3x3072 : S_.BroadcastsInDim S32x3x3072 (![] : Fin 0 → Fin S32x3x3072.rank)
  reducesTo_S32x3x3072_S_d0_1_2 : S32x3x3072.ReducesTo [0, 1, 2] S_
  bcast_S_S32x8x128x128 : S_.BroadcastsInDim S32x8x128x128 (![] : Fin 0 → Fin S32x8x128x128.rank)
  reducesTo_S32x8x128x128_S_d0_1_2_3 : S32x8x128x128.ReducesTo [0, 1, 2, 3] S_
  bcast_S_S4x3072 : S_.BroadcastsInDim S4x3072 (![] : Fin 0 → Fin S4x3072.rank)
  reducesTo_S4x3072_S_d0_1 : S4x3072.ReducesTo [0, 1] S_

variable [Facts]

def fn_part1 {F : FTy → Type} [FloatOps F] (main_v8 : IVec S_ 1) (main_v12 : IVec S_ 1) (main_v15 : IVec S4x3072 1) (main_c_5 : IVec S_ 1) : IVec S_ 1 :=
  let main_v16 : IVec S_ 1 := (fun x v => Host.reduce IntOp.andi x v reducesTo_S4x3072_S_d0_1 h_S_) main_v15 main_c_5
  let main_v17 : IVec S_ 1 := andi main_v12 main_v16
  let main_v18 : IVec S_ 1 := andi main_v8 main_v17
  main_v18

def fn {F : FTy → Type} [FloatOps F] (main_arg0 : FVec F S32x1x3072 .f32) (main_arg1 : FVec F S32x1x8 .f32) (main_arg2 : FVec F S32x1x8 .f32) (main_arg3 : FVec F S32x1x1024 .f32) (main_arg4 : FVec F S32x3x3072 .f32) (main_arg5 : FVec F S32x8x128x128 .f32) (main_arg6 : FVec F S4x3072 .f32) (main_arg7 : FVec F S8 .f32) (main_arg8 : FVec F S8 .f32) (main_arg9 : FVec F S128 .f32) : IVec S_ 1 :=
  let main_v0 : FVec F S32x1x3072 .f32 := Host.absf main_arg0
  let main_cst : FVec F S_ .f32 := constant S_ .f32 0x7F800000#32
  let main_v1 : FVec F S32x1x3072 .f32 := broadcastInDim S32x1x3072 ![] bcast_S_S32x1x3072 main_cst
  let main_v2 : IVec S32x1x3072 1 := cmpf .olt main_v0 main_v1
  let main_c : IVec S_ 1 := constantI S_ 1 1#1
  let main_v3 : IVec S_ 1 := (fun x v => Host.reduce IntOp.andi x v reducesTo_S32x1x3072_S_d0_1_2 h_S_) main_v2 main_c
  let main_v4 : FVec F S32x3x3072 .f32 := Host.absf main_arg4
  let main_cst_0 : FVec F S_ .f32 := constant S_ .f32 0x7F800000#32
  let main_v5 : FVec F S32x3x3072 .f32 := broadcastInDim S32x3x3072 ![] bcast_S_S32x3x3072 main_cst_0
  let main_v6 : IVec S32x3x3072 1 := cmpf .olt main_v4 main_v5
  let main_c_1 : IVec S_ 1 := constantI S_ 1 1#1
  let main_v7 : IVec S_ 1 := (fun x v => Host.reduce IntOp.andi x v reducesTo_S32x3x3072_S_d0_1_2 h_S_) main_v6 main_c_1
  let main_v8 : IVec S_ 1 := andi main_v3 main_v7
  let main_v9 : FVec F S32x8x128x128 .f32 := Host.absf main_arg5
  let main_cst_2 : FVec F S_ .f32 := constant S_ .f32 0x7F800000#32
  let main_v10 : FVec F S32x8x128x128 .f32 := broadcastInDim S32x8x128x128 ![] bcast_S_S32x8x128x128 main_cst_2
  let main_v11 : IVec S32x8x128x128 1 := cmpf .olt main_v9 main_v10
  let main_c_3 : IVec S_ 1 := constantI S_ 1 1#1
  let main_v12 : IVec S_ 1 := (fun x v => Host.reduce IntOp.andi x v reducesTo_S32x8x128x128_S_d0_1_2_3 h_S_) main_v11 main_c_3
  let main_v13 : FVec F S4x3072 .f32 := Host.absf main_arg6
  let main_cst_4 : FVec F S_ .f32 := constant S_ .f32 0x7F800000#32
  let main_v14 : FVec F S4x3072 .f32 := broadcastInDim S4x3072 ![] bcast_S_S4x3072 main_cst_4
  let main_v15 : IVec S4x3072 1 := cmpf .olt main_v13 main_v14
  let main_c_5 : IVec S_ 1 := constantI S_ 1 1#1
  fn_part1 (F := F) main_v8 main_v12 main_v15 main_c_5
-- ==== Kernel.lean ====
abbrev S32x1x3072 : Shape := ⟨3, ![32, 1, 3072]⟩
abbrev S32x1x8 : Shape := ⟨3, ![32, 1, 8]⟩
abbrev S32x1x1024 : Shape := ⟨3, ![32, 1, 1024]⟩
abbrev S32x3x3072 : Shape := ⟨3, ![32, 3, 3072]⟩
abbrev S32x8x128x128 : Shape := ⟨4, ![32, 8, 128, 128]⟩
abbrev S4x3072 : Shape := ⟨2, ![4, 3072]⟩
abbrev S8 : Shape := ⟨1, ![8]⟩
abbrev S128 : Shape := ⟨1, ![128]⟩
abbrev S32x24x128 : Shape := ⟨3, ![32, 24, 128]⟩
abbrev S32x3x24x128 : Shape := ⟨4, ![32, 3, 24, 128]⟩
abbrev S4x24x128 : Shape := ⟨3, ![4, 24, 128]⟩
abbrev S32x8x1 : Shape := ⟨3, ![32, 8, 1]⟩
abbrev S32x8x128 : Shape := ⟨3, ![32, 8, 128]⟩
abbrev S8x1 : Shape := ⟨2, ![8, 1]⟩
abbrev S1x128 : Shape := ⟨2, ![1, 128]⟩
abbrev S1x24x128 : Shape := ⟨3, ![1, 24, 128]⟩
abbrev S1x3x24x128 : Shape := ⟨4, ![1, 3, 24, 128]⟩
abbrev S1x8x1 : Shape := ⟨3, ![1, 8, 1]⟩
abbrev S1x8x128x128 : Shape := ⟨4, ![1, 8, 128, 128]⟩
abbrev S1x8x128 : Shape := ⟨3, ![1, 8, 128]⟩
abbrev S1x1x24x128 : Shape := ⟨4, ![1, 1, 24, 128]⟩
abbrev S24x128 : Shape := ⟨2, ![24, 128]⟩
abbrev S8x128 : Shape := ⟨2, ![8, 128]⟩
abbrev S112x128 : Shape := ⟨2, ![112, 128]⟩
abbrev S128x128 : Shape := ⟨2, ![128, 128]⟩
abbrev S1x1x128x128 : Shape := ⟨4, ![1, 1, 128, 128]⟩
abbrev S128x1 : Shape := ⟨2, ![128, 1]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S32x1x3072, .f32⟩
  | .hbm, ⟨1, _⟩ => ⟨S32x1x8, .f32⟩
  | .hbm, ⟨2, _⟩ => ⟨S32x1x8, .f32⟩
  | .hbm, ⟨3, _⟩ => ⟨S32x1x1024, .f32⟩
  | .hbm, ⟨4, _⟩ => ⟨S32x3x3072, .f32⟩
  | .hbm, ⟨5, _⟩ => ⟨S32x8x128x128, .f32⟩
  | .hbm, ⟨6, _⟩ => ⟨S4x3072, .f32⟩
  | .hbm, ⟨7, _⟩ => ⟨S8, .f32⟩
  | .hbm, ⟨8, _⟩ => ⟨S8, .f32⟩
  | .hbm, ⟨9, _⟩ => ⟨S128, .f32⟩
  | .hbm, ⟨10, _⟩ => ⟨S32x24x128, .f32⟩
  | .hbm, ⟨11, _⟩ => ⟨S32x3x24x128, .f32⟩
  | .hbm, ⟨12, _⟩ => ⟨S4x24x128, .f32⟩
  | .hbm, ⟨13, _⟩ => ⟨S32x8x1, .f32⟩
  | .hbm, ⟨14, _⟩ => ⟨S32x8x1, .f32⟩
  | .hbm, ⟨15, _⟩ => ⟨S32x8x128, .f32⟩
  | .hbm, ⟨16, _⟩ => ⟨S8x1, .f32⟩
  | .hbm, ⟨17, _⟩ => ⟨S8x1, .f32⟩
  | .hbm, ⟨18, _⟩ => ⟨S1x128, .f32⟩
  | .hbm, ⟨19, _⟩ => ⟨S32x8x128, .f32⟩
  | .hbm, ⟨20, _⟩ => ⟨S32x8x128x128, .f32⟩
  | .local _ .vmem, ⟨0, _⟩ => ⟨S1x24x128, .f32⟩
  | .local _ .vmem, ⟨1, _⟩ => ⟨S1x24x128, .f32⟩
  | .local _ .vmem, ⟨2, _⟩ => ⟨S1x3x24x128, .f32⟩
  | .local _ .vmem, ⟨3, _⟩ => ⟨S1x3x24x128, .f32⟩
  | .local _ .vmem, ⟨4, _⟩ => ⟨S4x24x128, .f32⟩
  | .local _ .vmem, ⟨5, _⟩ => ⟨S1x8x1, .f32⟩
  | .local _ .vmem, ⟨6, _⟩ => ⟨S1x8x1, .f32⟩
  | .local _ .vmem, ⟨7, _⟩ => ⟨S1x8x1, .f32⟩
  | .local _ .vmem, ⟨8, _⟩ => ⟨S1x8x1, .f32⟩
  | .local _ .vmem, ⟨9, _⟩ => ⟨S8x1, .f32⟩
  | .local _ .vmem, ⟨10, _⟩ => ⟨S8x1, .f32⟩
  | .local _ .vmem, ⟨11, _⟩ => ⟨S1x8x128x128, .f32⟩
  | .local _ .vmem, ⟨12, _⟩ => ⟨S1x8x128x128, .f32⟩
  | .local _ .vmem, ⟨13, _⟩ => ⟨S1x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128x128, .f32⟩
  | .local _ .vmem, ⟨19, _⟩ => ⟨S1x8x128x128, .f32⟩
  | _, _ => ⟨S32x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x1x3072 : Shape := ⟨3, ![32, 1, 3072]⟩
abbrev S32x1x8 : Shape := ⟨3, ![32, 1, 8]⟩
abbrev S32x1x1024 : Shape := ⟨3, ![32, 1, 1024]⟩
abbrev S32x3x3072 : Shape := ⟨3, ![32, 3, 3072]⟩
abbrev S32x8x128x128 : Shape := ⟨4, ![32, 8, 128, 128]⟩
abbrev S4x3072 : Shape := ⟨2, ![4, 3072]⟩
abbrev S8 : Shape := ⟨1, ![8]⟩
abbrev S128 : Shape := ⟨1, ![128]⟩
abbrev S32x4x3072 : Shape := ⟨3, ![32, 4, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S32x8x128 : Shape := ⟨3, ![32, 8, 128]⟩
abbrev S32x8 : Shape := ⟨2, ![32, 8]⟩
abbrev S32x8x1 : Shape := ⟨3, ![32, 8, 1]⟩
abbrev S1x1x8 : Shape := ⟨3, ![1, 1, 8]⟩
abbrev S32x8x1x1 : Shape := ⟨4, ![32, 8, 1, 1]⟩
abbrev S32x8x128x1 : Shape := ⟨4, ![32, 8, 128, 1]⟩
abbrev S32x8x1x128 : Shape := ⟨4, ![32, 8, 1, 128]⟩
abbrev S1x1x128 : Shape := ⟨3, ![1, 1, 128]⟩

abbrev nBuf : Space → Nat
  | .hbm => 154
  | .vmem => 0
  | .smem => 0
  | _ => 0

abbrev hbmTy0_0 (i : Nat) : BufTy := match i % 128 with
  | 0 => ⟨S32x1x3072, .f32⟩
  | 1 => ⟨S32x1x8, .f32⟩
  | 2 => ⟨S32x1x8, .f32⟩
  | 3 => ⟨S32x1x1024, .f32⟩
  | 4 => ⟨S32x3x3072, .f32⟩
  | 5 => ⟨S32x8x128x128, .f32⟩
  | 6 => ⟨S4x3072, .f32⟩
  | 7 => ⟨S8, .f32⟩
  | 8 => ⟨S8, .f32⟩
  | 9 => ⟨S128, .f32⟩
  | 10 => ⟨S32x4x3072, .f32⟩
  | 11 => ⟨S32x1x3072, .f32⟩
  | 12 => ⟨S1x3072, .f32⟩
  | 13 => ⟨S3072, .f32⟩
  | 14 => ⟨S1x1x3072, .f32⟩
  | 15 => ⟨S32x1x3072, .f32⟩
  | 16 => ⟨S32x1x3072, .f32⟩
  | 17 => ⟨S_, .f32⟩
  | 18 => ⟨S32x1x3072, .f32⟩
  | 19 => ⟨S32x1x3072, .f32⟩
  | 20 => ⟨S32x1x3072, .f32⟩
  | 21 => ⟨S1x3072, .f32⟩
  | 22 => ⟨S3072, .f32⟩
  | 23 => ⟨S1x1x3072, .f32⟩
  | 24 => ⟨S32x1x3072, .f32⟩
  | 25 => ⟨S32x1x3072, .f32⟩
  | 26 => ⟨S32x1x3072, .f32⟩
  | 27 => ⟨S32x1x3072, .f32⟩
  | 28 => ⟨S1x3072, .f32⟩
  | 29 => ⟨S3072, .f32⟩
  | 30 => ⟨S1x1x3072, .f32⟩
  | 31 => ⟨S32x1x3072, .f32⟩
  | 32 => ⟨S32x1x3072, .f32⟩
  | 33 => ⟨S32x1x3072, .f32⟩
  | 34 => ⟨S32x1x3072, .f32⟩
  | 35 => ⟨S1x3072, .f32⟩
  | 36 => ⟨S3072, .f32⟩
  | 37 => ⟨S1x1x3072, .f32⟩
  | 38 => ⟨S32x1x3072, .f32⟩
  | 39 => ⟨S32x1x3072, .f32⟩
  | 40 => ⟨S32x1x3072, .f32⟩
  | 41 => ⟨S32x1x3072, .f32⟩
  | 42 => ⟨S32x1x3072, .f32⟩
  | 43 => ⟨S_, .f32⟩
  | 44 => ⟨S32x1x3072, .f32⟩
  | 45 => ⟨S32x1x3072, .f32⟩
  | 46 => ⟨S_, .f32⟩
  | 47 => ⟨S32x1x3072, .f32⟩
  | 48 => ⟨S32x1x3072, .f32⟩
  | 49 => ⟨S32x1x3072, .f32⟩
  | 50 => ⟨S32x1x1024, .f32⟩
  | 51 => ⟨S32x1x1024, .f32⟩
  | 52 => ⟨S32x1x1024, .f32⟩
  | 53 => ⟨S32x8x128, .f32⟩
  | 54 => ⟨S32x8x128, .f32⟩
  | 55 => ⟨S32x8x128, .f32⟩
  | 56 => ⟨S32x8x128, .f32⟩
  | 57 => ⟨S_, .f32⟩
  | 58 => ⟨S32x8, .f32⟩
  | 59 => ⟨S32x8x1, .f32⟩
  | 60 => ⟨S_, .f32⟩
  | 61 => ⟨S32x8x1, .f32⟩
  | 62 => ⟨S32x8x1, .f32⟩
  | 63 => ⟨S32x8x1, .f32⟩
  | 64 => ⟨S32x8x128, .f32⟩
  | 65 => ⟨S32x8x128, .f32⟩
  | 66 => ⟨S_, .f32⟩
  | 67 => ⟨S32x8x128, .f32⟩
  | 68 => ⟨S32x8x128, .f32⟩
  | 69 => ⟨S32x8x128, .f32⟩
  | 70 => ⟨S_, .f32⟩
  | 71 => ⟨S32x8, .f32⟩
  | 72 => ⟨S32x8x1, .f32⟩
  | 73 => ⟨S_, .f32⟩
  | 74 => ⟨S32x8x1, .f32⟩
  | 75 => ⟨S32x8x1, .f32⟩
  | 76 => ⟨S32x8x1, .f32⟩
  | 77 => ⟨S32x8x128, .f32⟩
  | 78 => ⟨S32x8x128, .f32⟩
  | 79 => ⟨S32x1x8, .f32⟩
  | 80 => ⟨S32x1x8, .f32⟩
  | 81 => ⟨S_, .f32⟩
  | 82 => ⟨S32x1x8, .f32⟩
  | 83 => ⟨S32x1x8, .f32⟩
  | 84 => ⟨S_, .f32⟩
  | 85 => ⟨S32x1x8, .f32⟩
  | 86 => ⟨S32x1x8, .f32⟩
  | 87 => ⟨S32x8, .f32⟩
  | 88 => ⟨S8, .f32⟩
  | 89 => ⟨S8, .f32⟩
  | 90 => ⟨S1x1x8, .f32⟩
  | 91 => ⟨S32x1x8, .f32⟩
  | 92 => ⟨S32x1x8, .f32⟩
  | 93 => ⟨S_, .f32⟩
  | 94 => ⟨S32x1x8, .f32⟩
  | 95 => ⟨S32x1x8, .f32⟩
  | 96 => ⟨S32x1x8, .f32⟩
  | 97 => ⟨S32x1x8, .f32⟩
  | 98 => ⟨S32x1x8, .i1⟩
  | 99 => ⟨S32x1x8, .f32⟩
  | 100 => ⟨S32x1x8, .f32⟩
  | 101 => ⟨S32x1x8, .f32⟩
  | 102 => ⟨S32x1x8, .f32⟩
  | 103 => ⟨S32x1x8, .f32⟩
  | 104 => ⟨S32x1x8, .f32⟩
  | 105 => ⟨S32x1x8, .f32⟩
  | 106 => ⟨S32x1x8, .f32⟩
  | 107 => ⟨S1x1x8, .f32⟩
  | 108 => ⟨S32x1x8, .f32⟩
  | 109 => ⟨S32x1x8, .f32⟩
  | 110 => ⟨S32x8, .f32⟩
  | 111 => ⟨S32x8, .f32⟩
  | 112 => ⟨S32x8x1x1, .f32⟩
  | 113 => ⟨S32x8x128x128, .f32⟩
  | 114 => ⟨S32x8x128x128, .f32⟩
  | 115 => ⟨S32x8x128, .f32⟩
  | 116 => ⟨S32x8x1, .f32⟩
  | 117 => ⟨S32x8x128, .f32⟩
  | 118 => ⟨S32x8x128, .f32⟩
  | 119 => ⟨S32x8x128x1, .f32⟩
  | 120 => ⟨S32x8x128, .f32⟩
  | 121 => ⟨S32x8x1x128, .f32⟩
  | 122 => ⟨S32x8x128x128, .f32⟩
  | 123 => ⟨S32x8x128x128, .f32⟩
  | 124 => ⟨S32x8x128x128, .f32⟩
  | 125 => ⟨S32x8x128x128, .f32⟩
  | 126 => ⟨S32x8x128, .f32⟩
  | 127 => ⟨S32x8x128, .f32⟩
  | _ => ⟨S32x1x3072, .f32⟩

abbrev hbmTy0_1 (i : Nat) : BufTy := match i % 128 with
  | 0 => ⟨S_, .f32⟩
  | 1 => ⟨S32x8, .f32⟩
  | 2 => ⟨S32x8x1, .f32⟩
  | 3 => ⟨S_, .f32⟩
  | 4 => ⟨S32x8x1, .f32⟩
  | 5 => ⟨S32x8x1, .f32⟩
  | 6 => ⟨S_, .f32⟩
  | 7 => ⟨S32x8x1, .f32⟩
  | 8 => ⟨S32x8x1, .f32⟩
  | 9 => ⟨S32x8x1, .f32⟩
  | 10 => ⟨S32x8x128, .f32⟩
  | 11 => ⟨S32x8x128, .f32⟩
  | 12 => ⟨S1x1x128, .f32⟩
  | 13 => ⟨S32x8x128, .f32⟩
  | 14 => ⟨S32x8x128, .f32⟩
  | 15 => ⟨S32x8x128, .f32⟩
  | 16 => ⟨S32x8x128, .f32⟩
  | 17 => ⟨S32x8x128, .f32⟩
  | 18 => ⟨S_, .f32⟩
  | 19 => ⟨S32x8x128, .f32⟩
  | 20 => ⟨S32x8x128, .f32⟩
  | 21 => ⟨S_, .f32⟩
  | 22 => ⟨S32x8x128, .f32⟩
  | 23 => ⟨S32x8x128, .f32⟩
  | 24 => ⟨S32x8x128, .f32⟩
  | 25 => ⟨S32x8x128, .f32⟩
  | _ => ⟨S32x1x3072, .f32⟩

abbrev hbmTy (i : Nat) : BufTy := match i / 128 with
  | 0 => hbmTy0_0 i
  | 1 => hbmTy0_1 i
  | _ => ⟨S32x1x3072, .f32⟩

abbrev bufTy : (tb : Table) → Fin (tcTables nBuf tb) → BufTy
  | .hbm, ⟨i, _⟩ => hbmTy i
  | _, _ => ⟨S32x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_7 : Ref sig .tc := ⟨.hbm, 128, rfl⟩
abbrev main_v89 : Ref sig .tc := ⟨.hbm, 129, rfl⟩
abbrev main_v90 : Ref sig .tc := ⟨.hbm, 130, rfl⟩
abbrev main_cst_8 : Ref sig .tc := ⟨.hbm, 131, rfl⟩
abbrev main_v91 : Ref sig .tc := ⟨.hbm, 132, rfl⟩
abbrev main_v92 : Ref sig .tc := ⟨.hbm, 133, rfl⟩
abbrev main_cst_9 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v102 : Ref sig .tc := ⟨.hbm, 152, rfl⟩
abbrev main_v103 : Ref sig .tc := ⟨.hbm, 153, rfl⟩

abbrev nD : Nat := 1
abbrev τ : Topo := Topo.v7x

variable {F : FTy → Type} [FloatOps F]
-- ==== Merge.lean ====
abbrev S32768x1024 : Shape := ⟨2, ![32768, 1024]⟩
abbrev S32768x12288 : Shape := ⟨2, ![32768, 12288]⟩
abbrev S16x2048x2048 : Shape := ⟨3, ![16, 2048, 2048]⟩
abbrev S1024x2048 : Shape := ⟨2, ![1024, 2048]⟩
abbrev S2048x2048 : Shape := ⟨2, ![2048, 2048]⟩
abbrev S32768x2048 : Shape := ⟨2, ![32768, 2048]⟩
abbrev S256x1024 : Shape := ⟨2, ![256, 1024]⟩
abbrev S256x2048 : Shape := ⟨2, ![256, 2048]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x12288, .f32⟩
  | .hbm, ⟨3, _⟩ => ⟨S16x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32768x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S32768x1024 : Shape := ⟨2, ![32768, 1024]⟩
abbrev S32768x12288 : Shape := ⟨2, ![32768, 12288]⟩
abbrev S16x2048x2048 : Shape := ⟨3, ![16, 2048, 2048]⟩
abbrev S1024x2048 : Shape := ⟨2, ![1024, 2048]⟩
abbrev S2048x2048 : Shape := ⟨2, ![2048, 2048]⟩
abbrev S32768x2048 : Shape := ⟨2, ![32768, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x12288, .f32⟩
  | .hbm, ⟨3, _⟩ => ⟨S16x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proj.lean ====
abbrev S16x2048x2048 : Shape := ⟨3, ![16, 2048, 2048]⟩
abbrev S2048 : Shape := ⟨1, ![2048]⟩
abbrev S2048x11816 : Shape := ⟨2, ![2048, 11816]⟩
abbrev S128 : Shape := ⟨1, ![128]⟩
abbrev S2048x1024 : Shape := ⟨2, ![2048, 1024]⟩
abbrev S2048x512 : Shape := ⟨2, ![2048, 512]⟩
abbrev S2048x24 : Shape := ⟨2, ![2048, 24]⟩
abbrev S2048x3072 : Shape := ⟨2, ![2048, 3072]⟩
abbrev S2048x8 : Shape := ⟨2, ![2048, 8]⟩
abbrev S2048x2048 : Shape := ⟨2, ![2048, 2048]⟩
abbrev S_ : Shape := ⟨0, ![]⟩
abbrev S2048x472 : Shape := ⟨2, ![2048, 472]⟩
abbrev S2048x12288 : Shape := ⟨2, ![2048, 12288]⟩
abbrev S1x128 : Shape := ⟨2, ![1, 128]⟩
abbrev S3x128 : Shape := ⟨2, ![3, 128]⟩
abbrev S32768x2048 : Shape := ⟨2, ![32768, 2048]⟩
abbrev S1x2048 : Shape := ⟨2, ![1, 2048]⟩
abbrev S32768x12288 : Shape := ⟨2, ![32768, 12288]⟩
abbrev S131072x128 : Shape := ⟨2, ![131072, 128]⟩
abbrev S1024x2048 : Shape := ⟨2, ![1024, 2048]⟩
abbrev S1024x1024 : Shape := ⟨2, ![1024, 1024]⟩
abbrev S4096x128 : Shape := ⟨2, ![4096, 128]⟩
abbrev S1024 : Shape := ⟨1, ![1024]⟩
abbrev S1024x1 : Shape := ⟨2, ![1024, 1]⟩
abbrev S1024x128 : Shape := ⟨2, ![1024, 128]⟩

abbrev nBuf : Space → Nat
  | .hbm => 32
  | .vmem => 15
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x11816, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x24, .f32⟩
  | .hbm, ⟨11, _⟩ => ⟨S2048x1024, .f32⟩
  | .hbm, ⟨12, _⟩ => ⟨S2048x3072, .f32⟩
  | .hbm, ⟨13, _⟩ => ⟨S2048x8, .f32⟩
  | .hbm, ⟨14, _⟩ => ⟨S2048x8, .f32⟩
  | .hbm, ⟨15, _⟩ => ⟨S2048x1024, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x472, .f32⟩
  | .hbm, ⟨20, _⟩ => ⟨S2048x12288, .f32⟩
  | .hbm, ⟨21, _⟩ => ⟨S2048x12288, .bf16⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S3x128, .f32⟩
  | .hbm, ⟨26, _⟩ => ⟨S32768x2048, .f32⟩
  | .hbm, ⟨27, _⟩ => ⟨S1x2048, .f32⟩
  | .hbm, ⟨28, _⟩ => ⟨S32768x12288, .f32⟩
  | .hbm, ⟨29, _⟩ => ⟨S131072x128, .f32⟩
  | .hbm, ⟨30, _⟩ => ⟨S131072x128, .f32⟩
  | .hbm, ⟨31, _⟩ => ⟨S131072x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S3x128, .f32⟩
  | .local _ .vmem, ⟨6, _⟩ => ⟨S1024x1024, .f32⟩
  | .local _ .vmem, ⟨7, _⟩ => ⟨S1024x1024, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c10_i32 : BitVec 32 := 10#32
  let v10 : BitVec 1 := Scalar.cmpi .eq arg1 c10_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c0_i32_8 : BitVec 32 := 0#32
  let v16 : BitVec 1 := Scalar.cmpi .ne arg1 c0_i32_8
  let c10_i32_9 : BitVec 32 := 10#32
  let v17 : BitVec 1 := Scalar.cmpi .ne arg1 c10_i32_9
  let v19 : BitVec 1 := Scalar.andi v16 v17
  let c11_i32_10 : BitVec 32 := 11#32
  let v18 : BitVec 1 := Scalar.cmpi .ne arg1 c11_i32_10
  let v20 : BitVec 1 := Scalar.andi v19 v18
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjReferenceIdeal.lean ====
abbrev S16x2048x2048 : Shape := ⟨3, ![16, 2048, 2048]⟩
abbrev S2048 : Shape := ⟨1, ![2048]⟩
abbrev S2048x11816 : Shape := ⟨2, ![2048, 11816]⟩
abbrev S128 : Shape := ⟨1, ![128]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11816 : Shape := ⟨2, ![32768, 11816]⟩
abbrev S32768x1024 : Shape := ⟨2, ![32768, 1024]⟩
abbrev S32768x512 : Shape := ⟨2, ![32768, 512]⟩
abbrev S32768x24 : Shape := ⟨2, ![32768, 24]⟩
abbrev S32768x3072 : Shape := ⟨2, ![32768, 3072]⟩
abbrev S32768x8 : Shape := ⟨2, ![32768, 8]⟩
abbrev S32768x8x128 : Shape := ⟨3, ![32768, 8, 128]⟩
abbrev S32768x8x1 : Shape := ⟨3, ![32768, 8, 1]⟩
abbrev S1x1x128 : Shape := ⟨3, ![1, 1, 128]⟩
abbrev S32768x4x128 : Shape := ⟨3, ![32768, 4, 128]⟩
abbrev S32768x2x128 : Shape := ⟨3, ![32768, 2, 128]⟩
abbrev S32768x2 : Shape := ⟨2, ![32768, 2]⟩
abbrev S32768x2x1 : Shape := ⟨3, ![32768, 2, 1]⟩
abbrev S32768x472 : Shape := ⟨2, ![32768, 472]⟩
abbrev S32768x12288 : Shape := ⟨2, ![32768, 12288]⟩
abbrev S131072x128 : Shape := ⟨2, ![131072, 128]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x11816, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x11816, .f32⟩
  | .hbm, ⟨24, _⟩ => ⟨S32768x1024, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x24, .f32⟩
  | .hbm, ⟨29, _⟩ => ⟨S32768x1024, .f32⟩
  | .hbm, ⟨30, _⟩ => ⟨S32768x3072, .f32⟩
  | .hbm, ⟨31, _⟩ => ⟨S32768x8, .f32⟩
  | .hbm, ⟨32, _⟩ => ⟨S32768x8, .f32⟩
  | .hbm, ⟨33, _⟩ => ⟨S32768x1024, .f32⟩
  | .hbm, ⟨34, _⟩ => ⟨S32768x2048, .f32⟩
  | .hbm, ⟨35, _⟩ => ⟨S32768x2048, .f32⟩
  | .hbm, ⟨36, _⟩ => ⟨S32768x8x128, .f32⟩
  | .hbm, ⟨37, _⟩ => ⟨S32768x8x128, .f32⟩
  | .hbm, ⟨38, _⟩ => ⟨S_, .f32⟩
  | .hbm, ⟨39, _⟩ => ⟨S32768x8, .f32⟩
  | .hbm, ⟨40, _⟩ => ⟨S32768x8x1, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S_, .f32⟩
  | .hbm, ⟨45, _⟩ => ⟨S32768x8x1, .f32⟩
  | .hbm, ⟨46, _⟩ => ⟨S32768x8x1, .f32⟩
  | .hbm, ⟨47, _⟩ => ⟨S32768x8x1, .f32⟩
  | .hbm, ⟨48, _⟩ => ⟨S32768x8x128, .f32⟩
  | .hbm, ⟨49, _⟩ => ⟨S32768x8x128, .f32⟩
  | .hbm, ⟨50, _⟩ => ⟨S1x1x128, .f32⟩
  | .hbm, ⟨51, _⟩ => ⟨S32768x8x128, .f32⟩
  | .hbm, ⟨52, _⟩ => ⟨S32768x8x128, .f32⟩
  | .hbm, ⟨53, _⟩ => ⟨S32768x1024, .f32⟩
  | .hbm, ⟨54, _⟩ => ⟨S32768x4x128, .f32⟩
  | .hbm, ⟨55, _⟩ => ⟨S32768x2x128, .f32⟩
  | .hbm, ⟨56, _⟩ => ⟨S32768x2x128, .f32⟩
  | .hbm, ⟨57, _⟩ => ⟨S_, .f32⟩
  | .hbm, ⟨58, _⟩ => ⟨S32768x2, .f32⟩
  | .hbm, ⟨59, _⟩ => ⟨S32768x2x1, .f32⟩
  | .hbm, ⟨60, _⟩ => ⟨S_, .f32⟩
  | .hbm, ⟨61, _⟩ => ⟨S32768x2x1, .f32⟩
  | .hbm, ⟨62, _⟩ => ⟨S32768x2x1, .f32⟩
  | .hbm, ⟨63, _⟩ => ⟨S_, .f32⟩
  | .hbm, ⟨64, _⟩ => ⟨S32768x2x1, .f32⟩
  | .hbm, ⟨65, _⟩ => ⟨S32768x2x1, .f32⟩
  | .hbm, ⟨66, _⟩ => ⟨S32768x2x1, .f32⟩
  | .hbm, ⟨67, _⟩ => ⟨S32768x2x128, .f32⟩
  | .hbm, ⟨68, _⟩ => ⟨S32768x2x128, .f32⟩
  | .hbm, ⟨69, _⟩ => ⟨S1x1x128, .f32⟩
  | .hbm, ⟨70, _⟩ => ⟨S32768x2x128, .f32⟩
  | .hbm, ⟨71, _⟩ => ⟨S32768x2x128, .f32⟩
  | .hbm, ⟨72, _⟩ => ⟨S32768x2x128, .f32⟩
  | .hbm, ⟨73, _⟩ => ⟨S32768x4x128, .f32⟩
  | .hbm, ⟨74, _⟩ => ⟨S32768x512, .f32⟩
  | .hbm, ⟨75, _⟩ => ⟨S32768x4x128, .f32⟩
  | .hbm, ⟨76, _⟩ => ⟨S32768x2x128, .f32⟩
  | .hbm, ⟨77, _⟩ => ⟨S32768x2x128, .f32⟩
  | .hbm, ⟨78, _⟩ => ⟨S_, .f32⟩
  | .hbm, ⟨79, _⟩ => ⟨S32768x2, .f32⟩
  | .hbm, ⟨80, _⟩ => ⟨S32768x2x1, .f32⟩
  | .hbm, ⟨81, _⟩ => ⟨S_, .f32⟩
  | .hbm, ⟨82, _⟩ => ⟨S32768x2x1, .f32⟩
  | .hbm, ⟨83, _⟩ => ⟨S32768x2x1, .f32⟩
  | .hbm, ⟨84, _⟩ => ⟨S_, .f32⟩
  | .hbm, ⟨85, _⟩ => ⟨S32768x2x1, .f32⟩
  | .hbm, ⟨86, _⟩ => ⟨S32768x2x1, .f32⟩
  | .hbm, ⟨87, _⟩ => ⟨S32768x2x1, .f32⟩
  | .hbm, ⟨88, _⟩ => ⟨S32768x2x128, .f32⟩
  | .hbm, ⟨89, _⟩ => ⟨S32768x2x128, .f32⟩
  | .hbm, ⟨90, _⟩ => ⟨S1x1x128, .f32⟩
  | .hbm, ⟨91, _⟩ => ⟨S32768x2x128, .f32⟩
  | .hbm, ⟨92, _⟩ => ⟨S32768x2x128, .f32⟩
  | .hbm, ⟨93, _⟩ => ⟨S32768x2x128, .f32⟩
  | .hbm, ⟨94, _⟩ => ⟨S32768x4x128, .f32⟩
  | .hbm, ⟨95, _⟩ => ⟨S32768x512, .f32⟩
  | .hbm, ⟨96, _⟩ => ⟨S_, .f32⟩
  | .hbm, ⟨97, _⟩ => ⟨S32768x472, .f32⟩
  | .hbm, ⟨98, _⟩ => ⟨S32768x12288, .f32⟩
  | .hbm, ⟨99, _⟩ => ⟨S131072x128, .f32⟩
  | .hbm, ⟨100, _⟩ => ⟨S131072x128, .f32⟩
  | .hbm, ⟨101, _⟩ => ⟨S131072x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== MergeStep.lean ====
abbrev S32x1024 : Shape := ⟨2, ![32, 1024]⟩
abbrev S32x12288 : Shape := ⟨2, ![32, 12288]⟩
abbrev S32x1x2048 : Shape := ⟨3, ![32, 1, 2048]⟩
abbrev S1024x2048 : Shape := ⟨2, ![1024, 2048]⟩
abbrev S2048x2048 : Shape := ⟨2, ![2048, 2048]⟩
abbrev S32x2048 : Shape := ⟨2, ![32, 2048]⟩

abbrev nBuf : Space → Nat
  | .hbm => 12
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x12288, .f32⟩
  | .hbm, ⟨3, _⟩ => ⟨S32x1x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeStepReferenceIdeal.lean ====
abbrev S32x1024 : Shape := ⟨2, ![32, 1024]⟩
abbrev S32x12288 : Shape := ⟨2, ![32, 12288]⟩
abbrev S32x1x2048 : Shape := ⟨3, ![32, 1, 2048]⟩
abbrev S1024x2048 : Shape := ⟨2, ![1024, 2048]⟩
abbrev S2048x2048 : Shape := ⟨2, ![2048, 2048]⟩
abbrev S32x2048 : Shape := ⟨2, ![32, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x12288, .f32⟩
  | .hbm, ⟨3, _⟩ => ⟨S32x1x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32x2048, .f32⟩
  | .hbm, ⟨8, _⟩ => ⟨S32x2048, .f32⟩
  | .hbm, ⟨9, _⟩ => ⟨S32x2048, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== ProjStep.lean ====
abbrev S32x1x2048 : Shape := ⟨3, ![32, 1, 2048]⟩
abbrev S2048 : Shape := ⟨1, ![2048]⟩
abbrev S2048x11816 : Shape := ⟨2, ![2048, 11816]⟩
abbrev S128 : Shape := ⟨1, ![128]⟩
abbrev S2048x1024 : Shape := ⟨2, ![2048, 1024]⟩
abbrev S2048x512 : Shape := ⟨2, ![2048, 512]⟩
abbrev S2048x24 : Shape := ⟨2, ![2048, 24]⟩
abbrev S2048x3072 : Shape := ⟨2, ![2048, 3072]⟩
abbrev S2048x8 : Shape := ⟨2, ![2048, 8]⟩
abbrev S2048x2048 : Shape := ⟨2, ![2048, 2048]⟩
abbrev S_ : Shape := ⟨0, ![]⟩
abbrev S2048x472 : Shape := ⟨2, ![2048, 472]⟩
abbrev S2048x12288 : Shape := ⟨2, ![2048, 12288]⟩
abbrev S1x128 : Shape := ⟨2, ![1, 128]⟩
abbrev S3x128 : Shape := ⟨2, ![3, 128]⟩
abbrev S32x2048 : Shape := ⟨2, ![32, 2048]⟩
abbrev S1x2048 : Shape := ⟨2, ![1, 2048]⟩
abbrev S32x12288 : Shape := ⟨2, ![32, 12288]⟩
abbrev S128x128 : Shape := ⟨2, ![128, 128]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩

abbrev nBuf : Space → Nat
  | .hbm => 32
  | .vmem => 11
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x11816, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x24, .f32⟩
  | .hbm, ⟨11, _⟩ => ⟨S2048x1024, .f32⟩
  | .hbm, ⟨12, _⟩ => ⟨S2048x3072, .f32⟩
  | .hbm, ⟨13, _⟩ => ⟨S2048x8, .f32⟩
  | .hbm, ⟨14, _⟩ => ⟨S2048x8, .f32⟩
  | .hbm, ⟨15, _⟩ => ⟨S2048x1024, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x472, .f32⟩
  | .hbm, ⟨20, _⟩ => ⟨S2048x12288, .f32⟩
  | .hbm, ⟨21, _⟩ => ⟨S2048x12288, .bf16⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S3x128, .f32⟩
  | .hbm, ⟨26, _⟩ => ⟨S32x2048, .f32⟩
  | .hbm, ⟨27, _⟩ => ⟨S1x2048, .f32⟩
  | .hbm, ⟨28, _⟩ => ⟨S32x12288, .f32⟩
  | .hbm, ⟨29, _⟩ => ⟨S128x128, .f32⟩
  | .hbm, ⟨30, _⟩ => ⟨S128x128, .f32⟩
  | .hbm, ⟨31, _⟩ => ⟨S128x128, .f32⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S3x128, .f32⟩
  | .local _ .vmem, ⟨5, _⟩ => ⟨S32x1024, .f32⟩
  | .local _ .vmem, ⟨6, _⟩ => ⟨S32x1024, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 12], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c10_i32 : BitVec 32 := 10#32
  let v10 : BitVec 1 := Scalar.cmpi .eq arg1 c10_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c0_i32_8 : BitVec 32 := 0#32
  let v16 : BitVec 1 := Scalar.cmpi .ne arg1 c0_i32_8
  let c10_i32_9 : BitVec 32 := 10#32
  let v17 : BitVec 1 := Scalar.cmpi .ne arg1 c10_i32_9
  let v19 : BitVec 1 := Scalar.andi v16 v17
  let c11_i32_10 : BitVec 32 := 11#32
  let v18 : BitVec 1 := Scalar.cmpi .ne arg1 c11_i32_10
  let v20 : BitVec 1 := Scalar.andi v19 v18
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ProjStepReferenceIdeal.lean ====
abbrev S32x1x2048 : Shape := ⟨3, ![32, 1, 2048]⟩
abbrev S2048 : Shape := ⟨1, ![2048]⟩
abbrev S2048x11816 : Shape := ⟨2, ![2048, 11816]⟩
abbrev S128 : Shape := ⟨1, ![128]⟩
abbrev S32x2048 : Shape := ⟨2, ![32, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x11816 : Shape := ⟨2, ![32, 11816]⟩
abbrev S32x1024 : Shape := ⟨2, ![32, 1024]⟩
abbrev S32x512 : Shape := ⟨2, ![32, 512]⟩
abbrev S32x24 : Shape := ⟨2, ![32, 24]⟩
abbrev S32x3072 : Shape := ⟨2, ![32, 3072]⟩
abbrev S32x8 : Shape := ⟨2, ![32, 8]⟩
abbrev S32x8x128 : Shape := ⟨3, ![32, 8, 128]⟩
abbrev S32x8x1 : Shape := ⟨3, ![32, 8, 1]⟩
abbrev S1x1x128 : Shape := ⟨3, ![1, 1, 128]⟩
abbrev S32x4x128 : Shape := ⟨3, ![32, 4, 128]⟩
abbrev S32x2x128 : Shape := ⟨3, ![32, 2, 128]⟩
abbrev S32x2 : Shape := ⟨2, ![32, 2]⟩
abbrev S32x2x1 : Shape := ⟨3, ![32, 2, 1]⟩
abbrev S32x472 : Shape := ⟨2, ![32, 472]⟩
abbrev S32x12288 : Shape := ⟨2, ![32, 12288]⟩
abbrev S128x128 : Shape := ⟨2, ![128, 128]⟩

abbrev nBuf : Space → Nat
  | .hbm => 102
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x11816, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32x2048, .f32⟩
  | .hbm, ⟨7, _⟩ => ⟨S32x2048, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S1x2048, .f32⟩
  | .hbm, ⟨21, _⟩ => ⟨S32x2048, .f32⟩
  | .hbm, ⟨22, _⟩ => ⟨S32x2048, .f32⟩
  | .hbm, ⟨23, _⟩ => ⟨S32x11816, .f32⟩
  | .hbm, ⟨24, _⟩ => ⟨S32x1024, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x24, .f32⟩
  | .hbm, ⟨29, _⟩ => ⟨S32x1024, .f32⟩
  | .hbm, ⟨30, _⟩ => ⟨S32x3072, .f32⟩
  | .hbm, ⟨31, _⟩ => ⟨S32x8, .f32⟩
  | .hbm, ⟨32, _⟩ => ⟨S32x8, .f32⟩
  | .hbm, ⟨33, _⟩ => ⟨S32x1024, .f32⟩
  | .hbm, ⟨34, _⟩ => ⟨S32x2048, .f32⟩
  | .hbm, ⟨35, _⟩ => ⟨S32x2048, .f32⟩
  | .hbm, ⟨36, _⟩ => ⟨S32x8x128, .f32⟩
  | .hbm, ⟨37, _⟩ => ⟨S32x8x128, .f32⟩
  | .hbm, ⟨38, _⟩ => ⟨S_, .f32⟩
  | .hbm, ⟨39, _⟩ => ⟨S32x8, .f32⟩
  | .hbm, ⟨40, _⟩ => ⟨S32x8x1, .f32⟩
  | .hbm, ⟨41, _⟩ => ⟨S_, .f32⟩
  | .hbm, ⟨42, _⟩ => ⟨S32x8x1, .f32⟩
  | .hbm, ⟨43, _⟩ => ⟨S32x8x1, .f32⟩
  | .hbm, ⟨44, _⟩ => ⟨S_, .f32⟩
  | .hbm, ⟨45, _⟩ => ⟨S32x8x1, .f32⟩
  | .hbm, ⟨46, _⟩ => ⟨S32x8x1, .f32⟩
  | .hbm, ⟨47, _⟩ => ⟨S32x8x1, .f32⟩
  | .hbm, ⟨48, _⟩ => ⟨S32x8x128, .f32⟩
  | .hbm, ⟨49, _⟩ => ⟨S32x8x128, .f32⟩
  | .hbm, ⟨50, _⟩ => ⟨S1x1x128, .f32⟩
  | .hbm, ⟨51, _⟩ => ⟨S32x8x128, .f32⟩
  | .hbm, ⟨52, _⟩ => ⟨S32x8x128, .f32⟩
  | .hbm, ⟨53, _⟩ => ⟨S32x1024, .f32⟩
  | .hbm, ⟨54, _⟩ => ⟨S32x4x128, .f32⟩
  | .hbm, ⟨55, _⟩ => ⟨S32x2x128, .f32⟩
  | .hbm, ⟨56, _⟩ => ⟨S32x2x128, .f32⟩
  | .hbm, ⟨57, _⟩ => ⟨S_, .f32⟩
  | .hbm, ⟨58, _⟩ => ⟨S32x2, .f32⟩
  | .hbm, ⟨59, _⟩ => ⟨S32x2x1, .f32⟩
  | .hbm, ⟨60, _⟩ => ⟨S_, .f32⟩
  | .hbm, ⟨61, _⟩ => ⟨S32x2x1, .f32⟩
  | .hbm, ⟨62, _⟩ => ⟨S32x2x1, .f32⟩
  | .hbm, ⟨63, _⟩ => ⟨S_, .f32⟩
  | .hbm, ⟨64, _⟩ => ⟨S32x2x1, .f32⟩
  | .hbm, ⟨65, _⟩ => ⟨S32x2x1, .f32⟩
  | .hbm, ⟨66, _⟩ => ⟨S32x2x1, .f32⟩
  | .hbm, ⟨67, _⟩ => ⟨S32x2x128, .f32⟩
  | .hbm, ⟨68, _⟩ => ⟨S32x2x128, .f32⟩
  | .hbm, ⟨69, _⟩ => ⟨S1x1x128, .f32⟩
  | .hbm, ⟨70, _⟩ => ⟨S32x2x128, .f32⟩
  | .hbm, ⟨71, _⟩ => ⟨S32x2x128, .f32⟩
  | .hbm, ⟨72, _⟩ => ⟨S32x2x128, .f32⟩
  | .hbm, ⟨73, _⟩ => ⟨S32x4x128, .f32⟩
  | .hbm, ⟨74, _⟩ => ⟨S32x512, .f32⟩
  | .hbm, ⟨75, _⟩ => ⟨S32x4x128, .f32⟩
  | .hbm, ⟨76, _⟩ => ⟨S32x2x128, .f32⟩
  | .hbm, ⟨77, _⟩ => ⟨S32x2x128, .f32⟩
  | .hbm, ⟨78, _⟩ => ⟨S_, .f32⟩
  | .hbm, ⟨79, _⟩ => ⟨S32x2, .f32⟩
  | .hbm, ⟨80, _⟩ => ⟨S32x2x1, .f32⟩
  | .hbm, ⟨81, _⟩ => ⟨S_, .f32⟩
  | .hbm, ⟨82, _⟩ => ⟨S32x2x1, .f32⟩
  | .hbm, ⟨83, _⟩ => ⟨S32x2x1, .f32⟩
  | .hbm, ⟨84, _⟩ => ⟨S_, .f32⟩
  | .hbm, ⟨85, _⟩ => ⟨S32x2x1, .f32⟩
  | .hbm, ⟨86, _⟩ => ⟨S32x2x1, .f32⟩
  | .hbm, ⟨87, _⟩ => ⟨S32x2x1, .f32⟩
  | .hbm, ⟨88, _⟩ => ⟨S32x2x128, .f32⟩
  | .hbm, ⟨89, _⟩ => ⟨S32x2x128, .f32⟩
  | .hbm, ⟨90, _⟩ => ⟨S1x1x128, .f32⟩
  | .hbm, ⟨91, _⟩ => ⟨S32x2x128, .f32⟩
  | .hbm, ⟨92, _⟩ => ⟨S32x2x128, .f32⟩
  | .hbm, ⟨93, _⟩ => ⟨S32x2x128, .f32⟩
  | .hbm, ⟨94, _⟩ => ⟨S32x4x128, .f32⟩
  | .hbm, ⟨95, _⟩ => ⟨S32x512, .f32⟩
  | .hbm, ⟨96, _⟩ => ⟨S_, .f32⟩
  | .hbm, ⟨97, _⟩ => ⟨S32x472, .f32⟩
  | .hbm, ⟨98, _⟩ => ⟨S32x12288, .f32⟩
  | .hbm, ⟨99, _⟩ => ⟨S128x128, .f32⟩
  | .hbm, ⟨100, _⟩ => ⟨S128x128, .f32⟩
  | .hbm, ⟨101, _⟩ => ⟨S128x128, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Inter.lean ====
abbrev S512x4x128x128 : Shape := ⟨4, ![512, 4, 128, 128]⟩
abbrev S512x8x128 : Shape := ⟨3, ![512, 8, 128]⟩
abbrev S32768x12288 : Shape := ⟨2, ![32768, 12288]⟩
abbrev S128 : Shape := ⟨1, ![128]⟩
abbrev S4x4x32x4x128x128 : Shape := ⟨6, ![4, 4, 32, 4, 128, 128]⟩
abbrev S4x4x32x8x128 : Shape := ⟨5, ![4, 4, 32, 8, 128]⟩
abbrev S4x4x2048x12288 : Shape := ⟨4, ![4, 4, 2048, 12288]⟩
abbrev S1x128 : Shape := ⟨2, ![1, 128]⟩
abbrev S4x4x2048x1024 : Shape := ⟨4, ![4, 4, 2048, 1024]⟩
abbrev S4x4x8x128x128 : Shape := ⟨5, ![4, 4, 8, 128, 128]⟩
abbrev S1x4x1x4x128x128 : Shape := ⟨6, ![1, 4, 1, 4, 128, 128]⟩
abbrev S1x4x1x8x128 : Shape := ⟨5, ![1, 4, 1, 8, 128]⟩
abbrev S1x4x64x1024 : Shape := ⟨4, ![1, 4, 64, 1024]⟩
abbrev S1x4x8x128x128 : Shape := ⟨5, ![1, 4, 8, 128, 128]⟩
abbrev S4x8x128x128 : Shape := ⟨4, ![4, 8, 128, 128]⟩
abbrev S1x1x128x128 : Shape := ⟨4, ![1, 1, 128, 128]⟩
abbrev S128x128 : Shape := ⟨2, ![128, 128]⟩
abbrev S1x1x1x1x64x128 : Shape := ⟨6, ![1, 1, 1, 1, 64, 128]⟩
abbrev S64x128 : Shape := ⟨2, ![64, 128]⟩
abbrev S1x1x1x1x128x128 : Shape := ⟨6, ![1, 1, 1, 1, 128, 128]⟩
abbrev S1x1x1x1x128 : Shape := ⟨5, ![1, 1, 1, 1, 128]⟩
abbrev S64 : Shape := ⟨1, ![64]⟩
abbrev S64x1 : Shape := ⟨2, ![64, 1]⟩
abbrev S1x1x64x128 : Shape := ⟨4, ![1, 1, 64, 128]⟩
abbrev S64x1024 : Shape := ⟨2, ![64, 1024]⟩
abbrev S1x1x64x1024 : Shape := ⟨4, ![1, 1, 64, 1024]⟩

abbrev nBuf : Space → Nat
  | .hbm => 18
  | .vmem => 20
  | .smem => 0
  | _ => 0

abbrev bufTy : (tb : Table) → Fin (tcTables nBuf tb) → BufTy
  | .hbm, ⟨0, _⟩ => ⟨S512x4x128x128, .f32⟩
  | .hbm, ⟨1, _⟩ => ⟨S512x4x128x128, .bf16⟩
  | .hbm, ⟨2, _⟩ => ⟨S512x4x128x128, .bf16⟩
  | .hbm, ⟨3, _⟩ => ⟨S512x4x128x128, .bf16⟩
  | .hbm, ⟨4, _⟩ => ⟨S512x4x128x128, .bf16⟩
  | .hbm, ⟨5, _⟩ => ⟨S512x8x128, .f32⟩
  | .hbm, ⟨6, _⟩ => ⟨S32768x12288, .f32⟩
  | .hbm, ⟨7, _⟩ => ⟨S128, .f32⟩
  | .hbm, ⟨8, _⟩ => ⟨S4x4x32x4x128x128, .f32⟩
  | .hbm, ⟨9, _⟩ => ⟨S4x4x32x4x128x128, .bf16⟩
  | .hbm, ⟨10, _⟩ => ⟨S4x4x32x4x128x128, .bf16⟩
  | .hbm, ⟨11, _⟩ => ⟨S4x4x32x4x128x128, .bf16⟩
  | .hbm, ⟨12, _⟩ => ⟨S4x4x32x4x128x128, .bf16⟩
  | .hbm, ⟨13, _⟩ => ⟨S4x4x32x8x128, .f32⟩
  | .hbm, ⟨14, _⟩ => ⟨S4x4x2048x12288, .f32⟩
  | .hbm, ⟨15, _⟩ => ⟨S1x128, .f32⟩
  | .hbm, ⟨16, _⟩ => ⟨S4x4x2048x1024, .f32⟩
  | .hbm, ⟨17, _⟩ => ⟨S4x4x8x128x128, .f32⟩
  | .local _ .vmem, ⟨0, _⟩ => ⟨S1x4x1x4x128x128, .f32⟩
  | .local _ .vmem, ⟨1, _⟩ => ⟨S1x4x1x4x128x128, .f32⟩
  | .local _ .vmem, ⟨2, _⟩ => ⟨S1x4x1x4x128x128, .bf16⟩
  | .local _ .vmem, ⟨3, _⟩ => ⟨S1x4x1x4x128x128, .bf16⟩
  | .local _ .vmem, ⟨4, _⟩ => ⟨S1x4x1x4x128x128, .bf16⟩
  | .local _ .vmem, ⟨5, _⟩ => ⟨S1x4x1x4x128x128, .bf16⟩
  | .local _ .vmem, ⟨6, _⟩ => ⟨S1x4x1x4x128x128, .bf16⟩
  | .local _ .vmem, ⟨7, _⟩ => ⟨S1x4x1x4x128x128, .bf16⟩
  | .local _ .vmem, ⟨8, _⟩ => ⟨S1x4x1x4x128x128, .bf16⟩
  | .local _ .vmem, ⟨9, _⟩ => ⟨S1x4x1x4x128x128, .bf16⟩
  | .local _ .vmem, ⟨10, _⟩ => ⟨S1x4x1x8x128, .f32⟩
  | .local _ .vmem, ⟨11, _⟩ => ⟨S1x4x1x8x128, .f32⟩
  | .local _ .vmem, ⟨12, _⟩ => ⟨S1x4x64x1024, .f32⟩
  | .local _ .vmem, ⟨13, _⟩ => ⟨S1x4x64x1024, .f32⟩
  | .local _ .vmem, ⟨14, _⟩ => ⟨S1x128, .f32⟩
  | .local _ .vmem, ⟨15, _⟩ => ⟨S1x4x64x1024, .f32⟩
  | .local _ .vmem, ⟨16, _⟩ => ⟨S1x4x64x1024, .f32⟩
  | .local _ .vmem, ⟨17, _⟩ => ⟨S1x4x8x128x128, .f32⟩
  | .local _ .vmem, ⟨18, _⟩ => ⟨S1x4x8x128x128, .f32⟩
  | .local _ .vmem, ⟨19, _⟩ => ⟨S4x8x128x128, .f32⟩
  | _, _ => ⟨S512x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1491 : BitVec 1 := Scalar.cmpi .eq arg1 c31_i32
  let v1492 : BitVec 32 := Scalar.extui v1491
  let c0_i32_1584 : BitVec 32 := 0#32
  let v1493 : BitVec 1 := Scalar.cmpi .ne v1492 c0_i32_1584
  v1493

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x4x1x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InterReferenceIdeal.lean ====
abbrev S512x4x128x128 : Shape := ⟨4, ![512, 4, 128, 128]⟩
abbrev S512x8x128 : Shape := ⟨3, ![512, 8, 128]⟩
abbrev S32768x12288 : Shape := ⟨2, ![32768, 12288]⟩
abbrev S128 : Shape := ⟨1, ![128]⟩
abbrev S16x32x8x64x128 : Shape := ⟨5, ![16, 32, 8, 64, 128]⟩
abbrev S32x16x8x64x128 : Shape := ⟨5, ![32, 16, 8, 64, 128]⟩
abbrev S16x32x4x128x128 : Shape := ⟨5, ![16, 32, 4, 128, 128]⟩
abbrev S32x16x4x128x128 : Shape := ⟨5, ![32, 16, 4, 128, 128]⟩
abbrev S16x32x8x1x128 : Shape := ⟨5, ![16, 32, 8, 1, 128]⟩
abbrev S32x16x8x1x128 : Shape := ⟨5, ![32, 16, 8, 1, 128]⟩
abbrev S_ : Shape := ⟨0, ![]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S1x16x4x128x128 : Shape := ⟨5, ![1, 16, 4, 128, 128]⟩
abbrev S16x4x128x128 : Shape := ⟨4, ![16, 4, 128, 128]⟩
abbrev S1x16x8x1x128 : Shape := ⟨5, ![1, 16, 8, 1, 128]⟩
abbrev S16x8x1x128 : Shape := ⟨4, ![16, 8, 1, 128]⟩
abbrev S16x32x64x8x128 : Shape := ⟨5, ![16, 32, 64, 8, 128]⟩
abbrev S16x32x64x8 : Shape := ⟨4, ![16, 32, 64, 8]⟩
abbrev S16x32x64x8x1 : Shape := ⟨5, ![16, 32, 64, 8, 1]⟩
abbrev S1x1x1x1x128 : Shape := ⟨5, ![1, 1, 1, 1, 128]⟩
abbrev S32768x1024 : Shape := ⟨2, ![32768, 1024]⟩
abbrev S4x4x2048x1024 : Shape := ⟨4, ![4, 4, 2048, 1024]⟩
abbrev S4x4x8x128x128 : Shape := ⟨5, ![4, 4, 8, 128, 128]⟩

abbrev nBuf : Space → Nat
  | .hbm => 126
  | .vmem => 0
  | .smem => 0
  | _ => 0

abbrev bufTy : (tb : Table) → Fin (tcTables nBuf tb) → BufTy
  | .hbm, ⟨0, _⟩ => ⟨S512x4x128x128, .f32⟩
  | .hbm, ⟨1, _⟩ => ⟨S512x4x128x128, .bf16⟩
  | .hbm, ⟨2, _⟩ => ⟨S512x4x128x128, .bf16⟩
  | .hbm, ⟨3, _⟩ => ⟨S512x4x128x128, .bf16⟩
  | .hbm, ⟨4, _⟩ => ⟨S512x4x128x128, .bf16⟩
  | .hbm, ⟨5, _⟩ => ⟨S512x8x128, .f32⟩
  | .hbm, ⟨6, _⟩ => ⟨S32768x12288, .f32⟩
  | .hbm, ⟨7, _⟩ => ⟨S128, .f32⟩
  | .hbm, ⟨8, _⟩ => ⟨S16x32x8x64x128, .f32⟩
  | .hbm, ⟨9, _⟩ => ⟨S32x16x8x64x128, .f32⟩
  | .hbm, ⟨10, _⟩ => ⟨S512x4x128x128, .f32⟩
  | .hbm, ⟨11, _⟩ => ⟨S16x32x8x64x128, .f32⟩
  | .hbm, ⟨12, _⟩ => ⟨S32x16x8x64x128, .f32⟩
  | .hbm, ⟨13, _⟩ => ⟨S512x4x128x128, .f32⟩
  | .hbm, ⟨14, _⟩ => ⟨S16x32x8x64x128, .f32⟩
  | .hbm, ⟨15, _⟩ => ⟨S32x16x8x64x128, .f32⟩
  | .hbm, ⟨16, _⟩ => ⟨S512x4x128x128, .f32⟩
  | .hbm, ⟨17, _⟩ => ⟨S16x32x8x64x128, .f32⟩
  | .hbm, ⟨18, _⟩ => ⟨S32x16x8x64x128, .f32⟩
  | .hbm, ⟨19, _⟩ => ⟨S512x4x128x128, .f32⟩
  | .hbm, ⟨20, _⟩ => ⟨S16x32x4x128x128, .f32⟩
  | .hbm, ⟨21, _⟩ => ⟨S32x16x4x128x128, .f32⟩
  | .hbm, ⟨22, _⟩ => ⟨S16x32x8x1x128, .f32⟩
  | .hbm, ⟨23, _⟩ => ⟨S32x16x8x1x128, .f32⟩
  | .hbm, ⟨24, _⟩ => ⟨S_, .f32⟩
  | .hbm, ⟨25, _⟩ => ⟨S16x8x128x128, .f32⟩
  | .hbm, ⟨26, _⟩ => ⟨S_, .f32⟩
  | .hbm, ⟨27, _⟩ => ⟨S32x16x8x64x128, .f32⟩
  | .hbm, ⟨28, _⟩ => ⟨S_, .i32⟩
  | .hbm, ⟨29, _⟩ => ⟨S32x16x8x64x128, .f32⟩
  | .hbm, ⟨30, _⟩ => ⟨S32x16x8x64x128, .f32⟩
  | .hbm, ⟨31, _⟩ => ⟨S32x16x4x128x128, .f32⟩
  | .hbm, ⟨32, _⟩ => ⟨S32x16x8x64x128, .f32⟩
  | .hbm, ⟨33, _⟩ => ⟨S32x16x8x64x128, .f32⟩
  | .hbm, ⟨34, _⟩ => ⟨S32x16x8x1x128, .f32⟩
  | .hbm, ⟨35, _⟩ => ⟨S_, .i32⟩
  | .hbm, ⟨36, _⟩ => ⟨S16x8x128x128, .f32⟩
  | .hbm, ⟨37, _⟩ => ⟨S32x16x8x64x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x16x8x64x128, .f32⟩
  | .hbm, ⟨45, _⟩ => ⟨S16x8x64x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x16x8x64x128, .f32⟩
  | .hbm, ⟨51, _⟩ => ⟨S16x8x64x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x16x4x128x128, .f32⟩
  | .hbm, ⟨57, _⟩ => ⟨S16x4x128x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x16x8x64x128, .f32⟩
  | .hbm, ⟨63, _⟩ => ⟨S16x8x64x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x16x8x64x128, .f32⟩
  | .hbm, ⟨69, _⟩ => ⟨S16x8x64x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x16x8x1x128, .f32⟩
  | .hbm, ⟨75, _⟩ => ⟨S16x8x1x128, .f32⟩
  | .hbm, ⟨76, _⟩ => ⟨S16x8x64x128, .f32⟩
  | .hbm, ⟨77, _⟩ => ⟨S16x8x64x128, .f32⟩
  | .hbm, ⟨78, _⟩ => ⟨S16x8x64x128, .f32⟩
  | .hbm, ⟨79, _⟩ => ⟨S16x4x128x128, .f32⟩
  | .hbm, ⟨80, _⟩ => ⟨S16x4x128x128, .f32⟩
  | .hbm, ⟨81, _⟩ => ⟨S16x8x64x128, .f32⟩
  | .hbm, ⟨82, _⟩ => ⟨S16x8x64x128, .f32⟩
  | .hbm, ⟨83, _⟩ => ⟨S16x8x128x128, .f32⟩
  | .hbm, ⟨84, _⟩ => ⟨S16x8x128x128, .f32⟩
  | .hbm, ⟨85, _⟩ => ⟨S16x8x128x128, .f32⟩
  | .hbm, ⟨86, _⟩ => ⟨S16x8x128x128, .f32⟩
  | .hbm, ⟨87, _⟩ => ⟨S1x16x8x64x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S32x16x8x64x128, .f32⟩
  | .hbm, ⟨93, _⟩ => ⟨S_, .i32⟩
  | .hbm, ⟨94, _⟩ => ⟨S_, .i32⟩
  | .hbm, ⟨95, _⟩ => ⟨S16x32x64x8x128, .f32⟩
  | .hbm, ⟨96, _⟩ => ⟨S16x32x64x8x128, .f32⟩
  | .hbm, ⟨97, _⟩ => ⟨S_, .f32⟩
  | .hbm, ⟨98, _⟩ => ⟨S16x32x64x8, .f32⟩
  | .hbm, ⟨99, _⟩ => ⟨S16x32x64x8x1, .f32⟩
  | .hbm, ⟨100, _⟩ => ⟨S_, .f32⟩
  | .hbm, ⟨101, _⟩ => ⟨S16x32x64x8x1, .f32⟩
  | .hbm, ⟨102, _⟩ => ⟨S16x32x64x8x1, .f32⟩
  | .hbm, ⟨103, _⟩ => ⟨S_, .f32⟩
  | .hbm, ⟨104, _⟩ => ⟨S16x32x64x8x1, .f32⟩
  | .hbm, ⟨105, _⟩ => ⟨S16x32x64x8x1, .f32⟩
  | .hbm, ⟨106, _⟩ => ⟨S16x32x64x8x1, .f32⟩
  | .hbm, ⟨107, _⟩ => ⟨S16x32x64x8x128, .f32⟩
  | .hbm, ⟨108, _⟩ => ⟨S16x32x64x8x128, .f32⟩
  | .hbm, ⟨109, _⟩ => ⟨S1x1x1x1x128, .f32⟩
  | .hbm, ⟨110, _⟩ => ⟨S16x32x64x8x128, .f32⟩
  | .hbm, ⟨111, _⟩ => ⟨S16x32x64x8x128, .f32⟩
  | .hbm, ⟨112, _⟩ => ⟨S32768x1024, .f32⟩
  | .hbm, ⟨113, _⟩ => ⟨S4x4x2048x1024, .f32⟩
  | .hbm, ⟨114, _⟩ => ⟨S4x4x2048x1024, .f32⟩
  | .hbm, ⟨115, _⟩ => ⟨S4x4x2048x1024, .f32⟩
  | .hbm, ⟨116, _⟩ => ⟨S4x4x2048x1024, .f32⟩
  | .hbm, ⟨117, _⟩ => ⟨S_, .f32⟩
  | .hbm, ⟨118, _⟩ => ⟨S4x4x2048x1024, .f32⟩
  | .hbm, ⟨119, _⟩ => ⟨S4x4x2048x1024, .f32⟩
  | .hbm, ⟨120, _⟩ => ⟨S_, .f32⟩
  | .hbm, ⟨121, _⟩ => ⟨S4x4x2048x1024, .f32⟩
  | .hbm, ⟨122, _⟩ => ⟨S4x4x2048x1024, .f32⟩
  | .hbm, ⟨123, _⟩ => ⟨S4x4x2048x1024, .f32⟩
  | .hbm, ⟨124, _⟩ => ⟨S4x4x2048x1024, .f32⟩
  | .hbm, ⟨125, _⟩ => ⟨S4x4x8x128x128, .f32⟩
  | _, _ => ⟨S512x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_c : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_while0c_c_12 : Ref sig .tc := ⟨.hbm, 38, rfl⟩
abbrev main_while0c_v39 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v39 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v40 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v41 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_c_2 : Ref sig .tc := ⟨.hbm, 61, rfl⟩
abbrev main_while0b_call3_v0 : Ref sig .tc := ⟨.hbm, 62, rfl⟩
abbrev main_while0b_v42 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_c_2 : Ref sig .tc := ⟨.hbm, 67, rfl⟩
abbrev main_while0b_call4_v0 : Ref sig .tc := ⟨.hbm, 68, rfl⟩
abbrev main_while0b_v43 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_c_2 : Ref sig .tc := ⟨.hbm, 73, rfl⟩
abbrev main_while0b_call5_v0 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_v56 : Ref sig .tc := ⟨.hbm, 92, rfl⟩
abbrev main_while0b_c_12 : Ref sig .tc := ⟨.hbm, 93, rfl⟩
abbrev main_while0b_v57 : Ref sig .tc := ⟨.hbm, 94, rfl⟩
abbrev main_v19 : Ref sig .tc := ⟨.hbm, 95, rfl⟩
abbrev main_v20 : Ref sig .tc := ⟨.hbm, 96, rfl⟩
abbrev main_cst_1 : Ref sig .tc := ⟨.hbm, 97, rfl⟩
abbrev main_v21 : Ref sig .tc := ⟨.hbm, 98, rfl⟩
abbrev main_v22 : Ref sig .tc := ⟨.hbm, 99, rfl⟩
abbrev main_cst_2 : Ref sig .tc := ⟨.hbm, 100, rfl⟩
abbrev main_v23 : Ref sig .tc := ⟨.hbm, 101, rfl⟩
abbrev main_v24 : Ref sig .tc := ⟨.hbm, 102, rfl⟩
abbrev main_cst_3 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_call7_v0 : Ref sig .tc := ⟨.hbm, 115, rfl⟩
abbrev main_call7_v1 : Ref sig .tc := ⟨.hbm, 116, rfl⟩
abbrev main_call7_cst : Ref sig .tc := ⟨.hbm, 117, rfl⟩
abbrev main_call7_v2 : Ref sig .tc := ⟨.hbm, 118, rfl⟩
abbrev main_call7_v3 : Ref sig .tc := ⟨.hbm, 119, rfl⟩
abbrev main_call7_cst_0 : Ref sig .tc := ⟨.hbm, 120, rfl⟩
abbrev main_call7_v4 : Ref sig .tc := ⟨.hbm, 121, rfl⟩
abbrev main_call7_v5 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩

abbrev nD : Nat := 1
abbrev τ : Topo := Topo.v7x

variable {F : FTy → Type} [FloatOps F]

abbrev main_while0_count : Scf.Loop 32 := ⟨0#32, 32#32, 1#32⟩
-- ==== Proof.RecReal.lean ====
module

public import Idealize.ShloMosaic.Lib.Pointwise
@[expose] public section

set_option maxRecDepth 16384
noncomputable section
open Idealize.ShloMosaic
namespace Cert.Rec

/-! ## Real numbers among the extended reals -/

/-- `x` is a real number. -/
def Re (x : EReal) : Prop := ∃ r : ℝ, x = (r : EReal)

theorem Re.coe (r : ℝ) : Re (r : EReal) := ⟨r, rfl⟩
theorem Re.zero : Re 0 := ⟨0, by simp⟩
theorem Re.one : Re 1 := ⟨1, by simp⟩
theorem Re.add {x y : EReal} : Re x → Re y → Re (x + y) := by
  rintro ⟨a, rfl⟩ ⟨b, rfl⟩; exact ⟨a + b, by push_cast; rfl⟩
theorem Re.mul {x y : EReal} : Re x → Re y → Re (x * y) := by
  rintro ⟨a, rfl⟩ ⟨b, rfl⟩; exact ⟨a * b, by push_cast; rfl⟩
theorem Re.of_bounds {x : EReal} (h0 : 0 ≤ x) (h1 : x ≤ 1) : Re x := by
  induction x using EReal.rec with
  | bot => simp at h0
  | coe r => exact ⟨r, rfl⟩
  | top => exact absurd h1 (by decide +revert)
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]
theorem Re.fun {α : Type} {f : α → EReal} (h : ∀ k, Re (f k)) : ∃ g : α → ℝ, f = fun k => (g k : EReal) :=
  ⟨fun k => (h k).choose, funext fun k => (h k).choose_spec⟩
theorem Re.sum {n : ℕ} {f : Fin n → EReal} (h : ∀ k, Re (f k)) : Re (∑ k, f k) := by
  obtain ⟨g, rfl⟩ := Re.fun h; exact ⟨∑ k, g k, (coe_sum g).symm⟩

/-- The logistic function is a real number at every extended real. -/
theorem Re.logistic (x : EReal) : Re (Ideal.logistic x) := by
  induction x using EReal.rec with
  | bot => rw [Ideal.logistic_bot]; exact Re.zero
  | coe r => rw [Ideal.logistic_coe]; exact Re.coe _
  | top => rw [Ideal.logistic_top]; exact Re.one

/-- The exponential of a number that is not positive is a real number. -/
theorem Re.exp {x : EReal} (h : x ≤ 0) : Re (Ideal.exp x) := by
  induction x using EReal.rec with
  | bot => exact Re.zero
  | coe r => exact Re.coe _
  | top => exact absurd h (by simp)

theorem exp_nonneg (x : EReal) : 0 ≤ Ideal.exp x := by
  induction x using EReal.rec with
  | bot => exact le_refl _
  | coe r => rw [Ideal.exp_coe]; exact_mod_cast (Real.exp_pos r).le
  | top => exact le_top

theorem log1p_nonneg {x : EReal} (h : 0 ≤ x) : 0 ≤ Ideal.log1p x := by
  induction x using EReal.rec with
  | bot => simp at h
  | coe r =>
    have hr : (0 : ℝ) ≤ r := by exact_mod_cast h
    show 0 ≤ Ideal.log (1 + (r : EReal))
    have e : (1 : EReal) + (r : EReal) = ((1 + r : ℝ) : EReal) := by push_cast; rfl
    rw [e]
    show (0 : EReal) ≤ if 1 + r ≤ 0 then ⊥ else (Real.log (1 + r) : EReal)
    rw [if_neg (by linarith)]
    exact_mod_cast Real.log_nonneg (by linarith)
  | top =>
    show 0 ≤ Ideal.log (1 + ⊤)
    have e : (1 : EReal) + ⊤ = ⊤ := by rfl
    rw [e]; exact le_top

/-! ## The constants -/

theorem eps_pos : ∃ r : ℝ, 0 < r ∧ Ideal.ofBits .f32 0x358637BD#32 = (r : EReal) := by
  refine ⟨8796093 * (2:ℝ) ^ (-43 : ℤ), by positivity, ?_⟩
  simp [Ideal.ofBits, Ideal.ieee]
theorem scale_re : Re (Ideal.ofBits .f32 0x3DB504F3#32) := by
  refine ⟨11863283 * (2:ℝ) ^ (-27 : ℤ), ?_⟩
  simp [Ideal.ofBits, Ideal.ieee]

/-! ## The parts of one decoding step -/

/-- `x · logistic x`. -/
def silu (x : EReal) : EReal := x * Ideal.logistic x
/-- A vector over its norm: `f k / √(∑ f² + ε)`. -/
def nrm (f : Fin 128 → EReal) (k : Fin 128) : EReal :=
  f k * Ideal.rsqrt (∑ l, f l * f l + Ideal.ofBits .f32 0x358637BD#32)
/-- The decay of one head from its three scalars: `exp (-exp l · softplus (a + d))`. -/
def decay (l a d : EReal) : EReal :=
  Ideal.exp (-Ideal.exp l * (max (a + d) 0 + Ideal.log1p (Ideal.exp (-max (a + d) (-(a + d))))))

/-- One row over its root mean square, times a weight and `silu` of a gate. -/
def gated (o : Fin 128 → EReal) (w z : EReal) (k : Fin 128) : EReal :=
  o k * Ideal.rsqrt (Ideal.div (∑ l, o l * o l) (Ideal.ofBits .f32 0x43000000#32) + Ideal.ofBits .f32 0x358637BD#32) * w * silu z

theorem Re.silu {x : EReal} (h : Re x) : Re (silu x) := h.mul (Re.logistic x)

theorem Re.nrm {f : Fin 128 → EReal} (h : ∀ k, Re (f k)) (k : Fin 128) : Re (nrm f k) := by
  obtain ⟨g, rfl⟩ := Re.fun h
  obtain ⟨e, he, hE⟩ := eps_pos
  refine (Re.coe _).mul ?_
  have hs : (0 : ℝ) ≤ ∑ l, g l * g l := Finset.sum_nonneg fun l _ => mul_self_nonneg _
  have : (∑ l, (g l : EReal) * (g l : EReal) + Ideal.ofBits .f32 0x358637BD#32) = ((∑ l, g l * g l + e : ℝ) : EReal) := by
    rw [hE, EReal.coe_add, coe_sum]; simp only [EReal.coe_mul]
  rw [this, Ideal.rsqrt_coe, if_neg (by linarith), if_neg (by linarith)]
  exact Re.coe _

theorem Re.decay (l a d : EReal) : Re (decay l a d) := by
  refine Re.exp ?_
  have h : 0 ≤ Ideal.exp l * (max (a + d) 0 + Ideal.log1p (Ideal.exp (-max (a + d) (-(a + d))))) :=
    mul_nonneg (exp_nonneg l) (add_nonneg (le_max_right _ _) (log1p_nonneg (exp_nonneg _)))
  rw [EReal.neg_mul]
  rw [← EReal.neg_le_neg_iff]; simpa using h

/-! ## The step in its two forms -/

section
variable (q k v : Fin 128 → EReal) (S : Fin 128 → Fin 128 → EReal) (e b : EReal)

/-- The kernel's correction: `b v - (b e) (kᵀ S)`. -/
def vnew (y : Fin 128) : EReal := b * v y - (b * e) * ∑ z, k z * S z y
/-- The kernel's state after the step. -/
def stateK (x y : Fin 128) : EReal := S x y * e + k x * vnew k v S e b y
/-- The kernel's output of the step. -/
def outK (y : Fin 128) : EReal := e * (∑ z, q z * S z y) + (∑ z, q z * k z) * vnew k v S e b y
/-- The state after the step: `e S + b k (v - kᵀ (e S))ᵀ`. -/
def stateR (x y : Fin 128) : EReal := e * S x y + (b * k x) * (v y - ∑ z, k z * (e * S z y))
/-- The output of the step: the new state read at `q`. -/
def outR (y : Fin 128) : EReal := ∑ z, q z * stateR k v S e b z y
end

theorem state_eq {k v : Fin 128 → EReal} {S : Fin 128 → Fin 128 → EReal} {e b : EReal} (hk : ∀ i, Re (k i)) (hv : ∀ i, Re (v i))
    (hS : ∀ i j, Re (S i j)) (he : Re e) (hb : Re b) (x y : Fin 128) : stateK k v S e b x y = stateR k v S e b x y := by
  obtain ⟨k, rfl⟩ := Re.fun hk; obtain ⟨v, rfl⟩ := Re.fun hv
  obtain ⟨T, hT⟩ := Re.fun (f := fun p : Fin 128 × Fin 128 => S p.1 p.2) fun p => hS _ _
  obtain rfl : S = fun i j => ((T (i, j) : ℝ) : EReal) := funext fun i => funext fun j => congrFun hT (i, j)
  obtain ⟨e, rfl⟩ := he; obtain ⟨b, rfl⟩ := hb
  simp only [stateK, stateR, vnew, ← EReal.coe_mul, ← coe_sum, ← EReal.coe_sub, ← EReal.coe_add]
  congr 1
  have : ∑ z, k z * (e * T (z, y)) = e * ∑ z, k z * T (z, y) := by
    rw [Finset.mul_sum]; exact Finset.sum_congr rfl fun z _ => by ring
  rw [this]; ring

theorem out_eq {q k v : Fin 128 → EReal} {S : Fin 128 → Fin 128 → EReal} {e b : EReal} (hq : ∀ i, Re (q i)) (hk : ∀ i, Re (k i))
    (hv : ∀ i, Re (v i)) (hS : ∀ i j, Re (S i j)) (he : Re e) (hb : Re b) (y : Fin 128) :
    outK q k v S e b y = outR q k v S e b y := by
  have h : ∀ z, stateR k v S e b z y = stateK k v S e b z y := fun z => (state_eq hk hv hS he hb z y).symm
  simp only [outR, h]
  obtain ⟨q, rfl⟩ := Re.fun hq
  obtain ⟨k, rfl⟩ := Re.fun hk; obtain ⟨v, rfl⟩ := Re.fun hv
  obtain ⟨T, hT⟩ := Re.fun (f := fun p : Fin 128 × Fin 128 => S p.1 p.2) fun p => hS _ _
  obtain rfl : S = fun i j => ((T (i, j) : ℝ) : EReal) := funext fun i => funext fun j => congrFun hT (i, j)
  obtain ⟨e, rfl⟩ := he; obtain ⟨b, rfl⟩ := hb
  simp only [outK, stateK, vnew, ← EReal.coe_mul, ← coe_sum, ← EReal.coe_sub, ← EReal.coe_add]
  congr 1
  set w := b * v y - b * e * ∑ z, k z * T (z, y) with hw
  rw [Finset.mul_sum, Finset.sum_mul, ← Finset.sum_add_distrib]
  exact Finset.sum_congr rfl fun z _ => by ring

/-! ## The step over the whole arrays -/

section
variable (Q : Fin 32 → Fin 3072 → EReal) (C : Fin 32 → Fin 3 → Fin 3072 → EReal) (W : Fin 4 → Fin 3072 → EReal)
  (A B : Fin 32 → Fin 8 → EReal) (L D : Fin 8 → EReal) (S : Fin 32 → Fin 8 → Fin 128 → Fin 128 → EReal)
  (N : Fin 128 → EReal) (Z : Fin 32 → Fin 8 → Fin 128 → EReal)

/-- The activated causal convolution of batch member `b` at channel `n`. -/
def actA (b : Fin 32) (n : Fin 3072) : EReal :=
  silu (C b 0 n * W 0 n + C b 1 n * W 1 n + C b 2 n * W 2 n + Q b n * W 3 n)
/-- The query of a head. -/
def qA (b : Fin 32) (h : Fin 8) (k : Fin 128) : EReal :=
  nrm (fun l => actA Q C W b ⟨h * 128 + l, by omega⟩) k * Ideal.ofBits .f32 0x3DB504F3#32
/-- The key of a head. -/
def kA (b : Fin 32) (h : Fin 8) (k : Fin 128) : EReal := nrm (fun l => actA Q C W b ⟨1024 + h * 128 + l, by omega⟩) k
/-- The value of a head. -/
def vA (b : Fin 32) (h : Fin 8) (k : Fin 128) : EReal := actA Q C W b ⟨2048 + h * 128 + k, by omega⟩
end

end Cert.Rec
-- ==== Proof.RecKernel.lean ====
module

public import proofs.«01_k».proof.Proof.Gen.KernelIdeal.Frame
public import proofs.«01_k».proof.Proof.RecReal
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

variable (x0 : FVec Ideal S1x24x128 .f32) (x1 : FVec Ideal S1x3x24x128 .f32) (x2 : FVec Ideal S4x24x128 .f32) (x3 x4 : FVec Ideal S1x8x1 .f32)
  (x5 x6 : FVec Ideal S8x1 .f32) (x7 : FVec Ideal S1x8x128x128 .f32) (x8 : FVec Ideal S1x128 .f32) (x9 : FVec Ideal S1x8x128 .f32)

/-- The activated convolution at row `j`, lane `l` of one batch member. -/
def act (j : Fin 24) (l : Fin 128) : EReal :=
  Rec.silu (x1 (ix4 0 0 j l) * x2 (ix3 0 j l) + x1 (ix4 0 1 j l) * x2 (ix3 1 j l) + x1 (ix4 0 2 j l) * x2 (ix3 2 j l) + x0 (ix3 0 j l) * x2 (ix3 3 j l))

theorem pay74_at (j : Fin 24) (l : Fin 128) : k0_pay74 (F := Ideal) x0 x1 x2 x3 x4 x5 x6 x7 x8 x9 (ix2 j l) = act x0 x1 x2 j l := by
  unfold k0_pay74 r0_0 r0_1 r0_2 r0_3 r0_4 r0_5 r0_6 r0_7
  pointwise [k0_pay2, act, Rec.silu]

theorem pay79_at (h : Fin 8) (l : Fin 128) : k0_pay79 (F := Ideal) x0 x1 x2 x3 x4 x5 x6 x7 x8 x9 (ix2 h l)
    = Rec.nrm (fun k => act x0 x1 x2 ⟨8 + h, by omega⟩ k) l := by
  unfold k0_pay79
  pointwise [k0_pay7, Rec.nrm, pay74_at]

theorem pay78_at (h : Fin 8) (l : Fin 128) : k0_pay78 (F := Ideal) x0 x1 x2 x3 x4 x5 x6 x7 x8 x9 (ix2 h l)
    = Rec.nrm (fun k => act x0 x1 x2 ⟨h, by omega⟩ k) l * Ideal.ofBits .f32 0x3DB504F3#32 := by
  unfold k0_pay78 k0_pay77 k0_pay76 k0_pay75 r0_0 r0_1 r0_2 r0_3 r0_4 r0_5 r0_6 r0_7
  pointwise [k0_pay6, k0_pay5, k0_pay4, k0_pay3, Rec.nrm, k0_pay2, act, Rec.silu]

theorem pay80_at (h : Fin 8) (l : Fin 128) : k0_pay80 (F := Ideal) x0 x1 x2 x3 x4 x5 x6 x7 x8 x9 (ix2 h l) = act x0 x1 x2 ⟨16 + h, by omega⟩ l := by
  unfold k0_pay80
  pointwise [k0_pay8, pay74_at]

theorem pay81_at (h : Fin 8) : k0_pay81 (F := Ideal) x0 x1 x2 x3 x4 x5 x6 x7 x8 x9 (ix2 h 0) = Ideal.logistic (x4 (ix3 0 h 0)) := by
  unfold k0_pay81 r0_9
  pointwise [k0_pay9]

theorem pay82_at (h : Fin 8) : k0_pay82 (F := Ideal) x0 x1 x2 x3 x4 x5 x6 x7 x8 x9 (ix2 h 0) = Rec.decay (x5 (ix2 h 0)) (x3 (ix3 0 h 0)) (x6 (ix2 h 0)) := by
  unfold k0_pay82 r0_9 r0_8
  pointwise [k0_pay10, Rec.decay]
  rw [zero_sub, zero_sub]
  rfl

theorem pay83_at (h : Fin 8) : k0_pay83 (F := Ideal) x0 x1 x2 x3 x4 x5 x6 x7 x8 x9 (ix2 h 0)
   = ∑ l : Fin 128, k0_pay78 (F := Ideal) x0 x1 x2 x3 x4 x5 x6 x7 x8 x9 (ix2 h l) * k0_pay79 (F := Ideal) x0 x1 x2 x3 x4 x5 x6 x7 x8 x9 (ix2 h l) := by
  unfold k0_pay83 k0_pay78 k0_pay79
  pointwise [k0_pay11]

/-- The tile store of one head, whatever the head. -/
theorem state_at (y : S1x8x128x128.Idx) : out0_11 (F := Ideal) x0 x1 x2 x3 x4 x5 x6 x7 x8 x9 y
    = Rec.stateK (fun k => k0_pay79 (F := Ideal) x0 x1 x2 x3 x4 x5 x6 x7 x8 x9 (ix2 (y 1) k)) (fun k => k0_pay80 (F := Ideal) x0 x1 x2 x3 x4 x5 x6 x7 x8 x9 (ix2 (y 1) k))
      (fun i j => x7 (ix4 0 (y 1) i j)) (k0_pay82 (F := Ideal) x0 x1 x2 x3 x4 x5 x6 x7 x8 x9 (ix2 (y 1) 0)) (k0_pay81 (F := Ideal) x0 x1 x2 x3 x4 x5 x6 x7 x8 x9 (ix2 (y 1) 0)) (y 2) (y 3) := by
  unfold out0_11
  canon_tiles p h
  all_goals idx_vars y
  all_goals idx_vars p
  all_goals obtain rfl : y2 = p2 := Fin.ext h2
  all_goals obtain rfl : y3 = p3 := Fin.ext h3
  all_goals (obtain rfl : p0 = 0 := by omega)
  all_goals (obtain rfl : p1 = 0 := by omega)
  all_goals pointwise [Rec.stateK, Rec.vnew, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay84, k0_pay85, k0_pay86, k0_pay87, k0_pay88, k0_pay89, k0_pay90, k0_pay91, k0_pay92, k0_pay93, k0_pay94, k0_pay95, k0_pay96, k0_pay97]
  all_goals (obtain ⟨n, hn⟩ := y1; have e : n = _ := h1; subst e; rfl)

end Cert.KernelIdeal.RecValue
-- ==== Proof.RecRows.lean ====
module

public import proofs.«01_k».proof.Proof.Gen.KernelIdeal.Frame
public import proofs.«01_k».proof.Proof.RecKernel
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

theorem rows_at (R : Fin 8 → Fin 128 → EReal) (v71 : FVec Ideal S8x1 .f32) (a0 a1 a2 a3 a4 a5 a6 v340 v347 v348 : FVec Ideal S1x128 .f32)
    (w : FVec Ideal S1x128 .f32) (z : FVec Ideal S1x8x128 .f32)
    (h0 : ∀ l : Fin 128, a0 (ix2 0 l) = R 0 l) (h1 : ∀ l : Fin 128, a1 (ix2 0 l) = R 1 l) (h2 : ∀ l : Fin 128, a2 (ix2 0 l) = R 2 l)
    (h3 : ∀ l : Fin 128, a3 (ix2 0 l) = R 3 l) (h4 : ∀ l : Fin 128, a4 (ix2 0 l) = R 4 l) (h5 : ∀ l : Fin 128, a5 (ix2 0 l) = R 5 l)
    (h6 : ∀ l : Fin 128, a6 (ix2 0 l) = R 6 l)
    (h7 : ∀ l : Fin 128, v348 (ix2 0 l) * v340 (ix2 0 l) + v71 (ix2 7 0) * v347 (ix2 0 l) = R 7 l)
    (h : Fin 8) (l : Fin 128) :
    k0_pay73 (F := Ideal) v71 a0 a1 a2 a3 a4 a5 a6 v340 v347 v348 w z (ix2 h l) = Rec.gated (R h) (w (ix2 0 l)) (z (ix3 0 h l)) l := by
  have g0 : ∀ (p : 0 < 1) (l : Fin 128), a0 (ix2 ⟨0, p⟩ l) = R 0 l := fun _ l => h0 l
  have g1 : ∀ (p : 0 < 1) (l : Fin 128), a1 (ix2 ⟨0, p⟩ l) = R 1 l := fun _ l => h1 l
  have g2 : ∀ (p : 0 < 1) (l : Fin 128), a2 (ix2 ⟨0, p⟩ l) = R 2 l := fun _ l => h2 l
  have g3 : ∀ (p : 0 < 1) (l : Fin 128), a3 (ix2 ⟨0, p⟩ l) = R 3 l := fun _ l => h3 l
  have g4 : ∀ (p : 0 < 1) (l : Fin 128), a4 (ix2 ⟨0, p⟩ l) = R 4 l := fun _ l => h4 l
  have g5 : ∀ (p : 0 < 1) (l : Fin 128), a5 (ix2 ⟨0, p⟩ l) = R 5 l := fun _ l => h5 l
  have g6 : ∀ (p : 0 < 1) (l : Fin 128), a6 (ix2 ⟨0, p⟩ l) = R 6 l := fun _ l => h6 l
  have g7 : ∀ (p : 0 < 1) (l : Fin 128), v348 (ix2 ⟨0, p⟩ l) * v340 (ix2 ⟨0, p⟩ l) + v71 (ix2 7 0) * v347 (ix2 ⟨0, p⟩ l) = R 7 l := fun _ l => h7 l
  pointwise [Rec.gated, Rec.silu, k0_pay73]
  fin_vals h with hk
  all_goals simp only [hk, Nat.reduceSub, Nat.reduceLT, ↓reduceDIte, g0, g1, g2, g3, g4, g5, g6, g7]
  all_goals (obtain ⟨n, hn⟩ := h; have e : n = _ := hk; subst e; rfl)

end Cert.KernelIdeal.RecValue
-- ==== Proof.RecOut.lean ====
module

public import proofs.«01_k».proof.Proof.Gen.KernelIdeal.Frame
public import proofs.«01_k».proof.Proof.RecRows
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

variable (x0 : FVec Ideal S1x24x128 .f32) (x1 : FVec Ideal S1x3x24x128 .f32) (x2 : FVec Ideal S4x24x128 .f32) (x3 x4 : FVec Ideal S1x8x1 .f32)
  (x5 x6 : FVec Ideal S8x1 .f32) (x7 : FVec Ideal S1x8x128x128 .f32) (x8 : FVec Ideal S1x128 .f32) (x9 : FVec Ideal S1x8x128 .f32)

/-- The heads' outputs before the norm. -/
def oRow (h : Fin 8) (l : Fin 128) : EReal :=
  Rec.outK (fun k => k0_pay78 (F := Ideal) x0 x1 x2 x3 x4 x5 x6 x7 x8 x9 (ix2 h k)) (fun k => k0_pay79 (F := Ideal) x0 x1 x2 x3 x4 x5 x6 x7 x8 x9 (ix2 h k)) (fun k => k0_pay80 (F := Ideal) x0 x1 x2 x3 x4 x5 x6 x7 x8 x9 (ix2 h k))
      (fun i j => x7 (ix4 0 h i j)) (k0_pay82 (F := Ideal) x0 x1 x2 x3 x4 x5 x6 x7 x8 x9 (ix2 h 0)) (k0_pay81 (F := Ideal) x0 x1 x2 x3 x4 x5 x6 x7 x8 x9 (ix2 h 0)) l

set_option maxHeartbeats 1600000 in
/-- The output block: the heads' outputs over their root mean square, times the weight and the gate. -/
theorem out_at (h : Fin 8) (l : Fin 128) : out0_10 (F := Ideal) x0 x1 x2 x3 x4 x5 x6 x7 x8 x9 (ix3 0 h l)
    = Rec.gated (oRow x0 x1 x2 x3 x4 x5 x6 x7 x8 x9 h) (x8 (ix2 0 l)) (x9 (ix3 0 h l)) l := by
  unfold out0_10 r0_18 r0_19
  frame_out
  pointwise [k0_pay1]
  refine rows_at (oRow x0 x1 x2 x3 x4 x5 x6 x7 x8 x9) _ _ _ _ _ _ _ _ _ _ _ _ _ ?_ ?_ ?_ ?_ ?_ ?_ ?_ ?_ h l
  all_goals intro l
  all_goals pointwise [oRow, Rec.outK, Rec.vnew, pay83_at, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay84, k0_pay85, k0_pay86, k0_pay87, k0_pay88, k0_pay89, k0_pay90, k0_pay91, k0_pay92, k0_pay93, k0_pay94, k0_pay95, k0_pay96, k0_pay97]

end Cert.KernelIdeal.RecValue
-- ==== Proof.RecBridge.lean ====
module

public import proofs.«01_k».proof.Proof.Gen.KernelIdeal.Value
public import proofs.«01_k».proof.Proof.RecOut
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

variable (m : (ℓ : Loc nD τ sig) → Buf (Elt Ideal) ℓ) (c : Dev nD)

/-- The argument arrays as functions of plain indices. -/
def aQ (b : Fin 32) (n : Fin 3072) : EReal := (show FVec Ideal S32x1x3072 .f32 from m ((c : Thread nD τ).loc main_arg0)) (ix3 b 0 n)
def aA (b : Fin 32) (h : Fin 8) : EReal := (show FVec Ideal S32x1x8 .f32 from m ((c : Thread nD τ).loc main_arg1)) (ix3 b 0 h)
def aB (b : Fin 32) (h : Fin 8) : EReal := (show FVec Ideal S32x1x8 .f32 from m ((c : Thread nD τ).loc main_arg2)) (ix3 b 0 h)
def aZ (b : Fin 32) (h : Fin 8) (l : Fin 128) : EReal := (show FVec Ideal S32x1x1024 .f32 from m ((c : Thread nD τ).loc main_arg3)) (ix3 b 0 ⟨h * 128 + l, by omega⟩)
def aC (b : Fin 32) (i : Fin 3) (n : Fin 3072) : EReal := (show FVec Ideal S32x3x3072 .f32 from m ((c : Thread nD τ).loc main_arg4)) (ix3 b i n)
def aS (b : Fin 32) (h : Fin 8) (i j : Fin 128) : EReal := (show FVec Ideal S32x8x128x128 .f32 from m ((c : Thread nD τ).loc main_arg5)) (ix4 b h i j)
def aW (i : Fin 4) (n : Fin 3072) : EReal := (show FVec Ideal S4x3072 .f32 from m ((c : Thread nD τ).loc main_arg6)) (ix2 i n)
def aL (h : Fin 8) : EReal := (show FVec Ideal S8 .f32 from m ((c : Thread nD τ).loc main_arg7)) (ix1 h)
def aD (h : Fin 8) : EReal := (show FVec Ideal S8 .f32 from m ((c : Thread nD τ).loc main_arg8)) (ix1 h)
def aN (l : Fin 128) : EReal := (show FVec Ideal S128 .f32 from m ((c : Thread nD τ).loc main_arg9)) (ix1 l)

theorem idx : ∀ t : Fin cfg0.N, win0_0.index t = ![t.val, 0, 0] ∧ win0_1.index t = ![t.val, 0, 0, 0] ∧ win0_2.index t = ![0, 0, 0]
    ∧ win0_3.index t = ![t.val, 0, 0] ∧ win0_4.index t = ![t.val, 0, 0] ∧ win0_5.index t = ![0, 0] ∧ win0_6.index t = ![0, 0]
    ∧ win0_7.index t = ![t.val, 0, 0, 0] ∧ win0_8.index t = ![0, 0] ∧ win0_9.index t = ![t.val, 0, 0]
    ∧ win0_10.index t = ![t.val, 0, 0] ∧ win0_11.index t = ![t.val, 0, 0, 0] ∧ t.val < 32 :=
  (by decide +kernel : ∀ t : Fin grid0.N, _)

/-- The batch member a grid point works on. -/
def bt (t : Fin cfg0.N) : Fin 32 := ⟨t.val, (idx t).2.2.2.2.2.2.2.2.2.2.2.2⟩

variable (t : Fin cfg0.N)

theorem blk0 (j : Fin 24) (l : Fin 128) : (show FVec Ideal S1x24x128 .f32 from iblk m c 0 t) (ix3 0 j l) = aQ m c (bt t) ⟨j * 128 + l, by omega⟩ := by
  unfold aQ bt
  blk_point [iblk, V, idx t]
theorem blk1 (i : Fin 3) (j : Fin 24) (l : Fin 128) : (show FVec Ideal S1x3x24x128 .f32 from iblk m c 1 t) (ix4 0 i j l) = aC m c (bt t) i ⟨j * 128 + l, by omega⟩ := by
  unfold aC bt
  blk_point [iblk, V, idx t]
theorem blk2 (i : Fin 4) (j : Fin 24) (l : Fin 128) : (show FVec Ideal S4x24x128 .f32 from iblk m c 2 t) (ix3 i j l) = aW m c i ⟨j * 128 + l, by omega⟩ := by
  unfold aW
  blk_point [iblk, V, idx t]
theorem blk3 (h : Fin 8) : (show FVec Ideal S1x8x1 .f32 from iblk m c 3 t) (ix3 0 h 0) = aA m c (bt t) h := by
  unfold aA bt
  blk_point [iblk, V, idx t]
theorem blk4 (h : Fin 8) : (show FVec Ideal S1x8x1 .f32 from iblk m c 4 t) (ix3 0 h 0) = aB m c (bt t) h := by
  unfold aB bt
  blk_point [iblk, V, idx t]
theorem blk5 (h : Fin 8) : (show FVec Ideal S8x1 .f32 from iblk m c 5 t) (ix2 h 0) = aL m c h := by
  unfold aL
  blk_point [iblk, V, idx t]
theorem blk6 (h : Fin 8) : (show FVec Ideal S8x1 .f32 from iblk m c 6 t) (ix2 h 0) = aD m c h := by
  unfold aD
  blk_point [iblk, V, idx t]
theorem blk7 (h : Fin 8) (i j : Fin 128) : (show FVec Ideal S1x8x128x128 .f32 from iblk m c 7 t) (ix4 0 h i j) = aS m c (bt t) h i j := by
  unfold aS bt
  blk_point [iblk, V, idx t]
theorem blk8 (l : Fin 128) : (show FVec Ideal S1x128 .f32 from iblk m c 8 t) (ix2 0 l) = aN m c l := by
  unfold aN
  blk_point [iblk, V, idx t]
theorem blk9 (h : Fin 8) (l : Fin 128) : (show FVec Ideal S1x8x128 .f32 from iblk m c 9 t) (ix3 0 h l) = aZ m c (bt t) h l := by
  unfold aZ bt
  blk_point [iblk, V, idx t]

end Cert.KernelIdeal.RecValue
-- ==== Proof.RecFinal.lean ====
module

public import proofs.«01_k».proof.Proof.Gen.KernelIdeal.Value
public import proofs.«01_k».proof.Proof.RecBridge
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

variable (m : (ℓ : Loc nD τ sig) → Buf (Elt Ideal) ℓ) (c : Dev nD)

variable (t : Fin cfg0.N)

theorem act_blk (j : Fin 24) (l : Fin 128) :
    act (iblk m c 0 t) (iblk m c 1 t) (iblk m c 2 t) j l = Rec.actA (aQ m c) (aC m c) (aW m c) (bt t) ⟨j * 128 + l, by omega⟩ := by
  unfold act Rec.actA
  rw [← blk0 m c t j l, ← blk1 m c t 0 j l, ← blk1 m c t 1 j l, ← blk1 m c t 2 j l, ← blk2 m c t 0 j l, ← blk2 m c t 1 j l, ← blk2 m c t 2 j l, ← blk2 m c t 3 j l]

theorem k_blk (h : Fin 8) (l : Fin 128) :
    Rec.nrm (act (iblk m c 0 t) (iblk m c 1 t) (iblk m c 2 t) ⟨8 + h, by omega⟩) l = Rec.kA (aQ m c) (aC m c) (aW m c) (bt t) h l := by
  have e : act (iblk m c 0 t) (iblk m c 1 t) (iblk m c 2 t) ⟨8 + h, by omega⟩ = fun l : Fin 128 => Rec.actA (aQ m c) (aC m c) (aW m c) (bt t) ⟨1024 + h * 128 + l, by omega⟩ := by
    funext l
    rw [act_blk]
    congr 1
    apply Fin.ext
    show (8 + h.val) * 128 + l.val = 1024 + h.val * 128 + l.val
    omega
  rw [e]
  rfl

theorem q_blk (h : Fin 8) (l : Fin 128) :
    Rec.nrm (act (iblk m c 0 t) (iblk m c 1 t) (iblk m c 2 t) ⟨h, by omega⟩) l * Ideal.ofBits .f32 0x3DB504F3#32 = Rec.qA (aQ m c) (aC m c) (aW m c) (bt t) h l := by
  have e : act (iblk m c 0 t) (iblk m c 1 t) (iblk m c 2 t) ⟨h, by omega⟩ = fun l : Fin 128 => Rec.actA (aQ m c) (aC m c) (aW m c) (bt t) ⟨h * 128 + l, by omega⟩ := by
    funext l
    rw [act_blk]
  rw [e]
  rfl

theorem v_blk (h : Fin 8) (l : Fin 128) :
    act (iblk m c 0 t) (iblk m c 1 t) (iblk m c 2 t) ⟨16 + h, by omega⟩ l = Rec.vA (aQ m c) (aC m c) (aW m c) (bt t) h l := by
  rw [act_blk]
  unfold Rec.vA
  congr 1
  apply Fin.ext
  show (16 + h.val) * 128 + l.val = 2048 + h.val * 128 + l.val
  omega

/-- The state after the step, every head of every batch member. -/
def G11 : FVec Ideal S32x8x128x128 .f32 := fun y =>
  Rec.stateK (Rec.kA (aQ m c) (aC m c) (aW m c) (y 0) (y 1)) (Rec.vA (aQ m c) (aC m c) (aW m c) (y 0) (y 1)) (aS m c (y 0) (y 1))
    (Rec.decay (aL m c (y 1)) (aA m c (y 0) (y 1)) (aD m c (y 1))) (Ideal.logistic (aB m c (y 0) (y 1))) (y 2) (y 3)
/-- The gated output of the step, every head of every batch member. -/
def G10 : FVec Ideal S32x8x128 .f32 := fun y =>
  Rec.gated (fun l => Rec.outK (Rec.qA (aQ m c) (aC m c) (aW m c) (y 0) (y 1)) (Rec.kA (aQ m c) (aC m c) (aW m c) (y 0) (y 1)) (Rec.vA (aQ m c) (aC m c) (aW m c) (y 0) (y 1)) (aS m c (y 0) (y 1))
    (Rec.decay (aL m c (y 1)) (aA m c (y 0) (y 1)) (aD m c (y 1))) (Ideal.logistic (aB m c (y 0) (y 1))) l) (aN m c (y 2)) (aZ m c (y 0) (y 1) (y 2)) (y 2)

theorem stateK_congr {k k' v v' : Fin 128 → EReal} {S S' : Fin 128 → Fin 128 → EReal} {e e' b b' : EReal} (x y : Fin 128)
    (hk : ∀ l, k l = k' l) (hv : ∀ l, v l = v' l) (hS : ∀ i j, S i j = S' i j) (he : e = e') (hb : b = b') :
    Rec.stateK k v S e b x y = Rec.stateK k' v' S' e' b' x y := by
  obtain rfl : k = k' := funext hk
  obtain rfl : v = v' := funext hv
  obtain rfl : S = S' := funext fun i => funext (hS i)
  rw [he, hb]

theorem outK_congr {q q' k k' v v' : Fin 128 → EReal} {S S' : Fin 128 → Fin 128 → EReal} {e e' b b' : EReal} (y : Fin 128)
    (hq : ∀ l, q l = q' l) (hk : ∀ l, k l = k' l) (hv : ∀ l, v l = v' l) (hS : ∀ i j, S i j = S' i j) (he : e = e') (hb : b = b') :
    Rec.outK q k v S e b y = Rec.outK q' k' v' S' e' b' y := by
  obtain rfl : q = q' := funext hq
  obtain rfl : k = k' := funext hk
  obtain rfl : v = v' := funext hv
  obtain rfl : S = S' := funext fun i => funext (hS i)
  rw [he, hb]

theorem decay_blk (h : Fin 8) : k0_pay82 (F := Ideal) (iblk m c 0 t) (iblk m c 1 t) (iblk m c 2 t) (iblk m c 3 t) (iblk m c 4 t) (iblk m c 5 t) (iblk m c 6 t) (iblk m c 7 t) (iblk m c 8 t) (iblk m c 9 t) (ix2 h 0)
    = Rec.decay (aL m c h) (aA m c (bt t) h) (aD m c h) := by
  rw [pay82_at, ← blk5 m c t h, ← blk3 m c t h, ← blk6 m c t h]

theorem beta_blk (h : Fin 8) : k0_pay81 (F := Ideal) (iblk m c 0 t) (iblk m c 1 t) (iblk m c 2 t) (iblk m c 3 t) (iblk m c 4 t) (iblk m c 5 t) (iblk m c 6 t) (iblk m c 7 t) (iblk m c 8 t) (iblk m c 9 t) (ix2 h 0)
    = Ideal.logistic (aB m c (bt t) h) := by
  rw [pay81_at, ← blk4 m c t h]

theorem state_blk (h : Fin 8) (i j : Fin 128) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix4 0 h i j)
    = G11 m c (ix4 (bt t) h i j) :=
  (state_at _ _ _ _ _ _ _ _ _ _ (ix4 0 h i j)).trans
    (stateK_congr i j (fun l => (pay79_at _ _ _ _ _ _ _ _ _ _ h l).trans (k_blk m c t h l)) (fun l => (pay80_at _ _ _ _ _ _ _ _ _ _ h l).trans (v_blk m c t h l))
      (fun i j => blk7 m c t h i j) (decay_blk m c t h) (beta_blk m c t h))

theorem row_blk (h : Fin 8) (l : Fin 128) : oRow (iblk m c 0 t) (iblk m c 1 t) (iblk m c 2 t) (iblk m c 3 t) (iblk m c 4 t) (iblk m c 5 t) (iblk m c 6 t) (iblk m c 7 t) (iblk m c 8 t) (iblk m c 9 t) h l
    = Rec.outK (Rec.qA (aQ m c) (aC m c) (aW m c) (bt t) h) (Rec.kA (aQ m c) (aC m c) (aW m c) (bt t) h) (Rec.vA (aQ m c) (aC m c) (aW m c) (bt t) h) (aS m c (bt t) h)
    (Rec.decay (aL m c h) (aA m c (bt t) h) (aD m c h)) (Ideal.logistic (aB m c (bt t) h)) l := by
  unfold oRow
  exact outK_congr l (fun l => (pay78_at _ _ _ _ _ _ _ _ _ _ h l).trans (q_blk m c t h l)) (fun l => (pay79_at _ _ _ _ _ _ _ _ _ _ h l).trans (k_blk m c t h l)) (fun l => (pay80_at _ _ _ _ _ _ _ _ _ _ h l).trans (v_blk m c t h l))
      (fun i j => blk7 m c t h i j) (decay_blk m c t h) (beta_blk m c t h)

theorem gated_congr {o o' : Fin 128 → EReal} {w w' z z' : EReal} (y : Fin 128) (ho : ∀ l, o l = o' l) (hw : w = w') (hz : z = z') :
    Rec.gated o w z y = Rec.gated o' w' z' y := by
  obtain rfl : o = o' := funext ho
  rw [hw, hz]

theorem out_blk (h : Fin 8) (l : Fin 128) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 h l)
    = G10 m c (ix3 (bt t) h l) :=
  (out_at _ _ _ _ _ _ _ _ _ _ h l).trans (gated_congr l (fun l => row_blk m c t h l) (blk8 m c t l) (blk9 m c t h l))

theorem final11 : (dats m 0 c).arrAt 11 (cfgs 0).N = G11 m c := by
  refine (dats m 0 c).arrAt_eq_of_covers 11 _ (by decide +kernel) fun t _ y => ?_
  blk_simp
  rw [after0_11]
  obtain ⟨b, h, i, j, rfl⟩ : ∃ (b : Fin 1) (h : Fin 8) (i j : Fin 128), y = ix4 b h i j := ⟨y 0, y 1, y 2, y 3, eq_ix4 y⟩
  obtain rfl : b = 0 := Subsingleton.elim _ _
  refine (state_blk m c t h i j).trans (congrArg _ ?_)
  unfold bt
  blk_ext [idx t]

theorem final10 : (dats m 0 c).arrAt 10 (cfgs 0).N = G10 m c := by
  refine (dats m 0 c).arrAt_eq_of_covers 10 _ (by decide +kernel) fun t _ y => ?_
  blk_simp
  rw [after0_10]
  obtain ⟨b, h, l, rfl⟩ : ∃ (b : Fin 1) (h : Fin 8) (l : Fin 128), y = ix3 b h l := ⟨y 0, y 1, y 2, eq_ix3 y⟩
  obtain rfl : b = 0 := Subsingleton.elim _ _
  refine (out_blk m c t h l).trans (congrArg _ ?_)
  unfold bt
  blk_ext [idx t]

end Cert.KernelIdeal.RecValue
-- ==== Proof.RecRef.lean ====
module

public import proofs.«01_k».proof.Proof.Gen.ReferenceIdeal.Run
public import proofs.«01_k».proof.Proof.RecReal
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.ReferenceIdeal.RecValue
open Cert.ReferenceIdeal Cert.ReferenceIdeal.Gen Cert.ReferenceIdeal.Value

variable (V0 : Valuation τ sig (Elt Ideal))

def rQ (b : Fin 32) (n : Fin 3072) : EReal := (show FVec Ideal S32x1x3072 .f32 from V0 (Proc.devRef .tc main_arg0)) (ix3 b 0 n)
def rA (b : Fin 32) (h : Fin 8) : EReal := (show FVec Ideal S32x1x8 .f32 from V0 (Proc.devRef .tc main_arg1)) (ix3 b 0 h)
def rB (b : Fin 32) (h : Fin 8) : EReal := (show FVec Ideal S32x1x8 .f32 from V0 (Proc.devRef .tc main_arg2)) (ix3 b 0 h)
def rZ (b : Fin 32) (h : Fin 8) (l : Fin 128) : EReal := (show FVec Ideal S32x1x1024 .f32 from V0 (Proc.devRef .tc main_arg3)) (ix3 b 0 ⟨h * 128 + l, by omega⟩)
def rC (b : Fin 32) (i : Fin 3) (n : Fin 3072) : EReal := (show FVec Ideal S32x3x3072 .f32 from V0 (Proc.devRef .tc main_arg4)) (ix3 b i n)
def rS (b : Fin 32) (h : Fin 8) (i j : Fin 128) : EReal := (show FVec Ideal S32x8x128x128 .f32 from V0 (Proc.devRef .tc main_arg5)) (ix4 b h i j)
def rW (i : Fin 4) (n : Fin 3072) : EReal := (show FVec Ideal S4x3072 .f32 from V0 (Proc.devRef .tc main_arg6)) (ix2 i n)
def rL (h : Fin 8) : EReal := (show FVec Ideal S8 .f32 from V0 (Proc.devRef .tc main_arg7)) (ix1 h)
def rD (h : Fin 8) : EReal := (show FVec Ideal S8 .f32 from V0 (Proc.devRef .tc main_arg8)) (ix1 h)
def rN (l : Fin 128) : EReal := (show FVec Ideal S128 .f32 from V0 (Proc.devRef .tc main_arg9)) (ix1 l)

theorem v30_at (b : Fin 32) (n : Fin 3072) : (show FVec Ideal S32x1x3072 .f32 from res_main_v30 V0) (ix3 b 0 n) = Rec.actA (rQ V0) (rC V0) (rW V0) b n := by
  unfold res_main_v30 res_main_v29 res_main_v0
  pointwise [Rec.actA, Rec.silu, rQ, rC, rW]
  rfl

theorem v34_at (b : Fin 32) (h : Fin 8) (l : Fin 128) : (show FVec Ideal S32x8x128 .f32 from res_main_v34 V0) (ix3 b h l) = Rec.actA (rQ V0) (rC V0) (rW V0) b ⟨h * 128 + l, by omega⟩ := by
  rw [← v30_at]
  unfold res_main_v34
  pointwise []

theorem v35_at (b : Fin 32) (h : Fin 8) (l : Fin 128) : (show FVec Ideal S32x8x128 .f32 from res_main_v35 V0) (ix3 b h l) = Rec.actA (rQ V0) (rC V0) (rW V0) b ⟨1024 + h * 128 + l, by omega⟩ := by
  rw [← v30_at]
  unfold res_main_v35
  pointwise []
  congr 2
  apply Fin.ext
  show 1024 + (h.val * 128 + l.val) = 1024 + h.val * 128 + l.val
  omega

theorem v54_at (b : Fin 32) (h : Fin 8) (l : Fin 128) : (show FVec Ideal S32x8x128 .f32 from res_main_v54 V0) (ix3 b h l) = Rec.kA (rQ V0) (rC V0) (rW V0) b h l := by
  unfold Rec.kA Rec.nrm
  simp only [← v35_at]
  unfold res_main_v54
  pointwise []

theorem v75_at (b : Fin 32) (h : Fin 8) (i j : Fin 128) : (show FVec Ideal S32x8x128x128 .f32 from res_main_v75 V0) (ix4 b h i j) = Rec.decay (rL V0 h) (rA V0 b h) (rD V0 h) * rS V0 b h i j := by
  unfold res_main_v75 res_main_call1_v3 res_main_v66 res_main_call1_cst
  pointwise [Rec.decay, rL, rA, rD, rS]
  rw [if_neg (by simp)]
  rfl

theorem vA_eq (b : Fin 32) (h : Fin 8) (l : Fin 128) :
    Rec.vA (rQ V0) (rC V0) (rW V0) b h l = (show FVec Ideal S32x1x3072 .f32 from res_main_v30 V0) (ix3 b 0 ⟨2048 + (h * 128 + l), by omega⟩) := by
  rw [v30_at]
  unfold Rec.vA
  congr 1
  apply Fin.ext
  show 2048 + h.val * 128 + l.val = 2048 + (h.val * 128 + l.val)
  omega

set_option maxHeartbeats 1600000 in
theorem v86_at (b : Fin 32) (h : Fin 8) (i j : Fin 128) : (show FVec Ideal S32x8x128x128 .f32 from val2 V0 (Proc.devRef .tc main_v86)) (ix4 b h i j)
    = Rec.stateR (Rec.kA (rQ V0) (rC V0) (rW V0) b h) (Rec.vA (rQ V0) (rC V0) (rW V0) b h) (rS V0 b h)
      (Rec.decay (rL V0 h) (rA V0 b h) (rD V0 h)) (Ideal.logistic (rB V0 b h)) i j := by
  have e := val2_main_v86 V0
  rw [show (show FVec Ideal S32x8x128x128 .f32 from val2 V0 (Proc.devRef .tc main_v86)) = _ from e]
  unfold Rec.stateR
  simp only [← v54_at, vA_eq, ← v75_at]
  pointwise [rB]
  rfl

set_option maxHeartbeats 1600000 in
theorem v87_at (b : Fin 32) (h : Fin 8) (l : Fin 128) : (show FVec Ideal S32x8x128 .f32 from res_main_v87 V0) (ix3 b h l)
    = Rec.outR (Rec.qA (rQ V0) (rC V0) (rW V0) b h) (Rec.kA (rQ V0) (rC V0) (rW V0) b h) (Rec.vA (rQ V0) (rC V0) (rW V0) b h) (rS V0 b h)
      (Rec.decay (rL V0 h) (rA V0 b h) (rD V0 h)) (Ideal.logistic (rB V0 b h)) l := by
  unfold Rec.outR Rec.stateR Rec.qA Rec.nrm
  simp only [← v34_at, ← v54_at, vA_eq, ← v75_at]
  unfold res_main_v87
  pointwise [rB]
  rfl

set_option maxHeartbeats 1600000 in
theorem v103_at (b : Fin 32) (h : Fin 8) (l : Fin 128) : (show FVec Ideal S32x8x128 .f32 from val2 V0 (Proc.devRef .tc main_v103)) (ix3 b h l)
    = Rec.gated (fun l => Rec.outR (Rec.qA (rQ V0) (rC V0) (rW V0) b h) (Rec.kA (rQ V0) (rC V0) (rW V0) b h) (Rec.vA (rQ V0) (rC V0) (rW V0) b h) (rS V0 b h)
      (Rec.decay (rL V0 h) (rA V0 b h) (rD V0 h)) (Ideal.logistic (rB V0 b h)) l) (rN V0 l) (rZ V0 b h l) l := by
  have e := val2_main_v103 V0
  rw [show (show FVec Ideal S32x8x128 .f32 from val2 V0 (Proc.devRef .tc main_v103)) = _ from e]
  simp only [← v87_at]
  unfold res_main_v101
  pointwise [Rec.gated, Rec.silu, rN, rZ]
  rfl

end Cert.ReferenceIdeal.RecValue
-- ==== Proof.RecPre.lean ====
module

public import proofs.«01_k».proof.Proof.Gen.KernelIdeal.Value
public import proofs.«01_k».proof.Proof.RecReal
public import proofs.«01_k».proof.Defs
public import proofs.«01_k».proof.Proof.Gen.Pre_finite
public import Idealize.ShloMosaic.Lib.ReduceAll
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.RecValue
open Cert.KernelIdeal Cert.KernelIdeal.Gen

/-- A word is real when its magnitude is below plus infinity. -/
theorem re_of_abs {x : EReal} (h : max x (-x) < ⊤) : Rec.Re x := by
  induction x with
  | bot => simp at h
  | top => simp at h
  | coe r => exact ⟨r, rfl⟩

/-- The comparison "the magnitude is below plus infinity" read back. -/
theorem re_of_cmp {s : Shape} {h : (⟨0, ![]⟩ : Shape).BroadcastsInDim s ![]} (x : FVec Ideal s .f32) (i : s.Idx)
    (e : cmpf CmpFPredicate.olt (Host.absf x) (broadcastInDim s ![] h (constant (F := Ideal) ⟨0, ![]⟩ .f32 0x7F800000#32)) i = 1#1) : Rec.Re (x i) := by
  have e' : BitVec.ofBool (decide (max (x i) (-(x i)) < Ideal.ofBits .f32 0x7F800000#32)) = 1#1 := e
  have ht : Ideal.ofBits .f32 0x7F800000#32 = ⊤ := by
    simp [Ideal.ofBits, Ideal.ieee]
  rw [ht] at e'
  refine re_of_abs ?_
  by_contra hh
  rw [decide_eq_false hh] at e'
  exact absurd e' (by decide)

theorem pre_parts (m : (ℓ : Loc nD τ sig) → Buf (Elt Ideal) ℓ) [hP : Cert.Pre_finite.Facts] (h : Cert.Pre_KernelIdeal_finite m) (c : Dev nD) :
    (∀ i, Rec.Re ((show FVec Ideal S32x1x3072 .f32 from m ((c : Thread nD τ).loc main_arg0)) i))
    ∧ (∀ i, Rec.Re ((show FVec Ideal S32x3x3072 .f32 from m ((c : Thread nD τ).loc main_arg4)) i))
    ∧ (∀ i, Rec.Re ((show FVec Ideal S32x8x128x128 .f32 from m ((c : Thread nD τ).loc main_arg5)) i))
    ∧ (∀ i, Rec.Re ((show FVec Ideal S4x3072 .f32 from m ((c : Thread nD τ).loc main_arg6)) i)) := by
  have e := congrFun (h c) default
  unfold Cert.Pre_finite.fn Cert.Pre_finite.fn_part1 at e
  obtain ⟨e1, e2⟩ := IntOp.andi_eq_one.mp e
  obtain ⟨h0, h4⟩ := IntOp.andi_eq_one.mp e1
  obtain ⟨h5, h6⟩ := IntOp.andi_eq_one.mp e2
  exact ⟨fun i => re_of_cmp _ i (Host.reduce_andi_all _ _ _ _ _ h0 i), fun i => re_of_cmp _ i (Host.reduce_andi_all _ _ _ _ _ h4 i),
    fun i => re_of_cmp _ i (Host.reduce_andi_all _ _ _ _ _ h5 i), fun i => re_of_cmp _ i (Host.reduce_andi_all _ _ _ _ _ h6 i)⟩

end Cert.KernelIdeal.RecValue
-- ==== Proof.MergeFinal.lean ====
/- The merge call, read point by point: a grid point holds 256 rows of the two attention outputs, of the two gates and of the
   residual, and the three weights whole; what it writes is the merged row times the last weight, added to the residual. -/
module

public import proofs.«01_k».proof.Proof.Gen.MergeIdeal.Value
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

/-- One element of the merge: the residual plus the row of the two gated products times a column of the last weight. -/
def Cert.mergeAt (oa ob : Fin 1024 → EReal) (ga gb : Fin 2048 → EReal) (x : EReal) (pa pb : Fin 1024 → Fin 2048 → EReal) (wo : Fin 2048 → EReal) : EReal :=
  x + ∑ k : Fin 2048, (Ideal.logistic (ga k) * (∑ l : Fin 1024, oa l * pa l k) + Ideal.logistic (gb k) * (∑ l : Fin 1024, ob l * pb l k)) * wo k

namespace Cert.MergeIdeal.MergeValue
open Cert Cert.MergeIdeal Cert.MergeIdeal.Gen

variable (m : (ℓ : Loc nD τ sig) → Buf (Elt Ideal) ℓ) (c : Dev nD)

/-- The argument arrays as functions of plain indices. -/
def aOa (r : Fin 32768) (l : Fin 1024) : EReal := (show FVec Ideal S32768x1024 .f32 from m ((c : Thread nD τ).loc main_arg0)) (ix2 r l)
def aOb (r : Fin 32768) (l : Fin 1024) : EReal := (show FVec Ideal S32768x1024 .f32 from m ((c : Thread nD τ).loc main_arg1)) (ix2 r l)
def aGa (r : Fin 32768) (l : Fin 2048) : EReal := (show FVec Ideal S32768x12288 .f32 from m ((c : Thread nD τ).loc main_arg2)) (ix2 r ⟨6144 + l, by omega⟩)
def aGb (r : Fin 32768) (l : Fin 2048) : EReal := (show FVec Ideal S32768x12288 .f32 from m ((c : Thread nD τ).loc main_arg2)) (ix2 r ⟨8192 + l, by omega⟩)
def aX (r : Fin 32768) (l : Fin 2048) : EReal := (show FVec Ideal S16x2048x2048 .f32 from m ((c : Thread nD τ).loc main_arg3)) (ix3 ⟨r / 2048, by omega⟩ ⟨r % 2048, by omega⟩ l)
def aPa (k : Fin 1024) (l : Fin 2048) : EReal := (show FVec Ideal S1024x2048 .f32 from m ((c : Thread nD τ).loc main_arg4)) (ix2 k l)
def aPb (k : Fin 1024) (l : Fin 2048) : EReal := (show FVec Ideal S1024x2048 .f32 from m ((c : Thread nD τ).loc main_arg5)) (ix2 k l)
def aWo (k : Fin 2048) (l : Fin 2048) : EReal := (show FVec Ideal S2048x2048 .f32 from m ((c : Thread nD τ).loc main_arg6)) (ix2 k l)

theorem idx : ∀ t : Fin cfg0.N, win0_0.index t = ![t.val, 0] ∧ win0_1.index t = ![t.val, 0] ∧ win0_2.index t = ![t.val, 3]
    ∧ win0_3.index t = ![t.val, 4] ∧ win0_4.index t = ![t.val, 0] ∧ win0_5.index t = ![0, 0] ∧ win0_6.index t = ![0, 0]
    ∧ win0_7.index t = ![0, 0] ∧ win0_8.index t = ![t.val, 0] ∧ t.val < 128 :=
  (by decide +kernel : ∀ t : Fin grid0.N, _)

variable (t : Fin cfg0.N)

/-- The row of the arrays that row `i` of point `t`'s block is. -/
def row (i : Fin 256) : Fin 32768 := ⟨t.val * 256 + i, by have := (idx t).2.2.2.2.2.2.2.2.2; omega⟩

theorem blk0 (i : Fin 256) (l : Fin 1024) : (show FVec Ideal S256x1024 .f32 from iblk m c 0 t) (ix2 i l) = aOa m c (row t i) l := by
  unfold aOa row
  blk_point [iblk, V, idx t]
theorem blk1 (i : Fin 256) (l : Fin 1024) : (show FVec Ideal S256x1024 .f32 from iblk m c 1 t) (ix2 i l) = aOb m c (row t i) l := by
  unfold aOb row
  blk_point [iblk, V, idx t]
theorem blk2 (i : Fin 256) (l : Fin 2048) : (show FVec Ideal S256x2048 .f32 from iblk m c 2 t) (ix2 i l) = aGa m c (row t i) l := by
  unfold aGa row
  blk_point [iblk, V, idx t]
theorem blk3 (i : Fin 256) (l : Fin 2048) : (show FVec Ideal S256x2048 .f32 from iblk m c 3 t) (ix2 i l) = aGb m c (row t i) l := by
  unfold aGb row
  blk_point [iblk, V, idx t]
theorem blk4 (i : Fin 256) (l : Fin 2048) : (show FVec Ideal S256x2048 .f32 from iblk m c 4 t) (ix2 i l) = aX m c (row t i) l := by
  unfold aX row
  blk_point [iblk, V, idx t]
theorem blk5 (k : Fin 1024) (l : Fin 2048) : (show FVec Ideal S1024x2048 .bf16 from iblk m c 5 t) (ix2 k l) = aPa m c k l := by
  unfold aPa
  blk_point [iblk, V, idx t]
theorem blk6 (k : Fin 1024) (l : Fin 2048) : (show FVec Ideal S1024x2048 .bf16 from iblk m c 6 t) (ix2 k l) = aPb m c k l := by
  unfold aPb
  blk_point [iblk, V, idx t]
theorem blk7 (k : Fin 2048) (l : Fin 2048) : (show FVec Ideal S2048x2048 .bf16 from iblk m c 7 t) (ix2 k l) = aWo m c k l := by
  unfold aWo
  blk_point [iblk, V, idx t]

/-- The body's result over any blocks. -/
theorem out_at (x0 : FVec Ideal S256x1024 .f32) (x1 : FVec Ideal S256x1024 .f32) (x2 x3 x4 : FVec Ideal S256x2048 .f32)
    (x5 x6 : FVec Ideal S1024x2048 .bf16) (x7 : FVec Ideal S2048x2048 .bf16) (i : Fin 256) (l : Fin 2048) :
    (show FVec Ideal S256x2048 .f32 from out0_8 (F := Ideal) x0 x1 x2 x3 x4 x5 x6 x7) (ix2 i l)
      = mergeAt (fun l => x0 (ix2 i l)) (fun l => x1 (ix2 i l)) (fun l => x2 (ix2 i l)) (fun l => x3 (ix2 i l)) (x4 (ix2 i l))
          (fun k l => x5 (ix2 k l)) (fun k l => x6 (ix2 k l)) (fun k => x7 (ix2 k l)) := by
  unfold mergeAt
  unfold out0_8
  frame_out
  unfold k0_pay1
  pointwise []

theorem mergeAt_congr {oa oa' ob ob' : Fin 1024 → EReal} {ga ga' gb gb' : Fin 2048 → EReal} {x x' : EReal} {pa pa' pb pb' : Fin 1024 → Fin 2048 → EReal} {wo wo' : Fin 2048 → EReal}
    (h0 : ∀ l, oa l = oa' l) (h1 : ∀ l, ob l = ob' l) (h2 : ∀ l, ga l = ga' l) (h3 : ∀ l, gb l = gb' l) (h4 : x = x')
    (h5 : ∀ k l, pa k l = pa' k l) (h6 : ∀ k l, pb k l = pb' k l) (h7 : ∀ k, wo k = wo' k) :
    mergeAt oa ob ga gb x pa pb wo = mergeAt oa' ob' ga' gb' x' pa' pb' wo' := by
  obtain rfl : oa = oa' := funext h0
  obtain rfl : ob = ob' := funext h1
  obtain rfl : ga = ga' := funext h2
  obtain rfl : gb = gb' := funext h3
  obtain rfl : pa = pa' := funext fun k => funext (h5 k)
  obtain rfl : pb = pb' := funext fun k => funext (h6 k)
  obtain rfl : wo = wo' := funext h7
  rw [h4]

/-- The result as one function of the argument arrays. -/
def G (y : S32768x2048.Idx) : EReal :=
  mergeAt (aOa m c (y 0)) (aOb m c (y 0)) (aGa m c (y 0)) (aGb m c (y 0)) (aX m c (y 0) (y 1)) (aPa m c) (aPb m c) (fun k => aWo m c k (y 1))

theorem out_blk (i : Fin 256) (l : Fin 2048) :
    (show FVec Ideal S256x2048 .f32 from out0_8 (F := Ideal) (iblk m c 0 t) (iblk m c 1 t) (iblk m c 2 t) (iblk m c 3 t) (iblk m c 4 t) (iblk m c 5 t) (iblk m c 6 t) (iblk m c 7 t)) (ix2 i l)
      = G m c (ix2 (row t i) l) :=
  (out_at _ _ _ _ _ _ _ _ i l).trans (mergeAt_congr (blk0 m c t i) (blk1 m c t i) (blk2 m c t i) (blk3 m c t i) (blk4 m c t i l)
    (blk5 m c t) (blk6 m c t) (fun k => blk7 m c t k l))

theorem final : (dats m 0 c).arrAt 8 (cfgs 0).N = G m c := by
  refine (dats m 0 c).arrAt_eq_of_covers 8 _ (by decide +kernel) fun t _ y => ?_
  blk_simp
  rw [after0_8]
  obtain ⟨i, l, rfl⟩ : ∃ (i : Fin 256) (l : Fin 2048), y = ix2 i l := ⟨y 0, y 1, eq_ix2 y⟩
  refine (out_blk m c t i l).trans (congrArg _ ?_)
  unfold row
  blk_ext [idx t]

end Cert.MergeIdeal.MergeValue
-- ==== Proof.MergeRef.lean ====
/- The merge's reference, read at an index. -/
module

public import proofs.«01_k».proof.Proof.Gen.MergeReferenceIdeal.Run
public import proofs.«01_k».proof.Proof.MergeFinal
public import Idealize.ShloMosaic.Lib.Pointwise

@[expose] public section

set_option maxRecDepth 16384
noncomputable section
open Idealize.ShloMosaic Idealize.ShloMosaic.TcCoe Idealize.SL.Sem

namespace Cert.MergeReferenceIdeal.MergeValue
open Cert Cert.MergeReferenceIdeal Cert.MergeReferenceIdeal.Gen

variable (x0 x1 : FVec Ideal S32768x1024 .f32) (x2 : FVec Ideal S32768x12288 .f32) (x3 : FVec Ideal S16x2048x2048 .f32)
  (x4 x5 : FVec Ideal S1024x2048 .f32) (x6 : FVec Ideal S2048x2048 .f32)

/-- The reference's result over its argument arrays. -/
def refOut : FVec Ideal S32768x2048 .f32 := addf (shapeCast S32768x2048 x3 shapeCasts_S16x2048x2048_S32768x2048) (Host.dotGeneral dot_S32768x2048_S2048x2048_S32768x2048_1_0_0_1_n_n none (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 6144] x2 slices_S32768x12288_S32768x2048_0_6144))))) (Host.dotGeneral dot_S32768x1024_S1024x2048_S32768x2048_1_0_0_1_n_n none x0 x4)) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 8192] x2 slices_S32768x12288_S32768x2048_0_8192))))) (Host.dotGeneral dot_S32768x1024_S1024x2048_S32768x2048_1_0_0_1_n_n none x1 x5))) x6)

theorem refOut_at (r : Fin 32768) (l : Fin 2048) : refOut x0 x1 x2 x3 x4 x5 x6 (ix2 r l)
    = mergeAt (fun l => x0 (ix2 r l)) (fun l => x1 (ix2 r l)) (fun l => x2 (ix2 r ⟨6144 + l, by omega⟩)) (fun l => x2 (ix2 r ⟨8192 + l, by omega⟩))
        (x3 (ix3 ⟨r / 2048, by omega⟩ ⟨r % 2048, by omega⟩ l)) (fun k l => x4 (ix2 k l)) (fun k l => x5 (ix2 k l)) (fun k => x6 (ix2 k l)) := by
  unfold refOut mergeAt
  pointwise []
  rfl

end Cert.MergeReferenceIdeal.MergeValue
-- ==== Proof.ProjRun.lean ====
/- The body of the input projection, run once in each of the four ways the column tile selects: what it leaves in the
   output tile, in the three key/value buffers and in the normed rows it carries from tile to tile. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.ProjRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the point starts a run of column tiles. -/
abbrev cond1 (i : grid0.Coords) : Prop := (Scalar.cmpi .ne (Scalar.extui (Scalar.cmpi .eq (BitVec.ofNat 32 (i 1).val) 0#32)) 0#32) = 1#1

theorem hcond1 : ∀ t : Fin cfg0.N, cond1 (grid0.coords t) ↔ t.val % 12 = 0 :=
  (fun t => by
    have ht : t.val < 384 := Nat.lt_of_lt_of_eq t.isLt N_0
    have e1 : (grid0.coords t 1).val = t.val / 1 % 12 := Pipeline.Grid.coords_val t 1 (by decide) rfl
    simp only [cond1, e1]
    word_cmp
   : ∀ t : Fin grid0.N, cond1 (grid0.coords t) ↔ t.val % 12 = 0)

theorem hcond2 : ∀ t : Fin cfg0.N, k0_cond2 (grid0.coords t) = 1#1 ↔ t.val % 12 = 0 :=
  (fun t => by
    have ht : t.val < 384 := Nat.lt_of_lt_of_eq t.isLt N_0
    have e1 : (grid0.coords t 1).val = t.val / 1 % 12 := Pipeline.Grid.coords_val t 1 (by decide) rfl
    simp only [k0_cond2, e1]
    word_cmp
   : ∀ t : Fin grid0.N, k0_cond2 (grid0.coords t) = 1#1 ↔ t.val % 12 = 0)

theorem hcond3 : ∀ t : Fin cfg0.N, k0_cond3 (grid0.coords t) = 1#1 ↔ t.val % 12 = 10 :=
  (fun t => by
    have ht : t.val < 384 := Nat.lt_of_lt_of_eq t.isLt N_0
    have e1 : (grid0.coords t 1).val = t.val / 1 % 12 := Pipeline.Grid.coords_val t 1 (by decide) rfl
    simp only [k0_cond3, e1]
    word_cmp
   : ∀ t : Fin grid0.N, k0_cond3 (grid0.coords t) = 1#1 ↔ t.val % 12 = 10)

theorem hcond4 : ∀ t : Fin cfg0.N, k0_cond4 (grid0.coords t) = 1#1 ↔ t.val % 12 = 11 :=
  (fun t => by
    have ht : t.val < 384 := Nat.lt_of_lt_of_eq t.isLt N_0
    have e1 : (grid0.coords t 1).val = t.val / 1 % 12 := Pipeline.Grid.coords_val t 1 (by decide) rfl
    simp only [k0_cond4, e1]
    word_cmp
   : ∀ t : Fin grid0.N, k0_cond4 (grid0.coords t) = 1#1 ↔ t.val % 12 = 11)

theorem hcond5 : ∀ t : Fin cfg0.N, k0_cond5 (grid0.coords t) = 1#1 ↔ (t.val % 12 ≠ 0 ∧ t.val % 12 ≠ 10 ∧ t.val % 12 ≠ 11) :=
  (by decide +kernel : ∀ t : Fin grid0.N, k0_cond5 (grid0.coords t) = 1#1 ↔ (t.val % 12 ≠ 0 ∧ t.val % 12 ≠ 10 ∧ t.val % 12 ≠ 11))

/-- The weight rows read from the stacked head weights. -/
abbrev rh0 : Rect S3x128 := Rect.unit (s := S3x128) ![0, 0] S1x128.size inb_S3x128_S1x128_0_0
abbrev rh1 : Rect S3x128 := Rect.unit (s := S3x128) ![1, 0] S1x128.size inb_S3x128_S1x128_1_0
abbrev rh2 : Rect S3x128 := Rect.unit (s := S3x128) ![2, 0] S1x128.size inb_S3x128_S1x128_2_0
abbrev rO : Rect S1024x1024 := Rect.unit (s := S1024x1024) ![0, 0] S1024x1024.size inb_S1024x1024_S1024x1024_0_0
abbrev rS : Rect S1024x2048 := Rect.unit (s := S1024x2048) ![0, 0] S1024x2048.size inb_S1024x2048_S1024x2048_0_0
/-- Every fourth row from row `g` on, where group `g` of the keys and values goes. -/
abbrev q0 : Rect S4096x128 := ⟨(⟨![0, 0], S1024x128.size, ![4, 1], inb_S4096x128_S1024x128_0_0_s_4_1⟩ : LoadRect S4096x128), spos_4_1⟩
abbrev q1 : Rect S4096x128 := ⟨(⟨![1, 0], S1024x128.size, ![4, 1], inb_S4096x128_S1024x128_1_0_s_4_1⟩ : LoadRect S4096x128), spos_4_1⟩
abbrev q2 : Rect S4096x128 := ⟨(⟨![2, 0], S1024x128.size, ![4, 1], inb_S4096x128_S1024x128_2_0_s_4_1⟩ : LoadRect S4096x128), spos_4_1⟩
abbrev q3 : Rect S4096x128 := ⟨(⟨![3, 0], S1024x128.size, ![4, 1], inb_S4096x128_S1024x128_3_0_s_4_1⟩ : LoadRect S4096x128), spos_4_1⟩

/-- Four groups of rows interleaved. -/
def weave (p0 p1 p2 p3 : Vec F S1024x128 .f32) : Vec F S4096x128 .f32 := View.canon [⟨q3, p3⟩, ⟨q2, p2⟩, ⟨q1, p1⟩, ⟨q0, p0⟩]

theorem weave_cover (p0 p1 p2 p3 : Vec F S1024x128 .f32) (y : S4096x128.Idx) :
    ∃ pc ∈ ([⟨q3, p3⟩, ⟨q2, p2⟩, ⟨q1, p1⟩, ⟨q0, p0⟩] : List (View.Piece (Elt F) S4096x128 .f32)), y ∈ pc.1.set := by
  have hy0 : (y 0).val < 4096 := (y 0).isLt
  have hy1 : (y 1).val < 128 := (y 1).isLt
  have key : ∀ g : ℕ, (y 0).val % 4 = g → ∀ (r : Rect S4096x128), r.off = ![g, 0] → r.size = S1024x128.size → r.stride = ![4, 1] → y ∈ r.set := by
    intro g hg r ho hs ht
    refine (LoadRect.mem_set _).mpr fun a => ?_
    rw [ho, hs, ht]
    match a with
    | ⟨0, _⟩ => exact ⟨(y 0).val / 4, by show _ < 1024; omega, by show (y 0).val = g + 4 * _; omega⟩
    | ⟨1, _⟩ => exact ⟨(y 1).val, hy1, by show (y 1).val = 0 + 1 * _; omega⟩
  have h4 : (y 0).val % 4 = 0 ∨ (y 0).val % 4 = 1 ∨ (y 0).val % 4 = 2 ∨ (y 0).val % 4 = 3 := by omega
  rcases h4 with h | h | h | h
  · exact ⟨⟨q0, p0⟩, by simp, key _ h q0 rfl rfl rfl⟩
  · exact ⟨⟨q1, p1⟩, by simp, key _ h q1 rfl rfl rfl⟩
  · exact ⟨⟨q2, p2⟩, by simp, key _ h q2 rfl rfl rfl⟩
  · exact ⟨⟨q3, p3⟩, by simp, key _ h q3 rfl rfl rfl⟩

theorem z2 : (![0, 0] : Fin 2 → ℕ) = fun _ => 0 := by funext a; fin_cases a <;> rfl

theorem coverO (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

theorem coverS (p0 : Vec F S1024x2048 .bf16) (y : S1024x2048.Idx) :
    ∃ pc ∈ ([⟨rS, p0⟩] : List (View.Piece (Elt F) S1024x2048 .bf16)), y ∈ pc.1.set :=
  View.cover_of_tiled [⟨rS, p0⟩] S1024x2048.size (by rfl) y

/-- The tile of the first columns, its eight heads normed. -/
def headTile (xn : Vec F S1024x2048 .bf16) (w : Vec F S2048x1024 .bf16) (hw : Vec F S3x128 .f32) : Vec F S1024x1024 .f32 :=
  k0_pay3 xn w (k0_pay4 (k0_pay2 xn w) (View.ld hw rh0)) (k0_pay5 (k0_pay2 xn w) (View.ld hw rh0)) (k0_pay6 (k0_pay2 xn w) (View.ld hw rh0))
    (k0_pay7 (k0_pay2 xn w) (View.ld hw rh0)) (k0_pay8 (k0_pay2 xn w) (View.ld hw rh0)) (k0_pay9 (k0_pay2 xn w) (View.ld hw rh0)) (View.ld hw rh0) (View.ld hw rh0)

/-- The tile of the compressed and the selected keys and values. -/
def selTile (xn : Vec F S1024x2048 .bf16) (w : Vec F S2048x1024 .bf16) (hw : Vec F S3x128 .f32) : Vec F S1024x1024 .f32 :=
  k0_pay18 (k0_pay2 xn w) (View.ld hw rh1) (View.ld hw rh1)

/-- The tile of the window keys and values. -/
def winTile (xn : Vec F S1024x2048 .bf16) (w : Vec F S2048x1024 .bf16) (hw : Vec F S3x128 .f32) : Vec F S1024x1024 .f32 :=
  k0_pay23 (k0_pay2 xn w) (View.ld hw rh2) (View.ld hw rh2)

/-- The rows of the compressed keys and values, -/
def cmpRows (xn : Vec F S1024x2048 .bf16) (w : Vec F S2048x1024 .bf16) : Vec F S4096x128 .f32 :=
  weave (k0_pay10 (k0_pay2 xn w)) (k0_pay11 (k0_pay2 xn w)) (k0_pay12 (k0_pay2 xn w)) (k0_pay13 (k0_pay2 xn w))

/-- of the selected ones, -/
def selRows (xn : Vec F S1024x2048 .bf16) (w : Vec F S2048x1024 .bf16) (hw : Vec F S3x128 .f32) : Vec F S4096x128 .f32 :=
  weave (k0_pay14 (k0_pay2 xn w) (View.ld hw rh1)) (k0_pay15 (k0_pay2 xn w) (View.ld hw rh1)) (k0_pay16 (k0_pay2 xn w)) (k0_pay17 (k0_pay2 xn w))

/-- and of the window's. -/
def winRows (xn : Vec F S1024x2048 .bf16) (w : Vec F S2048x1024 .bf16) (hw : Vec F S3x128 .f32) : Vec F S4096x128 .f32 :=
  weave (k0_pay19 (k0_pay2 xn w) (View.ld hw rh2)) (k0_pay20 (k0_pay2 xn w) (View.ld hw rh2)) (k0_pay21 (k0_pay2 xn w)) (k0_pay22 (k0_pay2 xn w))

/-- Reading the whole buffer of the normed rows, -/
theorem readAt_rows (v : View sig .tc .vmem S1024x2048 .bf16) (f) (inb) :
    View.readAt (Elt F) v (Rect.unit ![0, 0] ![1024, 2048] inb).toLoadRect f = View.read (Elt F) v f :=
  View.ld_unit_zero (S := S1024x2048) z2 _ _

/-- of the weight columns. -/
theorem readAt_cols (v : View sig .tc .vmem S2048x1024 .bf16) (f) (inb) :
    View.readAt (Elt F) v (Rect.unit ![0, 0] ![2048, 1024] inb).toLoadRect f = View.read (Elt F) v f :=
  View.ld_unit_zero (S := S2048x1024) z2 _ _

/-- of the unnormed rows, -/
theorem readAt_raw (v : View sig .tc .vmem S1024x2048 .f32) (f) (inb) :
    View.readAt (Elt F) v (Rect.unit ![0, 0] ![1024, 2048] inb).toLoadRect f = View.read (Elt F) v f :=
  View.ld_unit_zero (S := S1024x2048) z2 _ _

/-- of the norm's weights. -/
theorem readAt_norm (v : View sig .tc .vmem S1x2048 .f32) (f) (inb) :
    View.readAt (Elt F) v (Rect.unit ![0, 0] ![1, 2048] inb).toLoadRect f = View.read (Elt F) v f :=
  View.ld_unit_zero (S := S1x2048) z2 _ _

/-- What is stored to the whole buffer of the normed rows, -/
theorem canon_rows (inb) (p : Vec F S1024x2048 .bf16) :
    View.canon (Val := Elt F) [⟨Rect.unit ![0, 0] S1024x2048.size inb, p⟩] = p :=
  View.canon_unit_zero (S := S1024x2048) z2 _ _

/-- read back whole. -/
theorem cov_rows (v : View sig .tc .vmem S1024x2048 .bf16) (inb inb') (p : Vec F S1024x2048 .bf16) :
    v.readCov [⟨Rect.unit ![0, 0] S1024x2048.size inb, p⟩] (Rect.unit ![0, 0] S1024x2048.size inb').toLoadRect = p :=
  (View.readCov_eq_canon_ld v _ _ (coverS p)).trans ((View.ld_unit_zero (S := S1024x2048) z2 _ _).trans (canon_rows inb p))

set_option maxHeartbeats 4000000 in
/-- A tile whose columns are stored as projected. -/
theorem run_plain (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S1024x1024 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole)
    (hc1 : ¬ cond1 i) (hc2 : ¬ k0_cond2 i = 1#1) (hc3 : ¬ k0_cond3 i = 1#1) (hc4 : ¬ k0_cond4 i = 1#1) (hc5 : k0_cond5 i = 1#1)
    (x0 : Vec F S1024x2048 .f32) (x1 : Vec F S1x2048 .f32) (x2 : Vec F S2048x1024 .bf16) (x3 : Vec F S3x128 .f32) (d5 d6 d7 : Vec F S4096x128 .f32) (xs : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7 ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xs x2) ∗ owns (c : Thread nD τ) arg7 fullShare d5 ∗ owns (c : Thread nD τ) arg8 fullShare d6 ∗ owns (c : Thread nD τ) arg9 fullShare d7 ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%f7, %hf7, H7⟩, ⟨%f8, %hf8, H8⟩, Hk⟩
  subst hf0 hf1 hf2 hf3 hf5 hf6 hf7 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    exact (View.read_writes_eq_canon _ _ _ (coverO _)).trans ((View.canon_unit_zero (S := S1024x1024) z2 _ _).trans (congrArg₂ k0_pay2 (View.ld_unit_zero (S := S1024x2048) z2 _ _) (View.ld_unit_zero (S := S2048x1024) z2 _ _)))
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  iexists _; isplitr; swap; · iexact H8
  ipureintro
  rfl

set_option maxHeartbeats 4000000 in
/-- The first tile: the rows are normed and kept, the eight heads of the columns normed. -/
theorem run_head (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S1024x1024 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole)
    (hc1 : cond1 i) (hc2 : k0_cond2 i = 1#1) (hc3 : ¬ k0_cond3 i = 1#1) (hc4 : ¬ k0_cond4 i = 1#1) (hc5 : ¬ k0_cond5 i = 1#1)
    (x0 : Vec F S1024x2048 .f32) (x1 : Vec F S1x2048 .f32) (x2 : Vec F S2048x1024 .bf16) (x3 : Vec F S3x128 .f32) (d5 d6 d7 : Vec F S4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7 ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (headTile (k0_pay1 x0 x1) x2 x3) ∗ owns (c : Thread nD τ) arg7 fullShare d5 ∗ owns (c : Thread nD τ) arg8 fullShare d6 ∗ owns (c : Thread nD τ) arg9 fullShare d7 ∗ owns (c : Thread nD τ) arg10 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%f7, %hf7, H7⟩, ⟨%e8, %f8, -, H8⟩, Hk⟩
  subst hf0 hf1 hf2 hf3 hf5 hf6 hf7
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S1024x1024) z2 _ _).trans ?_)
    have e : run_head.sl.v3 c arg2 arg3 arg10 f0 f1 = k0_pay1 (View.read (Elt F) arg2.view f0) (View.read (Elt F) arg3.view f1) := (cov_rows _ _ _ _).trans (congrArg₂ k0_pay1 (readAt_raw _ _ _) (readAt_norm _ _ _))
    rw [e, readAt_cols]; rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  iexists _; isplitr; swap; · iexact H8
  ipureintro
  exact (View.read_writes_eq_canon _ _ _ (coverS _)).trans ((canon_rows _ _).trans (congrArg₂ k0_pay1 (readAt_raw _ _ _) (readAt_norm _ _ _)))

set_option maxHeartbeats 4000000 in
/-- The tile of the compressed and the selected keys and values. -/
theorem run_sel (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S1024x1024 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole)
    (hc1 : ¬ cond1 i) (hc2 : ¬ k0_cond2 i = 1#1) (hc3 : k0_cond3 i = 1#1) (hc4 : ¬ k0_cond4 i = 1#1) (hc5 : ¬ k0_cond5 i = 1#1)
    (x0 : Vec F S1024x2048 .f32) (x1 : Vec F S1x2048 .f32) (x2 : Vec F S2048x1024 .bf16) (x3 : Vec F S3x128 .f32) (d7 : Vec F S4096x128 .f32) (xs : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d7 ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (selTile xs x2 x3) ∗ owns (c : Thread nD τ) arg7 fullShare (cmpRows xs x2) ∗ owns (c : Thread nD τ) arg8 fullShare (selRows xs x2 x3) ∗ owns (c : Thread nD τ) arg9 fullShare d7 ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%e5, %f5, -, H5⟩, ⟨%e6, %f6, -, H6⟩, ⟨%f7, %hf7, H7⟩, ⟨%f8, %hf8, H8⟩, Hk⟩
  subst hf0 hf1 hf2 hf3 hf7 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S1024x1024) z2 _ _).trans ?_)
    rw [readAt_rows, readAt_cols]; rfl
  isplitl [H5]
  · iexists _; isplitr; swap; · iexact H5
    ipureintro
    refine (View.read_writes_eq_canon _ _ _ (weave_cover _ _ _ _)).trans ?_
    rw [readAt_rows, readAt_cols]; rfl
  isplitl [H6]
  · iexists _; isplitr; swap; · iexact H6
    ipureintro
    refine (View.read_writes_eq_canon _ _ _ (weave_cover _ _ _ _)).trans ?_
    rw [readAt_rows, readAt_cols]; rfl
  isplitl [H7]
  · iexists _; isplitr; swap; · iexact H7
    ipureintro
    rfl
  iexists _; isplitr; swap; · iexact H8
  ipureintro
  rfl

set_option maxHeartbeats 4000000 in
/-- The tile of the window keys and values. -/
theorem run_win (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S1024x1024 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole)
    (hc1 : ¬ cond1 i) (hc2 : ¬ k0_cond2 i = 1#1) (hc3 : ¬ k0_cond3 i = 1#1) (hc4 : k0_cond4 i = 1#1) (hc5 : ¬ k0_cond5 i = 1#1)
    (x0 : Vec F S1024x2048 .f32) (x1 : Vec F S1x2048 .f32) (x2 : Vec F S2048x1024 .bf16) (x3 : Vec F S3x128 .f32) (d5 d6 : Vec F S4096x128 .f32) (xs : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ (∃ d, owns (c : Thread nD τ) arg9 fullShare d) ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (winTile xs x2 x3) ∗ owns (c : Thread nD τ) arg7 fullShare d5 ∗ owns (c : Thread nD τ) arg8 fullShare d6 ∗ owns (c : Thread nD τ) arg9 fullShare (winRows xs x2 x3) ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%e7, %f7, -, H7⟩, ⟨%f8, %hf8, H8⟩, Hk⟩
  subst hf0 hf1 hf2 hf3 hf5 hf6 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S1024x1024) z2 _ _).trans ?_)
    rw [readAt_rows, readAt_cols]; rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    refine (View.read_writes_eq_canon _ _ _ (weave_cover _ _ _ _)).trans ?_
    rw [readAt_rows, readAt_cols]; rfl
  iexists _; isplitr; swap; · iexact H8
  ipureintro
  rfl

end Cert.ProjRun

end
-- ==== Proof.ProjFrame.lean ====
/- The input projection's launch: what its buffers hold after each grid point, the invariant that carries the normed rows
   from tile to tile, and the run of the whole program with its frame. -/
module

public import proofs.«01_k».proof.Proof.ProjRun
public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.ProjFrame

open Cert.ProjIdeal Cert.ProjIdeal.Gen Cert.ProjRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of one block of rows -/

theorem N_lt (t : Fin cfg0.N) : t.val < 384 := Nat.lt_of_lt_of_eq t.isLt N_0

/-- The point of tile `j` in the block of rows that `t` is in. -/
def tileAt (t : Fin cfg0.N) (j : Fin 12) : Fin cfg0.N :=
  ⟨12 * (t.val / 12) + j.val, Nat.lt_of_lt_of_eq (by have := N_lt t; have := j.isLt; omega : 12 * (t.val / 12) + j.val < 384) N_0.symm⟩

theorem tileAt_congr (t s : Fin cfg0.N) (j : Fin 12) (h : t.val / 12 = s.val / 12) : tileAt t j = tileAt s j := by
  unfold tileAt; simp only [h]

theorem tileAt_self (t : Fin cfg0.N) (j : Fin 12) (h : t.val % 12 = j.val) : tileAt t j = t :=
  Fin.ext (by show 12 * (t.val / 12) + j.val = t.val; omega)

/-! ## What the buffers hold after each point -/

/-- The normed rows of the block `t` is in. -/
def rowsAt (c : Dev nD) (t : Fin cfg0.N) : Vec F S1024x2048 .bf16 :=
  k0_pay1 (iblk m c 0 (tileAt t 0)) (iblk m c 1 (tileAt t 0))

theorem rowsAt_congr (c : Dev nD) (t s : Fin cfg0.N) (h : t.val / 12 = s.val / 12) : rowsAt m c t = rowsAt m c s := by
  unfold rowsAt; rw [tileAt_congr t s 0 h]

/-- The output tile of point `t`. -/
def outAt (c : Dev nD) (t : Fin cfg0.N) : Vec F S1024x1024 .f32 :=
  if t.val % 12 = 0 then headTile (rowsAt m c t) (iblk m c 2 t) (iblk m c 3 t)
  else if t.val % 12 = 10 then selTile (rowsAt m c t) (iblk m c 2 t) (iblk m c 3 t)
  else if t.val % 12 = 11 then winTile (rowsAt m c t) (iblk m c 2 t) (iblk m c 3 t)
  else k0_pay2 (rowsAt m c t) (iblk m c 2 t)

/-- The compressed, -/
def cmpAt (c : Dev nD) (t : Fin cfg0.N) : Vec F S4096x128 .f32 := cmpRows (rowsAt m c t) (iblk m c 2 (tileAt t 10))
/-- the selected, -/
def selAt (c : Dev nD) (t : Fin cfg0.N) : Vec F S4096x128 .f32 := selRows (rowsAt m c t) (iblk m c 2 (tileAt t 10)) (iblk m c 3 (tileAt t 10))
/-- and the window's keys and values of the block of rows `t` is in. -/
def winAt (c : Dev nD) (t : Fin cfg0.N) : Vec F S4096x128 .f32 := winRows (rowsAt m c t) (iblk m c 2 (tileAt t 11)) (iblk m c 3 (tileAt t 11))

theorem cmpAt_congr (c : Dev nD) (t s : Fin cfg0.N) (h : t.val / 12 = s.val / 12) : cmpAt m c t = cmpAt m c s := by
  unfold cmpAt; rw [rowsAt_congr m c t s h, tileAt_congr t s 10 h]
theorem selAt_congr (c : Dev nD) (t s : Fin cfg0.N) (h : t.val / 12 = s.val / 12) : selAt m c t = selAt m c s := by
  unfold selAt; rw [rowsAt_congr m c t s h, tileAt_congr t s 10 h]

/-! ## The invariant: the normed rows carried from tile to tile -/

abbrev scM : Memref sig .tc .vmem S1024x2048 .bf16 := Memref.whole cc0_scratch0

theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [owns_whole]; try rfl

/-- Before the first point the carried rows are anything, afterwards what the point before left. -/
def PhiS (c : Dev nD) : (n : ℕ) → n ≤ cfg0.N → sProp 𝕄
  | 0, _ => Pipeline.ΦA spec0 c
  | n + 1, hn => iprop(owns (c : Thread nD τ) scM fullShare (rowsAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (rowsAt m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (rowsAt m c ⟨n - 1, by omega⟩) ∗ (∃ r, prngReg c r)) := by
  cases n with
  | zero => exact absurd rfl hz
  | succ n => rfl

/-- The invariant gives up the carried rows at something. -/
theorem PhiS_any (c : Dev nD) (n : ℕ) (h : n ≤ cfg0.N) :
    PhiS m c n h ⊢ iprop((∃ d, owns (c : Thread nD τ) scM fullShare d) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => cmpAt m c t
    | ⟨6, _⟩ => selAt m c t
    | ⟨7, _⟩ => winAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = cmpAt m c t := by dsimp only [dats]
theorem after0_6 (c : Dev nD) (t : Fin cfg0.N) : (dats m 0 c).after 6 t = selAt m c t := by dsimp only [dats]
theorem after0_7 (c : Dev nD) (t : Fin cfg0.N) : (dats m 0 c).after 7 t = winAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where each output is stored -/

theorem idle4 (t : Fin cfg0.N) : cfg0.idle 4 (cfg0.grid.coords t) = false := by
  have h : (!(k0_cond2 (grid0.coords t) == 1#1) && !(k0_cond3 (grid0.coords t) == 1#1) && !(k0_cond4 (grid0.coords t) == 1#1) && !(k0_cond5 (grid0.coords t) == 1#1)) = false := by
    by_cases h0 : t.val % 12 = 0
    · simp [(hcond2 t).mpr h0]
    by_cases h1 : t.val % 12 = 10
    · simp [(hcond3 t).mpr h1]
    by_cases h2 : t.val % 12 = 11
    · simp [(hcond4 t).mpr h2]
    simp [(hcond5 t).mpr ⟨h0, h1, h2⟩]
  exact h
theorem idle5_live (t : Fin cfg0.N) (h : t.val % 12 = 10) : cfg0.idle 5 (cfg0.grid.coords t) = false := by
  have e : (!(k0_cond3 (grid0.coords t) == 1#1)) = false := by simp [(hcond3 t).mpr h]
  exact e
theorem idle5_idle (t : Fin cfg0.N) (h : ¬ t.val % 12 = 10) : cfg0.idle 5 (cfg0.grid.coords t) = true := by
  have e : (!(k0_cond3 (grid0.coords t) == 1#1)) = true := by simp [mt (hcond3 t).mp h]
  exact e
theorem flush5_off (t : Fin cfg0.N) (h : ¬ t.val % 12 = 11) : (cfg0.win 5).flush t = false :=
  eq_false_of_ne_true (mt (flush0_5 t).mp h)
theorem idle6_live (t : Fin cfg0.N) (h : t.val % 12 = 10) : cfg0.idle 6 (cfg0.grid.coords t) = false := by
  have e : (!(k0_cond3 (grid0.coords t) == 1#1)) = false := by simp [(hcond3 t).mpr h]
  exact e
theorem idle6_idle (t : Fin cfg0.N) (h : ¬ t.val % 12 = 10) : cfg0.idle 6 (cfg0.grid.coords t) = true := by
  have e : (!(k0_cond3 (grid0.coords t) == 1#1)) = true := by simp [mt (hcond3 t).mp h]
  exact e
theorem flush6_off (t : Fin cfg0.N) (h : ¬ t.val % 12 = 11) : (cfg0.win 6).flush t = false :=
  eq_false_of_ne_true (mt (flush0_6 t).mp h)
theorem idle7_live (t : Fin cfg0.N) (h : t.val % 12 = 11) : cfg0.idle 7 (cfg0.grid.coords t) = false := by
  have e : (!(k0_cond4 (grid0.coords t) == 1#1)) = false := by simp [(hcond4 t).mpr h]
  exact e
theorem idle7_idle (t : Fin cfg0.N) (h : ¬ t.val % 12 = 11) : cfg0.idle 7 (cfg0.grid.coords t) = true := by
  have e : (!(k0_cond4 (grid0.coords t) == 1#1)) = true := by simp [mt (hcond4 t).mp h]
  exact e
theorem flush7_off (t : Fin cfg0.N) (h : ¬ t.val % 12 = 11) : (cfg0.win 7).flush t = false :=
  eq_false_of_ne_true (mt (flush0_7 t).mp h)

/-- A point that stores a window leaves what is stated of it, -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- and so does one that writes it back. -/
theorem leaves_flush (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- At the last tile the buffer still holds what the tile before stored. -/
theorem before5_last (c : Dev nD) (t : Fin cfg0.N) (h : t.val % 12 = 11) (d) : (dats m 0 c).before 5 t d = cmpAt m c t := by
  have hp : (⟨t.val - 1, Nat.lt_of_le_of_lt (Nat.sub_le _ _) t.isLt⟩ : Fin cfg0.N).val % 12 = 10 := by show (t.val - 1) % 12 = 10; omega
  refine ((dats m 0 c).before_of_pos 5 t (by omega) rfl d).trans ?_
  rw [if_neg (by rw [flush5_off _ (by omega)]; exact Bool.false_ne_true)]
  unfold Dat.left
  rw [idle5_live _ hp]
  refine Eq.trans (b := (dats m 0 c).after 5 ⟨t.val - 1, Nat.lt_of_le_of_lt (Nat.sub_le _ _) t.isLt⟩) rfl ?_
  rw [after0_5]
  exact cmpAt_congr m c _ _ (by show (t.val - 1) / 12 = t.val / 12; omega)

/-- At the last tile the buffer still holds what the tile before stored. -/
theorem before6_last (c : Dev nD) (t : Fin cfg0.N) (h : t.val % 12 = 11) (d) : (dats m 0 c).before 6 t d = selAt m c t := by
  have hp : (⟨t.val - 1, Nat.lt_of_le_of_lt (Nat.sub_le _ _) t.isLt⟩ : Fin cfg0.N).val % 12 = 10 := by show (t.val - 1) % 12 = 10; omega
  refine ((dats m 0 c).before_of_pos 6 t (by omega) rfl d).trans ?_
  rw [if_neg (by rw [flush6_off _ (by omega)]; exact Bool.false_ne_true)]
  unfold Dat.left
  rw [idle6_live _ hp]
  refine Eq.trans (b := (dats m 0 c).after 6 ⟨t.val - 1, Nat.lt_of_le_of_lt (Nat.sub_le _ _) t.isLt⟩) rfl ?_
  rw [after0_6]
  exact selAt_congr m c _ _ (by show (t.val - 1) / 12 = t.val / 12; omega)

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The first tile of a block of rows. -/
theorem body_head (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = headTile (k0_pay1 (iblk m c 0 t) (iblk m c 1 t)) (iblk m c 2 t) (iblk m c 3 t) from by unfold outAt rowsAt; rw [if_pos h, tileAt_self t 0 h]]
  rw [(dats m 0 c).leavesExact_idle 5 t (idle5_idle t (by omega)) (flush5_off t (by omega))]
  rw [(dats m 0 c).leavesExact_idle 6 t (idle6_idle t (by omega)) (flush6_off t (by omega))]
  rw [(dats m 0 c).leavesExact_idle 7 t (idle7_idle t (by omega)) (flush7_off t (by omega))]
  rw [show rowsAt m c ⟨t.val, t.isLt⟩ = k0_pay1 (iblk m c 0 t) (iblk m c 1 t) from by unfold rowsAt; rw [show tileAt ⟨t.val, t.isLt⟩ 0 = t from tileAt_self t 0 h]]
  have hany := PhiS_any m c t.val (Nat.le_of_lt t.isLt)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HQ := hany $$ HP
  icases HQ with ⟨HS, Hg⟩
  iapply (run_head c Set.univ (grid0.coords t) _ _ _ _ _ _ _ _ _ _ _ _ _ _ _ _ _ _ ((hcond1 t).mpr h) ((hcond2 t).mpr h) (mt (hcond3 t).mp (by omega)) (mt (hcond4 t).mp (by omega)) (mt (hcond5 t).mp (by omega)) (iblk m c 0 t) (iblk m c 1 t) (iblk m c 2 t) (iblk m c 3 t) _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- The tile of the compressed and the selected keys and values. -/
theorem body_sel (c : Dev nD) (t : Fin cfg0.N) (h : t.val % 12 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = selTile (rowsAt m c t) (iblk m c 2 t) (iblk m c 3 t) from by unfold outAt; rw [if_neg (by omega), if_pos h]]
  rw [leaves_live m c 5 t (idle5_live t h), after0_5, show cmpAt m c t = cmpRows (rowsAt m c t) (iblk m c 2 t) from by unfold cmpAt; rw [tileAt_self t 10 h]]
  rw [leaves_live m c 6 t (idle6_live t h), after0_6, show selAt m c t = selRows (rowsAt m c t) (iblk m c 2 t) (iblk m c 3 t) from by unfold selAt; rw [tileAt_self t 10 h]]
  rw [(dats m 0 c).leavesExact_idle 7 t (idle7_idle t (by omega)) (flush7_off t (by omega))]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_sel c Set.univ (grid0.coords t) _ _ _ _ _ _ _ _ _ _ _ _ _ _ _ _ _ _ (mt (hcond1 t).mp (by omega)) (mt (hcond2 t).mp (by omega)) ((hcond3 t).mpr h) (mt (hcond4 t).mp (by omega)) (mt (hcond5 t).mp (by omega)) (iblk m c 0 t) (iblk m c 1 t) (iblk m c 2 t) (iblk m c 3 t) _ _ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The tile of the window keys and values. -/
theorem body_win (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before5_last m c t h, before6_last m c t h]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = winTile (rowsAt m c t) (iblk m c 2 t) (iblk m c 3 t) from by unfold outAt; rw [if_neg (by omega), if_neg (by omega), if_pos h]]
  rw [leaves_flush m c 5 t (idle5_idle t (by omega)) ((flush0_5 t).mpr h), after0_5]
  rw [leaves_flush m c 6 t (idle6_idle t (by omega)) ((flush0_6 t).mpr h), after0_6]
  rw [leaves_live m c 7 t (idle7_live t h), after0_7, show winAt m c t = winRows (rowsAt m c t) (iblk m c 2 t) (iblk m c 3 t) from by unfold winAt; rw [tileAt_self t 11 h]]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_win c Set.univ (grid0.coords t) _ _ _ _ _ _ _ _ _ _ _ _ _ _ _ _ _ _ (mt (hcond1 t).mp (by omega)) (mt (hcond2 t).mp (by omega)) (mt (hcond3 t).mp (by omega)) ((hcond4 t).mpr h) (mt (hcond5 t).mp (by omega)) (iblk m c 0 t) (iblk m c 1 t) (iblk m c 2 t) (iblk m c 3 t) _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Any other tile. -/
theorem body_plain (c : Dev nD) (t : Fin cfg0.N) (h0 : ¬ t.val % 12 = 0) (h1 : ¬ t.val % 12 = 10) (h2 : ¬ t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = k0_pay2 (rowsAt m c t) (iblk m c 2 t) from by unfold outAt; rw [if_neg h0, if_neg h1, if_neg h2]]
  rw [(dats m 0 c).leavesExact_idle 5 t (idle5_idle t (by omega)) (flush5_off t (by omega))]
  rw [(dats m 0 c).leavesExact_idle 6 t (idle6_idle t (by omega)) (flush6_off t (by omega))]
  rw [(dats m 0 c).leavesExact_idle 7 t (idle7_idle t (by omega)) (flush7_off t (by omega))]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_plain c Set.univ (grid0.coords t) _ _ _ _ _ _ _ _ _ _ _ _ _ _ _ _ _ _ (mt (hcond1 t).mp (by omega)) (mt (hcond2 t).mp (by omega)) (mt (hcond3 t).mp (by omega)) (mt (hcond4 t).mp (by omega)) ((hcond5 t).mpr ⟨h0, h1, h2⟩) (iblk m c 0 t) (iblk m c 1 t) (iblk m c 2 t) (iblk m c 3 t) _ _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_head m c t h0
  by_cases h1 : t.val % 12 = 10
  · exact body_sel m c t h1
  by_cases h2 : t.val % 12 = 11
  · exact body_win m c t h2
  exact body_plain m c t h0 h1 h2

theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [PhiA0_eq, show (dats m 0 c).Φ (Fin.last cfg0.N) = PhiS m c cfg0.N le_rfl from rfl]; exact PhiS_any m c _ _

/-! ## The run and the frame -/

set_option backward.isDefEq.respectTransparency.types false in
set_option maxHeartbeats 800000 in
/-- The launch: every weakly fair execution ends with the arrays at what the blocks written back make of them, and every
    counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ProjFrame

end
-- ==== Proof.ProjTile.lean ====
/- The input projection's values, tile by tile: the normed rows times the weight's columns, with the heads of three groups of
   columns normed once more; and the weight's columns in the order the call takes them. -/
module

public import proofs.«01_k».proof.Proof.ProjFrame
public import Idealize.ShloMosaic.Lib.Pipeline.ValueKit

@[expose] public section
set_option maxRecDepth 16384
noncomputable section
open Idealize.ShloMosaic Idealize.ShloMosaic.TcCoe Idealize.SL.Sem

namespace Cert.ProjSpec

/-- A row divided by the root of its mean square plus a constant, times a weight, at `k`. -/
def normRow (x w : Fin 2048 → EReal) (k : Fin 2048) : EReal :=
  x k * Ideal.rsqrt (Ideal.div (∑ y, x y * x y) (Ideal.ofBits FTy.f32 1157627904#32) + Ideal.ofBits FTy.f32 897988541#32) * w k

/-- The same for a head of 128. -/
def headNorm (f w : Fin 128 → EReal) (d : Fin 128) : EReal :=
  f d * Ideal.rsqrt (Ideal.div (∑ y, f y * f y) (Ideal.ofBits FTy.f32 1124073472#32) + Ideal.ofBits FTy.f32 897988541#32) * w d

/-- The column of the projection's weight that column `c` of the result is from; past the last, for the padding. -/
def src (c : ℕ) : ℕ :=
  if c < 1024 then c - 0 + 0 else if c < 2048 then c - 1024 + 2584 else if c < 3072 then c - 2048 + 6696 else if c < 6144 then c - 3072 + 3608 else if c < 8192 then c - 6144 + 7720 else if c < 10240 then c - 8192 + 9768 else if c < 10752 then c - 10240 + 1024 else if c < 11264 then c - 10752 + 1536 else if c < 11776 then c - 11264 + 2048 else if c < 11800 then c - 11776 + 2560 else if c < 11808 then c - 11800 + 6680 else if c < 11816 then c - 11808 + 6688 else 11816

/-- A weight at a column, zero past the last. -/
def colAt (w : Fin 2048 → Fin 11816 → EReal) (k : Fin 2048) (j : ℕ) : EReal := if h : j < 11816 then w k ⟨j, h⟩ else 0

theorem colAt_lt (w : Fin 2048 → Fin 11816 → EReal) (k : Fin 2048) (j : ℕ) (h : j < 11816) : colAt w k j = w k ⟨j, h⟩ := dif_pos h

theorem colAt_pad (w : Fin 2048 → Fin 11816 → EReal) (k : Fin 2048) : colAt w k 11816 = 0 := dif_neg (Nat.lt_irrefl _)

/-- Column `c` of the result: the column `g c`, but in the queries and in the first two heads of the selected and of the window
    keys and values the head it is in normed. -/
def colOf (g : ℕ → EReal) (qw sw ww : Fin 128 → EReal) (c : ℕ) : EReal :=
  if c < 1024 then headNorm (fun d => g (c / 128 * 128 + d)) qw ⟨c % 128, Nat.mod_lt _ (by decide)⟩
  else if 10752 ≤ c ∧ c < 11008 then headNorm (fun d => g (c / 128 * 128 + d)) sw ⟨c % 128, Nat.mod_lt _ (by decide)⟩
  else if 11264 ≤ c ∧ c < 11520 then headNorm (fun d => g (c / 128 * 128 + d)) ww ⟨c % 128, Nat.mod_lt _ (by decide)⟩
  else g c

/-- The columns before the heads are normed: the normed row times the weight's columns. -/
def rawCol (x w : Fin 2048 → EReal) (W : Fin 2048 → Fin 11816 → EReal) (c : ℕ) : EReal :=
  ∑ k, normRow x w k * colAt W k (src c)

/-- A result column over the row, the norm's weights, the projection's weight and the heads' weights. -/
def projAt (x w : Fin 2048 → EReal) (W : Fin 2048 → Fin 11816 → EReal) (qw sw ww : Fin 128 → EReal) (c : ℕ) : EReal :=
  colOf (rawCol x w W) qw sw ww c

/-- The row of the first result that row `n` of the heads' rows is from. -/
def rowOf (n : Fin 131072) : Fin 32768 := ⟨n.val / 4, by have := n.isLt; omega⟩

theorem headNorm_congr {f f' w w' : Fin 128 → EReal} {d d' : Fin 128} (hf : ∀ y, f y = f' y) (hw : ∀ y, w y = w' y) (hd : d = d') :
    headNorm f w d = headNorm f' w' d' := by
  obtain rfl : f = f' := funext hf
  obtain rfl : w = w' := funext hw
  rw [hd]

theorem src_0 (c : ℕ) (h0 : 0 ≤ c) (h1 : c < 1024) : src c = c - 0 + 0 := by
  unfold src; rw [if_pos h1]
theorem src_1 (c : ℕ) (h0 : 1024 ≤ c) (h1 : c < 2048) : src c = c - 1024 + 2584 := by
  unfold src; rw [if_neg (by omega), if_pos h1]
theorem src_2 (c : ℕ) (h0 : 2048 ≤ c) (h1 : c < 3072) : src c = c - 2048 + 6696 := by
  unfold src; rw [if_neg (by omega), if_neg (by omega), if_pos h1]
theorem src_3 (c : ℕ) (h0 : 3072 ≤ c) (h1 : c < 6144) : src c = c - 3072 + 3608 := by
  unfold src; rw [if_neg (by omega), if_neg (by omega), if_neg (by omega), if_pos h1]
theorem src_4 (c : ℕ) (h0 : 6144 ≤ c) (h1 : c < 8192) : src c = c - 6144 + 7720 := by
  unfold src; rw [if_neg (by omega), if_neg (by omega), if_neg (by omega), if_neg (by omega), if_pos h1]
theorem src_5 (c : ℕ) (h0 : 8192 ≤ c) (h1 : c < 10240) : src c = c - 8192 + 9768 := by
  unfold src; rw [if_neg (by omega), if_neg (by omega), if_neg (by omega), if_neg (by omega), if_neg (by omega), if_pos h1]
theorem src_6 (c : ℕ) (h0 : 10240 ≤ c) (h1 : c < 10752) : src c = c - 10240 + 1024 := by
  unfold src; rw [if_neg (by omega), if_neg (by omega), if_neg (by omega), if_neg (by omega), if_neg (by omega), if_neg (by omega), if_pos h1]
theorem src_7 (c : ℕ) (h0 : 10752 ≤ c) (h1 : c < 11264) : src c = c - 10752 + 1536 := by
  unfold src; rw [if_neg (by omega), if_neg (by omega), if_neg (by omega), if_neg (by omega), if_neg (by omega), if_neg (by omega), if_neg (by omega), if_pos h1]
theorem src_8 (c : ℕ) (h0 : 11264 ≤ c) (h1 : c < 11776) : src c = c - 11264 + 2048 := by
  unfold src; rw [if_neg (by omega), if_neg (by omega), if_neg (by omega), if_neg (by omega), if_neg (by omega), if_neg (by omega), if_neg (by omega), if_neg (by omega), if_pos h1]
theorem src_9 (c : ℕ) (h0 : 11776 ≤ c) (h1 : c < 11800) : src c = c - 11776 + 2560 := by
  unfold src; rw [if_neg (by omega), if_neg (by omega), if_neg (by omega), if_neg (by omega), if_neg (by omega), if_neg (by omega), if_neg (by omega), if_neg (by omega), if_neg (by omega), if_pos h1]
theorem src_10 (c : ℕ) (h0 : 11800 ≤ c) (h1 : c < 11808) : src c = c - 11800 + 6680 := by
  unfold src; rw [if_neg (by omega), if_neg (by omega), if_neg (by omega), if_neg (by omega), if_neg (by omega), if_neg (by omega), if_neg (by omega), if_neg (by omega), if_neg (by omega), if_neg (by omega), if_pos h1]
theorem src_11 (c : ℕ) (h0 : 11808 ≤ c) (h1 : c < 11816) : src c = c - 11808 + 6688 := by
  unfold src; rw [if_neg (by omega), if_neg (by omega), if_neg (by omega), if_neg (by omega), if_neg (by omega), if_neg (by omega), if_neg (by omega), if_neg (by omega), if_neg (by omega), if_neg (by omega), if_neg (by omega), if_pos h1]
theorem src_pad (c : ℕ) (h0 : 11816 ≤ c) : src c = 11816 := by
  unfold src; rw [if_neg (by omega), if_neg (by omega), if_neg (by omega), if_neg (by omega), if_neg (by omega), if_neg (by omega), if_neg (by omega), if_neg (by omega), if_neg (by omega), if_neg (by omega), if_neg (by omega), if_neg (by omega)]

end Cert.ProjSpec

namespace Cert.ProjTile
open Cert.ProjIdeal Cert.ProjIdeal.Gen Cert.ProjRun Cert.ProjFrame Cert.ProjSpec

/-! ## The weights as the call takes them -/

/-- The projection's weight with its columns in the order the call takes them, the last ones zeros. -/
def permuted (w : FVec Ideal S2048x11816 .f32) : FVec Ideal S2048x12288 .f32 :=
  concatenate S2048x12288 1 [⟨S2048x1024, extractStridedSlice S2048x1024 ![0, 0] w slices_S2048x11816_S2048x1024_0_0⟩, ⟨S2048x1024, extractStridedSlice S2048x1024 ![0, 2584] w slices_S2048x11816_S2048x1024_0_2584⟩, ⟨S2048x1024, extractStridedSlice S2048x1024 ![0, 6696] w slices_S2048x11816_S2048x1024_0_6696⟩, ⟨S2048x3072, extractStridedSlice S2048x3072 ![0, 3608] w slices_S2048x11816_S2048x3072_0_3608⟩, ⟨S2048x2048, extractStridedSlice S2048x2048 ![0, 7720] w slices_S2048x11816_S2048x2048_0_7720⟩, ⟨S2048x2048, extractStridedSlice S2048x2048 ![0, 9768] w slices_S2048x11816_S2048x2048_0_9768⟩, ⟨S2048x512, extractStridedSlice S2048x512 ![0, 1024] w slices_S2048x11816_S2048x512_0_1024⟩, ⟨S2048x512, extractStridedSlice S2048x512 ![0, 1536] w slices_S2048x11816_S2048x512_0_1536⟩, ⟨S2048x512, extractStridedSlice S2048x512 ![0, 2048] w slices_S2048x11816_S2048x512_0_2048⟩, ⟨S2048x24, extractStridedSlice S2048x24 ![0, 2560] w slices_S2048x11816_S2048x24_0_2560⟩, ⟨S2048x8, extractStridedSlice S2048x8 ![0, 6680] w slices_S2048x11816_S2048x8_0_6680⟩, ⟨S2048x8, extractStridedSlice S2048x8 ![0, 6688] w slices_S2048x11816_S2048x8_0_6688⟩, ⟨S2048x472, broadcastInDim S2048x472 ![] bcast_S_S2048x472 (constant S_ .f32 0x00000000#32)⟩] concatenates_S2048x1024_S2048x1024_S2048x1024_S2048x3072_S2048x2048_S2048x2048_S2048x512_S2048x512_S2048x512_S2048x24_S2048x8_S2048x8_S2048x472_S2048x12288_d1

/-- The three heads' norm weights, one per row. -/
def stacked (a b d : FVec Ideal S128 .f32) : FVec Ideal S3x128 .f32 :=
  concatenate S3x128 0 [⟨S1x128, broadcastInDim S1x128 ![1] bcast_S128_S1x128_1 a⟩, ⟨S1x128, broadcastInDim S1x128 ![1] bcast_S128_S1x128_1 b⟩, ⟨S1x128, broadcastInDim S1x128 ![1] bcast_S128_S1x128_1 d⟩] concatenates_S1x128_S1x128_S1x128_S3x128_d0

theorem permuted_at (w : FVec Ideal S2048x11816 .f32) (k : Fin 2048) (l : Fin 12288) :
    permuted w (ix2 k l) = colAt (fun k j => w (ix2 k j)) k (src l.val) := by
  have hl := l.isLt
  unfold permuted
  pointwise []
  by_cases h0 : l.val < 1024
  · rw [dif_pos h0, src_0 l.val (by omega) (by omega), colAt_lt _ _ _ (by omega)]
    exact congrArg (fun j => w (ix2 k j)) (Fin.ext (by show _ = l.val - 0 + 0; simp only [] <;> omega))
  rw [dif_neg h0]
  by_cases h1 : l.val - 1024 < 1024
  · rw [dif_pos h1, src_1 l.val (by omega) (by omega), colAt_lt _ _ _ (by omega)]
    exact congrArg (fun j => w (ix2 k j)) (Fin.ext (by show _ = l.val - 1024 + 2584; simp only [] <;> omega))
  rw [dif_neg h1]
  by_cases h2 : l.val - 1024 - 1024 < 1024
  · rw [dif_pos h2, src_2 l.val (by omega) (by omega), colAt_lt _ _ _ (by omega)]
    exact congrArg (fun j => w (ix2 k j)) (Fin.ext (by show _ = l.val - 2048 + 6696; simp only [] <;> omega))
  rw [dif_neg h2]
  by_cases h3 : l.val - 1024 - 1024 - 1024 < 3072
  · rw [dif_pos h3, src_3 l.val (by omega) (by omega), colAt_lt _ _ _ (by omega)]
    exact congrArg (fun j => w (ix2 k j)) (Fin.ext (by show _ = l.val - 3072 + 3608; simp only [] <;> omega))
  rw [dif_neg h3]
  by_cases h4 : l.val - 1024 - 1024 - 1024 - 3072 < 2048
  · rw [dif_pos h4, src_4 l.val (by omega) (by omega), colAt_lt _ _ _ (by omega)]
    exact congrArg (fun j => w (ix2 k j)) (Fin.ext (by show _ = l.val - 6144 + 7720; simp only [] <;> omega))
  rw [dif_neg h4]
  by_cases h5 : l.val - 1024 - 1024 - 1024 - 3072 - 2048 < 2048
  · rw [dif_pos h5, src_5 l.val (by omega) (by omega), colAt_lt _ _ _ (by omega)]
    exact congrArg (fun j => w (ix2 k j)) (Fin.ext (by show _ = l.val - 8192 + 9768; simp only [] <;> omega))
  rw [dif_neg h5]
  by_cases h6 : l.val - 1024 - 1024 - 1024 - 3072 - 2048 - 2048 < 512
  · rw [dif_pos h6, src_6 l.val (by omega) (by omega), colAt_lt _ _ _ (by omega)]
    exact congrArg (fun j => w (ix2 k j)) (Fin.ext (by show _ = l.val - 10240 + 1024; simp only [] <;> omega))
  rw [dif_neg h6]
  by_cases h7 : l.val - 1024 - 1024 - 1024 - 3072 - 2048 - 2048 - 512 < 512
  · rw [dif_pos h7, src_7 l.val (by omega) (by omega), colAt_lt _ _ _ (by omega)]
    exact congrArg (fun j => w (ix2 k j)) (Fin.ext (by show _ = l.val - 10752 + 1536; simp only [] <;> omega))
  rw [dif_neg h7]
  by_cases h8 : l.val - 1024 - 1024 - 1024 - 3072 - 2048 - 2048 - 512 - 512 < 512
  · rw [dif_pos h8, src_8 l.val (by omega) (by omega), colAt_lt _ _ _ (by omega)]
    exact congrArg (fun j => w (ix2 k j)) (Fin.ext (by show _ = l.val - 11264 + 2048; simp only [] <;> omega))
  rw [dif_neg h8]
  by_cases h9 : l.val - 1024 - 1024 - 1024 - 3072 - 2048 - 2048 - 512 - 512 - 512 < 24
  · rw [dif_pos h9, src_9 l.val (by omega) (by omega), colAt_lt _ _ _ (by omega)]
    exact congrArg (fun j => w (ix2 k j)) (Fin.ext (by show _ = l.val - 11776 + 2560; simp only [] <;> omega))
  rw [dif_neg h9]
  by_cases h10 : l.val - 1024 - 1024 - 1024 - 3072 - 2048 - 2048 - 512 - 512 - 512 - 24 < 8
  · rw [dif_pos h10, src_10 l.val (by omega) (by omega), colAt_lt _ _ _ (by omega)]
    exact congrArg (fun j => w (ix2 k j)) (Fin.ext (by show _ = l.val - 11800 + 6680; simp only [] <;> omega))
  rw [dif_neg h10]
  by_cases h11 : l.val - 1024 - 1024 - 1024 - 3072 - 2048 - 2048 - 512 - 512 - 512 - 24 - 8 < 8
  · rw [dif_pos h11, src_11 l.val (by omega) (by omega), colAt_lt _ _ _ (by omega)]
    exact congrArg (fun j => w (ix2 k j)) (Fin.ext (by show _ = l.val - 11808 + 6688; simp only [] <;> omega))
  rw [dif_neg h11]
  rw [src_pad l.val (by omega)]
  exact (colAt_pad _ _).symm

theorem stacked_0 (a b e : FVec Ideal S128 .f32) (d : Fin 128) : stacked a b e (ix2 0 d) = a (ix1 d) := by
  unfold stacked; pointwise []
theorem stacked_1 (a b e : FVec Ideal S128 .f32) (d : Fin 128) : stacked a b e (ix2 1 d) = b (ix1 d) := by
  unfold stacked; pointwise []
theorem stacked_2 (a b e : FVec Ideal S128 .f32) (d : Fin 128) : stacked a b e (ix2 2 d) = e (ix1 d) := by
  unfold stacked; pointwise []

/-! ## The pieces of the body -/

theorem rows_at (x : FVec Ideal S1024x2048 .f32) (w : FVec Ideal S1x2048 .f32) (i : Fin 1024) (k : Fin 2048) :
    k0_pay1 (F := Ideal) x w (ix2 i k) = normRow (fun k => x (ix2 i k)) (fun k => w (ix2 0 k)) k := by
  unfold k0_pay1 normRow
  pointwise []

theorem acc_at (x : FVec Ideal S1024x2048 .bf16) (w : FVec Ideal S2048x1024 .bf16) (i : Fin 1024) (l : Fin 1024) :
    k0_pay2 (F := Ideal) x w (ix2 i l) = ∑ k, x (ix2 i k) * w (ix2 k l) := by
  unfold k0_pay2
  pointwise []

theorem head4_at (a : FVec Ideal S1024x1024 .f32) (w : FVec Ideal S1x128 .f32) (i : Fin 1024) (d : Fin 128) :
    k0_pay4 (F := Ideal) a w (ix2 i d) = headNorm (fun d => a (ix2 i ⟨0 + d.val, by omega⟩)) (fun d => w (ix2 0 d)) d := by
  unfold k0_pay4 headNorm
  pointwise [] <;> simp only [Nat.zero_add]
theorem head5_at (a : FVec Ideal S1024x1024 .f32) (w : FVec Ideal S1x128 .f32) (i : Fin 1024) (d : Fin 128) :
    k0_pay5 (F := Ideal) a w (ix2 i d) = headNorm (fun d => a (ix2 i ⟨128 + d.val, by omega⟩)) (fun d => w (ix2 0 d)) d := by
  unfold k0_pay5 headNorm
  pointwise []
theorem head6_at (a : FVec Ideal S1024x1024 .f32) (w : FVec Ideal S1x128 .f32) (i : Fin 1024) (d : Fin 128) :
    k0_pay6 (F := Ideal) a w (ix2 i d) = headNorm (fun d => a (ix2 i ⟨256 + d.val, by omega⟩)) (fun d => w (ix2 0 d)) d := by
  unfold k0_pay6 headNorm
  pointwise []
theorem head7_at (a : FVec Ideal S1024x1024 .f32) (w : FVec Ideal S1x128 .f32) (i : Fin 1024) (d : Fin 128) :
    k0_pay7 (F := Ideal) a w (ix2 i d) = headNorm (fun d => a (ix2 i ⟨384 + d.val, by omega⟩)) (fun d => w (ix2 0 d)) d := by
  unfold k0_pay7 headNorm
  pointwise []
theorem head8_at (a : FVec Ideal S1024x1024 .f32) (w : FVec Ideal S1x128 .f32) (i : Fin 1024) (d : Fin 128) :
    k0_pay8 (F := Ideal) a w (ix2 i d) = headNorm (fun d => a (ix2 i ⟨512 + d.val, by omega⟩)) (fun d => w (ix2 0 d)) d := by
  unfold k0_pay8 headNorm
  pointwise []
theorem head9_at (a : FVec Ideal S1024x1024 .f32) (w : FVec Ideal S1x128 .f32) (i : Fin 1024) (d : Fin 128) :
    k0_pay9 (F := Ideal) a w (ix2 i d) = headNorm (fun d => a (ix2 i ⟨640 + d.val, by omega⟩)) (fun d => w (ix2 0 d)) d := by
  unfold k0_pay9 headNorm
  pointwise []
theorem head14_at (a : FVec Ideal S1024x1024 .f32) (w : FVec Ideal S1x128 .f32) (i : Fin 1024) (d : Fin 128) :
    k0_pay14 (F := Ideal) a w (ix2 i d) = headNorm (fun d => a (ix2 i ⟨512 + d.val, by omega⟩)) (fun d => w (ix2 0 d)) d := by
  unfold k0_pay14 headNorm
  pointwise []
theorem head15_at (a : FVec Ideal S1024x1024 .f32) (w : FVec Ideal S1x128 .f32) (i : Fin 1024) (d : Fin 128) :
    k0_pay15 (F := Ideal) a w (ix2 i d) = headNorm (fun d => a (ix2 i ⟨640 + d.val, by omega⟩)) (fun d => w (ix2 0 d)) d := by
  unfold k0_pay15 headNorm
  pointwise []
theorem head19_at (a : FVec Ideal S1024x1024 .f32) (w : FVec Ideal S1x128 .f32) (i : Fin 1024) (d : Fin 128) :
    k0_pay19 (F := Ideal) a w (ix2 i d) = headNorm (fun d => a (ix2 i ⟨0 + d.val, by omega⟩)) (fun d => w (ix2 0 d)) d := by
  unfold k0_pay19 headNorm
  pointwise [] <;> simp only [Nat.zero_add]
theorem head20_at (a : FVec Ideal S1024x1024 .f32) (w : FVec Ideal S1x128 .f32) (i : Fin 1024) (d : Fin 128) :
    k0_pay20 (F := Ideal) a w (ix2 i d) = headNorm (fun d => a (ix2 i ⟨128 + d.val, by omega⟩)) (fun d => w (ix2 0 d)) d := by
  unfold k0_pay20 headNorm
  pointwise []
theorem slice10_at (a : FVec Ideal S1024x1024 .f32) (i : Fin 1024) (d : Fin 128) :
    k0_pay10 (F := Ideal) a (ix2 i d) = a (ix2 i ⟨0 + d.val, by omega⟩) := by
  unfold k0_pay10
  pointwise [] <;> simp only [Nat.zero_add]
theorem slice11_at (a : FVec Ideal S1024x1024 .f32) (i : Fin 1024) (d : Fin 128) :
    k0_pay11 (F := Ideal) a (ix2 i d) = a (ix2 i ⟨128 + d.val, by omega⟩) := by
  unfold k0_pay11
  pointwise []
theorem slice12_at (a : FVec Ideal S1024x1024 .f32) (i : Fin 1024) (d : Fin 128) :
    k0_pay12 (F := Ideal) a (ix2 i d) = a (ix2 i ⟨256 + d.val, by omega⟩) := by
  unfold k0_pay12
  pointwise []
theorem slice13_at (a : FVec Ideal S1024x1024 .f32) (i : Fin 1024) (d : Fin 128) :
    k0_pay13 (F := Ideal) a (ix2 i d) = a (ix2 i ⟨384 + d.val, by omega⟩) := by
  unfold k0_pay13
  pointwise []
theorem slice16_at (a : FVec Ideal S1024x1024 .f32) (i : Fin 1024) (d : Fin 128) :
    k0_pay16 (F := Ideal) a (ix2 i d) = a (ix2 i ⟨768 + d.val, by omega⟩) := by
  unfold k0_pay16
  pointwise []
theorem slice17_at (a : FVec Ideal S1024x1024 .f32) (i : Fin 1024) (d : Fin 128) :
    k0_pay17 (F := Ideal) a (ix2 i d) = a (ix2 i ⟨896 + d.val, by omega⟩) := by
  unfold k0_pay17
  pointwise []
theorem slice21_at (a : FVec Ideal S1024x1024 .f32) (i : Fin 1024) (d : Fin 128) :
    k0_pay21 (F := Ideal) a (ix2 i d) = a (ix2 i ⟨256 + d.val, by omega⟩) := by
  unfold k0_pay21
  pointwise []
theorem slice22_at (a : FVec Ideal S1024x1024 .f32) (i : Fin 1024) (d : Fin 128) :
    k0_pay22 (F := Ideal) a (ix2 i d) = a (ix2 i ⟨384 + d.val, by omega⟩) := by
  unfold k0_pay22
  pointwise []
theorem row0_at (w : FVec Ideal S3x128 .f32) (d : Fin 128) :
    (show FVec Ideal S1x128 .f32 from View.ld (Val := Elt Ideal) (e' := .f32) w rh0) (ix2 0 d) = w (ix2 0 d) := by
  refine congrArg w (funext fun a => Fin.ext ?_)
  match a with
  | ⟨0, _⟩ => rfl
  | ⟨1, _⟩ => show 0 + 1 * d.val = d.val; omega
theorem row1_at (w : FVec Ideal S3x128 .f32) (d : Fin 128) :
    (show FVec Ideal S1x128 .f32 from View.ld (Val := Elt Ideal) (e' := .f32) w rh1) (ix2 0 d) = w (ix2 1 d) := by
  refine congrArg w (funext fun a => Fin.ext ?_)
  match a with
  | ⟨0, _⟩ => rfl
  | ⟨1, _⟩ => show 0 + 1 * d.val = d.val; omega
theorem row2_at (w : FVec Ideal S3x128 .f32) (d : Fin 128) :
    (show FVec Ideal S1x128 .f32 from View.ld (Val := Elt Ideal) (e' := .f32) w rh2) (ix2 0 d) = w (ix2 2 d) := by
  refine congrArg w (funext fun a => Fin.ext ?_)
  match a with
  | ⟨0, _⟩ => rfl
  | ⟨1, _⟩ => show 0 + 1 * d.val = d.val; omega

/-- The strided rectangle of the rows `g`, `g + 4`, …: where it puts a row, -/
theorem strided_emb (g : ℕ) (inb) (hs) (n : Fin 4096) (d : Fin 128) (h : n.val % 4 = g) :
    (⟨(⟨![g, 0], S1024x128.size, ![4, 1], inb⟩ : LoadRect S4096x128), hs⟩ : Rect S4096x128).emb (ix2 (⟨n.val / 4, by omega⟩ : Fin 1024) d : S1024x128.Idx) = (ix2 n d : S4096x128.Idx) := by
  refine funext fun a => Fin.ext ?_
  match a with
  | ⟨0, _⟩ => show g + 4 * (n.val / 4) = n.val; omega
  | ⟨1, _⟩ => show 0 + 1 * d.val = d.val; omega

/-- and which rows are not in it. -/
theorem not_strided (g : ℕ) (n : Fin 4096) (d : Fin 128) (hg : ¬ n.val % 4 = g) (hg4 : g < 4) (r : Rect S4096x128) (ho : r.off = ![g, 0]) (ht : r.stride = ![4, 1]) :
    (ix2 n d : S4096x128.Idx) ∉ r.set := by
  intro hm
  obtain ⟨j, -, e⟩ := (LoadRect.mem_set _).mp hm 0
  rw [ho, ht] at e
  have e' : n.val = g + 4 * j := e
  omega

/-- A point the last write covers reads that write, -/
theorem hit (r : Rect S4096x128) (p : r.shape.Idx → Elt Ideal .f32) (L : List (View.Piece (Elt Ideal) S4096x128 .f32)) (x : r.shape.Idx) (y : S4096x128.Idx)
    (h : r.emb x = y) : View.canon (Val := Elt Ideal) (⟨r, p⟩ :: L) y = p x := by
  rw [← h]
  exact View.canon_cons_emb r p L x

/-- any other the ones before it. -/
theorem miss (r : Rect S4096x128) (p : r.shape.Idx → Elt Ideal .f32) (L : List (View.Piece (Elt Ideal) S4096x128 .f32)) (y : S4096x128.Idx)
    (h : y ∉ r.set) : View.canon (Val := Elt Ideal) (⟨r, p⟩ :: L) y = View.canon (Val := Elt Ideal) L y :=
  View.canon_cons_of_not_mem ⟨r, p⟩ L h

section
variable (p0 p1 p2 p3 : FVec Ideal S1024x128 .f32) (n : Fin 4096) (d : Fin 128)

theorem weave_3 (h : n.val % 4 = 3) : weave (F := Ideal) p0 p1 p2 p3 (ix2 n d) = p3 (ix2 ⟨n.val / 4, by omega⟩ d) := by
  unfold weave
  exact hit q3 p3 _ _ _ (strided_emb 3 inb_S4096x128_S1024x128_3_0_s_4_1 spos_4_1 n d h)

theorem weave_2 (h : n.val % 4 = 2) : weave (F := Ideal) p0 p1 p2 p3 (ix2 n d) = p2 (ix2 ⟨n.val / 4, by omega⟩ d) := by
  unfold weave
  refine (miss q3 p3 _ _ (not_strided 3 n d (by omega) (by omega) q3 rfl rfl)).trans ?_
  exact hit q2 p2 _ _ _ (strided_emb 2 inb_S4096x128_S1024x128_2_0_s_4_1 spos_4_1 n d h)

theorem weave_1 (h : n.val % 4 = 1) : weave (F := Ideal) p0 p1 p2 p3 (ix2 n d) = p1 (ix2 ⟨n.val / 4, by omega⟩ d) := by
  unfold weave
  refine (miss q3 p3 _ _ (not_strided 3 n d (by omega) (by omega) q3 rfl rfl)).trans ?_
  refine (miss q2 p2 _ _ (not_strided 2 n d (by omega) (by omega) q2 rfl rfl)).trans ?_
  exact hit q1 p1 _ _ _ (strided_emb 1 inb_S4096x128_S1024x128_1_0_s_4_1 spos_4_1 n d h)

theorem weave_0 (h : n.val % 4 = 0) : weave (F := Ideal) p0 p1 p2 p3 (ix2 n d) = p0 (ix2 ⟨n.val / 4, by omega⟩ d) := by
  unfold weave
  refine (miss q3 p3 _ _ (not_strided 3 n d (by omega) (by omega) q3 rfl rfl)).trans ?_
  refine (miss q2 p2 _ _ (not_strided 2 n d (by omega) (by omega) q2 rfl rfl)).trans ?_
  refine (miss q1 p1 _ _ (not_strided 1 n d (by omega) (by omega) q1 rfl rfl)).trans ?_
  exact hit q0 p0 _ _ _ (strided_emb 0 inb_S4096x128_S1024x128_0_0_s_4_1 spos_4_1 n d h)

end

/-! ## The tiles -/

variable (x : FVec Ideal S1024x2048 .bf16) (w : FVec Ideal S2048x1024 .bf16) (hw : FVec Ideal S3x128 .f32) (i : Fin 1024) (l : Fin 1024)

/-- The head that column `l` of a tile is in, normed. -/
def tileHead (r : Fin 3) : EReal :=
  headNorm (fun d => k0_pay2 (F := Ideal) x w (ix2 i ⟨l.val / 128 * 128 + d.val, by have := l.isLt; have := d.isLt; omega⟩)) (fun d => hw (ix2 r d)) ⟨l.val % 128, Nat.mod_lt _ (by decide)⟩

theorem headTile_at : headTile (F := Ideal) x w hw (ix2 i l) = tileHead x w hw i l 0 := by
  have hl := l.isLt
  unfold headTile k0_pay3 tileHead
  pointwise []
  by_cases h0 : l.val < 128
  · rw [dif_pos h0]
    refine (head4_at _ _ _ _).trans (headNorm_congr (fun d => congrArg (fun j => k0_pay2 (F := Ideal) x w (ix2 i j)) (Fin.ext (by show 0 + d.val = l.val / 128 * 128 + d.val; omega))) (row0_at hw) (Fin.ext (by show l.val = l.val % 128; omega)))
  rw [dif_neg h0]
  by_cases h1 : l.val - 128 < 128
  · rw [dif_pos h1]
    refine (head5_at _ _ _ _).trans (headNorm_congr (fun d => congrArg (fun j => k0_pay2 (F := Ideal) x w (ix2 i j)) (Fin.ext (by show 128 + d.val = l.val / 128 * 128 + d.val; omega))) (row0_at hw) (Fin.ext (by show l.val - 128 = l.val % 128; omega)))
  rw [dif_neg h1]
  by_cases h2 : l.val - 128 - 128 < 128
  · rw [dif_pos h2]
    refine (head6_at _ _ _ _).trans (headNorm_congr (fun d => congrArg (fun j => k0_pay2 (F := Ideal) x w (ix2 i j)) (Fin.ext (by show 256 + d.val = l.val / 128 * 128 + d.val; omega))) (row0_at hw) (Fin.ext (by show l.val - 128 - 128 = l.val % 128; omega)))
  rw [dif_neg h2]
  by_cases h3 : l.val - 128 - 128 - 128 < 128
  · rw [dif_pos h3]
    refine (head7_at _ _ _ _).trans (headNorm_congr (fun d => congrArg (fun j => k0_pay2 (F := Ideal) x w (ix2 i j)) (Fin.ext (by show 384 + d.val = l.val / 128 * 128 + d.val; omega))) (row0_at hw) (Fin.ext (by show l.val - 128 - 128 - 128 = l.val % 128; omega)))
  rw [dif_neg h3]
  by_cases h4 : l.val - 128 - 128 - 128 - 128 < 128
  · rw [dif_pos h4]
    refine (head8_at _ _ _ _).trans (headNorm_congr (fun d => congrArg (fun j => k0_pay2 (F := Ideal) x w (ix2 i j)) (Fin.ext (by show 512 + d.val = l.val / 128 * 128 + d.val; omega))) (row0_at hw) (Fin.ext (by show l.val - 128 - 128 - 128 - 128 = l.val % 128; omega)))
  rw [dif_neg h4]
  by_cases h5 : l.val - 128 - 128 - 128 - 128 - 128 < 128
  · rw [dif_pos h5]
    refine (head9_at _ _ _ _).trans (headNorm_congr (fun d => congrArg (fun j => k0_pay2 (F := Ideal) x w (ix2 i j)) (Fin.ext (by show 640 + d.val = l.val / 128 * 128 + d.val; omega))) (row0_at hw) (Fin.ext (by show l.val - 128 - 128 - 128 - 128 - 128 = l.val % 128; omega)))
  rw [dif_neg h5]
  by_cases h6 : l.val - 128 - 128 - 128 - 128 - 128 - 128 < 128
  · rw [dif_pos h6]
    exact (show _ = headNorm (fun d => k0_pay2 (F := Ideal) x w (ix2 i ⟨768 + d.val, by omega⟩)) (fun d => hw (ix2 0 d)) ⟨l.val - 128 - 128 - 128 - 128 - 128 - 128, by omega⟩ from rfl).trans (headNorm_congr (fun d => congrArg (fun j => k0_pay2 (F := Ideal) x w (ix2 i j)) (Fin.ext (by show 768 + d.val = l.val / 128 * 128 + d.val; omega))) (fun _ => rfl) (Fin.ext (by show l.val - 128 - 128 - 128 - 128 - 128 - 128 = l.val % 128; omega)))
  rw [dif_neg h6]
  exact (show _ = headNorm (fun d => k0_pay2 (F := Ideal) x w (ix2 i ⟨896 + d.val, by omega⟩)) (fun d => hw (ix2 0 d)) ⟨l.val - 128 - 128 - 128 - 128 - 128 - 128 - 128, by omega⟩ from rfl).trans (headNorm_congr (fun d => congrArg (fun j => k0_pay2 (F := Ideal) x w (ix2 i j)) (Fin.ext (by show 896 + d.val = l.val / 128 * 128 + d.val; omega))) (fun _ => rfl) (Fin.ext (by show l.val - 128 - 128 - 128 - 128 - 128 - 128 - 128 = l.val % 128; omega)))

theorem selTile_at : selTile (F := Ideal) x w hw (ix2 i l)
    = if 512 ≤ l.val ∧ l.val < 768 then tileHead x w hw i l 1 else k0_pay2 (F := Ideal) x w (ix2 i l) := by
  have hl := l.isLt
  unfold selTile k0_pay18 tileHead
  pointwise []
  by_cases h0 : l.val < 128
  · rw [dif_pos h0]
    refine Eq.trans ?_ (if_neg (by omega)).symm
    refine (slice10_at _ _ _).trans (congrArg (fun j => k0_pay2 (F := Ideal) x w (ix2 i j)) (Fin.ext (by show 0 + (l.val) = l.val; omega)))
  rw [dif_neg h0]
  by_cases h1 : l.val - 128 < 128
  · rw [dif_pos h1]
    refine Eq.trans ?_ (if_neg (by omega)).symm
    refine (slice11_at _ _ _).trans (congrArg (fun j => k0_pay2 (F := Ideal) x w (ix2 i j)) (Fin.ext (by show 128 + (l.val - 128) = l.val; omega)))
  rw [dif_neg h1]
  by_cases h2 : l.val - 128 - 128 < 128
  · rw [dif_pos h2]
    refine Eq.trans ?_ (if_neg (by omega)).symm
    refine (slice12_at _ _ _).trans (congrArg (fun j => k0_pay2 (F := Ideal) x w (ix2 i j)) (Fin.ext (by show 256 + (l.val - 128 - 128) = l.val; omega)))
  rw [dif_neg h2]
  by_cases h3 : l.val - 128 - 128 - 128 < 128
  · rw [dif_pos h3]
    refine Eq.trans ?_ (if_neg (by omega)).symm
    refine (slice13_at _ _ _).trans (congrArg (fun j => k0_pay2 (F := Ideal) x w (ix2 i j)) (Fin.ext (by show 384 + (l.val - 128 - 128 - 128) = l.val; omega)))
  rw [dif_neg h3]
  by_cases h4 : l.val - 128 - 128 - 128 - 128 < 128
  · rw [dif_pos h4]
    refine Eq.trans ?_ (if_pos (by omega)).symm
    refine (head14_at _ _ _ _).trans (headNorm_congr (fun d => congrArg (fun j => k0_pay2 (F := Ideal) x w (ix2 i j)) (Fin.ext (by show 512 + d.val = l.val / 128 * 128 + d.val; omega))) (row1_at hw) (Fin.ext (by show l.val - 128 - 128 - 128 - 128 = l.val % 128; omega)))
  rw [dif_neg h4]
  by_cases h5 : l.val - 128 - 128 - 128 - 128 - 128 < 128
  · rw [dif_pos h5]
    refine Eq.trans ?_ (if_pos (by omega)).symm
    refine (head15_at _ _ _ _).trans (headNorm_congr (fun d => congrArg (fun j => k0_pay2 (F := Ideal) x w (ix2 i j)) (Fin.ext (by show 640 + d.val = l.val / 128 * 128 + d.val; omega))) (row1_at hw) (Fin.ext (by show l.val - 128 - 128 - 128 - 128 - 128 = l.val % 128; omega)))
  rw [dif_neg h5]
  by_cases h6 : l.val - 128 - 128 - 128 - 128 - 128 - 128 < 128
  · rw [dif_pos h6]
    refine Eq.trans ?_ (if_neg (by omega)).symm
    refine (slice16_at _ _ _).trans (congrArg (fun j => k0_pay2 (F := Ideal) x w (ix2 i j)) (Fin.ext (by show 768 + (l.val - 128 - 128 - 128 - 128 - 128 - 128) = l.val; omega)))
  rw [dif_neg h6]
  refine Eq.trans ?_ (if_neg (by omega)).symm
  refine (slice17_at _ _ _).trans (congrArg (fun j => k0_pay2 (F := Ideal) x w (ix2 i j)) (Fin.ext (by show 896 + (l.val - 128 - 128 - 128 - 128 - 128 - 128 - 128) = l.val; omega)))

theorem winTile_at : winTile (F := Ideal) x w hw (ix2 i l)
    = if l.val < 256 then tileHead x w hw i l 2 else k0_pay2 (F := Ideal) x w (ix2 i l) := by
  have hl := l.isLt
  unfold winTile k0_pay23 tileHead
  pointwise []
  by_cases h0 : l.val < 128
  · rw [dif_pos h0]
    refine Eq.trans ?_ (if_pos (by omega)).symm
    refine (head19_at _ _ _ _).trans (headNorm_congr (fun d => congrArg (fun j => k0_pay2 (F := Ideal) x w (ix2 i j)) (Fin.ext (by show 0 + d.val = l.val / 128 * 128 + d.val; omega))) (row2_at hw) (Fin.ext (by show l.val = l.val % 128; omega)))
  rw [dif_neg h0]
  by_cases h1 : l.val - 128 < 128
  · rw [dif_pos h1]
    refine Eq.trans ?_ (if_pos (by omega)).symm
    refine (head20_at _ _ _ _).trans (headNorm_congr (fun d => congrArg (fun j => k0_pay2 (F := Ideal) x w (ix2 i j)) (Fin.ext (by show 128 + d.val = l.val / 128 * 128 + d.val; omega))) (row2_at hw) (Fin.ext (by show l.val - 128 = l.val % 128; omega)))
  rw [dif_neg h1]
  by_cases h2 : l.val - 128 - 128 < 128
  · rw [dif_pos h2]
    refine Eq.trans ?_ (if_neg (by omega)).symm
    refine (slice21_at _ _ _).trans (congrArg (fun j => k0_pay2 (F := Ideal) x w (ix2 i j)) (Fin.ext (by show 256 + (l.val - 128 - 128) = l.val; omega)))
  rw [dif_neg h2]
  by_cases h3 : l.val - 128 - 128 - 128 < 128
  · rw [dif_pos h3]
    refine Eq.trans ?_ (if_neg (by omega)).symm
    refine (slice22_at _ _ _).trans (congrArg (fun j => k0_pay2 (F := Ideal) x w (ix2 i j)) (Fin.ext (by show 384 + (l.val - 128 - 128 - 128) = l.val; omega)))
  rw [dif_neg h3]
  by_cases h4 : l.val - 128 - 128 - 128 - 128 < 128
  · rw [dif_pos h4]
    refine Eq.trans ?_ (if_neg (by omega)).symm
    exact congrArg (fun j => k0_pay2 (F := Ideal) x w (ix2 i j)) (Fin.ext (by show 512 + (l.val - 128 - 128 - 128 - 128) = l.val; omega))
  rw [dif_neg h4]
  by_cases h5 : l.val - 128 - 128 - 128 - 128 - 128 < 128
  · rw [dif_pos h5]
    refine Eq.trans ?_ (if_neg (by omega)).symm
    exact congrArg (fun j => k0_pay2 (F := Ideal) x w (ix2 i j)) (Fin.ext (by show 640 + (l.val - 128 - 128 - 128 - 128 - 128) = l.val; omega))
  rw [dif_neg h5]
  by_cases h6 : l.val - 128 - 128 - 128 - 128 - 128 - 128 < 128
  · rw [dif_pos h6]
    refine Eq.trans ?_ (if_neg (by omega)).symm
    exact congrArg (fun j => k0_pay2 (F := Ideal) x w (ix2 i j)) (Fin.ext (by show 768 + (l.val - 128 - 128 - 128 - 128 - 128 - 128) = l.val; omega))
  rw [dif_neg h6]
  refine Eq.trans ?_ (if_neg (by omega)).symm
  exact congrArg (fun j => k0_pay2 (F := Ideal) x w (ix2 i j)) (Fin.ext (by show 896 + (l.val - 128 - 128 - 128 - 128 - 128 - 128 - 128) = l.val; omega))

end Cert.ProjTile

end
-- ==== Proof.ProjFinal.lean ====
/- The input projection, read point by point: point `t` holds 1024 rows and the `t % 12`-th 1024 columns; the results as
   functions of the argument arrays. -/
module

public import proofs.«01_k».proof.Proof.ProjTile

@[expose] public section
set_option maxRecDepth 16384
noncomputable section
open Idealize.ShloMosaic Idealize.ShloMosaic.TcCoe Idealize.SL.Sem
open Idealize.ShloMosaic.Pipeline (Dat)

namespace Cert.ProjTile
open Cert.ProjIdeal Cert.ProjIdeal.Gen Cert.ProjRun Cert.ProjFrame Cert.ProjSpec

/-! ## A tile over any operands: the columns of the result from `1024 * j` on -/

section
variable (xn : FVec Ideal S1024x2048 .bf16) (w : FVec Ideal S2048x1024 .bf16) (hw : FVec Ideal S3x128 .f32) (i : Fin 1024) (j : ℕ)
  (X nw : Fin 2048 → EReal) (W : Fin 2048 → Fin 11816 → EReal) (qw sw ww : Fin 128 → EReal)
  (hx : ∀ k, xn (ix2 i k) = normRow X nw k) (hc : ∀ k l, w (ix2 k l) = colAt W k (src (1024 * j + l.val)))
include hx hc

theorem acc_eq (l : Fin 1024) : k0_pay2 (F := Ideal) xn w (ix2 i l) = rawCol X nw W (1024 * j + l.val) := by
  refine (acc_at xn w i l).trans ?_
  unfold rawCol
  exact Finset.sum_congr rfl fun k _ => by rw [hx k, hc k l]

theorem head_eq (r : Fin 3) (v : Fin 128 → EReal) (hv : ∀ d, hw (ix2 r d) = v d) (l : Fin 1024) (n : ℕ) (hn : n = 1024 * j + l.val) :
    tileHead xn w hw i l r = headNorm (fun d => rawCol X nw W (n / 128 * 128 + d)) v ⟨n % 128, Nat.mod_lt _ (by decide)⟩ := by
  subst hn
  unfold tileHead
  refine headNorm_congr (fun d => (acc_eq xn w i j X nw W hx hc _).trans (congrArg (rawCol X nw W) ?_)) hv (Fin.ext ?_)
  · show 1024 * j + (l.val / 128 * 128 + d.val) = (1024 * j + l.val) / 128 * 128 + d.val
    omega
  · show l.val % 128 = (1024 * j + l.val) % 128
    omega

theorem plain_eq (l : Fin 1024) (h0 : 1 ≤ j) (h1 : j ≤ 9) : k0_pay2 (F := Ideal) xn w (ix2 i l) = projAt X nw W qw sw ww (1024 * j + l.val) := by
  have hl := l.isLt
  refine (acc_eq xn w i j X nw W hx hc l).trans ?_
  unfold projAt colOf
  rw [if_neg (by omega), if_neg (by omega), if_neg (by omega)]

theorem headTile_eq (hq : ∀ d, hw (ix2 0 d) = qw d) (l : Fin 1024) (h0 : j = 0) : headTile (F := Ideal) xn w hw (ix2 i l) = projAt X nw W qw sw ww (1024 * j + l.val) := by
  have hl := l.isLt
  refine (headTile_at xn w hw i l).trans ((head_eq xn w hw i j X nw W hx hc 0 qw hq l _ rfl).trans ?_)
  unfold projAt colOf
  rw [if_pos (by omega)]

theorem selTile_eq (hs : ∀ d, hw (ix2 1 d) = sw d) (l : Fin 1024) (h0 : j = 10) : selTile (F := Ideal) xn w hw (ix2 i l) = projAt X nw W qw sw ww (1024 * j + l.val) := by
  have hl := l.isLt
  refine (selTile_at xn w hw i l).trans ?_
  unfold projAt colOf
  rw [if_neg (by omega : ¬ 1024 * j + l.val < 1024)]
  by_cases h : 512 ≤ l.val ∧ l.val < 768
  · rw [if_pos h, if_pos (by omega)]
    exact head_eq xn w hw i j X nw W hx hc 1 sw hs l _ rfl
  · rw [if_neg h, if_neg (by omega), if_neg (by omega)]
    exact acc_eq xn w i j X nw W hx hc l

theorem winTile_eq (hs : ∀ d, hw (ix2 2 d) = ww d) (l : Fin 1024) (h0 : j = 11) : winTile (F := Ideal) xn w hw (ix2 i l) = projAt X nw W qw sw ww (1024 * j + l.val) := by
  have hl := l.isLt
  refine (winTile_at xn w hw i l).trans ?_
  unfold projAt colOf
  rw [if_neg (by omega : ¬ 1024 * j + l.val < 1024), if_neg (by omega : ¬ (10752 ≤ 1024 * j + l.val ∧ 1024 * j + l.val < 11008))]
  by_cases h : l.val < 256
  · rw [if_pos h, if_pos (by omega)]
    exact head_eq xn w hw i j X nw W hx hc 2 ww hs l _ rfl
  · rw [if_neg h, if_neg (by omega)]
    exact acc_eq xn w i j X nw W hx hc l
end

/-! ## The interleaved rows are rows of the tile -/

section
variable (xn : FVec Ideal S1024x2048 .bf16) (w : FVec Ideal S2048x1024 .bf16) (hw : FVec Ideal S3x128 .f32) (n : Fin 4096) (d : Fin 128)

/-- The row and the column of the tile that row `n`, column `d` of the interleaved rows is at. -/
def tileRow : Fin 1024 := ⟨n.val / 4, by have := n.isLt; omega⟩
def tileCol (o : ℕ) (ho : o ≤ 512) : Fin 1024 := ⟨o + 128 * (n.val % 4) + d.val, by have := d.isLt; omega⟩

theorem cmpRows_at : cmpRows (F := Ideal) xn w (ix2 n d) = selTile (F := Ideal) xn w hw (ix2 (tileRow n) (tileCol n d 0 (by omega))) := by
  have hd := d.isLt
  refine Eq.trans ?_ (selTile_at xn w hw _ _).symm
  unfold cmpRows
  have h4 : n.val % 4 = 0 ∨ n.val % 4 = 1 ∨ n.val % 4 = 2 ∨ n.val % 4 = 3 := by omega
  obtain h | h | h | h := h4
  · refine (weave_0 _ _ _ _ n d h).trans (Eq.trans ?_ (if_neg (by show ¬ (512 ≤ 0 + 128 * (n.val % 4) + d.val ∧ 0 + 128 * (n.val % 4) + d.val < 768); omega)).symm)
    refine (slice10_at _ _ _).trans (congrArg (fun j => k0_pay2 (F := Ideal) xn w (ix2 (tileRow n) j)) (Fin.ext ?_))
    show 0 + d.val = 0 + 128 * (n.val % 4) + d.val
    omega
  · refine (weave_1 _ _ _ _ n d h).trans (Eq.trans ?_ (if_neg (by show ¬ (512 ≤ 0 + 128 * (n.val % 4) + d.val ∧ 0 + 128 * (n.val % 4) + d.val < 768); omega)).symm)
    refine (slice11_at _ _ _).trans (congrArg (fun j => k0_pay2 (F := Ideal) xn w (ix2 (tileRow n) j)) (Fin.ext ?_))
    show 128 + d.val = 0 + 128 * (n.val % 4) + d.val
    omega
  · refine (weave_2 _ _ _ _ n d h).trans (Eq.trans ?_ (if_neg (by show ¬ (512 ≤ 0 + 128 * (n.val % 4) + d.val ∧ 0 + 128 * (n.val % 4) + d.val < 768); omega)).symm)
    refine (slice12_at _ _ _).trans (congrArg (fun j => k0_pay2 (F := Ideal) xn w (ix2 (tileRow n) j)) (Fin.ext ?_))
    show 256 + d.val = 0 + 128 * (n.val % 4) + d.val
    omega
  · refine (weave_3 _ _ _ _ n d h).trans (Eq.trans ?_ (if_neg (by show ¬ (512 ≤ 0 + 128 * (n.val % 4) + d.val ∧ 0 + 128 * (n.val % 4) + d.val < 768); omega)).symm)
    refine (slice13_at _ _ _).trans (congrArg (fun j => k0_pay2 (F := Ideal) xn w (ix2 (tileRow n) j)) (Fin.ext ?_))
    show 384 + d.val = 0 + 128 * (n.val % 4) + d.val
    omega

theorem selRows_at : selRows (F := Ideal) xn w hw (ix2 n d) = selTile (F := Ideal) xn w hw (ix2 (tileRow n) (tileCol n d 512 (by omega))) := by
  have hd := d.isLt
  refine Eq.trans ?_ (selTile_at xn w hw _ _).symm
  unfold selRows
  have h4 : n.val % 4 = 0 ∨ n.val % 4 = 1 ∨ n.val % 4 = 2 ∨ n.val % 4 = 3 := by omega
  obtain h | h | h | h := h4
  · refine (weave_0 _ _ _ _ n d h).trans (Eq.trans ?_ (if_pos (by show 512 ≤ 512 + 128 * (n.val % 4) + d.val ∧ 512 + 128 * (n.val % 4) + d.val < 768; omega)).symm)
    unfold tileHead
    refine (head14_at _ _ _ _).trans (headNorm_congr (fun e => congrArg (fun j => k0_pay2 (F := Ideal) xn w (ix2 (tileRow n) j)) (Fin.ext ?_)) (row1_at hw) (Fin.ext ?_))
    · show 512 + e.val = (512 + 128 * (n.val % 4) + d.val) / 128 * 128 + e.val
      omega
    · show d.val = (512 + 128 * (n.val % 4) + d.val) % 128
      omega
  · refine (weave_1 _ _ _ _ n d h).trans (Eq.trans ?_ (if_pos (by show 512 ≤ 512 + 128 * (n.val % 4) + d.val ∧ 512 + 128 * (n.val % 4) + d.val < 768; omega)).symm)
    unfold tileHead
    refine (head15_at _ _ _ _).trans (headNorm_congr (fun e => congrArg (fun j => k0_pay2 (F := Ideal) xn w (ix2 (tileRow n) j)) (Fin.ext ?_)) (row1_at hw) (Fin.ext ?_))
    · show 640 + e.val = (512 + 128 * (n.val % 4) + d.val) / 128 * 128 + e.val
      omega
    · show d.val = (512 + 128 * (n.val % 4) + d.val) % 128
      omega
  · refine (weave_2 _ _ _ _ n d h).trans (Eq.trans ?_ (if_neg (by show ¬ (512 ≤ 512 + 128 * (n.val % 4) + d.val ∧ 512 + 128 * (n.val % 4) + d.val < 768); omega)).symm)
    refine (slice16_at _ _ _).trans (congrArg (fun j => k0_pay2 (F := Ideal) xn w (ix2 (tileRow n) j)) (Fin.ext ?_))
    show 768 + d.val = 512 + 128 * (n.val % 4) + d.val
    omega
  · refine (weave_3 _ _ _ _ n d h).trans (Eq.trans ?_ (if_neg (by show ¬ (512 ≤ 512 + 128 * (n.val % 4) + d.val ∧ 512 + 128 * (n.val % 4) + d.val < 768); omega)).symm)
    refine (slice17_at _ _ _).trans (congrArg (fun j => k0_pay2 (F := Ideal) xn w (ix2 (tileRow n) j)) (Fin.ext ?_))
    show 896 + d.val = 512 + 128 * (n.val % 4) + d.val
    omega

theorem winRows_at : winRows (F := Ideal) xn w hw (ix2 n d) = winTile (F := Ideal) xn w hw (ix2 (tileRow n) (tileCol n d 0 (by omega))) := by
  have hd := d.isLt
  refine Eq.trans ?_ (winTile_at xn w hw _ _).symm
  unfold winRows
  have h4 : n.val % 4 = 0 ∨ n.val % 4 = 1 ∨ n.val % 4 = 2 ∨ n.val % 4 = 3 := by omega
  obtain h | h | h | h := h4
  · refine (weave_0 _ _ _ _ n d h).trans (Eq.trans ?_ (if_pos (by show 0 + 128 * (n.val % 4) + d.val < 256; omega)).symm)
    unfold tileHead
    refine (head19_at _ _ _ _).trans (headNorm_congr (fun e => congrArg (fun j => k0_pay2 (F := Ideal) xn w (ix2 (tileRow n) j)) (Fin.ext ?_)) (row2_at hw) (Fin.ext ?_))
    · show 0 + e.val = (0 + 128 * (n.val % 4) + d.val) / 128 * 128 + e.val
      omega
    · show d.val = (0 + 128 * (n.val % 4) + d.val) % 128
      omega
  · refine (weave_1 _ _ _ _ n d h).trans (Eq.trans ?_ (if_pos (by show 0 + 128 * (n.val % 4) + d.val < 256; omega)).symm)
    unfold tileHead
    refine (head20_at _ _ _ _).trans (headNorm_congr (fun e => congrArg (fun j => k0_pay2 (F := Ideal) xn w (ix2 (tileRow n) j)) (Fin.ext ?_)) (row2_at hw) (Fin.ext ?_))
    · show 128 + e.val = (0 + 128 * (n.val % 4) + d.val) / 128 * 128 + e.val
      omega
    · show d.val = (0 + 128 * (n.val % 4) + d.val) % 128
      omega
  · refine (weave_2 _ _ _ _ n d h).trans (Eq.trans ?_ (if_neg (by show ¬ (0 + 128 * (n.val % 4) + d.val < 256); omega)).symm)
    refine (slice21_at _ _ _).trans (congrArg (fun j => k0_pay2 (F := Ideal) xn w (ix2 (tileRow n) j)) (Fin.ext ?_))
    show 256 + d.val = 0 + 128 * (n.val % 4) + d.val
    omega
  · refine (weave_3 _ _ _ _ n d h).trans (Eq.trans ?_ (if_neg (by show ¬ (0 + 128 * (n.val % 4) + d.val < 256); omega)).symm)
    refine (slice22_at _ _ _).trans (congrArg (fun j => k0_pay2 (F := Ideal) xn w (ix2 (tileRow n) j)) (Fin.ext ?_))
    show 384 + d.val = 0 + 128 * (n.val % 4) + d.val
    omega

end

/-! ## The blocks of a point -/

variable (m : (ℓ : Loc nD τ sig) → Buf (Elt Ideal) ℓ) (c : Dev nD)

/-- The argument arrays as functions of plain indices. -/
def aX (r : Fin 32768) (k : Fin 2048) : EReal := (show FVec Ideal S16x2048x2048 .f32 from m ((c : Thread nD τ).loc main_arg0)) (ix3 ⟨r.val / 2048, by have := r.isLt; omega⟩ ⟨r.val % 2048, by omega⟩ k)
def aNw (k : Fin 2048) : EReal := (show FVec Ideal S2048 .f32 from m ((c : Thread nD τ).loc main_arg1)) (ix1 k)
def aW (k : Fin 2048) (j : Fin 11816) : EReal := (show FVec Ideal S2048x11816 .f32 from m ((c : Thread nD τ).loc main_arg2)) (ix2 k j)
def aQ (d : Fin 128) : EReal := (show FVec Ideal S128 .f32 from m ((c : Thread nD τ).loc main_arg3)) (ix1 d)
def aS (d : Fin 128) : EReal := (show FVec Ideal S128 .f32 from m ((c : Thread nD τ).loc main_arg4)) (ix1 d)
def aWin (d : Fin 128) : EReal := (show FVec Ideal S128 .f32 from m ((c : Thread nD τ).loc main_arg5)) (ix1 d)

theorem idx : ∀ t : Fin cfg0.N, win0_0.index t = ![t.val / 12, 0] ∧ win0_1.index t = ![0, 0] ∧ win0_2.index t = ![0, t.val % 12]
    ∧ win0_3.index t = ![0, 0] ∧ win0_4.index t = ![t.val / 12, t.val % 12] ∧ win0_5.index t = ![t.val / 12, 0] ∧ win0_6.index t = ![t.val / 12, 0]
    ∧ win0_7.index t = ![t.val / 12, 0] ∧ t.val < 384 :=
  (by decide +kernel : ∀ t : Fin grid0.N, _)

set_option maxHeartbeats 4000000 in
theorem V_weight : V m c main_v14 = truncf .bf16 (permuted (m ((c : Thread nD τ).loc main_arg2))) bitsLt_bf16_f32 := by
  unfold V hostOps0 permuted
  after_results_simp
  dsimp only [Matrix.cons_val]
  rfl

set_option maxHeartbeats 4000000 in
theorem V_heads : V m c main_v18 = stacked (m ((c : Thread nD τ).loc main_arg3)) (m ((c : Thread nD τ).loc main_arg4)) (m ((c : Thread nD τ).loc main_arg5)) := by
  unfold V hostOps0 stacked
  after_results_simp
  dsimp only [Matrix.cons_val]
  rfl

theorem V_rows : V m c main_v19 = shapeCast S32768x2048 (show FVec Ideal S16x2048x2048 .f32 from m ((c : Thread nD τ).loc main_arg0)) shapeCasts_S16x2048x2048_S32768x2048 := by
  unfold V hostOps0
  after_results_simp
  rfl

theorem V_norm : V m c main_v20 = shapeCast S1x2048 (show FVec Ideal S2048 .f32 from m ((c : Thread nD τ).loc main_arg1)) shapeCasts_S2048_S1x2048 := by
  unfold V hostOps0
  after_results_simp
  rfl

variable (t : Fin cfg0.N)

/-- The row of the arrays that row `i` of point `t`'s block is. -/
def row (i : Fin 1024) : Fin 32768 := ⟨1024 * (t.val / 12) + i.val, by have := (idx t).2.2.2.2.2.2.2.2; have := i.isLt; omega⟩

theorem iblk0 (i : Fin 1024) (k : Fin 2048) : (show FVec Ideal S1024x2048 .f32 from iblk m c 0 t) (ix2 i k)
    = (show FVec Ideal S32768x2048 .f32 from V m c main_v19) (ix2 (row t i) k) := by
  unfold iblk row
  generalize V m c = U
  blk_point [iblk, idx t]
theorem iblk1 (k : Fin 2048) : (show FVec Ideal S1x2048 .f32 from iblk m c 1 t) (ix2 0 k)
    = (show FVec Ideal S1x2048 .f32 from V m c main_v20) (ix2 0 k) := by
  unfold iblk
  generalize V m c = U
  blk_point [iblk, idx t]
theorem iblk2 (k : Fin 2048) (l : Fin 1024) : (show FVec Ideal S2048x1024 .bf16 from iblk m c 2 t) (ix2 k l)
    = (show FVec Ideal S2048x12288 .bf16 from V m c main_v14) (ix2 k ⟨1024 * (t.val % 12) + l.val, by have := l.isLt; omega⟩) := by
  unfold iblk
  generalize V m c = U
  blk_point [iblk, idx t]
theorem iblk3 (k : Fin 3) (l : Fin 128) : (show FVec Ideal S3x128 .f32 from iblk m c 3 t) (ix2 k l)
    = (show FVec Ideal S3x128 .f32 from V m c main_v18) (ix2 k l) := by
  unfold iblk
  generalize V m c = U
  blk_point [iblk, idx t]

theorem blk0 (i : Fin 1024) (k : Fin 2048) : (show FVec Ideal S1024x2048 .f32 from iblk m c 0 t) (ix2 i k) = aX m c (row t i) k := by
  refine (iblk0 m c t i k).trans ?_
  rw [V_rows]
  unfold aX
  pointwise []
theorem blk1 (k : Fin 2048) : (show FVec Ideal S1x2048 .f32 from iblk m c 1 t) (ix2 0 k) = aNw m c k := by
  refine (iblk1 m c t k).trans ?_
  rw [V_norm]
  unfold aNw
  pointwise []
theorem blk2 (k : Fin 2048) (l : Fin 1024) : (show FVec Ideal S2048x1024 .bf16 from iblk m c 2 t) (ix2 k l) = colAt (aW m c) k (src (1024 * (t.val % 12) + l.val)) := by
  refine (iblk2 m c t k l).trans ?_
  rw [V_weight]
  exact permuted_at _ k _
theorem blk3_0 (d : Fin 128) : (show FVec Ideal S3x128 .f32 from iblk m c 3 t) (ix2 0 d) = aQ m c d := by
  refine (iblk3 m c t 0 d).trans ?_
  rw [V_heads]
  exact stacked_0 _ _ _ d
theorem blk3_1 (d : Fin 128) : (show FVec Ideal S3x128 .f32 from iblk m c 3 t) (ix2 1 d) = aS m c d := by
  refine (iblk3 m c t 1 d).trans ?_
  rw [V_heads]
  exact stacked_1 _ _ _ d
theorem blk3_2 (d : Fin 128) : (show FVec Ideal S3x128 .f32 from iblk m c 3 t) (ix2 2 d) = aWin m c d := by
  refine (iblk3 m c t 2 d).trans ?_
  rw [V_heads]
  exact stacked_2 _ _ _ d

theorem rows_eq (i : Fin 1024) (k : Fin 2048) : rowsAt m c t (ix2 i k) = normRow (aX m c (row t i)) (aNw m c) k := by
  unfold rowsAt
  refine (rows_at _ _ i k).trans ?_
  have e : ∀ k, (show FVec Ideal S1024x2048 .f32 from iblk m c 0 (tileAt t 0)) (ix2 i k) = aX m c (row t i) k := fun k =>
    (blk0 m c (tileAt t 0) i k).trans (congrArg (fun r => aX m c r k) (Fin.ext (by
      show 1024 * ((12 * (t.val / 12) + 0) / 12) + i.val = 1024 * (t.val / 12) + i.val; omega)))
  exact congrArg₂ (fun f g => normRow f g k) (funext e) (funext (blk1 m c (tileAt t 0)))

/-- The first result's row `r`, column `n`, over the argument arrays. -/
def G (r : Fin 32768) (n : ℕ) : EReal := projAt (aX m c r) (aNw m c) (aW m c) (aQ m c) (aS m c) (aWin m c) n

theorem out_eq (i l : Fin 1024) : outAt m c t (ix2 i l) = G m c (row t i) (1024 * (t.val % 12) + l.val) := by
  have ht := (idx t).2.2.2.2.2.2.2.2
  unfold outAt G
  by_cases h0 : t.val % 12 = 0
  · rw [if_pos h0]
    exact headTile_eq _ _ _ i _ _ _ _ _ _ _ (rows_eq m c t i) (blk2 m c t) (blk3_0 m c t) l h0
  rw [if_neg h0]
  by_cases h1 : t.val % 12 = 10
  · rw [if_pos h1]
    exact selTile_eq _ _ _ i _ _ _ _ _ _ _ (rows_eq m c t i) (blk2 m c t) (blk3_1 m c t) l h1
  rw [if_neg h1]
  by_cases h2 : t.val % 12 = 11
  · rw [if_pos h2]
    exact winTile_eq _ _ _ i _ _ _ _ _ _ _ (rows_eq m c t i) (blk2 m c t) (blk3_2 m c t) l h2
  rw [if_neg h2]
  exact plain_eq _ _ i _ _ _ _ _ _ _ (rows_eq m c t i) (blk2 m c t) l (by omega) (by omega)

theorem sel_eq (i l : Fin 1024) : selTile (F := Ideal) (rowsAt m c t) (iblk m c 2 (tileAt t 10)) (iblk m c 3 (tileAt t 10)) (ix2 i l)
    = G m c (row t i) (10240 + l.val) := by
  have e : (tileAt t 10).val % 12 = 10 := by show (12 * (t.val / 12) + 10) % 12 = 10; omega
  unfold G
  refine selTile_eq _ _ _ i 10 _ _ _ _ _ _ (rows_eq m c t i) (fun k l => (blk2 m c (tileAt t 10) k l).trans ?_) (blk3_1 m c _) l rfl
  rw [e]

theorem win_eq (i l : Fin 1024) : winTile (F := Ideal) (rowsAt m c t) (iblk m c 2 (tileAt t 11)) (iblk m c 3 (tileAt t 11)) (ix2 i l)
    = G m c (row t i) (11264 + l.val) := by
  have e : (tileAt t 11).val % 12 = 11 := by show (12 * (t.val / 12) + 11) % 12 = 11; omega
  unfold G
  refine winTile_eq _ _ _ i 11 _ _ _ _ _ _ (rows_eq m c t i) (fun k l => (blk2 m c (tileAt t 11) k l).trans ?_) (blk3_2 m c _) l rfl
  rw [e]

/-! ## The four results -/

/-- The columns. -/
def G4 (y : S32768x12288.Idx) : EReal := G m c (y 0) (y 1).val
/-- The rows of the keys and values whose columns start at `o`. -/
def GR (o : ℕ) (y : S131072x128.Idx) : EReal :=
  G m c ⟨(y 0).val / 4, by have : (y 0).val < 131072 := (y 0).isLt; omega⟩ (o + 128 * ((y 0).val % 4) + (y 1).val)

/-- The row of the interleaved arrays that row `n` of point `t`'s block is. -/
def rowR (n : Fin 4096) : Fin 131072 := ⟨4096 * (t.val / 12) + n.val, by have := (idx t).2.2.2.2.2.2.2.2; have := n.isLt; omega⟩

theorem GR_row (o : ℕ) (n : Fin 4096) (d : Fin 128) : G m c (row t (tileRow n)) (o + 128 * (n.val % 4) + d.val) = GR m c o (ix2 (rowR t n) d) := by
  have e1 : row t (tileRow n) = ⟨(rowR t n).val / 4, by have := (rowR t n).isLt; omega⟩ := Fin.ext (by
    show 1024 * (t.val / 12) + n.val / 4 = (4096 * (t.val / 12) + n.val) / 4; omega)
  have e2 : n.val % 4 = (rowR t n).val % 4 := by show n.val % 4 = (4096 * (t.val / 12) + n.val) % 4; omega
  rw [e1, e2]
  rfl

theorem cmp_blk (n : Fin 4096) (d : Fin 128) : cmpAt m c t (ix2 n d) = GR m c 10240 (ix2 (rowR t n) d) := by
  unfold cmpAt
  refine (cmpRows_at _ _ (iblk m c 3 (tileAt t 10)) n d).trans ((sel_eq m c t _ _).trans (Eq.trans ?_ (GR_row m c t 10240 n d)))
  exact congrArg (G m c _) (by show 10240 + (0 + 128 * (n.val % 4) + d.val) = 10240 + 128 * (n.val % 4) + d.val; omega)
theorem sel_blk (n : Fin 4096) (d : Fin 128) : selAt m c t (ix2 n d) = GR m c 10752 (ix2 (rowR t n) d) := by
  unfold selAt
  refine (selRows_at _ _ _ n d).trans ((sel_eq m c t _ _).trans (Eq.trans ?_ (GR_row m c t 10752 n d)))
  exact congrArg (G m c _) (by show 10240 + (512 + 128 * (n.val % 4) + d.val) = 10752 + 128 * (n.val % 4) + d.val; omega)
theorem win_blk (n : Fin 4096) (d : Fin 128) : winAt m c t (ix2 n d) = GR m c 11264 (ix2 (rowR t n) d) := by
  unfold winAt
  refine (winRows_at _ _ _ n d).trans ((win_eq m c t _ _).trans (Eq.trans ?_ (GR_row m c t 11264 n d)))
  exact congrArg (G m c _) (by show 11264 + (0 + 128 * (n.val % 4) + d.val) = 11264 + 128 * (n.val % 4) + d.val; omega)

theorem out_blk (i l : Fin 1024) : outAt m c t (ix2 i l) = G4 m c (ix2 (row t i) ⟨1024 * (t.val % 12) + l.val, by have := l.isLt; omega⟩) :=
  out_eq m c t i l

theorem final4 : (dats m 0 c).arrAt 4 (cfgs 0).N = G4 m c := by
  refine (dats m 0 c).arrAt_eq_of_covers 4 _ (by decide +kernel) fun t _ y => ?_
  blk_simp
  rw [after0_4]
  obtain ⟨i, l, rfl⟩ : ∃ (i : Fin 1024) (l : Fin 1024), y = ix2 i l := ⟨y 0, y 1, eq_ix2 y⟩
  refine (out_blk m c t i l).trans (congrArg _ ?_)
  unfold row
  blk_ext [idx t]

theorem final5 : (dats m 0 c).arrAt 5 (cfgs 0).N = GR m c 10240 := by
  refine (dats m 0 c).arrAt_eq_of_covers 5 _ (by decide +kernel) fun t _ y => ?_
  blk_simp
  rw [after0_5]
  obtain ⟨n, d, rfl⟩ : ∃ (n : Fin 4096) (d : Fin 128), y = ix2 n d := ⟨y 0, y 1, eq_ix2 y⟩
  refine (cmp_blk m c t n d).trans (congrArg _ ?_)
  unfold rowR
  blk_ext [idx t]

theorem final6 : (dats m 0 c).arrAt 6 (cfgs 0).N = GR m c 10752 := by
  refine (dats m 0 c).arrAt_eq_of_covers 6 _ (by decide +kernel) fun t _ y => ?_
  blk_simp
  rw [after0_6]
  obtain ⟨n, d, rfl⟩ : ∃ (n : Fin 4096) (d : Fin 128), y = ix2 n d := ⟨y 0, y 1, eq_ix2 y⟩
  refine (sel_blk m c t n d).trans (congrArg _ ?_)
  unfold rowR
  blk_ext [idx t]

theorem final7 : (dats m 0 c).arrAt 7 (cfgs 0).N = GR m c 11264 := by
  refine (dats m 0 c).arrAt_eq_of_covers 7 _ (by decide +kernel) fun t _ y => ?_
  blk_simp
  rw [after0_7]
  obtain ⟨n, d, rfl⟩ : ∃ (n : Fin 4096) (d : Fin 128), y = ix2 n d := ⟨y 0, y 1, eq_ix2 y⟩
  refine (win_blk m c t n d).trans (congrArg _ ?_)
  unfold rowR
  blk_ext [idx t]

end Cert.ProjTile

end
-- ==== Proof.ProjBits.lean ====
/- The projection at machine floats: its body table is the ideal one's, so one run serves both. -/
module

public import proofs.«01_k».proof.Defs
public import proofs.«01_k».proof.Proof.ProjFrame
public import proofs.«01_k».proof.Proof.Gen.Proj

@[expose] public section
set_option maxRecDepth 16384
noncomputable section
open Idealize.ShloMosaic Idealize.ShloMosaic.TcCoe Idealize.SL.Sem

namespace Cert.ProjBits

theorem body_eq (a : Cert.Proj.Λ₀.Args 0) : Cert.Proj.defs₀ (F := Bits) .tc 0 a = Cert.ProjIdeal.defs₀ (F := Bits) .tc 0 a := by
  obtain ⟨t, s⟩ := a
  rfl

theorem bodies_eq : Cert.Proj.defs₀ (F := Bits) = Cert.ProjIdeal.defs₀ (F := Bits) := by
  funext k l a
  cases k with
  | tc =>
    match l, a with
    | 0, a => exact body_eq a
  | scScalar _ => rfl
  | scVector _ _ => rfl

theorem defs_eq : Cert.Proj.defs (F := Bits) = Cert.ProjIdeal.defs (F := Bits) :=
  congrArg (Pipeline.defs Cert.ProjIdeal.pcfgs) bodies_eq

theorem frame : Cert.quiescent_Proj := fun m ρ _ => by
  rw [defs_eq]
  exact Cert.ProjFrame.frame_all (F := Bits) m ρ

end Cert.ProjBits

end
-- ==== Proof.ProjRef.lean ====
/- The projection's reference, read at an index. -/
module

public import proofs.«01_k».proof.Proof.Gen.ProjReferenceIdeal.Run
public import proofs.«01_k».proof.Proof.ProjTile
public import Idealize.ShloMosaic.Lib.Pointwise

@[expose] public section
set_option maxRecDepth 16384
noncomputable section
open Idealize.ShloMosaic Idealize.ShloMosaic.TcCoe Idealize.SL.Sem

namespace Cert.ProjRef
open Cert.ProjReferenceIdeal Cert.ProjReferenceIdeal.Gen Cert.ProjSpec

/-! ## The reference's parts -/

/-- The normed rows times the weight. -/
def raw (x0 : FVec Ideal S16x2048x2048 .f32) (x1 : FVec Ideal S2048 .f32) (x2 : FVec Ideal S2048x11816 .f32) : FVec Ideal S32768x11816 .f32 :=
  (Host.dotGeneral dot_S32768x2048_S2048x11816_S32768x11816_1_0_0_1_n_n none (mulf (mulf (shapeCast _ x0 shapeCasts_S16x2048x2048_S32768x2048) (broadcastInDim S32768x2048 ![0, 1] bcast_S32768x1_S32768x2048_0_1 (Host.rsqrt (addf (Host.divf (broadcastInDim S32768x1 ![0] bcast_S32768_S32768x1_0 (Host.reduceAdd (mulf (shapeCast _ x0 shapeCasts_S16x2048x2048_S32768x2048) (shapeCast _ x0 shapeCasts_S16x2048x2048_S32768x2048)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 x1))) x2)

/-- The queries, every head normed. -/
def qNormed (Q : FVec Ideal S32768x1024 .f32) (w : FVec Ideal S128 .f32) : FVec Ideal S32768x1024 .f32 :=
  (shapeCast _ (mulf (mulf (shapeCast _ Q shapeCasts_S32768x1024_S32768x8x128) (broadcastInDim S32768x8x128 ![0, 1, 2] bcast_S32768x8x1_S32768x8x128_0_1_2 (Host.rsqrt (addf (Host.divf (broadcastInDim S32768x8x1 ![0, 1] bcast_S32768x8_S32768x8x1_0_1 (Host.reduceAdd (mulf (shapeCast _ Q shapeCasts_S32768x1024_S32768x8x128) (shapeCast _ Q shapeCasts_S32768x1024_S32768x8x128)) (constant S_ .f32 0x00000000#32) reducesTo_S32768x8x128_S32768x8_d2 h_S_)) (broadcastInDim S32768x8x1 ![] bcast_S_S32768x8x1 (constant S_ .f32 0x43000000#32))) (broadcastInDim S32768x8x1 ![] bcast_S_S32768x8x1 (constant S_ .f32 0x358637BD#32)))))) (broadcastInDim S32768x8x128 ![0, 1, 2] bcast_S1x1x128_S32768x8x128_0_1_2 (broadcastInDim S1x1x128 ![2] bcast_S128_S1x1x128_2 w))) shapeCasts_S32768x8x128_S32768x1024)

/-- Keys and values, the first two heads normed. -/
def kvNormed (K : FVec Ideal S32768x512 .f32) (w : FVec Ideal S128 .f32) : FVec Ideal S32768x512 .f32 :=
  (shapeCast _ (concatenate S32768x4x128 1 [⟨S32768x2x128, (mulf (mulf (extractStridedSlice S32768x2x128 ![0, 0, 0] (shapeCast _ K shapeCasts_S32768x512_S32768x4x128) slices_S32768x4x128_S32768x2x128_0_0_0) (broadcastInDim S32768x2x128 ![0, 1, 2] bcast_S32768x2x1_S32768x2x128_0_1_2 (Host.rsqrt (addf (Host.divf (broadcastInDim S32768x2x1 ![0, 1] bcast_S32768x2_S32768x2x1_0_1 (Host.reduceAdd (mulf (extractStridedSlice S32768x2x128 ![0, 0, 0] (shapeCast _ K shapeCasts_S32768x512_S32768x4x128) slices_S32768x4x128_S32768x2x128_0_0_0) (extractStridedSlice S32768x2x128 ![0, 0, 0] (shapeCast _ K shapeCasts_S32768x512_S32768x4x128) slices_S32768x4x128_S32768x2x128_0_0_0)) (constant S_ .f32 0x00000000#32) reducesTo_S32768x2x128_S32768x2_d2 h_S_)) (broadcastInDim S32768x2x1 ![] bcast_S_S32768x2x1 (constant S_ .f32 0x43000000#32))) (broadcastInDim S32768x2x1 ![] bcast_S_S32768x2x1 (constant S_ .f32 0x358637BD#32)))))) (broadcastInDim S32768x2x128 ![0, 1, 2] bcast_S1x1x128_S32768x2x128_0_1_2 (broadcastInDim S1x1x128 ![2] bcast_S128_S1x1x128_2 w)))⟩, ⟨S32768x2x128, (extractStridedSlice S32768x2x128 ![0, 2, 0] (shapeCast _ K shapeCasts_S32768x512_S32768x4x128) slices_S32768x4x128_S32768x2x128_0_2_0)⟩] concatenates_S32768x2x128_S32768x2x128_S32768x4x128_d1) shapeCasts_S32768x4x128_S32768x512)

/-- The columns, over the product. -/
def columns (H : FVec Ideal S32768x11816 .f32) (x3 x4 x5 : FVec Ideal S128 .f32) : FVec Ideal S32768x12288 .f32 :=
  (concatenate S32768x12288 1 [⟨S32768x1024, ((qNormed (extractStridedSlice S32768x1024 ![0, 0] H slices_S32768x11816_S32768x1024_0_0) x3))⟩, ⟨S32768x1024, ((extractStridedSlice S32768x1024 ![0, 2584] H slices_S32768x11816_S32768x1024_0_2584))⟩, ⟨S32768x1024, ((extractStridedSlice S32768x1024 ![0, 6696] H slices_S32768x11816_S32768x1024_0_6696))⟩, ⟨S32768x3072, ((extractStridedSlice S32768x3072 ![0, 3608] H slices_S32768x11816_S32768x3072_0_3608))⟩, ⟨S32768x2048, ((extractStridedSlice S32768x2048 ![0, 7720] H slices_S32768x11816_S32768x2048_0_7720))⟩, ⟨S32768x2048, ((extractStridedSlice S32768x2048 ![0, 9768] H slices_S32768x11816_S32768x2048_0_9768))⟩, ⟨S32768x512, ((extractStridedSlice S32768x512 ![0, 1024] H slices_S32768x11816_S32768x512_0_1024))⟩, ⟨S32768x512, ((kvNormed (extractStridedSlice S32768x512 ![0, 1536] H slices_S32768x11816_S32768x512_0_1536) x4))⟩, ⟨S32768x512, ((kvNormed (extractStridedSlice S32768x512 ![0, 2048] H slices_S32768x11816_S32768x512_0_2048) x5))⟩, ⟨S32768x24, ((extractStridedSlice S32768x24 ![0, 2560] H slices_S32768x11816_S32768x24_0_2560))⟩, ⟨S32768x8, ((extractStridedSlice S32768x8 ![0, 6680] H slices_S32768x11816_S32768x8_0_6680))⟩, ⟨S32768x8, ((extractStridedSlice S32768x8 ![0, 6688] H slices_S32768x11816_S32768x8_0_6688))⟩, ⟨S32768x472, ((broadcastInDim S32768x472 ![] bcast_S_S32768x472 (constant S_ .f32 0x00000000#32)))⟩] concatenates_S32768x1024_S32768x1024_S32768x1024_S32768x3072_S32768x2048_S32768x2048_S32768x512_S32768x512_S32768x512_S32768x24_S32768x8_S32768x8_S32768x472_S32768x12288_d1)

/-- The compressed, -/
def cmpKv (H : FVec Ideal S32768x11816 .f32) : FVec Ideal S131072x128 .f32 :=
  shapeCast _ (extractStridedSlice S32768x512 ![0, 1024] H slices_S32768x11816_S32768x512_0_1024) shapeCasts_S32768x512_S131072x128
/-- the selected -/
def selKv (H : FVec Ideal S32768x11816 .f32) (w : FVec Ideal S128 .f32) : FVec Ideal S131072x128 .f32 :=
  shapeCast _ (kvNormed (extractStridedSlice S32768x512 ![0, 1536] H slices_S32768x11816_S32768x512_0_1536) w) shapeCasts_S32768x512_S131072x128
/-- and the window's keys and values, one head per row. -/
def winKv (H : FVec Ideal S32768x11816 .f32) (w : FVec Ideal S128 .f32) : FVec Ideal S131072x128 .f32 :=
  shapeCast _ (kvNormed (extractStridedSlice S32768x512 ![0, 2048] H slices_S32768x11816_S32768x512_0_2048) w) shapeCasts_S32768x512_S131072x128

theorem res79 (m : (ℓ : Loc nD τ sig) → Buf (Elt Ideal) ℓ) (c : Dev nD) : Value.res_main_v79 m c
    = columns (raw (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5)) := rfl
theorem res81 (m : (ℓ : Loc nD τ sig) → Buf (Elt Ideal) ℓ) (c : Dev nD) : Value.res_main_v81 m c
    = selKv (raw (m ((c.tc : Thread nD τ).loc main_arg0)) (m ((c.tc : Thread nD τ).loc main_arg1)) (m ((c.tc : Thread nD τ).loc main_arg2)))
        (m ((c.tc : Thread nD τ).loc main_arg4)) := rfl
theorem res82 (m : (ℓ : Loc nD τ sig) → Buf (Elt Ideal) ℓ) (c : Dev nD) : Value.res_main_v82 m c
    = winKv (raw (m ((c.tc : Thread nD τ).loc main_arg0)) (m ((c.tc : Thread nD τ).loc main_arg1)) (m ((c.tc : Thread nD τ).loc main_arg2)))
        (m ((c.tc : Thread nD τ).loc main_arg5)) := rfl

/-! ## The parts at an index -/

theorem raw_at (x0 : FVec Ideal S16x2048x2048 .f32) (x1 : FVec Ideal S2048 .f32) (x2 : FVec Ideal S2048x11816 .f32) (r : Fin 32768) (j : Fin 11816) :
    raw x0 x1 x2 (ix2 r j) = ∑ k, normRow (fun k => x0 (ix3 ⟨r.val / 2048, by have := r.isLt; omega⟩ ⟨r.val % 2048, by omega⟩ k)) (fun k => x1 (ix1 k)) k * x2 (ix2 k j) := by
  unfold raw normRow
  pointwise []

theorem qNormed_at (Q : FVec Ideal S32768x1024 .f32) (w : FVec Ideal S128 .f32) (r : Fin 32768) (l : Fin 1024) :
    qNormed Q w (ix2 r l) = headNorm (fun d => Q (ix2 r ⟨l.val / 128 * 128 + d.val, by have := l.isLt; have := d.isLt; omega⟩)) (fun d => w (ix1 d)) ⟨l.val % 128, Nat.mod_lt _ (by decide)⟩ := by
  unfold qNormed headNorm
  pointwise []
  exact congrArg₂ (· * ·) (congrArg₂ (· * ·) (congrArg (fun j => Q (ix2 r j)) (Fin.ext (by show l.val = l.val / 128 * 128 + l.val % 128; omega))) rfl) rfl

theorem kvNormed_at (K : FVec Ideal S32768x512 .f32) (w : FVec Ideal S128 .f32) (r : Fin 32768) (l : Fin 512) :
    kvNormed K w (ix2 r l) = if l.val < 256 then headNorm (fun d => K (ix2 r ⟨l.val / 128 * 128 + d.val, by have := l.isLt; have := d.isLt; omega⟩)) (fun d => w (ix1 d)) ⟨l.val % 128, Nat.mod_lt _ (by decide)⟩
      else K (ix2 r l) := by
  unfold kvNormed headNorm
  pointwise []
  by_cases h : l.val / 128 < 2
  · rw [dif_pos h]
    refine Eq.trans ?_ (if_pos (by omega)).symm
    exact congrArg₂ (· * ·) (congrArg₂ (· * ·) (congrArg (fun j => K (ix2 r j)) (Fin.ext (by show l.val = l.val / 128 * 128 + l.val % 128; omega))) rfl) rfl
  · rw [dif_neg h]
    refine Eq.trans ?_ (if_neg (by omega)).symm
    exact congrArg (fun j => K (ix2 r j)) (Fin.ext (by show (2 + (l.val / 128 - 2)) * 128 + l.val % 128 = l.val; omega))

theorem sliceQ_at (H : FVec Ideal S32768x11816 .f32) (r : Fin 32768) (l : Fin 1024) :
    extractStridedSlice S32768x1024 ![0, 0] H slices_S32768x11816_S32768x1024_0_0 (ix2 r l) = H (ix2 r ⟨l.val, by have := l.isLt; omega⟩) := by
  pointwise [] <;> simp only [Nat.zero_add]
theorem sliceS_at (H : FVec Ideal S32768x11816 .f32) (r : Fin 32768) (l : Fin 512) :
    extractStridedSlice S32768x512 ![0, 1536] H slices_S32768x11816_S32768x512_0_1536 (ix2 r l) = H (ix2 r ⟨1536 + l.val, by have := l.isLt; omega⟩) := by
  pointwise []
theorem sliceW_at (H : FVec Ideal S32768x11816 .f32) (r : Fin 32768) (l : Fin 512) :
    extractStridedSlice S32768x512 ![0, 2048] H slices_S32768x11816_S32768x512_0_2048 (ix2 r l) = H (ix2 r ⟨2048 + l.val, by have := l.isLt; omega⟩) := by
  pointwise []

theorem plain_eq (X nw : Fin 2048 → EReal) (W : Fin 2048 → Fin 11816 → EReal) (qw sw ww : Fin 128 → EReal) (n : ℕ) (h0 : 1024 ≤ n) (h1 : ¬ (10752 ≤ n ∧ n < 11008)) (h2 : ¬ (11264 ≤ n ∧ n < 11520)) :
    projAt X nw W qw sw ww n = rawCol X nw W n := by
  unfold projAt colOf
  rw [if_neg (by omega), if_neg h1, if_neg h2]

/-! ## The results over any product whose row `r` is the normed row times the weight -/

section
variable (H : FVec Ideal S32768x11816 .f32) (x3 x4 x5 : FVec Ideal S128 .f32) (r : Fin 32768) (X nw : Fin 2048 → EReal) (W : Fin 2048 → Fin 11816 → EReal)
  (hH : ∀ j, H (ix2 r j) = ∑ k, normRow X nw k * W k j)
include hH

theorem col_eq (n j : ℕ) (hj : src n = j) (h : j < 11816) : H (ix2 r ⟨j, h⟩) = rawCol X nw W n := by
  refine (hH _).trans ?_
  unfold rawCol
  rw [hj]
  exact Finset.sum_congr rfl fun k _ => by rw [colAt_lt W k j h]

theorem q_eq (l : Fin 1024) (n : ℕ) (hn : n = l.val) : qNormed (extractStridedSlice S32768x1024 ![0, 0] H slices_S32768x11816_S32768x1024_0_0) x3 (ix2 r l)
    = projAt X nw W (fun d => x3 (ix1 d)) (fun d => x4 (ix1 d)) (fun d => x5 (ix1 d)) n := by
  subst hn
  have hl := l.isLt
  refine (qNormed_at _ _ r l).trans ?_
  unfold projAt colOf
  rw [if_pos hl]
  refine headNorm_congr (fun d => (sliceQ_at H r _).trans (col_eq H r X nw W hH _ _ ?_ _)) (fun _ => rfl) rfl
  have hd := d.isLt
  exact (src_0 _ (by omega) (by omega)).trans (by show l.val / 128 * 128 + d.val - 0 + 0 = l.val / 128 * 128 + d.val; omega)

theorem sel_eq (l : Fin 512) (n : ℕ) (hn : n = 10752 + l.val) : kvNormed (extractStridedSlice S32768x512 ![0, 1536] H slices_S32768x11816_S32768x512_0_1536) x4 (ix2 r l)
    = projAt X nw W (fun d => x3 (ix1 d)) (fun d => x4 (ix1 d)) (fun d => x5 (ix1 d)) n := by
  subst hn
  have hl := l.isLt
  refine (kvNormed_at _ _ r l).trans ?_
  unfold projAt colOf
  rw [if_neg (by omega : ¬ 10752 + l.val < 1024)]
  by_cases h : l.val < 256
  · rw [if_pos h, if_pos (by omega)]
    refine headNorm_congr (fun d => (sliceS_at H r _).trans (col_eq H r X nw W hH _ _ ?_ _)) (fun _ => rfl) (Fin.ext (by show l.val % 128 = (10752 + l.val) % 128; omega))
    have hd := d.isLt
    exact (src_7 _ (by omega) (by omega)).trans (by show (10752 + l.val) / 128 * 128 + d.val - 10752 + 1536 = 1536 + (l.val / 128 * 128 + d.val); omega)
  · rw [if_neg h, if_neg (by omega), if_neg (by omega)]
    refine (sliceS_at H r _).trans (col_eq H r X nw W hH _ _ ?_ _)
    exact (src_7 _ (by omega) (by omega)).trans (by show 10752 + l.val - 10752 + 1536 = 1536 + l.val; omega)

theorem win_eq (l : Fin 512) (n : ℕ) (hn : n = 11264 + l.val) : kvNormed (extractStridedSlice S32768x512 ![0, 2048] H slices_S32768x11816_S32768x512_0_2048) x5 (ix2 r l)
    = projAt X nw W (fun d => x3 (ix1 d)) (fun d => x4 (ix1 d)) (fun d => x5 (ix1 d)) n := by
  subst hn
  have hl := l.isLt
  refine (kvNormed_at _ _ r l).trans ?_
  unfold projAt colOf
  rw [if_neg (by omega : ¬ 11264 + l.val < 1024), if_neg (by omega : ¬ (10752 ≤ 11264 + l.val ∧ 11264 + l.val < 11008))]
  by_cases h : l.val < 256
  · rw [if_pos h, if_pos (by omega)]
    refine headNorm_congr (fun d => (sliceW_at H r _).trans (col_eq H r X nw W hH _ _ ?_ _)) (fun _ => rfl) (Fin.ext (by show l.val % 128 = (11264 + l.val) % 128; omega))
    have hd := d.isLt
    exact (src_8 _ (by omega) (by omega)).trans (by show (11264 + l.val) / 128 * 128 + d.val - 11264 + 2048 = 2048 + (l.val / 128 * 128 + d.val); omega)
  · rw [if_neg h, if_neg (by omega)]
    refine (sliceW_at H r _).trans (col_eq H r X nw W hH _ _ ?_ _)
    exact (src_8 _ (by omega) (by omega)).trans (by show 11264 + l.val - 11264 + 2048 = 2048 + l.val; omega)

theorem columns_at (l : Fin 12288) : columns H x3 x4 x5 (ix2 r l)
    = projAt X nw W (fun d => x3 (ix1 d)) (fun d => x4 (ix1 d)) (fun d => x5 (ix1 d)) l.val := by
  have hl := l.isLt
  unfold columns
  pointwise []
  by_cases h0 : l.val < 1024
  · rw [dif_pos h0]
    exact q_eq H x3 x4 x5 r X nw W hH _ _ rfl
  rw [dif_neg h0]
  by_cases h1 : l.val - 1024 < 1024
  · rw [dif_pos h1]
    refine Eq.trans ?_ (plain_eq X nw W _ _ _ l.val (by omega) (by omega) (by omega)).symm
    exact col_eq H r X nw W hH _ _ ((src_1 _ (by omega) (by omega)).trans (by show l.val - 1024 + 2584 = 2584 + (l.val - 1024); omega)) _
  rw [dif_neg h1]
  by_cases h2 : l.val - 1024 - 1024 < 1024
  · rw [dif_pos h2]
    refine Eq.trans ?_ (plain_eq X nw W _ _ _ l.val (by omega) (by omega) (by omega)).symm
    exact col_eq H r X nw W hH _ _ ((src_2 _ (by omega) (by omega)).trans (by show l.val - 2048 + 6696 = 6696 + (l.val - 1024 - 1024); omega)) _
  rw [dif_neg h2]
  by_cases h3 : l.val - 1024 - 1024 - 1024 < 3072
  · rw [dif_pos h3]
    refine Eq.trans ?_ (plain_eq X nw W _ _ _ l.val (by omega) (by omega) (by omega)).symm
    exact col_eq H r X nw W hH _ _ ((src_3 _ (by omega) (by omega)).trans (by show l.val - 3072 + 3608 = 3608 + (l.val - 1024 - 1024 - 1024); omega)) _
  rw [dif_neg h3]
  by_cases h4 : l.val - 1024 - 1024 - 1024 - 3072 < 2048
  · rw [dif_pos h4]
    refine Eq.trans ?_ (plain_eq X nw W _ _ _ l.val (by omega) (by omega) (by omega)).symm
    exact col_eq H r X nw W hH _ _ ((src_4 _ (by omega) (by omega)).trans (by show l.val - 6144 + 7720 = 7720 + (l.val - 1024 - 1024 - 1024 - 3072); omega)) _
  rw [dif_neg h4]
  by_cases h5 : l.val - 1024 - 1024 - 1024 - 3072 - 2048 < 2048
  · rw [dif_pos h5]
    refine Eq.trans ?_ (plain_eq X nw W _ _ _ l.val (by omega) (by omega) (by omega)).symm
    exact col_eq H r X nw W hH _ _ ((src_5 _ (by omega) (by omega)).trans (by show l.val - 8192 + 9768 = 9768 + (l.val - 1024 - 1024 - 1024 - 3072 - 2048); omega)) _
  rw [dif_neg h5]
  by_cases h6 : l.val - 1024 - 1024 - 1024 - 3072 - 2048 - 2048 < 512
  · rw [dif_pos h6]
    refine Eq.trans ?_ (plain_eq X nw W _ _ _ l.val (by omega) (by omega) (by omega)).symm
    exact col_eq H r X nw W hH _ _ ((src_6 _ (by omega) (by omega)).trans (by show l.val - 10240 + 1024 = 1024 + (l.val - 1024 - 1024 - 1024 - 3072 - 2048 - 2048); omega)) _
  rw [dif_neg h6]
  by_cases h7 : l.val - 1024 - 1024 - 1024 - 3072 - 2048 - 2048 - 512 < 512
  · rw [dif_pos h7]
    exact sel_eq H x3 x4 x5 r X nw W hH _ _ (by show l.val = 10752 + (l.val - 1024 - 1024 - 1024 - 3072 - 2048 - 2048 - 512); omega)
  rw [dif_neg h7]
  by_cases h8 : l.val - 1024 - 1024 - 1024 - 3072 - 2048 - 2048 - 512 - 512 < 512
  · rw [dif_pos h8]
    exact win_eq H x3 x4 x5 r X nw W hH _ _ (by show l.val = 11264 + (l.val - 1024 - 1024 - 1024 - 3072 - 2048 - 2048 - 512 - 512); omega)
  rw [dif_neg h8]
  by_cases h9 : l.val - 1024 - 1024 - 1024 - 3072 - 2048 - 2048 - 512 - 512 - 512 < 24
  · rw [dif_pos h9]
    refine Eq.trans ?_ (plain_eq X nw W _ _ _ l.val (by omega) (by omega) (by omega)).symm
    exact col_eq H r X nw W hH _ _ ((src_9 _ (by omega) (by omega)).trans (by show l.val - 11776 + 2560 = 2560 + (l.val - 1024 - 1024 - 1024 - 3072 - 2048 - 2048 - 512 - 512 - 512); omega)) _
  rw [dif_neg h9]
  by_cases h10 : l.val - 1024 - 1024 - 1024 - 3072 - 2048 - 2048 - 512 - 512 - 512 - 24 < 8
  · rw [dif_pos h10]
    refine Eq.trans ?_ (plain_eq X nw W _ _ _ l.val (by omega) (by omega) (by omega)).symm
    exact col_eq H r X nw W hH _ _ ((src_10 _ (by omega) (by omega)).trans (by show l.val - 11800 + 6680 = 6680 + (l.val - 1024 - 1024 - 1024 - 3072 - 2048 - 2048 - 512 - 512 - 512 - 24); omega)) _
  rw [dif_neg h10]
  by_cases h11 : l.val - 1024 - 1024 - 1024 - 3072 - 2048 - 2048 - 512 - 512 - 512 - 24 - 8 < 8
  · rw [dif_pos h11]
    refine Eq.trans ?_ (plain_eq X nw W _ _ _ l.val (by omega) (by omega) (by omega)).symm
    exact col_eq H r X nw W hH _ _ ((src_11 _ (by omega) (by omega)).trans (by show l.val - 11808 + 6688 = 6688 + (l.val - 1024 - 1024 - 1024 - 3072 - 2048 - 2048 - 512 - 512 - 512 - 24 - 8); omega)) _
  rw [dif_neg h11]
  refine Eq.trans ?_ (plain_eq X nw W _ _ _ l.val (by omega) (by omega) (by omega)).symm
  unfold rawCol
  rw [src_pad l.val (by omega)]
  exact (Finset.sum_eq_zero fun k _ => by rw [colAt_pad, mul_zero]).symm

variable (n : Fin 131072) (d : Fin 128) (hr : r = rowOf n)
include hr

theorem cmpKv_at : cmpKv H (ix2 n d) = projAt X nw W (fun d => x3 (ix1 d)) (fun d => x4 (ix1 d)) (fun d => x5 (ix1 d)) (10240 + 128 * (n.val % 4) + d.val) := by
  subst hr
  have hd := d.isLt
  unfold cmpKv projAt colOf
  pointwise []
  rw [if_neg (by omega), if_neg (by omega), if_neg (by omega)]
  exact col_eq H _ X nw W hH _ _ ((src_6 _ (by omega) (by omega)).trans (by show 10240 + 128 * (n.val % 4) + d.val - 10240 + 1024 = 1024 + (n.val % 4 * 128 + d.val); omega)) _

theorem selKv_at : selKv H x4 (ix2 n d) = projAt X nw W (fun d => x3 (ix1 d)) (fun d => x4 (ix1 d)) (fun d => x5 (ix1 d)) (10752 + 128 * (n.val % 4) + d.val) := by
  subst hr
  have hd := d.isLt
  unfold selKv
  pointwise []
  exact sel_eq H x3 x4 x5 _ X nw W hH _ _ (by show 10752 + 128 * (n.val % 4) + d.val = 10752 + (n.val % 4 * 128 + d.val); omega)

theorem winKv_at : winKv H x5 (ix2 n d) = projAt X nw W (fun d => x3 (ix1 d)) (fun d => x4 (ix1 d)) (fun d => x5 (ix1 d)) (11264 + 128 * (n.val % 4) + d.val) := by
  subst hr
  have hd := d.isLt
  unfold winKv
  pointwise []
  exact win_eq H x3 x4 x5 _ X nw W hH _ _ (by show 11264 + 128 * (n.val % 4) + d.val = 11264 + (n.val % 4 * 128 + d.val); omega)
end

end Cert.ProjRef

end
-- ==== Proof.MergeStepFinal.lean ====
/- The merge call, read point by point: a grid point holds all 32 rows of the two attention outputs, of the two gates and of the
   residual, and the three weights whole; what it writes is the merged row times the last weight, added to the residual. -/
module

public import proofs.«01_k».proof.Proof.Gen.MergeStepIdeal.Value
public import proofs.«01_k».proof.Proof.MergeFinal
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.MergeStepIdeal.MergeStepValue
open Cert.MergeIdeal.MergeValue (mergeAt_congr)
open Cert Cert.MergeStepIdeal Cert.MergeStepIdeal.Gen

variable (m : (ℓ : Loc nD τ sig) → Buf (Elt Ideal) ℓ) (c : Dev nD)

/-- The argument arrays as functions of plain indices. -/
def aOa (r : Fin 32) (l : Fin 1024) : EReal := (show FVec Ideal S32x1024 .f32 from m ((c : Thread nD τ).loc main_arg0)) (ix2 r l)
def aOb (r : Fin 32) (l : Fin 1024) : EReal := (show FVec Ideal S32x1024 .f32 from m ((c : Thread nD τ).loc main_arg1)) (ix2 r l)
def aGa (r : Fin 32) (l : Fin 2048) : EReal := (show FVec Ideal S32x12288 .f32 from m ((c : Thread nD τ).loc main_arg2)) (ix2 r ⟨6144 + l, by omega⟩)
def aGb (r : Fin 32) (l : Fin 2048) : EReal := (show FVec Ideal S32x12288 .f32 from m ((c : Thread nD τ).loc main_arg2)) (ix2 r ⟨8192 + l, by omega⟩)
def aX (r : Fin 32) (l : Fin 2048) : EReal := (show FVec Ideal S32x1x2048 .f32 from m ((c : Thread nD τ).loc main_arg3)) (ix3 r 0 l)
def aPa (k : Fin 1024) (l : Fin 2048) : EReal := (show FVec Ideal S1024x2048 .f32 from m ((c : Thread nD τ).loc main_arg4)) (ix2 k l)
def aPb (k : Fin 1024) (l : Fin 2048) : EReal := (show FVec Ideal S1024x2048 .f32 from m ((c : Thread nD τ).loc main_arg5)) (ix2 k l)
def aWo (k : Fin 2048) (l : Fin 2048) : EReal := (show FVec Ideal S2048x2048 .f32 from m ((c : Thread nD τ).loc main_arg6)) (ix2 k l)

theorem idx : ∀ t : Fin cfg0.N, win0_0.index t = ![t.val, 0] ∧ win0_1.index t = ![t.val, 0] ∧ win0_2.index t = ![t.val, 3]
    ∧ win0_3.index t = ![t.val, 4] ∧ win0_4.index t = ![t.val, 0] ∧ win0_5.index t = ![0, 0] ∧ win0_6.index t = ![0, 0]
    ∧ win0_7.index t = ![0, 0] ∧ win0_8.index t = ![t.val, 0] ∧ t.val < 1 :=
  (by decide +kernel : ∀ t : Fin grid0.N, _)

variable (t : Fin cfg0.N)

/-- The row of the arrays that row `i` of point `t`'s block is. -/
def row (i : Fin 32) : Fin 32 := ⟨t.val * 32 + i, by have := (idx t).2.2.2.2.2.2.2.2.2; omega⟩

theorem blk0 (i : Fin 32) (l : Fin 1024) : (show FVec Ideal S32x1024 .f32 from iblk m c 0 t) (ix2 i l) = aOa m c (row t i) l := by
  unfold aOa row
  blk_point [iblk, V, idx t]
theorem blk1 (i : Fin 32) (l : Fin 1024) : (show FVec Ideal S32x1024 .f32 from iblk m c 1 t) (ix2 i l) = aOb m c (row t i) l := by
  unfold aOb row
  blk_point [iblk, V, idx t]
theorem blk2 (i : Fin 32) (l : Fin 2048) : (show FVec Ideal S32x2048 .f32 from iblk m c 2 t) (ix2 i l) = aGa m c (row t i) l := by
  unfold aGa row
  blk_point [iblk, V, idx t]
theorem blk3 (i : Fin 32) (l : Fin 2048) : (show FVec Ideal S32x2048 .f32 from iblk m c 3 t) (ix2 i l) = aGb m c (row t i) l := by
  unfold aGb row
  blk_point [iblk, V, idx t]
theorem blk4 (i : Fin 32) (l : Fin 2048) : (show FVec Ideal S32x2048 .f32 from iblk m c 4 t) (ix2 i l) = aX m c (row t i) l := by
  unfold aX row
  blk_point [iblk, V, idx t]
theorem blk5 (k : Fin 1024) (l : Fin 2048) : (show FVec Ideal S1024x2048 .bf16 from iblk m c 5 t) (ix2 k l) = aPa m c k l := by
  unfold aPa
  blk_point [iblk, V, idx t]
theorem blk6 (k : Fin 1024) (l : Fin 2048) : (show FVec Ideal S1024x2048 .bf16 from iblk m c 6 t) (ix2 k l) = aPb m c k l := by
  unfold aPb
  blk_point [iblk, V, idx t]
theorem blk7 (k : Fin 2048) (l : Fin 2048) : (show FVec Ideal S2048x2048 .bf16 from iblk m c 7 t) (ix2 k l) = aWo m c k l := by
  unfold aWo
  blk_point [iblk, V, idx t]

/-- The body's result over any blocks. -/
theorem out_at (x0 : FVec Ideal S32x1024 .f32) (x1 : FVec Ideal S32x1024 .f32) (x2 x3 x4 : FVec Ideal S32x2048 .f32)
    (x5 x6 : FVec Ideal S1024x2048 .bf16) (x7 : FVec Ideal S2048x2048 .bf16) (i : Fin 32) (l : Fin 2048) :
    (show FVec Ideal S32x2048 .f32 from out0_8 (F := Ideal) x0 x1 x2 x3 x4 x5 x6 x7) (ix2 i l)
      = mergeAt (fun l => x0 (ix2 i l)) (fun l => x1 (ix2 i l)) (fun l => x2 (ix2 i l)) (fun l => x3 (ix2 i l)) (x4 (ix2 i l))
          (fun k l => x5 (ix2 k l)) (fun k l => x6 (ix2 k l)) (fun k => x7 (ix2 k l)) := by
  unfold mergeAt
  unfold out0_8
  frame_out
  unfold k0_pay1
  pointwise []

/-- The result as one function of the argument arrays. -/
def G (y : S32x2048.Idx) : EReal :=
  mergeAt (aOa m c (y 0)) (aOb m c (y 0)) (aGa m c (y 0)) (aGb m c (y 0)) (aX m c (y 0) (y 1)) (aPa m c) (aPb m c) (fun k => aWo m c k (y 1))

theorem out_blk (i : Fin 32) (l : Fin 2048) :
    (show FVec Ideal S32x2048 .f32 from out0_8 (F := Ideal) (iblk m c 0 t) (iblk m c 1 t) (iblk m c 2 t) (iblk m c 3 t) (iblk m c 4 t) (iblk m c 5 t) (iblk m c 6 t) (iblk m c 7 t)) (ix2 i l)
      = G m c (ix2 (row t i) l) :=
  (out_at _ _ _ _ _ _ _ _ i l).trans (mergeAt_congr (blk0 m c t i) (blk1 m c t i) (blk2 m c t i) (blk3 m c t i) (blk4 m c t i l)
    (blk5 m c t) (blk6 m c t) (fun k => blk7 m c t k l))

theorem final : (dats m 0 c).arrAt 8 (cfgs 0).N = G m c := by
  refine (dats m 0 c).arrAt_eq_of_covers 8 _ (by decide +kernel) fun t _ y => ?_
  blk_simp
  rw [after0_8]
  obtain ⟨i, l, rfl⟩ : ∃ (i : Fin 32) (l : Fin 2048), y = ix2 i l := ⟨y 0, y 1, eq_ix2 y⟩
  refine (out_blk m c t i l).trans (congrArg _ ?_)
  unfold row
  blk_ext [idx t]

end Cert.MergeStepIdeal.MergeStepValue
-- ==== Proof.MergeStepRef.lean ====
/- The merge's reference, read at an index. -/
module

public import proofs.«01_k».proof.Proof.Gen.MergeStepReferenceIdeal.Run
public import proofs.«01_k».proof.Proof.MergeStepFinal
public import Idealize.ShloMosaic.Lib.Pointwise

@[expose] public section

set_option maxRecDepth 16384
noncomputable section
open Idealize.ShloMosaic Idealize.ShloMosaic.TcCoe Idealize.SL.Sem

namespace Cert.MergeStepReferenceIdeal.MergeStepValue
open Cert Cert.MergeStepReferenceIdeal Cert.MergeStepReferenceIdeal.Gen

variable (x0 x1 : FVec Ideal S32x1024 .f32) (x2 : FVec Ideal S32x12288 .f32) (x3 : FVec Ideal S32x1x2048 .f32)
  (x4 x5 : FVec Ideal S1024x2048 .f32) (x6 : FVec Ideal S2048x2048 .f32)

/-- The reference's result over its argument arrays. -/
def refOut : FVec Ideal S32x2048 .f32 := addf (shapeCast S32x2048 x3 shapeCasts_S32x1x2048_S32x2048) (Host.dotGeneral dot_S32x2048_S2048x2048_S32x2048_1_0_0_1_n_n none (addf (mulf (Host.divf (broadcastInDim S32x2048 ![] bcast_S_S32x2048 (constant S_ .f32 0x3F800000#32)) (addf (broadcastInDim S32x2048 ![] bcast_S_S32x2048 (constant S_ .f32 0x3F800000#32)) (Host.exp (Host.negf (extractStridedSlice S32x2048 ![0, 6144] x2 slices_S32x12288_S32x2048_0_6144))))) (Host.dotGeneral dot_S32x1024_S1024x2048_S32x2048_1_0_0_1_n_n none x0 x4)) (mulf (Host.divf (broadcastInDim S32x2048 ![] bcast_S_S32x2048 (constant S_ .f32 0x3F800000#32)) (addf (broadcastInDim S32x2048 ![] bcast_S_S32x2048 (constant S_ .f32 0x3F800000#32)) (Host.exp (Host.negf (extractStridedSlice S32x2048 ![0, 8192] x2 slices_S32x12288_S32x2048_0_8192))))) (Host.dotGeneral dot_S32x1024_S1024x2048_S32x2048_1_0_0_1_n_n none x1 x5))) x6)

theorem refOut_at (r : Fin 32) (l : Fin 2048) : refOut x0 x1 x2 x3 x4 x5 x6 (ix2 r l)
    = mergeAt (fun l => x0 (ix2 r l)) (fun l => x1 (ix2 r l)) (fun l => x2 (ix2 r ⟨6144 + l, by omega⟩)) (fun l => x2 (ix2 r ⟨8192 + l, by omega⟩))
        (x3 (ix3 r 0 l)) (fun k l => x4 (ix2 k l)) (fun k l => x5 (ix2 k l)) (fun k => x6 (ix2 k l)) := by
  unfold refOut mergeAt
  pointwise []
  rfl

end Cert.MergeStepReferenceIdeal.MergeStepValue
-- ==== Proof.ProjStepRun.lean ====
/- The body of the input projection, run once in each of the four ways the column tile selects: what it leaves in the
   output tile, in the three key/value buffers and in the normed rows it carries from tile to tile. -/
module

public import proofs.«01_k».proof.Proof.Gen.ProjStepIdeal.Launch
public import proofs.«01_k».proof.Proof.Gen.ProjStepIdeal.Skeleton
public import proofs.«01_k».proof.Proof.Gen.ProjStepIdeal.Points
public import proofs.«01_k».proof.Proof.Gen.ProjStepIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.ProjStepRun

open Cert.ProjStepIdeal Cert.ProjStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the point starts a run of column tiles. -/
abbrev cond1 (i : grid0.Coords) : Prop := (Scalar.cmpi .ne (Scalar.extui (Scalar.cmpi .eq (BitVec.ofNat 32 (i 1).val) 0#32)) 0#32) = 1#1

theorem hcond1 : ∀ t : Fin cfg0.N, cond1 (grid0.coords t) ↔ t.val % 12 = 0 :=
  (fun t => by
    have ht : t.val < 12 := Nat.lt_of_lt_of_eq t.isLt N_0
    have e1 : (grid0.coords t 1).val = t.val / 1 % 12 := Pipeline.Grid.coords_val t 1 (by decide) rfl
    simp only [cond1, e1]
    word_cmp
   : ∀ t : Fin grid0.N, cond1 (grid0.coords t) ↔ t.val % 12 = 0)

theorem hcond2 : ∀ t : Fin cfg0.N, k0_cond2 (grid0.coords t) = 1#1 ↔ t.val % 12 = 0 :=
  (fun t => by
    have ht : t.val < 12 := Nat.lt_of_lt_of_eq t.isLt N_0
    have e1 : (grid0.coords t 1).val = t.val / 1 % 12 := Pipeline.Grid.coords_val t 1 (by decide) rfl
    simp only [k0_cond2, e1]
    word_cmp
   : ∀ t : Fin grid0.N, k0_cond2 (grid0.coords t) = 1#1 ↔ t.val % 12 = 0)

theorem hcond3 : ∀ t : Fin cfg0.N, k0_cond3 (grid0.coords t) = 1#1 ↔ t.val % 12 = 10 :=
  (fun t => by
    have ht : t.val < 12 := Nat.lt_of_lt_of_eq t.isLt N_0
    have e1 : (grid0.coords t 1).val = t.val / 1 % 12 := Pipeline.Grid.coords_val t 1 (by decide) rfl
    simp only [k0_cond3, e1]
    word_cmp
   : ∀ t : Fin grid0.N, k0_cond3 (grid0.coords t) = 1#1 ↔ t.val % 12 = 10)

theorem hcond4 : ∀ t : Fin cfg0.N, k0_cond4 (grid0.coords t) = 1#1 ↔ t.val % 12 = 11 :=
  (fun t => by
    have ht : t.val < 12 := Nat.lt_of_lt_of_eq t.isLt N_0
    have e1 : (grid0.coords t 1).val = t.val / 1 % 12 := Pipeline.Grid.coords_val t 1 (by decide) rfl
    simp only [k0_cond4, e1]
    word_cmp
   : ∀ t : Fin grid0.N, k0_cond4 (grid0.coords t) = 1#1 ↔ t.val % 12 = 11)

theorem hcond5 : ∀ t : Fin cfg0.N, k0_cond5 (grid0.coords t) = 1#1 ↔ (t.val % 12 ≠ 0 ∧ t.val % 12 ≠ 10 ∧ t.val % 12 ≠ 11) :=
  (by decide +kernel : ∀ t : Fin grid0.N, k0_cond5 (grid0.coords t) = 1#1 ↔ (t.val % 12 ≠ 0 ∧ t.val % 12 ≠ 10 ∧ t.val % 12 ≠ 11))

/-- The weight rows read from the stacked head weights. -/
abbrev rh0 : Rect S3x128 := Rect.unit (s := S3x128) ![0, 0] S1x128.size inb_S3x128_S1x128_0_0
abbrev rh1 : Rect S3x128 := Rect.unit (s := S3x128) ![1, 0] S1x128.size inb_S3x128_S1x128_1_0
abbrev rh2 : Rect S3x128 := Rect.unit (s := S3x128) ![2, 0] S1x128.size inb_S3x128_S1x128_2_0
abbrev rO : Rect S32x1024 := Rect.unit (s := S32x1024) ![0, 0] S32x1024.size inb_S32x1024_S32x1024_0_0
abbrev rS : Rect S32x2048 := Rect.unit (s := S32x2048) ![0, 0] S32x2048.size inb_S32x2048_S32x2048_0_0
/-- Every fourth row from row `g` on, where group `g` of the keys and values goes. -/
abbrev q0 : Rect S128x128 := ⟨(⟨![0, 0], S32x128.size, ![4, 1], inb_S128x128_S32x128_0_0_s_4_1⟩ : LoadRect S128x128), spos_4_1⟩
abbrev q1 : Rect S128x128 := ⟨(⟨![1, 0], S32x128.size, ![4, 1], inb_S128x128_S32x128_1_0_s_4_1⟩ : LoadRect S128x128), spos_4_1⟩
abbrev q2 : Rect S128x128 := ⟨(⟨![2, 0], S32x128.size, ![4, 1], inb_S128x128_S32x128_2_0_s_4_1⟩ : LoadRect S128x128), spos_4_1⟩
abbrev q3 : Rect S128x128 := ⟨(⟨![3, 0], S32x128.size, ![4, 1], inb_S128x128_S32x128_3_0_s_4_1⟩ : LoadRect S128x128), spos_4_1⟩

/-- Four groups of rows interleaved. -/
def weave (p0 p1 p2 p3 : Vec F S32x128 .f32) : Vec F S128x128 .f32 := View.canon [⟨q3, p3⟩, ⟨q2, p2⟩, ⟨q1, p1⟩, ⟨q0, p0⟩]

theorem weave_cover (p0 p1 p2 p3 : Vec F S32x128 .f32) (y : S128x128.Idx) :
    ∃ pc ∈ ([⟨q3, p3⟩, ⟨q2, p2⟩, ⟨q1, p1⟩, ⟨q0, p0⟩] : List (View.Piece (Elt F) S128x128 .f32)), y ∈ pc.1.set := by
  have hy0 : (y 0).val < 128 := (y 0).isLt
  have hy1 : (y 1).val < 128 := (y 1).isLt
  have key : ∀ g : ℕ, (y 0).val % 4 = g → ∀ (r : Rect S128x128), r.off = ![g, 0] → r.size = S32x128.size → r.stride = ![4, 1] → y ∈ r.set := by
    intro g hg r ho hs ht
    refine (LoadRect.mem_set _).mpr fun a => ?_
    rw [ho, hs, ht]
    match a with
    | ⟨0, _⟩ => exact ⟨(y 0).val / 4, by show _ < 32; omega, by show (y 0).val = g + 4 * _; omega⟩
    | ⟨1, _⟩ => exact ⟨(y 1).val, hy1, by show (y 1).val = 0 + 1 * _; omega⟩
  have h4 : (y 0).val % 4 = 0 ∨ (y 0).val % 4 = 1 ∨ (y 0).val % 4 = 2 ∨ (y 0).val % 4 = 3 := by omega
  rcases h4 with h | h | h | h
  · exact ⟨⟨q0, p0⟩, by simp, key _ h q0 rfl rfl rfl⟩
  · exact ⟨⟨q1, p1⟩, by simp, key _ h q1 rfl rfl rfl⟩
  · exact ⟨⟨q2, p2⟩, by simp, key _ h q2 rfl rfl rfl⟩
  · exact ⟨⟨q3, p3⟩, by simp, key _ h q3 rfl rfl rfl⟩

theorem z2 : (![0, 0] : Fin 2 → ℕ) = fun _ => 0 := by funext a; fin_cases a <;> rfl

theorem coverO (p0 : Vec F S32x1024 .f32) (y : S32x1024.Idx) :
    ∃ pc ∈ ([⟨rO, p0⟩] : List (View.Piece (Elt F) S32x1024 .f32)), y ∈ pc.1.set :=
  View.cover_of_tiled [⟨rO, p0⟩] S32x1024.size (by rfl) y

theorem coverS (p0 : Vec F S32x2048 .bf16) (y : S32x2048.Idx) :
    ∃ pc ∈ ([⟨rS, p0⟩] : List (View.Piece (Elt F) S32x2048 .bf16)), y ∈ pc.1.set :=
  View.cover_of_tiled [⟨rS, p0⟩] S32x2048.size (by rfl) y

/-- The tile of the first columns, its eight heads normed. -/
def headTile (xn : Vec F S32x2048 .bf16) (w : Vec F S2048x1024 .bf16) (hw : Vec F S3x128 .f32) : Vec F S32x1024 .f32 :=
  k0_pay3 xn w (k0_pay4 (k0_pay2 xn w) (View.ld hw rh0)) (k0_pay5 (k0_pay2 xn w) (View.ld hw rh0)) (k0_pay6 (k0_pay2 xn w) (View.ld hw rh0))
    (k0_pay7 (k0_pay2 xn w) (View.ld hw rh0)) (k0_pay8 (k0_pay2 xn w) (View.ld hw rh0)) (k0_pay9 (k0_pay2 xn w) (View.ld hw rh0)) (View.ld hw rh0) (View.ld hw rh0)

/-- The tile of the compressed and the selected keys and values. -/
def selTile (xn : Vec F S32x2048 .bf16) (w : Vec F S2048x1024 .bf16) (hw : Vec F S3x128 .f32) : Vec F S32x1024 .f32 :=
  k0_pay18 (k0_pay2 xn w) (View.ld hw rh1) (View.ld hw rh1)

/-- The tile of the window keys and values. -/
def winTile (xn : Vec F S32x2048 .bf16) (w : Vec F S2048x1024 .bf16) (hw : Vec F S3x128 .f32) : Vec F S32x1024 .f32 :=
  k0_pay23 (k0_pay2 xn w) (View.ld hw rh2) (View.ld hw rh2)

/-- The rows of the compressed keys and values, -/
def cmpRows (xn : Vec F S32x2048 .bf16) (w : Vec F S2048x1024 .bf16) : Vec F S128x128 .f32 :=
  weave (k0_pay10 (k0_pay2 xn w)) (k0_pay11 (k0_pay2 xn w)) (k0_pay12 (k0_pay2 xn w)) (k0_pay13 (k0_pay2 xn w))

/-- of the selected ones, -/
def selRows (xn : Vec F S32x2048 .bf16) (w : Vec F S2048x1024 .bf16) (hw : Vec F S3x128 .f32) : Vec F S128x128 .f32 :=
  weave (k0_pay14 (k0_pay2 xn w) (View.ld hw rh1)) (k0_pay15 (k0_pay2 xn w) (View.ld hw rh1)) (k0_pay16 (k0_pay2 xn w)) (k0_pay17 (k0_pay2 xn w))

/-- and of the window's. -/
def winRows (xn : Vec F S32x2048 .bf16) (w : Vec F S2048x1024 .bf16) (hw : Vec F S3x128 .f32) : Vec F S128x128 .f32 :=
  weave (k0_pay19 (k0_pay2 xn w) (View.ld hw rh2)) (k0_pay20 (k0_pay2 xn w) (View.ld hw rh2)) (k0_pay21 (k0_pay2 xn w)) (k0_pay22 (k0_pay2 xn w))

/-- Reading the whole buffer of the normed rows, -/
theorem readAt_rows (v : View sig .tc .vmem S32x2048 .bf16) (f) (inb) :
    View.readAt (Elt F) v (Rect.unit ![0, 0] ![32, 2048] inb).toLoadRect f = View.read (Elt F) v f :=
  View.ld_unit_zero (S := S32x2048) z2 _ _

/-- of the weight columns. -/
theorem readAt_cols (v : View sig .tc .vmem S2048x1024 .bf16) (f) (inb) :
    View.readAt (Elt F) v (Rect.unit ![0, 0] ![2048, 1024] inb).toLoadRect f = View.read (Elt F) v f :=
  View.ld_unit_zero (S := S2048x1024) z2 _ _

/-- of the unnormed rows, -/
theorem readAt_raw (v : View sig .tc .vmem S32x2048 .f32) (f) (inb) :
    View.readAt (Elt F) v (Rect.unit ![0, 0] ![32, 2048] inb).toLoadRect f = View.read (Elt F) v f :=
  View.ld_unit_zero (S := S32x2048) z2 _ _

/-- of the norm's weights. -/
theorem readAt_norm (v : View sig .tc .vmem S1x2048 .f32) (f) (inb) :
    View.readAt (Elt F) v (Rect.unit ![0, 0] ![1, 2048] inb).toLoadRect f = View.read (Elt F) v f :=
  View.ld_unit_zero (S := S1x2048) z2 _ _

/-- What is stored to the whole buffer of the normed rows, -/
theorem canon_rows (inb) (p : Vec F S32x2048 .bf16) :
    View.canon (Val := Elt F) [⟨Rect.unit ![0, 0] S32x2048.size inb, p⟩] = p :=
  View.canon_unit_zero (S := S32x2048) z2 _ _

/-- read back whole. -/
theorem cov_rows (v : View sig .tc .vmem S32x2048 .bf16) (inb inb') (p : Vec F S32x2048 .bf16) :
    v.readCov [⟨Rect.unit ![0, 0] S32x2048.size inb, p⟩] (Rect.unit ![0, 0] S32x2048.size inb').toLoadRect = p :=
  (View.readCov_eq_canon_ld v _ _ (coverS p)).trans ((View.ld_unit_zero (S := S32x2048) z2 _ _).trans (canon_rows inb p))

set_option maxHeartbeats 4000000 in
/-- A tile whose columns are stored as projected. -/
theorem run_plain (c : Dev nD) (E : Set ℕ) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S32x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S32x2048 .bf16) (harg10 : arg10.IsWhole)
    (hc1 : ¬ cond1 i) (hc2 : ¬ k0_cond2 i = 1#1) (hc3 : ¬ k0_cond3 i = 1#1) (hc4 : ¬ k0_cond4 i = 1#1) (hc5 : k0_cond5 i = 1#1)
    (x0 : Vec F S32x2048 .f32) (x1 : Vec F S1x2048 .f32) (x2 : Vec F S2048x1024 .bf16) (x3 : Vec F S3x128 .f32) (d5 d6 d7 : Vec F S128x128 .f32) (xs : Vec F S32x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7 ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xs x2) ∗ owns (c : Thread nD τ) arg7 fullShare d5 ∗ owns (c : Thread nD τ) arg8 fullShare d6 ∗ owns (c : Thread nD τ) arg9 fullShare d7 ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%f7, %hf7, H7⟩, ⟨%f8, %hf8, H8⟩, Hk⟩
  subst hf0 hf1 hf2 hf3 hf5 hf6 hf7 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    exact (View.read_writes_eq_canon _ _ _ (coverO _)).trans ((View.canon_unit_zero (S := S32x1024) z2 _ _).trans (congrArg₂ k0_pay2 (View.ld_unit_zero (S := S32x2048) z2 _ _) (View.ld_unit_zero (S := S2048x1024) z2 _ _)))
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  iexists _; isplitr; swap; · iexact H8
  ipureintro
  rfl

set_option maxHeartbeats 4000000 in
/-- The first tile: the rows are normed and kept, the eight heads of the columns normed. -/
theorem run_head (c : Dev nD) (E : Set ℕ) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S32x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S32x2048 .bf16) (harg10 : arg10.IsWhole)
    (hc1 : cond1 i) (hc2 : k0_cond2 i = 1#1) (hc3 : ¬ k0_cond3 i = 1#1) (hc4 : ¬ k0_cond4 i = 1#1) (hc5 : ¬ k0_cond5 i = 1#1)
    (x0 : Vec F S32x2048 .f32) (x1 : Vec F S1x2048 .f32) (x2 : Vec F S2048x1024 .bf16) (x3 : Vec F S3x128 .f32) (d5 d6 d7 : Vec F S128x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7 ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (headTile (k0_pay1 x0 x1) x2 x3) ∗ owns (c : Thread nD τ) arg7 fullShare d5 ∗ owns (c : Thread nD τ) arg8 fullShare d6 ∗ owns (c : Thread nD τ) arg9 fullShare d7 ∗ owns (c : Thread nD τ) arg10 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%f7, %hf7, H7⟩, ⟨%e8, %f8, -, H8⟩, Hk⟩
  subst hf0 hf1 hf2 hf3 hf5 hf6 hf7
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S32x1024) z2 _ _).trans ?_)
    have e : run_head.sl.v3 c arg2 arg3 arg10 f0 f1 = k0_pay1 (View.read (Elt F) arg2.view f0) (View.read (Elt F) arg3.view f1) := (cov_rows _ _ _ _).trans (congrArg₂ k0_pay1 (readAt_raw _ _ _) (readAt_norm _ _ _))
    rw [e, readAt_cols]; rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  iexists _; isplitr; swap; · iexact H8
  ipureintro
  exact (View.read_writes_eq_canon _ _ _ (coverS _)).trans ((canon_rows _ _).trans (congrArg₂ k0_pay1 (readAt_raw _ _ _) (readAt_norm _ _ _)))

set_option maxHeartbeats 4000000 in
/-- The tile of the compressed and the selected keys and values. -/
theorem run_sel (c : Dev nD) (E : Set ℕ) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S32x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S32x2048 .bf16) (harg10 : arg10.IsWhole)
    (hc1 : ¬ cond1 i) (hc2 : ¬ k0_cond2 i = 1#1) (hc3 : k0_cond3 i = 1#1) (hc4 : ¬ k0_cond4 i = 1#1) (hc5 : ¬ k0_cond5 i = 1#1)
    (x0 : Vec F S32x2048 .f32) (x1 : Vec F S1x2048 .f32) (x2 : Vec F S2048x1024 .bf16) (x3 : Vec F S3x128 .f32) (d7 : Vec F S128x128 .f32) (xs : Vec F S32x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d7 ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (selTile xs x2 x3) ∗ owns (c : Thread nD τ) arg7 fullShare (cmpRows xs x2) ∗ owns (c : Thread nD τ) arg8 fullShare (selRows xs x2 x3) ∗ owns (c : Thread nD τ) arg9 fullShare d7 ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%e5, %f5, -, H5⟩, ⟨%e6, %f6, -, H6⟩, ⟨%f7, %hf7, H7⟩, ⟨%f8, %hf8, H8⟩, Hk⟩
  subst hf0 hf1 hf2 hf3 hf7 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S32x1024) z2 _ _).trans ?_)
    rw [readAt_rows, readAt_cols]; rfl
  isplitl [H5]
  · iexists _; isplitr; swap; · iexact H5
    ipureintro
    refine (View.read_writes_eq_canon _ _ _ (weave_cover _ _ _ _)).trans ?_
    rw [readAt_rows, readAt_cols]; rfl
  isplitl [H6]
  · iexists _; isplitr; swap; · iexact H6
    ipureintro
    refine (View.read_writes_eq_canon _ _ _ (weave_cover _ _ _ _)).trans ?_
    rw [readAt_rows, readAt_cols]; rfl
  isplitl [H7]
  · iexists _; isplitr; swap; · iexact H7
    ipureintro
    rfl
  iexists _; isplitr; swap; · iexact H8
  ipureintro
  rfl

set_option maxHeartbeats 4000000 in
/-- The tile of the window keys and values. -/
theorem run_win (c : Dev nD) (E : Set ℕ) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S3x128 .f32) (harg5 : arg5.IsWhole) (arg6 : Memref sig .tc .vmem S32x1024 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S32x2048 .bf16) (harg10 : arg10.IsWhole)
    (hc1 : ¬ cond1 i) (hc2 : ¬ k0_cond2 i = 1#1) (hc3 : ¬ k0_cond3 i = 1#1) (hc4 : k0_cond4 i = 1#1) (hc5 : ¬ k0_cond5 i = 1#1)
    (x0 : Vec F S32x2048 .f32) (x1 : Vec F S1x2048 .f32) (x2 : Vec F S2048x1024 .bf16) (x3 : Vec F S3x128 .f32) (d5 d6 : Vec F S128x128 .f32) (xs : Vec F S32x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ (∃ d, owns (c : Thread nD τ) arg9 fullShare d) ∗ owns (c : Thread nD τ) arg10 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (winTile xs x2 x3) ∗ owns (c : Thread nD τ) arg7 fullShare d5 ∗ owns (c : Thread nD τ) arg8 fullShare d6 ∗ owns (c : Thread nD τ) arg9 fullShare (winRows xs x2 x3) ∗ owns (c : Thread nD τ) arg10 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%e4, %f4, -, H4⟩, ⟨%f5, %hf5, H5⟩, ⟨%f6, %hf6, H6⟩, ⟨%e7, %f7, -, H7⟩, ⟨%f8, %hf8, H8⟩, Hk⟩
  subst hf0 hf1 hf2 hf3 hf5 hf6 hf8
  sl_exec (disch := first | sl_exact hc1 | sl_exact hc2 | sl_exact hc3 | sl_exact hc4 | sl_exact hc5)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    refine (View.read_writes_eq_canon _ _ _ (coverO _)).trans ((View.canon_unit_zero (S := S32x1024) z2 _ _).trans ?_)
    rw [readAt_rows, readAt_cols]; rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    refine (View.read_writes_eq_canon _ _ _ (weave_cover _ _ _ _)).trans ?_
    rw [readAt_rows, readAt_cols]; rfl
  iexists _; isplitr; swap; · iexact H8
  ipureintro
  rfl

end Cert.ProjStepRun

end
-- ==== Proof.ProjStepFrame.lean ====
/- The input projection's launch: what its buffers hold after each grid point, the invariant that carries the normed rows
   from tile to tile, and the run of the whole program with its frame. -/
module

public import proofs.«01_k».proof.Proof.ProjStepRun
public import proofs.«01_k».proof.Proof.Gen.ProjStepIdeal.Launch
public import proofs.«01_k».proof.Proof.Gen.ProjStepIdeal.Skeleton
public import proofs.«01_k».proof.Proof.Gen.ProjStepIdeal.Points
public import proofs.«01_k».proof.Proof.Gen.ProjStepIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.ProjStepFrame

open Cert.ProjStepIdeal Cert.ProjStepIdeal.Gen Cert.ProjStepRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of one block of rows -/

theorem N_lt (t : Fin cfg0.N) : t.val < 12 := Nat.lt_of_lt_of_eq t.isLt N_0

/-- The point of tile `j` in the block of rows that `t` is in. -/
def tileAt (t : Fin cfg0.N) (j : Fin 12) : Fin cfg0.N :=
  ⟨12 * (t.val / 12) + j.val, Nat.lt_of_lt_of_eq (by have := N_lt t; have := j.isLt; omega : 12 * (t.val / 12) + j.val < 12) N_0.symm⟩

theorem tileAt_congr (t s : Fin cfg0.N) (j : Fin 12) (h : t.val / 12 = s.val / 12) : tileAt t j = tileAt s j := by
  unfold tileAt; simp only [h]

theorem tileAt_self (t : Fin cfg0.N) (j : Fin 12) (h : t.val % 12 = j.val) : tileAt t j = t :=
  Fin.ext (by show 12 * (t.val / 12) + j.val = t.val; omega)

/-! ## What the buffers hold after each point -/

/-- The normed rows of the block `t` is in. -/
def rowsAt (c : Dev nD) (t : Fin cfg0.N) : Vec F S32x2048 .bf16 :=
  k0_pay1 (iblk m c 0 (tileAt t 0)) (iblk m c 1 (tileAt t 0))

theorem rowsAt_congr (c : Dev nD) (t s : Fin cfg0.N) (h : t.val / 12 = s.val / 12) : rowsAt m c t = rowsAt m c s := by
  unfold rowsAt; rw [tileAt_congr t s 0 h]

/-- The output tile of point `t`. -/
def outAt (c : Dev nD) (t : Fin cfg0.N) : Vec F S32x1024 .f32 :=
  if t.val % 12 = 0 then headTile (rowsAt m c t) (iblk m c 2 t) (iblk m c 3 t)
  else if t.val % 12 = 10 then selTile (rowsAt m c t) (iblk m c 2 t) (iblk m c 3 t)
  else if t.val % 12 = 11 then winTile (rowsAt m c t) (iblk m c 2 t) (iblk m c 3 t)
  else k0_pay2 (rowsAt m c t) (iblk m c 2 t)

/-- The compressed, -/
def cmpAt (c : Dev nD) (t : Fin cfg0.N) : Vec F S128x128 .f32 := cmpRows (rowsAt m c t) (iblk m c 2 (tileAt t 10))
/-- the selected, -/
def selAt (c : Dev nD) (t : Fin cfg0.N) : Vec F S128x128 .f32 := selRows (rowsAt m c t) (iblk m c 2 (tileAt t 10)) (iblk m c 3 (tileAt t 10))
/-- and the window's keys and values of the block of rows `t` is in. -/
def winAt (c : Dev nD) (t : Fin cfg0.N) : Vec F S128x128 .f32 := winRows (rowsAt m c t) (iblk m c 2 (tileAt t 11)) (iblk m c 3 (tileAt t 11))

theorem cmpAt_congr (c : Dev nD) (t s : Fin cfg0.N) (h : t.val / 12 = s.val / 12) : cmpAt m c t = cmpAt m c s := by
  unfold cmpAt; rw [rowsAt_congr m c t s h, tileAt_congr t s 10 h]
theorem selAt_congr (c : Dev nD) (t s : Fin cfg0.N) (h : t.val / 12 = s.val / 12) : selAt m c t = selAt m c s := by
  unfold selAt; rw [rowsAt_congr m c t s h, tileAt_congr t s 10 h]

/-! ## The invariant: the normed rows carried from tile to tile -/

abbrev scM : Memref sig .tc .vmem S32x2048 .bf16 := Memref.whole cc0_scratch0

theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [owns_whole]; try rfl

/-- Before the first point the carried rows are anything, afterwards what the point before left. -/
def PhiS (c : Dev nD) : (n : ℕ) → n ≤ cfg0.N → sProp 𝕄
  | 0, _ => Pipeline.ΦA spec0 c
  | n + 1, hn => iprop(owns (c : Thread nD τ) scM fullShare (rowsAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (rowsAt m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (rowsAt m c ⟨n - 1, by omega⟩) ∗ (∃ r, prngReg c r)) := by
  cases n with
  | zero => exact absurd rfl hz
  | succ n => rfl

/-- The invariant gives up the carried rows at something. -/
theorem PhiS_any (c : Dev nD) (n : ℕ) (h : n ≤ cfg0.N) :
    PhiS m c n h ⊢ iprop((∃ d, owns (c : Thread nD τ) scM fullShare d) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => cmpAt m c t
    | ⟨6, _⟩ => selAt m c t
    | ⟨7, _⟩ => winAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = cmpAt m c t := by dsimp only [dats]
theorem after0_6 (c : Dev nD) (t : Fin cfg0.N) : (dats m 0 c).after 6 t = selAt m c t := by dsimp only [dats]
theorem after0_7 (c : Dev nD) (t : Fin cfg0.N) : (dats m 0 c).after 7 t = winAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where each output is stored -/

theorem idle4 (t : Fin cfg0.N) : cfg0.idle 4 (cfg0.grid.coords t) = false := by
  have h : (!(k0_cond2 (grid0.coords t) == 1#1) && !(k0_cond3 (grid0.coords t) == 1#1) && !(k0_cond4 (grid0.coords t) == 1#1) && !(k0_cond5 (grid0.coords t) == 1#1)) = false := by
    by_cases h0 : t.val % 12 = 0
    · simp [(hcond2 t).mpr h0]
    by_cases h1 : t.val % 12 = 10
    · simp [(hcond3 t).mpr h1]
    by_cases h2 : t.val % 12 = 11
    · simp [(hcond4 t).mpr h2]
    simp [(hcond5 t).mpr ⟨h0, h1, h2⟩]
  exact h
theorem idle5_live (t : Fin cfg0.N) (h : t.val % 12 = 10) : cfg0.idle 5 (cfg0.grid.coords t) = false := by
  have e : (!(k0_cond3 (grid0.coords t) == 1#1)) = false := by simp [(hcond3 t).mpr h]
  exact e
theorem idle5_idle (t : Fin cfg0.N) (h : ¬ t.val % 12 = 10) : cfg0.idle 5 (cfg0.grid.coords t) = true := by
  have e : (!(k0_cond3 (grid0.coords t) == 1#1)) = true := by simp [mt (hcond3 t).mp h]
  exact e
theorem flush5_off (t : Fin cfg0.N) (h : ¬ t.val % 12 = 11) : (cfg0.win 5).flush t = false :=
  eq_false_of_ne_true (mt (flush0_5 t).mp h)
theorem idle6_live (t : Fin cfg0.N) (h : t.val % 12 = 10) : cfg0.idle 6 (cfg0.grid.coords t) = false := by
  have e : (!(k0_cond3 (grid0.coords t) == 1#1)) = false := by simp [(hcond3 t).mpr h]
  exact e
theorem idle6_idle (t : Fin cfg0.N) (h : ¬ t.val % 12 = 10) : cfg0.idle 6 (cfg0.grid.coords t) = true := by
  have e : (!(k0_cond3 (grid0.coords t) == 1#1)) = true := by simp [mt (hcond3 t).mp h]
  exact e
theorem flush6_off (t : Fin cfg0.N) (h : ¬ t.val % 12 = 11) : (cfg0.win 6).flush t = false :=
  eq_false_of_ne_true (mt (flush0_6 t).mp h)
theorem idle7_live (t : Fin cfg0.N) (h : t.val % 12 = 11) : cfg0.idle 7 (cfg0.grid.coords t) = false := by
  have e : (!(k0_cond4 (grid0.coords t) == 1#1)) = false := by simp [(hcond4 t).mpr h]
  exact e
theorem idle7_idle (t : Fin cfg0.N) (h : ¬ t.val % 12 = 11) : cfg0.idle 7 (cfg0.grid.coords t) = true := by
  have e : (!(k0_cond4 (grid0.coords t) == 1#1)) = true := by simp [mt (hcond4 t).mp h]
  exact e
theorem flush7_off (t : Fin cfg0.N) (h : ¬ t.val % 12 = 11) : (cfg0.win 7).flush t = false :=
  eq_false_of_ne_true (mt (flush0_7 t).mp h)

/-- A point that stores a window leaves what is stated of it, -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- and so does one that writes it back. -/
theorem leaves_flush (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- At the last tile the buffer still holds what the tile before stored. -/
theorem before5_last (c : Dev nD) (t : Fin cfg0.N) (h : t.val % 12 = 11) (d) : (dats m 0 c).before 5 t d = cmpAt m c t := by
  have hp : (⟨t.val - 1, Nat.lt_of_le_of_lt (Nat.sub_le _ _) t.isLt⟩ : Fin cfg0.N).val % 12 = 10 := by show (t.val - 1) % 12 = 10; omega
  refine ((dats m 0 c).before_of_pos 5 t (by omega) rfl d).trans ?_
  rw [if_neg (by rw [flush5_off _ (by omega)]; exact Bool.false_ne_true)]
  unfold Dat.left
  rw [idle5_live _ hp]
  refine Eq.trans (b := (dats m 0 c).after 5 ⟨t.val - 1, Nat.lt_of_le_of_lt (Nat.sub_le _ _) t.isLt⟩) rfl ?_
  rw [after0_5]
  exact cmpAt_congr m c _ _ (by show (t.val - 1) / 12 = t.val / 12; omega)

/-- At the last tile the buffer still holds what the tile before stored. -/
theorem before6_last (c : Dev nD) (t : Fin cfg0.N) (h : t.val % 12 = 11) (d) : (dats m 0 c).before 6 t d = selAt m c t := by
  have hp : (⟨t.val - 1, Nat.lt_of_le_of_lt (Nat.sub_le _ _) t.isLt⟩ : Fin cfg0.N).val % 12 = 10 := by show (t.val - 1) % 12 = 10; omega
  refine ((dats m 0 c).before_of_pos 6 t (by omega) rfl d).trans ?_
  rw [if_neg (by rw [flush6_off _ (by omega)]; exact Bool.false_ne_true)]
  unfold Dat.left
  rw [idle6_live _ hp]
  refine Eq.trans (b := (dats m 0 c).after 6 ⟨t.val - 1, Nat.lt_of_le_of_lt (Nat.sub_le _ _) t.isLt⟩) rfl ?_
  rw [after0_6]
  exact selAt_congr m c _ _ (by show (t.val - 1) / 12 = t.val / 12; omega)

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The first tile of a block of rows. -/
theorem body_head (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = headTile (k0_pay1 (iblk m c 0 t) (iblk m c 1 t)) (iblk m c 2 t) (iblk m c 3 t) from by unfold outAt rowsAt; rw [if_pos h, tileAt_self t 0 h]]
  rw [(dats m 0 c).leavesExact_idle 5 t (idle5_idle t (by omega)) (flush5_off t (by omega))]
  rw [(dats m 0 c).leavesExact_idle 6 t (idle6_idle t (by omega)) (flush6_off t (by omega))]
  rw [(dats m 0 c).leavesExact_idle 7 t (idle7_idle t (by omega)) (flush7_off t (by omega))]
  rw [show rowsAt m c ⟨t.val, t.isLt⟩ = k0_pay1 (iblk m c 0 t) (iblk m c 1 t) from by unfold rowsAt; rw [show tileAt ⟨t.val, t.isLt⟩ 0 = t from tileAt_self t 0 h]]
  have hany := PhiS_any m c t.val (Nat.le_of_lt t.isLt)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HQ := hany $$ HP
  icases HQ with ⟨HS, Hg⟩
  iapply (run_head c Set.univ (grid0.coords t) _ _ _ _ _ _ _ _ _ _ _ _ _ _ _ _ _ _ ((hcond1 t).mpr h) ((hcond2 t).mpr h) (mt (hcond3 t).mp (by omega)) (mt (hcond4 t).mp (by omega)) (mt (hcond5 t).mp (by omega)) (iblk m c 0 t) (iblk m c 1 t) (iblk m c 2 t) (iblk m c 3 t) _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- The tile of the compressed and the selected keys and values. -/
theorem body_sel (c : Dev nD) (t : Fin cfg0.N) (h : t.val % 12 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = selTile (rowsAt m c t) (iblk m c 2 t) (iblk m c 3 t) from by unfold outAt; rw [if_neg (by omega), if_pos h]]
  rw [leaves_live m c 5 t (idle5_live t h), after0_5, show cmpAt m c t = cmpRows (rowsAt m c t) (iblk m c 2 t) from by unfold cmpAt; rw [tileAt_self t 10 h]]
  rw [leaves_live m c 6 t (idle6_live t h), after0_6, show selAt m c t = selRows (rowsAt m c t) (iblk m c 2 t) (iblk m c 3 t) from by unfold selAt; rw [tileAt_self t 10 h]]
  rw [(dats m 0 c).leavesExact_idle 7 t (idle7_idle t (by omega)) (flush7_off t (by omega))]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_sel c Set.univ (grid0.coords t) _ _ _ _ _ _ _ _ _ _ _ _ _ _ _ _ _ _ (mt (hcond1 t).mp (by omega)) (mt (hcond2 t).mp (by omega)) ((hcond3 t).mpr h) (mt (hcond4 t).mp (by omega)) (mt (hcond5 t).mp (by omega)) (iblk m c 0 t) (iblk m c 1 t) (iblk m c 2 t) (iblk m c 3 t) _ _ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The tile of the window keys and values. -/
theorem body_win (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before5_last m c t h, before6_last m c t h]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = winTile (rowsAt m c t) (iblk m c 2 t) (iblk m c 3 t) from by unfold outAt; rw [if_neg (by omega), if_neg (by omega), if_pos h]]
  rw [leaves_flush m c 5 t (idle5_idle t (by omega)) ((flush0_5 t).mpr h), after0_5]
  rw [leaves_flush m c 6 t (idle6_idle t (by omega)) ((flush0_6 t).mpr h), after0_6]
  rw [leaves_live m c 7 t (idle7_live t h), after0_7, show winAt m c t = winRows (rowsAt m c t) (iblk m c 2 t) (iblk m c 3 t) from by unfold winAt; rw [tileAt_self t 11 h]]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_win c Set.univ (grid0.coords t) _ _ _ _ _ _ _ _ _ _ _ _ _ _ _ _ _ _ (mt (hcond1 t).mp (by omega)) (mt (hcond2 t).mp (by omega)) (mt (hcond3 t).mp (by omega)) ((hcond4 t).mpr h) (mt (hcond5 t).mp (by omega)) (iblk m c 0 t) (iblk m c 1 t) (iblk m c 2 t) (iblk m c 3 t) _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Any other tile. -/
theorem body_plain (c : Dev nD) (t : Fin cfg0.N) (h0 : ¬ t.val % 12 = 0) (h1 : ¬ t.val % 12 = 10) (h2 : ¬ t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t (idle4 t), after0_4, show outAt m c t = k0_pay2 (rowsAt m c t) (iblk m c 2 t) from by unfold outAt; rw [if_neg h0, if_neg h1, if_neg h2]]
  rw [(dats m 0 c).leavesExact_idle 5 t (idle5_idle t (by omega)) (flush5_off t (by omega))]
  rw [(dats m 0 c).leavesExact_idle 6 t (idle6_idle t (by omega)) (flush6_off t (by omega))]
  rw [(dats m 0 c).leavesExact_idle 7 t (idle7_idle t (by omega)) (flush7_off t (by omega))]
  rw [PhiS_pos m c _ _ (by omega), rowsAt_congr m c ⟨t.val - 1, by omega⟩ t (by show (t.val - 1) / 12 = t.val / 12; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_plain c Set.univ (grid0.coords t) _ _ _ _ _ _ _ _ _ _ _ _ _ _ _ _ _ _ (mt (hcond1 t).mp (by omega)) (mt (hcond2 t).mp (by omega)) (mt (hcond3 t).mp (by omega)) (mt (hcond4 t).mp (by omega)) ((hcond5 t).mpr ⟨h0, h1, h2⟩) (iblk m c 0 t) (iblk m c 1 t) (iblk m c 2 t) (iblk m c 3 t) _ _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_head m c t h0
  by_cases h1 : t.val % 12 = 10
  · exact body_sel m c t h1
  by_cases h2 : t.val % 12 = 11
  · exact body_win m c t h2
  exact body_plain m c t h0 h1 h2

theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [PhiA0_eq, show (dats m 0 c).Φ (Fin.last cfg0.N) = PhiS m c cfg0.N le_rfl from rfl]; exact PhiS_any m c _ _

/-! ## The run and the frame -/

set_option backward.isDefEq.respectTransparency.types false in
set_option maxHeartbeats 800000 in
/-- The launch: every weakly fair execution ends with the arrays at what the blocks written back make of them, and every
    counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ProjStepFrame

end
-- ==== Proof.ProjStepTile.lean ====
/- The input projection's values, tile by tile: the normed rows times the weight's columns, with the heads of three groups of
   columns normed once more; and the weight's columns in the order the call takes them. -/
module

public import proofs.«01_k».proof.Proof.ProjStepFrame
public import proofs.«01_k».proof.Proof.ProjTile
public import Idealize.ShloMosaic.Lib.Pipeline.ValueKit

@[expose] public section
set_option maxRecDepth 16384
noncomputable section
open Idealize.ShloMosaic Idealize.ShloMosaic.TcCoe Idealize.SL.Sem

namespace Cert.ProjStepTile
open Cert.ProjStepIdeal Cert.ProjStepIdeal.Gen Cert.ProjStepRun Cert.ProjStepFrame Cert.ProjSpec

/-! ## The weights as the call takes them -/

/-- The projection's weight with its columns in the order the call takes them, the last ones zeros. -/
def permuted (w : FVec Ideal S2048x11816 .f32) : FVec Ideal S2048x12288 .f32 :=
  concatenate S2048x12288 1 [⟨S2048x1024, extractStridedSlice S2048x1024 ![0, 0] w slices_S2048x11816_S2048x1024_0_0⟩, ⟨S2048x1024, extractStridedSlice S2048x1024 ![0, 2584] w slices_S2048x11816_S2048x1024_0_2584⟩, ⟨S2048x1024, extractStridedSlice S2048x1024 ![0, 6696] w slices_S2048x11816_S2048x1024_0_6696⟩, ⟨S2048x3072, extractStridedSlice S2048x3072 ![0, 3608] w slices_S2048x11816_S2048x3072_0_3608⟩, ⟨S2048x2048, extractStridedSlice S2048x2048 ![0, 7720] w slices_S2048x11816_S2048x2048_0_7720⟩, ⟨S2048x2048, extractStridedSlice S2048x2048 ![0, 9768] w slices_S2048x11816_S2048x2048_0_9768⟩, ⟨S2048x512, extractStridedSlice S2048x512 ![0, 1024] w slices_S2048x11816_S2048x512_0_1024⟩, ⟨S2048x512, extractStridedSlice S2048x512 ![0, 1536] w slices_S2048x11816_S2048x512_0_1536⟩, ⟨S2048x512, extractStridedSlice S2048x512 ![0, 2048] w slices_S2048x11816_S2048x512_0_2048⟩, ⟨S2048x24, extractStridedSlice S2048x24 ![0, 2560] w slices_S2048x11816_S2048x24_0_2560⟩, ⟨S2048x8, extractStridedSlice S2048x8 ![0, 6680] w slices_S2048x11816_S2048x8_0_6680⟩, ⟨S2048x8, extractStridedSlice S2048x8 ![0, 6688] w slices_S2048x11816_S2048x8_0_6688⟩, ⟨S2048x472, broadcastInDim S2048x472 ![] bcast_S_S2048x472 (constant S_ .f32 0x00000000#32)⟩] concatenates_S2048x1024_S2048x1024_S2048x1024_S2048x3072_S2048x2048_S2048x2048_S2048x512_S2048x512_S2048x512_S2048x24_S2048x8_S2048x8_S2048x472_S2048x12288_d1

/-- The three heads' norm weights, one per row. -/
def stacked (a b d : FVec Ideal S128 .f32) : FVec Ideal S3x128 .f32 :=
  concatenate S3x128 0 [⟨S1x128, broadcastInDim S1x128 ![1] bcast_S128_S1x128_1 a⟩, ⟨S1x128, broadcastInDim S1x128 ![1] bcast_S128_S1x128_1 b⟩, ⟨S1x128, broadcastInDim S1x128 ![1] bcast_S128_S1x128_1 d⟩] concatenates_S1x128_S1x128_S1x128_S3x128_d0

theorem permuted_at (w : FVec Ideal S2048x11816 .f32) (k : Fin 2048) (l : Fin 12288) :
    permuted w (ix2 k l) = colAt (fun k j => w (ix2 k j)) k (src l.val) := by
  have hl := l.isLt
  unfold permuted
  pointwise []
  by_cases h0 : l.val < 1024
  · rw [dif_pos h0, src_0 l.val (by omega) (by omega), colAt_lt _ _ _ (by omega)]
    exact congrArg (fun j => w (ix2 k j)) (Fin.ext (by show _ = l.val - 0 + 0; simp only [] <;> omega))
  rw [dif_neg h0]
  by_cases h1 : l.val - 1024 < 1024
  · rw [dif_pos h1, src_1 l.val (by omega) (by omega), colAt_lt _ _ _ (by omega)]
    exact congrArg (fun j => w (ix2 k j)) (Fin.ext (by show _ = l.val - 1024 + 2584; simp only [] <;> omega))
  rw [dif_neg h1]
  by_cases h2 : l.val - 1024 - 1024 < 1024
  · rw [dif_pos h2, src_2 l.val (by omega) (by omega), colAt_lt _ _ _ (by omega)]
    exact congrArg (fun j => w (ix2 k j)) (Fin.ext (by show _ = l.val - 2048 + 6696; simp only [] <;> omega))
  rw [dif_neg h2]
  by_cases h3 : l.val - 1024 - 1024 - 1024 < 3072
  · rw [dif_pos h3, src_3 l.val (by omega) (by omega), colAt_lt _ _ _ (by omega)]
    exact congrArg (fun j => w (ix2 k j)) (Fin.ext (by show _ = l.val - 3072 + 3608; simp only [] <;> omega))
  rw [dif_neg h3]
  by_cases h4 : l.val - 1024 - 1024 - 1024 - 3072 < 2048
  · rw [dif_pos h4, src_4 l.val (by omega) (by omega), colAt_lt _ _ _ (by omega)]
    exact congrArg (fun j => w (ix2 k j)) (Fin.ext (by show _ = l.val - 6144 + 7720; simp only [] <;> omega))
  rw [dif_neg h4]
  by_cases h5 : l.val - 1024 - 1024 - 1024 - 3072 - 2048 < 2048
  · rw [dif_pos h5, src_5 l.val (by omega) (by omega), colAt_lt _ _ _ (by omega)]
    exact congrArg (fun j => w (ix2 k j)) (Fin.ext (by show _ = l.val - 8192 + 9768; simp only [] <;> omega))
  rw [dif_neg h5]
  by_cases h6 : l.val - 1024 - 1024 - 1024 - 3072 - 2048 - 2048 < 512
  · rw [dif_pos h6, src_6 l.val (by omega) (by omega), colAt_lt _ _ _ (by omega)]
    exact congrArg (fun j => w (ix2 k j)) (Fin.ext (by show _ = l.val - 10240 + 1024; simp only [] <;> omega))
  rw [dif_neg h6]
  by_cases h7 : l.val - 1024 - 1024 - 1024 - 3072 - 2048 - 2048 - 512 < 512
  · rw [dif_pos h7, src_7 l.val (by omega) (by omega), colAt_lt _ _ _ (by omega)]
    exact congrArg (fun j => w (ix2 k j)) (Fin.ext (by show _ = l.val - 10752 + 1536; simp only [] <;> omega))
  rw [dif_neg h7]
  by_cases h8 : l.val - 1024 - 1024 - 1024 - 3072 - 2048 - 2048 - 512 - 512 < 512
  · rw [dif_pos h8, src_8 l.val (by omega) (by omega), colAt_lt _ _ _ (by omega)]
    exact congrArg (fun j => w (ix2 k j)) (Fin.ext (by show _ = l.val - 11264 + 2048; simp only [] <;> omega))
  rw [dif_neg h8]
  by_cases h9 : l.val - 1024 - 1024 - 1024 - 3072 - 2048 - 2048 - 512 - 512 - 512 < 24
  · rw [dif_pos h9, src_9 l.val (by omega) (by omega), colAt_lt _ _ _ (by omega)]
    exact congrArg (fun j => w (ix2 k j)) (Fin.ext (by show _ = l.val - 11776 + 2560; simp only [] <;> omega))
  rw [dif_neg h9]
  by_cases h10 : l.val - 1024 - 1024 - 1024 - 3072 - 2048 - 2048 - 512 - 512 - 512 - 24 < 8
  · rw [dif_pos h10, src_10 l.val (by omega) (by omega), colAt_lt _ _ _ (by omega)]
    exact congrArg (fun j => w (ix2 k j)) (Fin.ext (by show _ = l.val - 11800 + 6680; simp only [] <;> omega))
  rw [dif_neg h10]
  by_cases h11 : l.val - 1024 - 1024 - 1024 - 3072 - 2048 - 2048 - 512 - 512 - 512 - 24 - 8 < 8
  · rw [dif_pos h11, src_11 l.val (by omega) (by omega), colAt_lt _ _ _ (by omega)]
    exact congrArg (fun j => w (ix2 k j)) (Fin.ext (by show _ = l.val - 11808 + 6688; simp only [] <;> omega))
  rw [dif_neg h11]
  rw [src_pad l.val (by omega)]
  exact (colAt_pad _ _).symm

theorem stacked_0 (a b e : FVec Ideal S128 .f32) (d : Fin 128) : stacked a b e (ix2 0 d) = a (ix1 d) := by
  unfold stacked; pointwise []
theorem stacked_1 (a b e : FVec Ideal S128 .f32) (d : Fin 128) : stacked a b e (ix2 1 d) = b (ix1 d) := by
  unfold stacked; pointwise []
theorem stacked_2 (a b e : FVec Ideal S128 .f32) (d : Fin 128) : stacked a b e (ix2 2 d) = e (ix1 d) := by
  unfold stacked; pointwise []

/-! ## The pieces of the body -/

theorem rows_at (x : FVec Ideal S32x2048 .f32) (w : FVec Ideal S1x2048 .f32) (i : Fin 32) (k : Fin 2048) :
    k0_pay1 (F := Ideal) x w (ix2 i k) = normRow (fun k => x (ix2 i k)) (fun k => w (ix2 0 k)) k := by
  unfold k0_pay1 normRow
  pointwise []

theorem acc_at (x : FVec Ideal S32x2048 .bf16) (w : FVec Ideal S2048x1024 .bf16) (i : Fin 32) (l : Fin 1024) :
    k0_pay2 (F := Ideal) x w (ix2 i l) = ∑ k, x (ix2 i k) * w (ix2 k l) := by
  unfold k0_pay2
  pointwise []

theorem head4_at (a : FVec Ideal S32x1024 .f32) (w : FVec Ideal S1x128 .f32) (i : Fin 32) (d : Fin 128) :
    k0_pay4 (F := Ideal) a w (ix2 i d) = headNorm (fun d => a (ix2 i ⟨0 + d.val, by omega⟩)) (fun d => w (ix2 0 d)) d := by
  unfold k0_pay4 headNorm
  pointwise [] <;> simp only [Nat.zero_add]
theorem head5_at (a : FVec Ideal S32x1024 .f32) (w : FVec Ideal S1x128 .f32) (i : Fin 32) (d : Fin 128) :
    k0_pay5 (F := Ideal) a w (ix2 i d) = headNorm (fun d => a (ix2 i ⟨128 + d.val, by omega⟩)) (fun d => w (ix2 0 d)) d := by
  unfold k0_pay5 headNorm
  pointwise []
theorem head6_at (a : FVec Ideal S32x1024 .f32) (w : FVec Ideal S1x128 .f32) (i : Fin 32) (d : Fin 128) :
    k0_pay6 (F := Ideal) a w (ix2 i d) = headNorm (fun d => a (ix2 i ⟨256 + d.val, by omega⟩)) (fun d => w (ix2 0 d)) d := by
  unfold k0_pay6 headNorm
  pointwise []
theorem head7_at (a : FVec Ideal S32x1024 .f32) (w : FVec Ideal S1x128 .f32) (i : Fin 32) (d : Fin 128) :
    k0_pay7 (F := Ideal) a w (ix2 i d) = headNorm (fun d => a (ix2 i ⟨384 + d.val, by omega⟩)) (fun d => w (ix2 0 d)) d := by
  unfold k0_pay7 headNorm
  pointwise []
theorem head8_at (a : FVec Ideal S32x1024 .f32) (w : FVec Ideal S1x128 .f32) (i : Fin 32) (d : Fin 128) :
    k0_pay8 (F := Ideal) a w (ix2 i d) = headNorm (fun d => a (ix2 i ⟨512 + d.val, by omega⟩)) (fun d => w (ix2 0 d)) d := by
  unfold k0_pay8 headNorm
  pointwise []
theorem head9_at (a : FVec Ideal S32x1024 .f32) (w : FVec Ideal S1x128 .f32) (i : Fin 32) (d : Fin 128) :
    k0_pay9 (F := Ideal) a w (ix2 i d) = headNorm (fun d => a (ix2 i ⟨640 + d.val, by omega⟩)) (fun d => w (ix2 0 d)) d := by
  unfold k0_pay9 headNorm
  pointwise []
theorem head14_at (a : FVec Ideal S32x1024 .f32) (w : FVec Ideal S1x128 .f32) (i : Fin 32) (d : Fin 128) :
    k0_pay14 (F := Ideal) a w (ix2 i d) = headNorm (fun d => a (ix2 i ⟨512 + d.val, by omega⟩)) (fun d => w (ix2 0 d)) d := by
  unfold k0_pay14 headNorm
  pointwise []
theorem head15_at (a : FVec Ideal S32x1024 .f32) (w : FVec Ideal S1x128 .f32) (i : Fin 32) (d : Fin 128) :
    k0_pay15 (F := Ideal) a w (ix2 i d) = headNorm (fun d => a (ix2 i ⟨640 + d.val, by omega⟩)) (fun d => w (ix2 0 d)) d := by
  unfold k0_pay15 headNorm
  pointwise []
theorem head19_at (a : FVec Ideal S32x1024 .f32) (w : FVec Ideal S1x128 .f32) (i : Fin 32) (d : Fin 128) :
    k0_pay19 (F := Ideal) a w (ix2 i d) = headNorm (fun d => a (ix2 i ⟨0 + d.val, by omega⟩)) (fun d => w (ix2 0 d)) d := by
  unfold k0_pay19 headNorm
  pointwise [] <;> simp only [Nat.zero_add]
theorem head20_at (a : FVec Ideal S32x1024 .f32) (w : FVec Ideal S1x128 .f32) (i : Fin 32) (d : Fin 128) :
    k0_pay20 (F := Ideal) a w (ix2 i d) = headNorm (fun d => a (ix2 i ⟨128 + d.val, by omega⟩)) (fun d => w (ix2 0 d)) d := by
  unfold k0_pay20 headNorm
  pointwise []
theorem slice10_at (a : FVec Ideal S32x1024 .f32) (i : Fin 32) (d : Fin 128) :
    k0_pay10 (F := Ideal) a (ix2 i d) = a (ix2 i ⟨0 + d.val, by omega⟩) := by
  unfold k0_pay10
  pointwise [] <;> simp only [Nat.zero_add]
theorem slice11_at (a : FVec Ideal S32x1024 .f32) (i : Fin 32) (d : Fin 128) :
    k0_pay11 (F := Ideal) a (ix2 i d) = a (ix2 i ⟨128 + d.val, by omega⟩) := by
  unfold k0_pay11
  pointwise []
theorem slice12_at (a : FVec Ideal S32x1024 .f32) (i : Fin 32) (d : Fin 128) :
    k0_pay12 (F := Ideal) a (ix2 i d) = a (ix2 i ⟨256 + d.val, by omega⟩) := by
  unfold k0_pay12
  pointwise []
theorem slice13_at (a : FVec Ideal S32x1024 .f32) (i : Fin 32) (d : Fin 128) :
    k0_pay13 (F := Ideal) a (ix2 i d) = a (ix2 i ⟨384 + d.val, by omega⟩) := by
  unfold k0_pay13
  pointwise []
theorem slice16_at (a : FVec Ideal S32x1024 .f32) (i : Fin 32) (d : Fin 128) :
    k0_pay16 (F := Ideal) a (ix2 i d) = a (ix2 i ⟨768 + d.val, by omega⟩) := by
  unfold k0_pay16
  pointwise []
theorem slice17_at (a : FVec Ideal S32x1024 .f32) (i : Fin 32) (d : Fin 128) :
    k0_pay17 (F := Ideal) a (ix2 i d) = a (ix2 i ⟨896 + d.val, by omega⟩) := by
  unfold k0_pay17
  pointwise []
theorem slice21_at (a : FVec Ideal S32x1024 .f32) (i : Fin 32) (d : Fin 128) :
    k0_pay21 (F := Ideal) a (ix2 i d) = a (ix2 i ⟨256 + d.val, by omega⟩) := by
  unfold k0_pay21
  pointwise []
theorem slice22_at (a : FVec Ideal S32x1024 .f32) (i : Fin 32) (d : Fin 128) :
    k0_pay22 (F := Ideal) a (ix2 i d) = a (ix2 i ⟨384 + d.val, by omega⟩) := by
  unfold k0_pay22
  pointwise []
theorem row0_at (w : FVec Ideal S3x128 .f32) (d : Fin 128) :
    (show FVec Ideal S1x128 .f32 from View.ld (Val := Elt Ideal) (e' := .f32) w rh0) (ix2 0 d) = w (ix2 0 d) := by
  refine congrArg w (funext fun a => Fin.ext ?_)
  match a with
  | ⟨0, _⟩ => rfl
  | ⟨1, _⟩ => show 0 + 1 * d.val = d.val; omega
theorem row1_at (w : FVec Ideal S3x128 .f32) (d : Fin 128) :
    (show FVec Ideal S1x128 .f32 from View.ld (Val := Elt Ideal) (e' := .f32) w rh1) (ix2 0 d) = w (ix2 1 d) := by
  refine congrArg w (funext fun a => Fin.ext ?_)
  match a with
  | ⟨0, _⟩ => rfl
  | ⟨1, _⟩ => show 0 + 1 * d.val = d.val; omega
theorem row2_at (w : FVec Ideal S3x128 .f32) (d : Fin 128) :
    (show FVec Ideal S1x128 .f32 from View.ld (Val := Elt Ideal) (e' := .f32) w rh2) (ix2 0 d) = w (ix2 2 d) := by
  refine congrArg w (funext fun a => Fin.ext ?_)
  match a with
  | ⟨0, _⟩ => rfl
  | ⟨1, _⟩ => show 0 + 1 * d.val = d.val; omega

/-- The strided rectangle of the rows `g`, `g + 4`, …: where it puts a row, -/
theorem strided_emb (g : ℕ) (inb) (hs) (n : Fin 128) (d : Fin 128) (h : n.val % 4 = g) :
    (⟨(⟨![g, 0], S32x128.size, ![4, 1], inb⟩ : LoadRect S128x128), hs⟩ : Rect S128x128).emb (ix2 (⟨n.val / 4, by omega⟩ : Fin 32) d : S32x128.Idx) = (ix2 n d : S128x128.Idx) := by
  refine funext fun a => Fin.ext ?_
  match a with
  | ⟨0, _⟩ => show g + 4 * (n.val / 4) = n.val; omega
  | ⟨1, _⟩ => show 0 + 1 * d.val = d.val; omega

/-- and which rows are not in it. -/
theorem not_strided (g : ℕ) (n : Fin 128) (d : Fin 128) (hg : ¬ n.val % 4 = g) (hg4 : g < 4) (r : Rect S128x128) (ho : r.off = ![g, 0]) (ht : r.stride = ![4, 1]) :
    (ix2 n d : S128x128.Idx) ∉ r.set := by
  intro hm
  obtain ⟨j, -, e⟩ := (LoadRect.mem_set _).mp hm 0
  rw [ho, ht] at e
  have e' : n.val = g + 4 * j := e
  omega

/-- A point the last write covers reads that write, -/
theorem hit (r : Rect S128x128) (p : r.shape.Idx → Elt Ideal .f32) (L : List (View.Piece (Elt Ideal) S128x128 .f32)) (x : r.shape.Idx) (y : S128x128.Idx)
    (h : r.emb x = y) : View.canon (Val := Elt Ideal) (⟨r, p⟩ :: L) y = p x := by
  rw [← h]
  exact View.canon_cons_emb r p L x

/-- any other the ones before it. -/
theorem miss (r : Rect S128x128) (p : r.shape.Idx → Elt Ideal .f32) (L : List (View.Piece (Elt Ideal) S128x128 .f32)) (y : S128x128.Idx)
    (h : y ∉ r.set) : View.canon (Val := Elt Ideal) (⟨r, p⟩ :: L) y = View.canon (Val := Elt Ideal) L y :=
  View.canon_cons_of_not_mem ⟨r, p⟩ L h

section
variable (p0 p1 p2 p3 : FVec Ideal S32x128 .f32) (n : Fin 128) (d : Fin 128)

theorem weave_3 (h : n.val % 4 = 3) : weave (F := Ideal) p0 p1 p2 p3 (ix2 n d) = p3 (ix2 ⟨n.val / 4, by omega⟩ d) := by
  unfold weave
  exact hit q3 p3 _ _ _ (strided_emb 3 inb_S128x128_S32x128_3_0_s_4_1 spos_4_1 n d h)

theorem weave_2 (h : n.val % 4 = 2) : weave (F := Ideal) p0 p1 p2 p3 (ix2 n d) = p2 (ix2 ⟨n.val / 4, by omega⟩ d) := by
  unfold weave
  refine (miss q3 p3 _ _ (not_strided 3 n d (by omega) (by omega) q3 rfl rfl)).trans ?_
  exact hit q2 p2 _ _ _ (strided_emb 2 inb_S128x128_S32x128_2_0_s_4_1 spos_4_1 n d h)

theorem weave_1 (h : n.val % 4 = 1) : weave (F := Ideal) p0 p1 p2 p3 (ix2 n d) = p1 (ix2 ⟨n.val / 4, by omega⟩ d) := by
  unfold weave
  refine (miss q3 p3 _ _ (not_strided 3 n d (by omega) (by omega) q3 rfl rfl)).trans ?_
  refine (miss q2 p2 _ _ (not_strided 2 n d (by omega) (by omega) q2 rfl rfl)).trans ?_
  exact hit q1 p1 _ _ _ (strided_emb 1 inb_S128x128_S32x128_1_0_s_4_1 spos_4_1 n d h)

theorem weave_0 (h : n.val % 4 = 0) : weave (F := Ideal) p0 p1 p2 p3 (ix2 n d) = p0 (ix2 ⟨n.val / 4, by omega⟩ d) := by
  unfold weave
  refine (miss q3 p3 _ _ (not_strided 3 n d (by omega) (by omega) q3 rfl rfl)).trans ?_
  refine (miss q2 p2 _ _ (not_strided 2 n d (by omega) (by omega) q2 rfl rfl)).trans ?_
  refine (miss q1 p1 _ _ (not_strided 1 n d (by omega) (by omega) q1 rfl rfl)).trans ?_
  exact hit q0 p0 _ _ _ (strided_emb 0 inb_S128x128_S32x128_0_0_s_4_1 spos_4_1 n d h)

end

/-! ## The tiles -/

variable (x : FVec Ideal S32x2048 .bf16) (w : FVec Ideal S2048x1024 .bf16) (hw : FVec Ideal S3x128 .f32) (i : Fin 32) (l : Fin 1024)

/-- The head that column `l` of a tile is in, normed. -/
def tileHead (r : Fin 3) : EReal :=
  headNorm (fun d => k0_pay2 (F := Ideal) x w (ix2 i ⟨l.val / 128 * 128 + d.val, by have := l.isLt; have := d.isLt; omega⟩)) (fun d => hw (ix2 r d)) ⟨l.val % 128, Nat.mod_lt _ (by decide)⟩

theorem headTile_at : headTile (F := Ideal) x w hw (ix2 i l) = tileHead x w hw i l 0 := by
  have hl := l.isLt
  unfold headTile k0_pay3 tileHead
  pointwise []
  by_cases h0 : l.val < 128
  · rw [dif_pos h0]
    refine (head4_at _ _ _ _).trans (headNorm_congr (fun d => congrArg (fun j => k0_pay2 (F := Ideal) x w (ix2 i j)) (Fin.ext (by show 0 + d.val = l.val / 128 * 128 + d.val; omega))) (row0_at hw) (Fin.ext (by show l.val = l.val % 128; omega)))
  rw [dif_neg h0]
  by_cases h1 : l.val - 128 < 128
  · rw [dif_pos h1]
    refine (head5_at _ _ _ _).trans (headNorm_congr (fun d => congrArg (fun j => k0_pay2 (F := Ideal) x w (ix2 i j)) (Fin.ext (by show 128 + d.val = l.val / 128 * 128 + d.val; omega))) (row0_at hw) (Fin.ext (by show l.val - 128 = l.val % 128; omega)))
  rw [dif_neg h1]
  by_cases h2 : l.val - 128 - 128 < 128
  · rw [dif_pos h2]
    refine (head6_at _ _ _ _).trans (headNorm_congr (fun d => congrArg (fun j => k0_pay2 (F := Ideal) x w (ix2 i j)) (Fin.ext (by show 256 + d.val = l.val / 128 * 128 + d.val; omega))) (row0_at hw) (Fin.ext (by show l.val - 128 - 128 = l.val % 128; omega)))
  rw [dif_neg h2]
  by_cases h3 : l.val - 128 - 128 - 128 < 128
  · rw [dif_pos h3]
    refine (head7_at _ _ _ _).trans (headNorm_congr (fun d => congrArg (fun j => k0_pay2 (F := Ideal) x w (ix2 i j)) (Fin.ext (by show 384 + d.val = l.val / 128 * 128 + d.val; omega))) (row0_at hw) (Fin.ext (by show l.val - 128 - 128 - 128 = l.val % 128; omega)))
  rw [dif_neg h3]
  by_cases h4 : l.val - 128 - 128 - 128 - 128 < 128
  · rw [dif_pos h4]
    refine (head8_at _ _ _ _).trans (headNorm_congr (fun d => congrArg (fun j => k0_pay2 (F := Ideal) x w (ix2 i j)) (Fin.ext (by show 512 + d.val = l.val / 128 * 128 + d.val; omega))) (row0_at hw) (Fin.ext (by show l.val - 128 - 128 - 128 - 128 = l.val % 128; omega)))
  rw [dif_neg h4]
  by_cases h5 : l.val - 128 - 128 - 128 - 128 - 128 < 128
  · rw [dif_pos h5]
    refine (head9_at _ _ _ _).trans (headNorm_congr (fun d => congrArg (fun j => k0_pay2 (F := Ideal) x w (ix2 i j)) (Fin.ext (by show 640 + d.val = l.val / 128 * 128 + d.val; omega))) (row0_at hw) (Fin.ext (by show l.val - 128 - 128 - 128 - 128 - 128 = l.val % 128; omega)))
  rw [dif_neg h5]
  by_cases h6 : l.val - 128 - 128 - 128 - 128 - 128 - 128 < 128
  · rw [dif_pos h6]
    exact (show _ = headNorm (fun d => k0_pay2 (F := Ideal) x w (ix2 i ⟨768 + d.val, by omega⟩)) (fun d => hw (ix2 0 d)) ⟨l.val - 128 - 128 - 128 - 128 - 128 - 128, by omega⟩ from rfl).trans (headNorm_congr (fun d => congrArg (fun j => k0_pay2 (F := Ideal) x w (ix2 i j)) (Fin.ext (by show 768 + d.val = l.val / 128 * 128 + d.val; omega))) (fun _ => rfl) (Fin.ext (by show l.val - 128 - 128 - 128 - 128 - 128 - 128 = l.val % 128; omega)))
  rw [dif_neg h6]
  exact (show _ = headNorm (fun d => k0_pay2 (F := Ideal) x w (ix2 i ⟨896 + d.val, by omega⟩)) (fun d => hw (ix2 0 d)) ⟨l.val - 128 - 128 - 128 - 128 - 128 - 128 - 128, by omega⟩ from rfl).trans (headNorm_congr (fun d => congrArg (fun j => k0_pay2 (F := Ideal) x w (ix2 i j)) (Fin.ext (by show 896 + d.val = l.val / 128 * 128 + d.val; omega))) (fun _ => rfl) (Fin.ext (by show l.val - 128 - 128 - 128 - 128 - 128 - 128 - 128 = l.val % 128; omega)))

theorem selTile_at : selTile (F := Ideal) x w hw (ix2 i l)
    = if 512 ≤ l.val ∧ l.val < 768 then tileHead x w hw i l 1 else k0_pay2 (F := Ideal) x w (ix2 i l) := by
  have hl := l.isLt
  unfold selTile k0_pay18 tileHead
  pointwise []
  by_cases h0 : l.val < 128
  · rw [dif_pos h0]
    refine Eq.trans ?_ (if_neg (by omega)).symm
    refine (slice10_at _ _ _).trans (congrArg (fun j => k0_pay2 (F := Ideal) x w (ix2 i j)) (Fin.ext (by show 0 + (l.val) = l.val; omega)))
  rw [dif_neg h0]
  by_cases h1 : l.val - 128 < 128
  · rw [dif_pos h1]
    refine Eq.trans ?_ (if_neg (by omega)).symm
    refine (slice11_at _ _ _).trans (congrArg (fun j => k0_pay2 (F := Ideal) x w (ix2 i j)) (Fin.ext (by show 128 + (l.val - 128) = l.val; omega)))
  rw [dif_neg h1]
  by_cases h2 : l.val - 128 - 128 < 128
  · rw [dif_pos h2]
    refine Eq.trans ?_ (if_neg (by omega)).symm
    refine (slice12_at _ _ _).trans (congrArg (fun j => k0_pay2 (F := Ideal) x w (ix2 i j)) (Fin.ext (by show 256 + (l.val - 128 - 128) = l.val; omega)))
  rw [dif_neg h2]
  by_cases h3 : l.val - 128 - 128 - 128 < 128
  · rw [dif_pos h3]
    refine Eq.trans ?_ (if_neg (by omega)).symm
    refine (slice13_at _ _ _).trans (congrArg (fun j => k0_pay2 (F := Ideal) x w (ix2 i j)) (Fin.ext (by show 384 + (l.val - 128 - 128 - 128) = l.val; omega)))
  rw [dif_neg h3]
  by_cases h4 : l.val - 128 - 128 - 128 - 128 < 128
  · rw [dif_pos h4]
    refine Eq.trans ?_ (if_pos (by omega)).symm
    refine (head14_at _ _ _ _).trans (headNorm_congr (fun d => congrArg (fun j => k0_pay2 (F := Ideal) x w (ix2 i j)) (Fin.ext (by show 512 + d.val = l.val / 128 * 128 + d.val; omega))) (row1_at hw) (Fin.ext (by show l.val - 128 - 128 - 128 - 128 = l.val % 128; omega)))
  rw [dif_neg h4]
  by_cases h5 : l.val - 128 - 128 - 128 - 128 - 128 < 128
  · rw [dif_pos h5]
    refine Eq.trans ?_ (if_pos (by omega)).symm
    refine (head15_at _ _ _ _).trans (headNorm_congr (fun d => congrArg (fun j => k0_pay2 (F := Ideal) x w (ix2 i j)) (Fin.ext (by show 640 + d.val = l.val / 128 * 128 + d.val; omega))) (row1_at hw) (Fin.ext (by show l.val - 128 - 128 - 128 - 128 - 128 = l.val % 128; omega)))
  rw [dif_neg h5]
  by_cases h6 : l.val - 128 - 128 - 128 - 128 - 128 - 128 < 128
  · rw [dif_pos h6]
    refine Eq.trans ?_ (if_neg (by omega)).symm
    refine (slice16_at _ _ _).trans (congrArg (fun j => k0_pay2 (F := Ideal) x w (ix2 i j)) (Fin.ext (by show 768 + (l.val - 128 - 128 - 128 - 128 - 128 - 128) = l.val; omega)))
  rw [dif_neg h6]
  refine Eq.trans ?_ (if_neg (by omega)).symm
  refine (slice17_at _ _ _).trans (congrArg (fun j => k0_pay2 (F := Ideal) x w (ix2 i j)) (Fin.ext (by show 896 + (l.val - 128 - 128 - 128 - 128 - 128 - 128 - 128) = l.val; omega)))

theorem winTile_at : winTile (F := Ideal) x w hw (ix2 i l)
    = if l.val < 256 then tileHead x w hw i l 2 else k0_pay2 (F := Ideal) x w (ix2 i l) := by
  have hl := l.isLt
  unfold winTile k0_pay23 tileHead
  pointwise []
  by_cases h0 : l.val < 128
  · rw [dif_pos h0]
    refine Eq.trans ?_ (if_pos (by omega)).symm
    refine (head19_at _ _ _ _).trans (headNorm_congr (fun d => congrArg (fun j => k0_pay2 (F := Ideal) x w (ix2 i j)) (Fin.ext (by show 0 + d.val = l.val / 128 * 128 + d.val; omega))) (row2_at hw) (Fin.ext (by show l.val = l.val % 128; omega)))
  rw [dif_neg h0]
  by_cases h1 : l.val - 128 < 128
  · rw [dif_pos h1]
    refine Eq.trans ?_ (if_pos (by omega)).symm
    refine (head20_at _ _ _ _).trans (headNorm_congr (fun d => congrArg (fun j => k0_pay2 (F := Ideal) x w (ix2 i j)) (Fin.ext (by show 128 + d.val = l.val / 128 * 128 + d.val; omega))) (row2_at hw) (Fin.ext (by show l.val - 128 = l.val % 128; omega)))
  rw [dif_neg h1]
  by_cases h2 : l.val - 128 - 128 < 128
  · rw [dif_pos h2]
    refine Eq.trans ?_ (if_neg (by omega)).symm
    refine (slice21_at _ _ _).trans (congrArg (fun j => k0_pay2 (F := Ideal) x w (ix2 i j)) (Fin.ext (by show 256 + (l.val - 128 - 128) = l.val; omega)))
  rw [dif_neg h2]
  by_cases h3 : l.val - 128 - 128 - 128 < 128
  · rw [dif_pos h3]
    refine Eq.trans ?_ (if_neg (by omega)).symm
    refine (slice22_at _ _ _).trans (congrArg (fun j => k0_pay2 (F := Ideal) x w (ix2 i j)) (Fin.ext (by show 384 + (l.val - 128 - 128 - 128) = l.val; omega)))
  rw [dif_neg h3]
  by_cases h4 : l.val - 128 - 128 - 128 - 128 < 128
  · rw [dif_pos h4]
    refine Eq.trans ?_ (if_neg (by omega)).symm
    exact congrArg (fun j => k0_pay2 (F := Ideal) x w (ix2 i j)) (Fin.ext (by show 512 + (l.val - 128 - 128 - 128 - 128) = l.val; omega))
  rw [dif_neg h4]
  by_cases h5 : l.val - 128 - 128 - 128 - 128 - 128 < 128
  · rw [dif_pos h5]
    refine Eq.trans ?_ (if_neg (by omega)).symm
    exact congrArg (fun j => k0_pay2 (F := Ideal) x w (ix2 i j)) (Fin.ext (by show 640 + (l.val - 128 - 128 - 128 - 128 - 128) = l.val; omega))
  rw [dif_neg h5]
  by_cases h6 : l.val - 128 - 128 - 128 - 128 - 128 - 128 < 128
  · rw [dif_pos h6]
    refine Eq.trans ?_ (if_neg (by omega)).symm
    exact congrArg (fun j => k0_pay2 (F := Ideal) x w (ix2 i j)) (Fin.ext (by show 768 + (l.val - 128 - 128 - 128 - 128 - 128 - 128) = l.val; omega))
  rw [dif_neg h6]
  refine Eq.trans ?_ (if_neg (by omega)).symm
  exact congrArg (fun j => k0_pay2 (F := Ideal) x w (ix2 i j)) (Fin.ext (by show 896 + (l.val - 128 - 128 - 128 - 128 - 128 - 128 - 128) = l.val; omega))

end Cert.ProjStepTile

end
-- ==== Proof.ProjStepFinal.lean ====
/- The input projection, read point by point: point `t` holds 1024 rows and the `t % 12`-th 1024 columns; the results as
   functions of the argument arrays. -/
module

public import proofs.«01_k».proof.Proof.ProjStepTile

@[expose] public section
set_option maxRecDepth 16384
noncomputable section
open Idealize.ShloMosaic Idealize.ShloMosaic.TcCoe Idealize.SL.Sem
open Idealize.ShloMosaic.Pipeline (Dat)

namespace Cert.ProjStepTile
open Cert.ProjStepIdeal Cert.ProjStepIdeal.Gen Cert.ProjStepRun Cert.ProjStepFrame Cert.ProjSpec

/-! ## A tile over any operands: the columns of the result from `1024 * j` on -/

section
variable (xn : FVec Ideal S32x2048 .bf16) (w : FVec Ideal S2048x1024 .bf16) (hw : FVec Ideal S3x128 .f32) (i : Fin 32) (j : ℕ)
  (X nw : Fin 2048 → EReal) (W : Fin 2048 → Fin 11816 → EReal) (qw sw ww : Fin 128 → EReal)
  (hx : ∀ k, xn (ix2 i k) = normRow X nw k) (hc : ∀ k l, w (ix2 k l) = colAt W k (src (1024 * j + l.val)))
include hx hc

theorem acc_eq (l : Fin 1024) : k0_pay2 (F := Ideal) xn w (ix2 i l) = rawCol X nw W (1024 * j + l.val) := by
  refine (acc_at xn w i l).trans ?_
  unfold rawCol
  exact Finset.sum_congr rfl fun k _ => by rw [hx k, hc k l]

theorem head_eq (r : Fin 3) (v : Fin 128 → EReal) (hv : ∀ d, hw (ix2 r d) = v d) (l : Fin 1024) (n : ℕ) (hn : n = 1024 * j + l.val) :
    tileHead xn w hw i l r = headNorm (fun d => rawCol X nw W (n / 128 * 128 + d)) v ⟨n % 128, Nat.mod_lt _ (by decide)⟩ := by
  subst hn
  unfold tileHead
  refine headNorm_congr (fun d => (acc_eq xn w i j X nw W hx hc _).trans (congrArg (rawCol X nw W) ?_)) hv (Fin.ext ?_)
  · show 1024 * j + (l.val / 128 * 128 + d.val) = (1024 * j + l.val) / 128 * 128 + d.val
    omega
  · show l.val % 128 = (1024 * j + l.val) % 128
    omega

theorem plain_eq (l : Fin 1024) (h0 : 1 ≤ j) (h1 : j ≤ 9) : k0_pay2 (F := Ideal) xn w (ix2 i l) = projAt X nw W qw sw ww (1024 * j + l.val) := by
  have hl := l.isLt
  refine (acc_eq xn w i j X nw W hx hc l).trans ?_
  unfold projAt colOf
  rw [if_neg (by omega), if_neg (by omega), if_neg (by omega)]

theorem headTile_eq (hq : ∀ d, hw (ix2 0 d) = qw d) (l : Fin 1024) (h0 : j = 0) : headTile (F := Ideal) xn w hw (ix2 i l) = projAt X nw W qw sw ww (1024 * j + l.val) := by
  have hl := l.isLt
  refine (headTile_at xn w hw i l).trans ((head_eq xn w hw i j X nw W hx hc 0 qw hq l _ rfl).trans ?_)
  unfold projAt colOf
  rw [if_pos (by omega)]

theorem selTile_eq (hs : ∀ d, hw (ix2 1 d) = sw d) (l : Fin 1024) (h0 : j = 10) : selTile (F := Ideal) xn w hw (ix2 i l) = projAt X nw W qw sw ww (1024 * j + l.val) := by
  have hl := l.isLt
  refine (selTile_at xn w hw i l).trans ?_
  unfold projAt colOf
  rw [if_neg (by omega : ¬ 1024 * j + l.val < 1024)]
  by_cases h : 512 ≤ l.val ∧ l.val < 768
  · rw [if_pos h, if_pos (by omega)]
    exact head_eq xn w hw i j X nw W hx hc 1 sw hs l _ rfl
  · rw [if_neg h, if_neg (by omega), if_neg (by omega)]
    exact acc_eq xn w i j X nw W hx hc l

theorem winTile_eq (hs : ∀ d, hw (ix2 2 d) = ww d) (l : Fin 1024) (h0 : j = 11) : winTile (F := Ideal) xn w hw (ix2 i l) = projAt X nw W qw sw ww (1024 * j + l.val) := by
  have hl := l.isLt
  refine (winTile_at xn w hw i l).trans ?_
  unfold projAt colOf
  rw [if_neg (by omega : ¬ 1024 * j + l.val < 1024), if_neg (by omega : ¬ (10752 ≤ 1024 * j + l.val ∧ 1024 * j + l.val < 11008))]
  by_cases h : l.val < 256
  · rw [if_pos h, if_pos (by omega)]
    exact head_eq xn w hw i j X nw W hx hc 2 ww hs l _ rfl
  · rw [if_neg h, if_neg (by omega)]
    exact acc_eq xn w i j X nw W hx hc l
end

/-! ## The interleaved rows are rows of the tile -/

section
variable (xn : FVec Ideal S32x2048 .bf16) (w : FVec Ideal S2048x1024 .bf16) (hw : FVec Ideal S3x128 .f32) (n : Fin 128) (d : Fin 128)

/-- The row and the column of the tile that row `n`, column `d` of the interleaved rows is at. -/
def tileRow : Fin 32 := ⟨n.val / 4, by have := n.isLt; omega⟩
def tileCol (o : ℕ) (ho : o ≤ 512) : Fin 1024 := ⟨o + 128 * (n.val % 4) + d.val, by have := d.isLt; omega⟩

theorem cmpRows_at : cmpRows (F := Ideal) xn w (ix2 n d) = selTile (F := Ideal) xn w hw (ix2 (tileRow n) (tileCol n d 0 (by omega))) := by
  have hd := d.isLt
  refine Eq.trans ?_ (selTile_at xn w hw _ _).symm
  unfold cmpRows
  have h4 : n.val % 4 = 0 ∨ n.val % 4 = 1 ∨ n.val % 4 = 2 ∨ n.val % 4 = 3 := by omega
  obtain h | h | h | h := h4
  · refine (weave_0 _ _ _ _ n d h).trans (Eq.trans ?_ (if_neg (by show ¬ (512 ≤ 0 + 128 * (n.val % 4) + d.val ∧ 0 + 128 * (n.val % 4) + d.val < 768); omega)).symm)
    refine (slice10_at _ _ _).trans (congrArg (fun j => k0_pay2 (F := Ideal) xn w (ix2 (tileRow n) j)) (Fin.ext ?_))
    show 0 + d.val = 0 + 128 * (n.val % 4) + d.val
    omega
  · refine (weave_1 _ _ _ _ n d h).trans (Eq.trans ?_ (if_neg (by show ¬ (512 ≤ 0 + 128 * (n.val % 4) + d.val ∧ 0 + 128 * (n.val % 4) + d.val < 768); omega)).symm)
    refine (slice11_at _ _ _).trans (congrArg (fun j => k0_pay2 (F := Ideal) xn w (ix2 (tileRow n) j)) (Fin.ext ?_))
    show 128 + d.val = 0 + 128 * (n.val % 4) + d.val
    omega
  · refine (weave_2 _ _ _ _ n d h).trans (Eq.trans ?_ (if_neg (by show ¬ (512 ≤ 0 + 128 * (n.val % 4) + d.val ∧ 0 + 128 * (n.val % 4) + d.val < 768); omega)).symm)
    refine (slice12_at _ _ _).trans (congrArg (fun j => k0_pay2 (F := Ideal) xn w (ix2 (tileRow n) j)) (Fin.ext ?_))
    show 256 + d.val = 0 + 128 * (n.val % 4) + d.val
    omega
  · refine (weave_3 _ _ _ _ n d h).trans (Eq.trans ?_ (if_neg (by show ¬ (512 ≤ 0 + 128 * (n.val % 4) + d.val ∧ 0 + 128 * (n.val % 4) + d.val < 768); omega)).symm)
    refine (slice13_at _ _ _).trans (congrArg (fun j => k0_pay2 (F := Ideal) xn w (ix2 (tileRow n) j)) (Fin.ext ?_))
    show 384 + d.val = 0 + 128 * (n.val % 4) + d.val
    omega

theorem selRows_at : selRows (F := Ideal) xn w hw (ix2 n d) = selTile (F := Ideal) xn w hw (ix2 (tileRow n) (tileCol n d 512 (by omega))) := by
  have hd := d.isLt
  refine Eq.trans ?_ (selTile_at xn w hw _ _).symm
  unfold selRows
  have h4 : n.val % 4 = 0 ∨ n.val % 4 = 1 ∨ n.val % 4 = 2 ∨ n.val % 4 = 3 := by omega
  obtain h | h | h | h := h4
  · refine (weave_0 _ _ _ _ n d h).trans (Eq.trans ?_ (if_pos (by show 512 ≤ 512 + 128 * (n.val % 4) + d.val ∧ 512 + 128 * (n.val % 4) + d.val < 768; omega)).symm)
    unfold tileHead
    refine (head14_at _ _ _ _).trans (headNorm_congr (fun e => congrArg (fun j => k0_pay2 (F := Ideal) xn w (ix2 (tileRow n) j)) (Fin.ext ?_)) (row1_at hw) (Fin.ext ?_))
    · show 512 + e.val = (512 + 128 * (n.val % 4) + d.val) / 128 * 128 + e.val
      omega
    · show d.val = (512 + 128 * (n.val % 4) + d.val) % 128
      omega
  · refine (weave_1 _ _ _ _ n d h).trans (Eq.trans ?_ (if_pos (by show 512 ≤ 512 + 128 * (n.val % 4) + d.val ∧ 512 + 128 * (n.val % 4) + d.val < 768; omega)).symm)
    unfold tileHead
    refine (head15_at _ _ _ _).trans (headNorm_congr (fun e => congrArg (fun j => k0_pay2 (F := Ideal) xn w (ix2 (tileRow n) j)) (Fin.ext ?_)) (row1_at hw) (Fin.ext ?_))
    · show 640 + e.val = (512 + 128 * (n.val % 4) + d.val) / 128 * 128 + e.val
      omega
    · show d.val = (512 + 128 * (n.val % 4) + d.val) % 128
      omega
  · refine (weave_2 _ _ _ _ n d h).trans (Eq.trans ?_ (if_neg (by show ¬ (512 ≤ 512 + 128 * (n.val % 4) + d.val ∧ 512 + 128 * (n.val % 4) + d.val < 768); omega)).symm)
    refine (slice16_at _ _ _).trans (congrArg (fun j => k0_pay2 (F := Ideal) xn w (ix2 (tileRow n) j)) (Fin.ext ?_))
    show 768 + d.val = 512 + 128 * (n.val % 4) + d.val
    omega
  · refine (weave_3 _ _ _ _ n d h).trans (Eq.trans ?_ (if_neg (by show ¬ (512 ≤ 512 + 128 * (n.val % 4) + d.val ∧ 512 + 128 * (n.val % 4) + d.val < 768); omega)).symm)
    refine (slice17_at _ _ _).trans (congrArg (fun j => k0_pay2 (F := Ideal) xn w (ix2 (tileRow n) j)) (Fin.ext ?_))
    show 896 + d.val = 512 + 128 * (n.val % 4) + d.val
    omega

theorem winRows_at : winRows (F := Ideal) xn w hw (ix2 n d) = winTile (F := Ideal) xn w hw (ix2 (tileRow n) (tileCol n d 0 (by omega))) := by
  have hd := d.isLt
  refine Eq.trans ?_ (winTile_at xn w hw _ _).symm
  unfold winRows
  have h4 : n.val % 4 = 0 ∨ n.val % 4 = 1 ∨ n.val % 4 = 2 ∨ n.val % 4 = 3 := by omega
  obtain h | h | h | h := h4
  · refine (weave_0 _ _ _ _ n d h).trans (Eq.trans ?_ (if_pos (by show 0 + 128 * (n.val % 4) + d.val < 256; omega)).symm)
    unfold tileHead
    refine (head19_at _ _ _ _).trans (headNorm_congr (fun e => congrArg (fun j => k0_pay2 (F := Ideal) xn w (ix2 (tileRow n) j)) (Fin.ext ?_)) (row2_at hw) (Fin.ext ?_))
    · show 0 + e.val = (0 + 128 * (n.val % 4) + d.val) / 128 * 128 + e.val
      omega
    · show d.val = (0 + 128 * (n.val % 4) + d.val) % 128
      omega
  · refine (weave_1 _ _ _ _ n d h).trans (Eq.trans ?_ (if_pos (by show 0 + 128 * (n.val % 4) + d.val < 256; omega)).symm)
    unfold tileHead
    refine (head20_at _ _ _ _).trans (headNorm_congr (fun e => congrArg (fun j => k0_pay2 (F := Ideal) xn w (ix2 (tileRow n) j)) (Fin.ext ?_)) (row2_at hw) (Fin.ext ?_))
    · show 128 + e.val = (0 + 128 * (n.val % 4) + d.val) / 128 * 128 + e.val
      omega
    · show d.val = (0 + 128 * (n.val % 4) + d.val) % 128
      omega
  · refine (weave_2 _ _ _ _ n d h).trans (Eq.trans ?_ (if_neg (by show ¬ (0 + 128 * (n.val % 4) + d.val < 256); omega)).symm)
    refine (slice21_at _ _ _).trans (congrArg (fun j => k0_pay2 (F := Ideal) xn w (ix2 (tileRow n) j)) (Fin.ext ?_))
    show 256 + d.val = 0 + 128 * (n.val % 4) + d.val
    omega
  · refine (weave_3 _ _ _ _ n d h).trans (Eq.trans ?_ (if_neg (by show ¬ (0 + 128 * (n.val % 4) + d.val < 256); omega)).symm)
    refine (slice22_at _ _ _).trans (congrArg (fun j => k0_pay2 (F := Ideal) xn w (ix2 (tileRow n) j)) (Fin.ext ?_))
    show 384 + d.val = 0 + 128 * (n.val % 4) + d.val
    omega

end

/-! ## The blocks of a point -/

variable (m : (ℓ : Loc nD τ sig) → Buf (Elt Ideal) ℓ) (c : Dev nD)

/-- The argument arrays as functions of plain indices. -/
def aX (r : Fin 32) (k : Fin 2048) : EReal := (show FVec Ideal S32x1x2048 .f32 from m ((c : Thread nD τ).loc main_arg0)) (ix3 r 0 k)
def aNw (k : Fin 2048) : EReal := (show FVec Ideal S2048 .f32 from m ((c : Thread nD τ).loc main_arg1)) (ix1 k)
def aW (k : Fin 2048) (j : Fin 11816) : EReal := (show FVec Ideal S2048x11816 .f32 from m ((c : Thread nD τ).loc main_arg2)) (ix2 k j)
def aQ (d : Fin 128) : EReal := (show FVec Ideal S128 .f32 from m ((c : Thread nD τ).loc main_arg3)) (ix1 d)
def aS (d : Fin 128) : EReal := (show FVec Ideal S128 .f32 from m ((c : Thread nD τ).loc main_arg4)) (ix1 d)
def aWin (d : Fin 128) : EReal := (show FVec Ideal S128 .f32 from m ((c : Thread nD τ).loc main_arg5)) (ix1 d)

theorem idx : ∀ t : Fin cfg0.N, win0_0.index t = ![t.val / 12, 0] ∧ win0_1.index t = ![0, 0] ∧ win0_2.index t = ![0, t.val % 12]
    ∧ win0_3.index t = ![0, 0] ∧ win0_4.index t = ![t.val / 12, t.val % 12] ∧ win0_5.index t = ![t.val / 12, 0] ∧ win0_6.index t = ![t.val / 12, 0]
    ∧ win0_7.index t = ![t.val / 12, 0] ∧ t.val < 12 :=
  (by decide +kernel : ∀ t : Fin grid0.N, _)

set_option maxHeartbeats 4000000 in
theorem V_weight : V m c main_v14 = truncf .bf16 (permuted (m ((c : Thread nD τ).loc main_arg2))) bitsLt_bf16_f32 := by
  unfold V hostOps0 permuted
  after_results_simp
  dsimp only [Matrix.cons_val]
  rfl

set_option maxHeartbeats 4000000 in
theorem V_heads : V m c main_v18 = stacked (m ((c : Thread nD τ).loc main_arg3)) (m ((c : Thread nD τ).loc main_arg4)) (m ((c : Thread nD τ).loc main_arg5)) := by
  unfold V hostOps0 stacked
  after_results_simp
  dsimp only [Matrix.cons_val]
  rfl

theorem V_rows : V m c main_v19 = shapeCast S32x2048 (show FVec Ideal S32x1x2048 .f32 from m ((c : Thread nD τ).loc main_arg0)) shapeCasts_S32x1x2048_S32x2048 := by
  unfold V hostOps0
  after_results_simp
  rfl

theorem V_norm : V m c main_v20 = shapeCast S1x2048 (show FVec Ideal S2048 .f32 from m ((c : Thread nD τ).loc main_arg1)) shapeCasts_S2048_S1x2048 := by
  unfold V hostOps0
  after_results_simp
  rfl

variable (t : Fin cfg0.N)

/-- The row of the arrays that row `i` of point `t`'s block is. -/
def row (i : Fin 32) : Fin 32 := ⟨32 * (t.val / 12) + i.val, by have := (idx t).2.2.2.2.2.2.2.2; have := i.isLt; omega⟩

theorem iblk0 (i : Fin 32) (k : Fin 2048) : (show FVec Ideal S32x2048 .f32 from iblk m c 0 t) (ix2 i k)
    = (show FVec Ideal S32x2048 .f32 from V m c main_v19) (ix2 (row t i) k) := by
  unfold iblk row
  generalize V m c = U
  blk_point [iblk, idx t]
theorem iblk1 (k : Fin 2048) : (show FVec Ideal S1x2048 .f32 from iblk m c 1 t) (ix2 0 k)
    = (show FVec Ideal S1x2048 .f32 from V m c main_v20) (ix2 0 k) := by
  unfold iblk
  generalize V m c = U
  blk_point [iblk, idx t]
theorem iblk2 (k : Fin 2048) (l : Fin 1024) : (show FVec Ideal S2048x1024 .bf16 from iblk m c 2 t) (ix2 k l)
    = (show FVec Ideal S2048x12288 .bf16 from V m c main_v14) (ix2 k ⟨1024 * (t.val % 12) + l.val, by have := l.isLt; omega⟩) := by
  unfold iblk
  generalize V m c = U
  blk_point [iblk, idx t]
theorem iblk3 (k : Fin 3) (l : Fin 128) : (show FVec Ideal S3x128 .f32 from iblk m c 3 t) (ix2 k l)
    = (show FVec Ideal S3x128 .f32 from V m c main_v18) (ix2 k l) := by
  unfold iblk
  generalize V m c = U
  blk_point [iblk, idx t]

theorem blk0 (i : Fin 32) (k : Fin 2048) : (show FVec Ideal S32x2048 .f32 from iblk m c 0 t) (ix2 i k) = aX m c (row t i) k := by
  refine (iblk0 m c t i k).trans ?_
  rw [V_rows]
  unfold aX
  pointwise []
theorem blk1 (k : Fin 2048) : (show FVec Ideal S1x2048 .f32 from iblk m c 1 t) (ix2 0 k) = aNw m c k := by
  refine (iblk1 m c t k).trans ?_
  rw [V_norm]
  unfold aNw
  pointwise []
theorem blk2 (k : Fin 2048) (l : Fin 1024) : (show FVec Ideal S2048x1024 .bf16 from iblk m c 2 t) (ix2 k l) = colAt (aW m c) k (src (1024 * (t.val % 12) + l.val)) := by
  refine (iblk2 m c t k l).trans ?_
  rw [V_weight]
  exact permuted_at _ k _
theorem blk3_0 (d : Fin 128) : (show FVec Ideal S3x128 .f32 from iblk m c 3 t) (ix2 0 d) = aQ m c d := by
  refine (iblk3 m c t 0 d).trans ?_
  rw [V_heads]
  exact stacked_0 _ _ _ d
theorem blk3_1 (d : Fin 128) : (show FVec Ideal S3x128 .f32 from iblk m c 3 t) (ix2 1 d) = aS m c d := by
  refine (iblk3 m c t 1 d).trans ?_
  rw [V_heads]
  exact stacked_1 _ _ _ d
theorem blk3_2 (d : Fin 128) : (show FVec Ideal S3x128 .f32 from iblk m c 3 t) (ix2 2 d) = aWin m c d := by
  refine (iblk3 m c t 2 d).trans ?_
  rw [V_heads]
  exact stacked_2 _ _ _ d

theorem rows_eq (i : Fin 32) (k : Fin 2048) : rowsAt m c t (ix2 i k) = normRow (aX m c (row t i)) (aNw m c) k := by
  unfold rowsAt
  refine (rows_at _ _ i k).trans ?_
  have e : ∀ k, (show FVec Ideal S32x2048 .f32 from iblk m c 0 (tileAt t 0)) (ix2 i k) = aX m c (row t i) k := fun k =>
    (blk0 m c (tileAt t 0) i k).trans (congrArg (fun r => aX m c r k) (Fin.ext (by
      show 32 * ((12 * (t.val / 12) + 0) / 12) + i.val = 32 * (t.val / 12) + i.val; omega)))
  exact congrArg₂ (fun f g => normRow f g k) (funext e) (funext (blk1 m c (tileAt t 0)))

/-- The first result's row `r`, column `n`, over the argument arrays. -/
def G (r : Fin 32) (n : ℕ) : EReal := projAt (aX m c r) (aNw m c) (aW m c) (aQ m c) (aS m c) (aWin m c) n

theorem out_eq (i : Fin 32) (l : Fin 1024) : outAt m c t (ix2 i l) = G m c (row t i) (1024 * (t.val % 12) + l.val) := by
  have ht := (idx t).2.2.2.2.2.2.2.2
  unfold outAt G
  by_cases h0 : t.val % 12 = 0
  · rw [if_pos h0]
    exact headTile_eq _ _ _ i _ _ _ _ _ _ _ (rows_eq m c t i) (blk2 m c t) (blk3_0 m c t) l h0
  rw [if_neg h0]
  by_cases h1 : t.val % 12 = 10
  · rw [if_pos h1]
    exact selTile_eq _ _ _ i _ _ _ _ _ _ _ (rows_eq m c t i) (blk2 m c t) (blk3_1 m c t) l h1
  rw [if_neg h1]
  by_cases h2 : t.val % 12 = 11
  · rw [if_pos h2]
    exact winTile_eq _ _ _ i _ _ _ _ _ _ _ (rows_eq m c t i) (blk2 m c t) (blk3_2 m c t) l h2
  rw [if_neg h2]
  exact plain_eq _ _ i _ _ _ _ _ _ _ (rows_eq m c t i) (blk2 m c t) l (by omega) (by omega)

theorem sel_eq (i : Fin 32) (l : Fin 1024) : selTile (F := Ideal) (rowsAt m c t) (iblk m c 2 (tileAt t 10)) (iblk m c 3 (tileAt t 10)) (ix2 i l)
    = G m c (row t i) (10240 + l.val) := by
  have e : (tileAt t 10).val % 12 = 10 := by show (12 * (t.val / 12) + 10) % 12 = 10; omega
  unfold G
  refine selTile_eq _ _ _ i 10 _ _ _ _ _ _ (rows_eq m c t i) (fun k l => (blk2 m c (tileAt t 10) k l).trans ?_) (blk3_1 m c _) l rfl
  rw [e]

theorem win_eq (i : Fin 32) (l : Fin 1024) : winTile (F := Ideal) (rowsAt m c t) (iblk m c 2 (tileAt t 11)) (iblk m c 3 (tileAt t 11)) (ix2 i l)
    = G m c (row t i) (11264 + l.val) := by
  have e : (tileAt t 11).val % 12 = 11 := by show (12 * (t.val / 12) + 11) % 12 = 11; omega
  unfold G
  refine winTile_eq _ _ _ i 11 _ _ _ _ _ _ (rows_eq m c t i) (fun k l => (blk2 m c (tileAt t 11) k l).trans ?_) (blk3_2 m c _) l rfl
  rw [e]

/-! ## The four results -/

/-- The columns. -/
def G4 (y : S32x12288.Idx) : EReal := G m c (y 0) (y 1).val
/-- The rows of the keys and values whose columns start at `o`. -/
def GR (o : ℕ) (y : S128x128.Idx) : EReal :=
  G m c ⟨(y 0).val / 4, by have : (y 0).val < 128 := (y 0).isLt; omega⟩ (o + 128 * ((y 0).val % 4) + (y 1).val)

/-- The row of the interleaved arrays that row `n` of point `t`'s block is. -/
def rowR (n : Fin 128) : Fin 128 := ⟨128 * (t.val / 12) + n.val, by have := (idx t).2.2.2.2.2.2.2.2; have := n.isLt; omega⟩

theorem GR_row (o : ℕ) (n : Fin 128) (d : Fin 128) : G m c (row t (tileRow n)) (o + 128 * (n.val % 4) + d.val) = GR m c o (ix2 (rowR t n) d) := by
  have e1 : row t (tileRow n) = ⟨(rowR t n).val / 4, by have := (rowR t n).isLt; omega⟩ := Fin.ext (by
    show 32 * (t.val / 12) + n.val / 4 = (128 * (t.val / 12) + n.val) / 4; omega)
  have e2 : n.val % 4 = (rowR t n).val % 4 := by show n.val % 4 = (128 * (t.val / 12) + n.val) % 4; omega
  rw [e1, e2]
  rfl

theorem cmp_blk (n : Fin 128) (d : Fin 128) : cmpAt m c t (ix2 n d) = GR m c 10240 (ix2 (rowR t n) d) := by
  unfold cmpAt
  refine (cmpRows_at _ _ (iblk m c 3 (tileAt t 10)) n d).trans ((sel_eq m c t _ _).trans (Eq.trans ?_ (GR_row m c t 10240 n d)))
  exact congrArg (G m c _) (by show 10240 + (0 + 128 * (n.val % 4) + d.val) = 10240 + 128 * (n.val % 4) + d.val; omega)
theorem sel_blk (n : Fin 128) (d : Fin 128) : selAt m c t (ix2 n d) = GR m c 10752 (ix2 (rowR t n) d) := by
  unfold selAt
  refine (selRows_at _ _ _ n d).trans ((sel_eq m c t _ _).trans (Eq.trans ?_ (GR_row m c t 10752 n d)))
  exact congrArg (G m c _) (by show 10240 + (512 + 128 * (n.val % 4) + d.val) = 10752 + 128 * (n.val % 4) + d.val; omega)
theorem win_blk (n : Fin 128) (d : Fin 128) : winAt m c t (ix2 n d) = GR m c 11264 (ix2 (rowR t n) d) := by
  unfold winAt
  refine (winRows_at _ _ _ n d).trans ((win_eq m c t _ _).trans (Eq.trans ?_ (GR_row m c t 11264 n d)))
  exact congrArg (G m c _) (by show 11264 + (0 + 128 * (n.val % 4) + d.val) = 11264 + 128 * (n.val % 4) + d.val; omega)

theorem out_blk (i : Fin 32) (l : Fin 1024) : outAt m c t (ix2 i l) = G4 m c (ix2 (row t i) ⟨1024 * (t.val % 12) + l.val, by have := l.isLt; omega⟩) :=
  out_eq m c t i l

theorem final4 : (dats m 0 c).arrAt 4 (cfgs 0).N = G4 m c := by
  refine (dats m 0 c).arrAt_eq_of_covers 4 _ (by decide +kernel) fun t _ y => ?_
  blk_simp
  rw [after0_4]
  obtain ⟨i, l, rfl⟩ : ∃ (i : Fin 32) (l : Fin 1024), y = ix2 i l := ⟨y 0, y 1, eq_ix2 y⟩
  refine (out_blk m c t i l).trans (congrArg _ ?_)
  unfold row
  blk_ext [idx t]

theorem final5 : (dats m 0 c).arrAt 5 (cfgs 0).N = GR m c 10240 := by
  refine (dats m 0 c).arrAt_eq_of_covers 5 _ (by decide +kernel) fun t _ y => ?_
  blk_simp
  rw [after0_5]
  obtain ⟨n, d, rfl⟩ : ∃ (n : Fin 128) (d : Fin 128), y = ix2 n d := ⟨y 0, y 1, eq_ix2 y⟩
  refine (cmp_blk m c t n d).trans (congrArg _ ?_)
  unfold rowR
  blk_ext [idx t]

theorem final6 : (dats m 0 c).arrAt 6 (cfgs 0).N = GR m c 10752 := by
  refine (dats m 0 c).arrAt_eq_of_covers 6 _ (by decide +kernel) fun t _ y => ?_
  blk_simp
  rw [after0_6]
  obtain ⟨n, d, rfl⟩ : ∃ (n : Fin 128) (d : Fin 128), y = ix2 n d := ⟨y 0, y 1, eq_ix2 y⟩
  refine (sel_blk m c t n d).trans (congrArg _ ?_)
  unfold rowR
  blk_ext [idx t]

theorem final7 : (dats m 0 c).arrAt 7 (cfgs 0).N = GR m c 11264 := by
  refine (dats m 0 c).arrAt_eq_of_covers 7 _ (by decide +kernel) fun t _ y => ?_
  blk_simp
  rw [after0_7]
  obtain ⟨n, d, rfl⟩ : ∃ (n : Fin 128) (d : Fin 128), y = ix2 n d := ⟨y 0, y 1, eq_ix2 y⟩
  refine (win_blk m c t n d).trans (congrArg _ ?_)
  unfold rowR
  blk_ext [idx t]

end Cert.ProjStepTile

end
-- ==== Proof.ProjStepBits.lean ====
/- The projection at machine floats: its body table is the ideal one's, so one run serves both. -/
module

public import proofs.«01_k».proof.Defs
public import proofs.«01_k».proof.Proof.ProjStepFrame
public import proofs.«01_k».proof.Proof.Gen.ProjStep

@[expose] public section
set_option maxRecDepth 16384
noncomputable section
open Idealize.ShloMosaic Idealize.ShloMosaic.TcCoe Idealize.SL.Sem

namespace Cert.ProjStepBits

theorem body_eq (a : Cert.ProjStep.Λ₀.Args 0) : Cert.ProjStep.defs₀ (F := Bits) .tc 0 a = Cert.ProjStepIdeal.defs₀ (F := Bits) .tc 0 a := by
  obtain ⟨t, s⟩ := a
  rfl

theorem bodies_eq : Cert.ProjStep.defs₀ (F := Bits) = Cert.ProjStepIdeal.defs₀ (F := Bits) := by
  funext k l a
  cases k with
  | tc =>
    match l, a with
    | 0, a => exact body_eq a
  | scScalar _ => rfl
  | scVector _ _ => rfl

theorem defs_eq : Cert.ProjStep.defs (F := Bits) = Cert.ProjStepIdeal.defs (F := Bits) :=
  congrArg (Pipeline.defs Cert.ProjStepIdeal.pcfgs) bodies_eq

theorem frame : Cert.quiescent_ProjStep := fun m ρ _ => by
  rw [defs_eq]
  exact Cert.ProjStepFrame.frame_all (F := Bits) m ρ

end Cert.ProjStepBits

end
-- ==== Proof.ProjStepRef.lean ====
/- The projection's reference, read at an index. -/
module

public import proofs.«01_k».proof.Proof.Gen.ProjStepReferenceIdeal.Run
public import proofs.«01_k».proof.Proof.ProjStepTile
public import Idealize.ShloMosaic.Lib.Pointwise

@[expose] public section
set_option maxRecDepth 16384
noncomputable section
open Idealize.ShloMosaic Idealize.ShloMosaic.TcCoe Idealize.SL.Sem

namespace Cert.ProjStepRef
open Cert.ProjStepReferenceIdeal Cert.ProjStepReferenceIdeal.Gen Cert.ProjSpec

/-- The row of the first result that row `n` of the heads' rows is from. -/
def rowOfStep (n : Fin 128) : Fin 32 := ⟨n.val / 4, by have := n.isLt; omega⟩

/-! ## The reference's parts -/

/-- The normed rows times the weight. -/
def raw (x0 : FVec Ideal S32x1x2048 .f32) (x1 : FVec Ideal S2048 .f32) (x2 : FVec Ideal S2048x11816 .f32) : FVec Ideal S32x11816 .f32 :=
  (Host.dotGeneral dot_S32x2048_S2048x11816_S32x11816_1_0_0_1_n_n none (mulf (mulf (shapeCast _ x0 shapeCasts_S32x1x2048_S32x2048) (broadcastInDim S32x2048 ![0, 1] bcast_S32x1_S32x2048_0_1 (Host.rsqrt (addf (Host.divf (broadcastInDim S32x1 ![0] bcast_S32_S32x1_0 (Host.reduceAdd (mulf (shapeCast _ x0 shapeCasts_S32x1x2048_S32x2048) (shapeCast _ x0 shapeCasts_S32x1x2048_S32x2048)) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 x1))) x2)

/-- The queries, every head normed. -/
def qNormed (Q : FVec Ideal S32x1024 .f32) (w : FVec Ideal S128 .f32) : FVec Ideal S32x1024 .f32 :=
  (shapeCast _ (mulf (mulf (shapeCast _ Q shapeCasts_S32x1024_S32x8x128) (broadcastInDim S32x8x128 ![0, 1, 2] bcast_S32x8x1_S32x8x128_0_1_2 (Host.rsqrt (addf (Host.divf (broadcastInDim S32x8x1 ![0, 1] bcast_S32x8_S32x8x1_0_1 (Host.reduceAdd (mulf (shapeCast _ Q shapeCasts_S32x1024_S32x8x128) (shapeCast _ Q shapeCasts_S32x1024_S32x8x128)) (constant S_ .f32 0x00000000#32) reducesTo_S32x8x128_S32x8_d2 h_S_)) (broadcastInDim S32x8x1 ![] bcast_S_S32x8x1 (constant S_ .f32 0x43000000#32))) (broadcastInDim S32x8x1 ![] bcast_S_S32x8x1 (constant S_ .f32 0x358637BD#32)))))) (broadcastInDim S32x8x128 ![0, 1, 2] bcast_S1x1x128_S32x8x128_0_1_2 (broadcastInDim S1x1x128 ![2] bcast_S128_S1x1x128_2 w))) shapeCasts_S32x8x128_S32x1024)

/-- Keys and values, the first two heads normed. -/
def kvNormed (K : FVec Ideal S32x512 .f32) (w : FVec Ideal S128 .f32) : FVec Ideal S32x512 .f32 :=
  (shapeCast _ (concatenate S32x4x128 1 [⟨S32x2x128, (mulf (mulf (extractStridedSlice S32x2x128 ![0, 0, 0] (shapeCast _ K shapeCasts_S32x512_S32x4x128) slices_S32x4x128_S32x2x128_0_0_0) (broadcastInDim S32x2x128 ![0, 1, 2] bcast_S32x2x1_S32x2x128_0_1_2 (Host.rsqrt (addf (Host.divf (broadcastInDim S32x2x1 ![0, 1] bcast_S32x2_S32x2x1_0_1 (Host.reduceAdd (mulf (extractStridedSlice S32x2x128 ![0, 0, 0] (shapeCast _ K shapeCasts_S32x512_S32x4x128) slices_S32x4x128_S32x2x128_0_0_0) (extractStridedSlice S32x2x128 ![0, 0, 0] (shapeCast _ K shapeCasts_S32x512_S32x4x128) slices_S32x4x128_S32x2x128_0_0_0)) (constant S_ .f32 0x00000000#32) reducesTo_S32x2x128_S32x2_d2 h_S_)) (broadcastInDim S32x2x1 ![] bcast_S_S32x2x1 (constant S_ .f32 0x43000000#32))) (broadcastInDim S32x2x1 ![] bcast_S_S32x2x1 (constant S_ .f32 0x358637BD#32)))))) (broadcastInDim S32x2x128 ![0, 1, 2] bcast_S1x1x128_S32x2x128_0_1_2 (broadcastInDim S1x1x128 ![2] bcast_S128_S1x1x128_2 w)))⟩, ⟨S32x2x128, (extractStridedSlice S32x2x128 ![0, 2, 0] (shapeCast _ K shapeCasts_S32x512_S32x4x128) slices_S32x4x128_S32x2x128_0_2_0)⟩] concatenates_S32x2x128_S32x2x128_S32x4x128_d1) shapeCasts_S32x4x128_S32x512)

/-- The columns, over the product. -/
def columns (H : FVec Ideal S32x11816 .f32) (x3 x4 x5 : FVec Ideal S128 .f32) : FVec Ideal S32x12288 .f32 :=
  (concatenate S32x12288 1 [⟨S32x1024, ((qNormed (extractStridedSlice S32x1024 ![0, 0] H slices_S32x11816_S32x1024_0_0) x3))⟩, ⟨S32x1024, ((extractStridedSlice S32x1024 ![0, 2584] H slices_S32x11816_S32x1024_0_2584))⟩, ⟨S32x1024, ((extractStridedSlice S32x1024 ![0, 6696] H slices_S32x11816_S32x1024_0_6696))⟩, ⟨S32x3072, ((extractStridedSlice S32x3072 ![0, 3608] H slices_S32x11816_S32x3072_0_3608))⟩, ⟨S32x2048, ((extractStridedSlice S32x2048 ![0, 7720] H slices_S32x11816_S32x2048_0_7720))⟩, ⟨S32x2048, ((extractStridedSlice S32x2048 ![0, 9768] H slices_S32x11816_S32x2048_0_9768))⟩, ⟨S32x512, ((extractStridedSlice S32x512 ![0, 1024] H slices_S32x11816_S32x512_0_1024))⟩, ⟨S32x512, ((kvNormed (extractStridedSlice S32x512 ![0, 1536] H slices_S32x11816_S32x512_0_1536) x4))⟩, ⟨S32x512, ((kvNormed (extractStridedSlice S32x512 ![0, 2048] H slices_S32x11816_S32x512_0_2048) x5))⟩, ⟨S32x24, ((extractStridedSlice S32x24 ![0, 2560] H slices_S32x11816_S32x24_0_2560))⟩, ⟨S32x8, ((extractStridedSlice S32x8 ![0, 6680] H slices_S32x11816_S32x8_0_6680))⟩, ⟨S32x8, ((extractStridedSlice S32x8 ![0, 6688] H slices_S32x11816_S32x8_0_6688))⟩, ⟨S32x472, ((broadcastInDim S32x472 ![] bcast_S_S32x472 (constant S_ .f32 0x00000000#32)))⟩] concatenates_S32x1024_S32x1024_S32x1024_S32x3072_S32x2048_S32x2048_S32x512_S32x512_S32x512_S32x24_S32x8_S32x8_S32x472_S32x12288_d1)

/-- The compressed, -/
def cmpKv (H : FVec Ideal S32x11816 .f32) : FVec Ideal S128x128 .f32 :=
  shapeCast _ (extractStridedSlice S32x512 ![0, 1024] H slices_S32x11816_S32x512_0_1024) shapeCasts_S32x512_S128x128
/-- the selected -/
def selKv (H : FVec Ideal S32x11816 .f32) (w : FVec Ideal S128 .f32) : FVec Ideal S128x128 .f32 :=
  shapeCast _ (kvNormed (extractStridedSlice S32x512 ![0, 1536] H slices_S32x11816_S32x512_0_1536) w) shapeCasts_S32x512_S128x128
/-- and the window's keys and values, one head per row. -/
def winKv (H : FVec Ideal S32x11816 .f32) (w : FVec Ideal S128 .f32) : FVec Ideal S128x128 .f32 :=
  shapeCast _ (kvNormed (extractStridedSlice S32x512 ![0, 2048] H slices_S32x11816_S32x512_0_2048) w) shapeCasts_S32x512_S128x128

theorem res79 (m : (ℓ : Loc nD τ sig) → Buf (Elt Ideal) ℓ) (c : Dev nD) : Value.res_main_v79 m c
    = columns (raw (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5)) := rfl
theorem res81 (m : (ℓ : Loc nD τ sig) → Buf (Elt Ideal) ℓ) (c : Dev nD) : Value.res_main_v81 m c
    = selKv (raw (m ((c.tc : Thread nD τ).loc main_arg0)) (m ((c.tc : Thread nD τ).loc main_arg1)) (m ((c.tc : Thread nD τ).loc main_arg2)))
        (m ((c.tc : Thread nD τ).loc main_arg4)) := rfl
theorem res82 (m : (ℓ : Loc nD τ sig) → Buf (Elt Ideal) ℓ) (c : Dev nD) : Value.res_main_v82 m c
    = winKv (raw (m ((c.tc : Thread nD τ).loc main_arg0)) (m ((c.tc : Thread nD τ).loc main_arg1)) (m ((c.tc : Thread nD τ).loc main_arg2)))
        (m ((c.tc : Thread nD τ).loc main_arg5)) := rfl

/-! ## The parts at an index -/

theorem raw_at (x0 : FVec Ideal S32x1x2048 .f32) (x1 : FVec Ideal S2048 .f32) (x2 : FVec Ideal S2048x11816 .f32) (r : Fin 32) (j : Fin 11816) :
    raw x0 x1 x2 (ix2 r j) = ∑ k, normRow (fun k => x0 (ix3 r 0 k)) (fun k => x1 (ix1 k)) k * x2 (ix2 k j) := by
  unfold raw normRow
  pointwise []

theorem qNormed_at (Q : FVec Ideal S32x1024 .f32) (w : FVec Ideal S128 .f32) (r : Fin 32) (l : Fin 1024) :
    qNormed Q w (ix2 r l) = headNorm (fun d => Q (ix2 r ⟨l.val / 128 * 128 + d.val, by have := l.isLt; have := d.isLt; omega⟩)) (fun d => w (ix1 d)) ⟨l.val % 128, Nat.mod_lt _ (by decide)⟩ := by
  unfold qNormed headNorm
  pointwise []
  exact congrArg₂ (· * ·) (congrArg₂ (· * ·) (congrArg (fun j => Q (ix2 r j)) (Fin.ext (by show l.val = l.val / 128 * 128 + l.val % 128; omega))) rfl) rfl

theorem kvNormed_at (K : FVec Ideal S32x512 .f32) (w : FVec Ideal S128 .f32) (r : Fin 32) (l : Fin 512) :
    kvNormed K w (ix2 r l) = if l.val < 256 then headNorm (fun d => K (ix2 r ⟨l.val / 128 * 128 + d.val, by have := l.isLt; have := d.isLt; omega⟩)) (fun d => w (ix1 d)) ⟨l.val % 128, Nat.mod_lt _ (by decide)⟩
      else K (ix2 r l) := by
  unfold kvNormed headNorm
  pointwise []
  by_cases h : l.val / 128 < 2
  · rw [dif_pos h]
    refine Eq.trans ?_ (if_pos (by omega)).symm
    exact congrArg₂ (· * ·) (congrArg₂ (· * ·) (congrArg (fun j => K (ix2 r j)) (Fin.ext (by show l.val = l.val / 128 * 128 + l.val % 128; omega))) rfl) rfl
  · rw [dif_neg h]
    refine Eq.trans ?_ (if_neg (by omega)).symm
    exact congrArg (fun j => K (ix2 r j)) (Fin.ext (by show (2 + (l.val / 128 - 2)) * 128 + l.val % 128 = l.val; omega))

theorem sliceQ_at (H : FVec Ideal S32x11816 .f32) (r : Fin 32) (l : Fin 1024) :
    extractStridedSlice S32x1024 ![0, 0] H slices_S32x11816_S32x1024_0_0 (ix2 r l) = H (ix2 r ⟨l.val, by have := l.isLt; omega⟩) := by
  pointwise [] <;> simp only [Nat.zero_add]
theorem sliceS_at (H : FVec Ideal S32x11816 .f32) (r : Fin 32) (l : Fin 512) :
    extractStridedSlice S32x512 ![0, 1536] H slices_S32x11816_S32x512_0_1536 (ix2 r l) = H (ix2 r ⟨1536 + l.val, by have := l.isLt; omega⟩) := by
  pointwise []
theorem sliceW_at (H : FVec Ideal S32x11816 .f32) (r : Fin 32) (l : Fin 512) :
    extractStridedSlice S32x512 ![0, 2048] H slices_S32x11816_S32x512_0_2048 (ix2 r l) = H (ix2 r ⟨2048 + l.val, by have := l.isLt; omega⟩) := by
  pointwise []

theorem plain_eq (X nw : Fin 2048 → EReal) (W : Fin 2048 → Fin 11816 → EReal) (qw sw ww : Fin 128 → EReal) (n : ℕ) (h0 : 1024 ≤ n) (h1 : ¬ (10752 ≤ n ∧ n < 11008)) (h2 : ¬ (11264 ≤ n ∧ n < 11520)) :
    projAt X nw W qw sw ww n = rawCol X nw W n := by
  unfold projAt colOf
  rw [if_neg (by omega), if_neg h1, if_neg h2]

/-! ## The results over any product whose row `r` is the normed row times the weight -/

section
variable (H : FVec Ideal S32x11816 .f32) (x3 x4 x5 : FVec Ideal S128 .f32) (r : Fin 32) (X nw : Fin 2048 → EReal) (W : Fin 2048 → Fin 11816 → EReal)
  (hH : ∀ j, H (ix2 r j) = ∑ k, normRow X nw k * W k j)
include hH

theorem col_eq (n j : ℕ) (hj : src n = j) (h : j < 11816) : H (ix2 r ⟨j, h⟩) = rawCol X nw W n := by
  refine (hH _).trans ?_
  unfold rawCol
  rw [hj]
  exact Finset.sum_congr rfl fun k _ => by rw [colAt_lt W k j h]

theorem q_eq (l : Fin 1024) (n : ℕ) (hn : n = l.val) : qNormed (extractStridedSlice S32x1024 ![0, 0] H slices_S32x11816_S32x1024_0_0) x3 (ix2 r l)
    = projAt X nw W (fun d => x3 (ix1 d)) (fun d => x4 (ix1 d)) (fun d => x5 (ix1 d)) n := by
  subst hn
  have hl := l.isLt
  refine (qNormed_at _ _ r l).trans ?_
  unfold projAt colOf
  rw [if_pos hl]
  refine headNorm_congr (fun d => (sliceQ_at H r _).trans (col_eq H r X nw W hH _ _ ?_ _)) (fun _ => rfl) rfl
  have hd := d.isLt
  exact (src_0 _ (by omega) (by omega)).trans (by show l.val / 128 * 128 + d.val - 0 + 0 = l.val / 128 * 128 + d.val; omega)

theorem sel_eq (l : Fin 512) (n : ℕ) (hn : n = 10752 + l.val) : kvNormed (extractStridedSlice S32x512 ![0, 1536] H slices_S32x11816_S32x512_0_1536) x4 (ix2 r l)
    = projAt X nw W (fun d => x3 (ix1 d)) (fun d => x4 (ix1 d)) (fun d => x5 (ix1 d)) n := by
  subst hn
  have hl := l.isLt
  refine (kvNormed_at _ _ r l).trans ?_
  unfold projAt colOf
  rw [if_neg (by omega : ¬ 10752 + l.val < 1024)]
  by_cases h : l.val < 256
  · rw [if_pos h, if_pos (by omega)]
    refine headNorm_congr (fun d => (sliceS_at H r _).trans (col_eq H r X nw W hH _ _ ?_ _)) (fun _ => rfl) (Fin.ext (by show l.val % 128 = (10752 + l.val) % 128; omega))
    have hd := d.isLt
    exact (src_7 _ (by omega) (by omega)).trans (by show (10752 + l.val) / 128 * 128 + d.val - 10752 + 1536 = 1536 + (l.val / 128 * 128 + d.val); omega)
  · rw [if_neg h, if_neg (by omega), if_neg (by omega)]
    refine (sliceS_at H r _).trans (col_eq H r X nw W hH _ _ ?_ _)
    exact (src_7 _ (by omega) (by omega)).trans (by show 10752 + l.val - 10752 + 1536 = 1536 + l.val; omega)

theorem win_eq (l : Fin 512) (n : ℕ) (hn : n = 11264 + l.val) : kvNormed (extractStridedSlice S32x512 ![0, 2048] H slices_S32x11816_S32x512_0_2048) x5 (ix2 r l)
    = projAt X nw W (fun d => x3 (ix1 d)) (fun d => x4 (ix1 d)) (fun d => x5 (ix1 d)) n := by
  subst hn
  have hl := l.isLt
  refine (kvNormed_at _ _ r l).trans ?_
  unfold projAt colOf
  rw [if_neg (by omega : ¬ 11264 + l.val < 1024), if_neg (by omega : ¬ (10752 ≤ 11264 + l.val ∧ 11264 + l.val < 11008))]
  by_cases h : l.val < 256
  · rw [if_pos h, if_pos (by omega)]
    refine headNorm_congr (fun d => (sliceW_at H r _).trans (col_eq H r X nw W hH _ _ ?_ _)) (fun _ => rfl) (Fin.ext (by show l.val % 128 = (11264 + l.val) % 128; omega))
    have hd := d.isLt
    exact (src_8 _ (by omega) (by omega)).trans (by show (11264 + l.val) / 128 * 128 + d.val - 11264 + 2048 = 2048 + (l.val / 128 * 128 + d.val); omega)
  · rw [if_neg h, if_neg (by omega)]
    refine (sliceW_at H r _).trans (col_eq H r X nw W hH _ _ ?_ _)
    exact (src_8 _ (by omega) (by omega)).trans (by show 11264 + l.val - 11264 + 2048 = 2048 + l.val; omega)

theorem columns_at (l : Fin 12288) : columns H x3 x4 x5 (ix2 r l)
    = projAt X nw W (fun d => x3 (ix1 d)) (fun d => x4 (ix1 d)) (fun d => x5 (ix1 d)) l.val := by
  have hl := l.isLt
  unfold columns
  pointwise []
  by_cases h0 : l.val < 1024
  · rw [dif_pos h0]
    exact q_eq H x3 x4 x5 r X nw W hH _ _ rfl
  rw [dif_neg h0]
  by_cases h1 : l.val - 1024 < 1024
  · rw [dif_pos h1]
    refine Eq.trans ?_ (plain_eq X nw W _ _ _ l.val (by omega) (by omega) (by omega)).symm
    exact col_eq H r X nw W hH _ _ ((src_1 _ (by omega) (by omega)).trans (by show l.val - 1024 + 2584 = 2584 + (l.val - 1024); omega)) _
  rw [dif_neg h1]
  by_cases h2 : l.val - 1024 - 1024 < 1024
  · rw [dif_pos h2]
    refine Eq.trans ?_ (plain_eq X nw W _ _ _ l.val (by omega) (by omega) (by omega)).symm
    exact col_eq H r X nw W hH _ _ ((src_2 _ (by omega) (by omega)).trans (by show l.val - 2048 + 6696 = 6696 + (l.val - 1024 - 1024); omega)) _
  rw [dif_neg h2]
  by_cases h3 : l.val - 1024 - 1024 - 1024 < 3072
  · rw [dif_pos h3]
    refine Eq.trans ?_ (plain_eq X nw W _ _ _ l.val (by omega) (by omega) (by omega)).symm
    exact col_eq H r X nw W hH _ _ ((src_3 _ (by omega) (by omega)).trans (by show l.val - 3072 + 3608 = 3608 + (l.val - 1024 - 1024 - 1024); omega)) _
  rw [dif_neg h3]
  by_cases h4 : l.val - 1024 - 1024 - 1024 - 3072 < 2048
  · rw [dif_pos h4]
    refine Eq.trans ?_ (plain_eq X nw W _ _ _ l.val (by omega) (by omega) (by omega)).symm
    exact col_eq H r X nw W hH _ _ ((src_4 _ (by omega) (by omega)).trans (by show l.val - 6144 + 7720 = 7720 + (l.val - 1024 - 1024 - 1024 - 3072); omega)) _
  rw [dif_neg h4]
  by_cases h5 : l.val - 1024 - 1024 - 1024 - 3072 - 2048 < 2048
  · rw [dif_pos h5]
    refine Eq.trans ?_ (plain_eq X nw W _ _ _ l.val (by omega) (by omega) (by omega)).symm
    exact col_eq H r X nw W hH _ _ ((src_5 _ (by omega) (by omega)).trans (by show l.val - 8192 + 9768 = 9768 + (l.val - 1024 - 1024 - 1024 - 3072 - 2048); omega)) _
  rw [dif_neg h5]
  by_cases h6 : l.val - 1024 - 1024 - 1024 - 3072 - 2048 - 2048 < 512
  · rw [dif_pos h6]
    refine Eq.trans ?_ (plain_eq X nw W _ _ _ l.val (by omega) (by omega) (by omega)).symm
    exact col_eq H r X nw W hH _ _ ((src_6 _ (by omega) (by omega)).trans (by show l.val - 10240 + 1024 = 1024 + (l.val - 1024 - 1024 - 1024 - 3072 - 2048 - 2048); omega)) _
  rw [dif_neg h6]
  by_cases h7 : l.val - 1024 - 1024 - 1024 - 3072 - 2048 - 2048 - 512 < 512
  · rw [dif_pos h7]
    exact sel_eq H x3 x4 x5 r X nw W hH _ _ (by show l.val = 10752 + (l.val - 1024 - 1024 - 1024 - 3072 - 2048 - 2048 - 512); omega)
  rw [dif_neg h7]
  by_cases h8 : l.val - 1024 - 1024 - 1024 - 3072 - 2048 - 2048 - 512 - 512 < 512
  · rw [dif_pos h8]
    exact win_eq H x3 x4 x5 r X nw W hH _ _ (by show l.val = 11264 + (l.val - 1024 - 1024 - 1024 - 3072 - 2048 - 2048 - 512 - 512); omega)
  rw [dif_neg h8]
  by_cases h9 : l.val - 1024 - 1024 - 1024 - 3072 - 2048 - 2048 - 512 - 512 - 512 < 24
  · rw [dif_pos h9]
    refine Eq.trans ?_ (plain_eq X nw W _ _ _ l.val (by omega) (by omega) (by omega)).symm
    exact col_eq H r X nw W hH _ _ ((src_9 _ (by omega) (by omega)).trans (by show l.val - 11776 + 2560 = 2560 + (l.val - 1024 - 1024 - 1024 - 3072 - 2048 - 2048 - 512 - 512 - 512); omega)) _
  rw [dif_neg h9]
  by_cases h10 : l.val - 1024 - 1024 - 1024 - 3072 - 2048 - 2048 - 512 - 512 - 512 - 24 < 8
  · rw [dif_pos h10]
    refine Eq.trans ?_ (plain_eq X nw W _ _ _ l.val (by omega) (by omega) (by omega)).symm
    exact col_eq H r X nw W hH _ _ ((src_10 _ (by omega) (by omega)).trans (by show l.val - 11800 + 6680 = 6680 + (l.val - 1024 - 1024 - 1024 - 3072 - 2048 - 2048 - 512 - 512 - 512 - 24); omega)) _
  rw [dif_neg h10]
  by_cases h11 : l.val - 1024 - 1024 - 1024 - 3072 - 2048 - 2048 - 512 - 512 - 512 - 24 - 8 < 8
  · rw [dif_pos h11]
    refine Eq.trans ?_ (plain_eq X nw W _ _ _ l.val (by omega) (by omega) (by omega)).symm
    exact col_eq H r X nw W hH _ _ ((src_11 _ (by omega) (by omega)).trans (by show l.val - 11808 + 6688 = 6688 + (l.val - 1024 - 1024 - 1024 - 3072 - 2048 - 2048 - 512 - 512 - 512 - 24 - 8); omega)) _
  rw [dif_neg h11]
  refine Eq.trans ?_ (plain_eq X nw W _ _ _ l.val (by omega) (by omega) (by omega)).symm
  unfold rawCol
  rw [src_pad l.val (by omega)]
  exact (Finset.sum_eq_zero fun k _ => by rw [colAt_pad, mul_zero]).symm

variable (n : Fin 128) (d : Fin 128) (hr : r = rowOfStep n)
include hr

theorem cmpKv_at : cmpKv H (ix2 n d) = projAt X nw W (fun d => x3 (ix1 d)) (fun d => x4 (ix1 d)) (fun d => x5 (ix1 d)) (10240 + 128 * (n.val % 4) + d.val) := by
  subst hr
  have hd := d.isLt
  unfold cmpKv projAt colOf
  pointwise []
  rw [if_neg (by omega), if_neg (by omega), if_neg (by omega)]
  exact col_eq H _ X nw W hH _ _ ((src_6 _ (by omega) (by omega)).trans (by show 10240 + 128 * (n.val % 4) + d.val - 10240 + 1024 = 1024 + (n.val % 4 * 128 + d.val); omega)) _

theorem selKv_at : selKv H x4 (ix2 n d) = projAt X nw W (fun d => x3 (ix1 d)) (fun d => x4 (ix1 d)) (fun d => x5 (ix1 d)) (10752 + 128 * (n.val % 4) + d.val) := by
  subst hr
  have hd := d.isLt
  unfold selKv
  pointwise []
  exact sel_eq H x3 x4 x5 _ X nw W hH _ _ (by show 10752 + 128 * (n.val % 4) + d.val = 10752 + (n.val % 4 * 128 + d.val); omega)

theorem winKv_at : winKv H x5 (ix2 n d) = projAt X nw W (fun d => x3 (ix1 d)) (fun d => x4 (ix1 d)) (fun d => x5 (ix1 d)) (11264 + 128 * (n.val % 4) + d.val) := by
  subst hr
  have hd := d.isLt
  unfold winKv
  pointwise []
  exact win_eq H x3 x4 x5 _ X nw W hH _ _ (by show 11264 + 128 * (n.val % 4) + d.val = 11264 + (n.val % 4 * 128 + d.val); omega)
end

end Cert.ProjStepRef

end
-- ==== Proof.InterTile.lean ====
/- The prompt's state from chunk to chunk: one chunk of one head as a function of rows, and the same in the operations of the call's
   body on one pair of heads. -/
module

public import proofs.«01_k».proof.Proof.Gen.InterIdeal.Value
public import Idealize.ShloMosaic.Lib.Pipeline.ValueKit
public import Idealize.ShloMosaic.Lib.ValueIdxRank6

@[expose] public section
set_option maxRecDepth 16384
noncomputable section
open Idealize.ShloMosaic Idealize.ShloMosaic.TcCoe Idealize.SL.Sem
open Idealize.ShloMosaic.Pipeline (Dat)

namespace Cert.InterSpec

/-- One row for each of a chunk's 64 positions, of each of the 8 heads. -/
abbrev Rows := Fin 8 → Fin 64 → Fin 128 → EReal
/-- A square state for each of the 8 heads. -/
abbrev State := Fin 8 → Fin 128 → Fin 128 → EReal

/-- The new values: the values minus the weights times the state. -/
def vn (U W : Rows) (S : State) : Rows := fun h i v => U h i v - ∑ k, W h i k * S h k v

/-- Row `r` of the two heads that head `h` is paired with, stacked. -/
def pairRow (f : Rows) (h : Fin 8) (r v : Fin 128) : EReal :=
  if hr : r.val < 64 then f ⟨h.val / 2 * 2, by have := h.isLt; omega⟩ ⟨r.val, hr⟩ v
  else f ⟨h.val / 2 * 2 + 1, by have := h.isLt; omega⟩ ⟨r.val - 64, by have := r.isLt; omega⟩ v

/-- The state after the chunk. -/
def next (U W K : Rows) (E : Fin 8 → Fin 128 → EReal) (S : State) : State := fun h k v =>
  S h k v * E h v + ∑ i, K h i k * vn U W S h i v

/-- What the chunk reads of the state and of its own new values. -/
def rd (U W Q A : Rows) (S : State) : Rows := fun h i v =>
  ∑ k, Q h i k * S h k v + ∑ r, A h i r * pairRow (vn U W S) h r v

/-- A row divided by the root of its mean square plus a constant, times a weight, gated. -/
def gated (o : Fin 128 → EReal) (g z : EReal) (v : Fin 128) : EReal :=
  o v * Ideal.rsqrt (Ideal.div (∑ y, o y * o y) (Ideal.ofBits FTy.f32 0x43000000#32) + Ideal.ofBits FTy.f32 0x358637BD#32) * g * (z * Ideal.logistic z)

end Cert.InterSpec

namespace Cert.InterTile
open Cert.InterIdeal Cert.InterIdeal.Gen Cert.InterSpec

abbrev TS := Vec Ideal S1x1x128x128 .f32
abbrev TR := Vec Ideal S1x1x1x1x64x128 .bf16
abbrev TU := Vec Ideal S1x1x1x1x128x128 .f32
abbrev TA := Vec Ideal S1x1x1x1x128x128 .bf16
abbrev TE := Vec Ideal S1x1x1x1x128 .f32

/-- A head's rows times its state. -/
def wsT (W : TR) (S : TS) : FVec Ideal S64x128 .f32 :=
  matmul dot_S64x128_S128x128_S64x128_1_0_0_1_n_n none (shapeCast S64x128 W shapeCasts_S1x1x1x1x64x128_S64x128 : FVec Ideal S64x128 .bf16)
    (truncf .bf16 (shapeCast S128x128 S shapeCasts_S1x1x128x128_S128x128 : FVec Ideal S128x128 .f32) bitsLt_bf16_f32) (constant S64x128 .f32 0x00000000#32)

/-- Two heads' tiles, stacked. -/
def catT (a b : FVec Ideal S64x128 .f32) : FVec Ideal S128x128 .f32 :=
  concatenate S128x128 0 [⟨S64x128, a⟩, ⟨S64x128, b⟩] concatenates_S64x128_S64x128_S128x128_d0

/-- The pair's new values. -/
def vnT (S0 S1 : TS) (W0 W1 : TR) (U : TU) : FVec Ideal S128x128 .bf16 :=
  truncf .bf16 (subf (shapeCast S128x128 U shapeCasts_S1x1x1x1x128x128_S128x128) (catT (wsT W0 S0) (wsT W1 S1))) bitsLt_bf16_f32

/-- What the pair reads. -/
def rdT (S0 S1 : TS) (W0 W1 : TR) (U : TU) (Q0 Q1 : TR) (A : TA) : FVec Ideal S128x128 .f32 :=
  addf (catT (wsT Q0 S0) (wsT Q1 S1))
    (matmul dot_S128x128_S128x128_S128x128_1_0_0_1_n_n none (shapeCast S128x128 A shapeCasts_S1x1x1x1x128x128_S128x128 : FVec Ideal S128x128 .bf16) (vnT S0 S1 W0 W1 U) (constant S128x128 .f32 0x00000000#32))

/-- The first head's next state, over the pair's new values. -/
def nxA (S : TS) (N : FVec Ideal S128x128 .bf16) (E : TE) (K : TR) : FVec Ideal S1x1x128x128 .f32 :=
  shapeCast S1x1x128x128 (addf (mulf (shapeCast S128x128 S shapeCasts_S1x1x128x128_S128x128) (broadcastTo S128x128 (shapeCast S1x128 E shapeCasts_S1x1x1x1x128_S1x128) broadcasts_S1x128_S128x128))
    (matmul dot_S64x128_S64x128_S128x128_0_0_1_1_n_n none (shapeCast S64x128 K shapeCasts_S1x1x1x1x64x128_S64x128 : FVec Ideal S64x128 .bf16) (extractStridedSlice S64x128 ![0, 0] N slices_S128x128_o0_0_S64x128) (constant S128x128 .f32 0x00000000#32))) shapeCasts_S128x128_S1x1x128x128

/-- The second head's. -/
def nxB (S : TS) (N : FVec Ideal S128x128 .bf16) (E : TE) (K : TR) : FVec Ideal S1x1x128x128 .f32 :=
  shapeCast S1x1x128x128 (addf (mulf (shapeCast S128x128 S shapeCasts_S1x1x128x128_S128x128) (broadcastTo S128x128 (shapeCast S1x128 E shapeCasts_S1x1x1x1x128_S1x128) broadcasts_S1x128_S128x128))
    (matmul dot_S64x128_S64x128_S128x128_0_0_1_1_n_n none (shapeCast S64x128 K shapeCasts_S1x1x1x1x64x128_S64x128 : FVec Ideal S64x128 .bf16) (extractStridedSlice S64x128 ![64, 0] N slices_S128x128_o64_0_S64x128) (constant S128x128 .f32 0x00000000#32))) shapeCasts_S128x128_S1x1x128x128

/-- A head's rows normed and gated. -/
def gtT (o : FVec Ideal S64x128 .f32) (g : Vec Ideal S1x128 .f32) (z : Vec Ideal S1x1x64x128 .f32) : FVec Ideal S64x128 .f32 :=
  mulf (mulf (mulf o (broadcastTo S64x128 (rsqrt (addf (divf (shapeCast S64x1 (multiReduction .add [1] S64 (mulf o o) 0x00000000#32 reduces_S64x128_S64 (.inl rfl) rfl : FVec Ideal S64 .f32) shapeCasts_S64_S64x1)
    (broadcast S64x1 (Scalar.ofBits .f32 0x43000000#32))) (broadcast S64x1 (Scalar.ofBits .f32 0x358637BD#32)))) broadcasts_S64x1_S64x128))
    (broadcastTo S64x128 (shapeCast S1x128 g shapeCasts_S1x128_S1x128) broadcasts_S1x128_S64x128))
    (mulf (shapeCast S64x128 z shapeCasts_S1x1x64x128_S64x128) (logistic (shapeCast S64x128 z shapeCasts_S1x1x64x128_S64x128)))

/-- The pair's first head's rows and its second head's. -/
def hdA (O : FVec Ideal S128x128 .f32) : FVec Ideal S64x128 .f32 := extractStridedSlice S64x128 ![0, 0] O slices_S128x128_o0_0_S64x128
def hdB (O : FVec Ideal S128x128 .f32) : FVec Ideal S64x128 .f32 := extractStridedSlice S64x128 ![64, 0] O slices_S128x128_o64_0_S64x128

/-- The eight heads' rows side by side. -/
def catH (a0 a1 a2 a3 a4 a5 a6 a7 : FVec Ideal S64x128 .f32) : FVec Ideal S1x1x64x1024 .f32 :=
  shapeCast S1x1x64x1024 (concatenate S64x1024 1 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S64x1024_d1 : FVec Ideal S64x1024 .f32) shapeCasts_S64x1024_S1x1x64x1024

/-! ## At an index -/

theorem wsT_at (W : TR) (S : TS) (r : Fin 64) (j : Fin 128) : wsT W S (ix2 r j) = ∑ k : Fin 128, W (ix6 0 0 0 0 r k) * S (ix4 0 0 k j) := by
  unfold wsT
  pointwise []

theorem catT_lo (a b : FVec Ideal S64x128 .f32) (r : Fin 128) (h : r.val < 64) (j : Fin 128) : catT a b (ix2 r j) = a (ix2 ⟨r.val, h⟩ j) := by
  unfold catT
  pointwise []
  rw [dif_pos h]

theorem catT_hi (a b : FVec Ideal S64x128 .f32) (r : Fin 128) (h : ¬r.val < 64) (j : Fin 128) : catT a b (ix2 r j) = b (ix2 ⟨r.val - 64, by have := r.isLt; omega⟩ j) := by
  unfold catT
  pointwise []
  rw [dif_neg h]

theorem vnT_at (S0 S1 : TS) (W0 W1 : TR) (U : TU) (r j : Fin 128) : vnT S0 S1 W0 W1 U (ix2 r j) = U (ix6 0 0 0 0 r j) - catT (wsT W0 S0) (wsT W1 S1) (ix2 r j) := by
  unfold vnT
  pointwise []

theorem rdT_at (S0 S1 : TS) (W0 W1 : TR) (U : TU) (Q0 Q1 : TR) (A : TA) (r j : Fin 128) : rdT S0 S1 W0 W1 U Q0 Q1 A (ix2 r j)
    = catT (wsT Q0 S0) (wsT Q1 S1) (ix2 r j) + ∑ k : Fin 128, A (ix6 0 0 0 0 r k) * vnT S0 S1 W0 W1 U (ix2 k j) := by
  unfold rdT
  pointwise []

theorem nxA_at (S : TS) (N : FVec Ideal S128x128 .bf16) (E : TE) (K : TR) (k v : Fin 128) : nxA S N E K (ix4 0 0 k v)
    = S (ix4 0 0 k v) * E (ix5 0 0 0 0 v) + ∑ i : Fin 64, K (ix6 0 0 0 0 i k) * N (ix2 ⟨i.val, by omega⟩ v) := by
  unfold nxA
  pointwise []

theorem nxB_at (S : TS) (N : FVec Ideal S128x128 .bf16) (E : TE) (K : TR) (k v : Fin 128) : nxB S N E K (ix4 0 0 k v)
    = S (ix4 0 0 k v) * E (ix5 0 0 0 0 v) + ∑ i : Fin 64, K (ix6 0 0 0 0 i k) * N (ix2 ⟨64 + i.val, by omega⟩ v) := by
  unfold nxB
  pointwise []

theorem gtT_at (o : FVec Ideal S64x128 .f32) (g : Vec Ideal S1x128 .f32) (z : Vec Ideal S1x1x64x128 .f32) (i : Fin 64) (v : Fin 128) :
    gtT o g z (ix2 i v) = gated (fun y => o (ix2 i y)) (g (ix2 0 v)) (z (ix4 0 0 i v)) v := by
  unfold gtT gated
  pointwise []

theorem hdA_at (O : FVec Ideal S128x128 .f32) (i : Fin 64) (v : Fin 128) : hdA O (ix2 i v) = O (ix2 ⟨i.val, by omega⟩ v) := by
  unfold hdA
  pointwise []

theorem hdB_at (O : FVec Ideal S128x128 .f32) (i : Fin 64) (v : Fin 128) : hdB O (ix2 i v) = O (ix2 ⟨64 + i.val, by omega⟩ v) := by
  unfold hdB
  pointwise []

/-- The eight heads' rows, at head `h` and lane `v`. -/
theorem catH_at (a : Fin 8 → FVec Ideal S64x128 .f32) (i : Fin 64) (h : Fin 8) (v : Fin 128) :
    catH (a 0) (a 1) (a 2) (a 3) (a 4) (a 5) (a 6) (a 7) (ix4 0 0 i ⟨h.val * 128 + v.val, by omega⟩) = a h (ix2 i v) := by
  have c : h = 0 ∨ h = 1 ∨ h = 2 ∨ h = 3 ∨ h = 4 ∨ h = 5 ∨ h = 6 ∨ h = 7 := by
    have := h.isLt
    omega
  unfold catH
  rcases c with rfl | rfl | rfl | rfl | rfl | rfl | rfl | rfl
  · pointwise []
  · pointwise []
  · pointwise []
    have hv := v.isLt
    refine (dif_neg (by omega)).trans ?_
    refine (dif_neg (by omega)).trans ?_
    refine (dif_pos (by omega)).trans ?_
    exact congrArg (fun q => a 2 (ix2 i q)) (Fin.ext (by show 256 + v.val - 128 - 128 = v.val; omega))
  · pointwise []
    have hv := v.isLt
    refine (dif_neg (by omega)).trans ?_
    refine (dif_neg (by omega)).trans ?_
    refine (dif_neg (by omega)).trans ?_
    refine (dif_pos (by omega)).trans ?_
    exact congrArg (fun q => a 3 (ix2 i q)) (Fin.ext (by show 384 + v.val - 128 - 128 - 128 = v.val; omega))
  · pointwise []
    have hv := v.isLt
    refine (dif_neg (by omega)).trans ?_
    refine (dif_neg (by omega)).trans ?_
    refine (dif_neg (by omega)).trans ?_
    refine (dif_neg (by omega)).trans ?_
    refine (dif_pos (by omega)).trans ?_
    exact congrArg (fun q => a 4 (ix2 i q)) (Fin.ext (by show 512 + v.val - 128 - 128 - 128 - 128 = v.val; omega))
  · pointwise []
    have hv := v.isLt
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact congrArg (fun q => a 5 (ix2 i q)) (Fin.ext (by show 640 + v.val - 128 - 128 - 128 - 128 - 128 = v.val; omega))
  · pointwise []
    have hv := v.isLt
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact congrArg (fun q => a 6 (ix2 i q)) (Fin.ext (by show 768 + v.val - 128 - 128 - 128 - 128 - 128 - 128 = v.val; omega))
  · pointwise []
    have hv := v.isLt
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    exact congrArg (fun q => a 7 (ix2 i q)) (Fin.ext (by show 896 + v.val - 128 - 128 - 128 - 128 - 128 - 128 - 128 = v.val; omega))

/-! ## A pair of heads -/

section Pair
variable {U W K Q A : Rows} {E : Fin 8 → Fin 128 → EReal} {S : State} {p : Fin 4}
  {S0 S1 : TS} {W0 W1 Q0 Q1 K0 : TR} {U0 : TU} {A0 : TA} {E0 : TE}

/-- The pair's heads. -/
abbrev fst (p : Fin 4) : Fin 8 := ⟨2 * p.val, by have := p.isLt; omega⟩
abbrev snd (p : Fin 4) : Fin 8 := ⟨2 * p.val + 1, by have := p.isLt; omega⟩

theorem vnT_fst (hS0 : ∀ i j, S0 (ix4 0 0 i j) = S (fst p) i j) (hW0 : ∀ i k, W0 (ix6 0 0 0 0 i k) = W (fst p) i k)
    (hU0 : ∀ (i : Fin 64) k, U0 (ix6 0 0 0 0 ⟨i.val, by omega⟩ k) = U (fst p) i k) (i : Fin 64) (v : Fin 128) :
    vnT S0 S1 W0 W1 U0 (ix2 ⟨i.val, by omega⟩ v) = vn U W S (fst p) i v := by
  rw [vnT_at, catT_lo _ _ _ (by simpa using i.isLt), hU0]
  show _ - wsT W0 S0 (ix2 i v) = _
  rw [wsT_at]
  simp only [hS0, hW0]
  rfl

theorem vnT_snd (hS1 : ∀ i j, S1 (ix4 0 0 i j) = S (snd p) i j) (hW1 : ∀ i k, W1 (ix6 0 0 0 0 i k) = W (snd p) i k)
    (hU1 : ∀ (i : Fin 64) k, U0 (ix6 0 0 0 0 ⟨64 + i.val, by omega⟩ k) = U (snd p) i k) (i : Fin 64) (v : Fin 128) :
    vnT S0 S1 W0 W1 U0 (ix2 ⟨64 + i.val, by omega⟩ v) = vn U W S (snd p) i v := by
  rw [vnT_at, catT_hi _ _ _ (by simp), hU1]
  have e : (⟨64 + i.val - 64, by omega⟩ : Fin 64) = i := Fin.ext (by simp)
  show _ - wsT W1 S1 (ix2 (⟨64 + i.val - 64, by omega⟩ : Fin 64) v) = _
  rw [e, wsT_at]
  simp only [hS1, hW1]
  rfl

theorem nxA_pair (hS0 : ∀ i j, S0 (ix4 0 0 i j) = S (fst p) i j) (hW0 : ∀ i k, W0 (ix6 0 0 0 0 i k) = W (fst p) i k)
    (hU0 : ∀ (i : Fin 64) k, U0 (ix6 0 0 0 0 ⟨i.val, by omega⟩ k) = U (fst p) i k)
    (hE : ∀ v, E0 (ix5 0 0 0 0 v) = E (fst p) v) (hK : ∀ i k, K0 (ix6 0 0 0 0 i k) = K (fst p) i k) (k v : Fin 128) :
    nxA S0 (vnT S0 S1 W0 W1 U0) E0 K0 (ix4 0 0 k v) = next U W K E S (fst p) k v := by
  rw [nxA_at]
  simp only [vnT_fst hS0 hW0 hU0, hS0, hE, hK]
  rfl

theorem nxB_pair (hS1 : ∀ i j, S1 (ix4 0 0 i j) = S (snd p) i j) (hW1 : ∀ i k, W1 (ix6 0 0 0 0 i k) = W (snd p) i k)
    (hU1 : ∀ (i : Fin 64) k, U0 (ix6 0 0 0 0 ⟨64 + i.val, by omega⟩ k) = U (snd p) i k)
    (hE : ∀ v, E0 (ix5 0 0 0 0 v) = E (snd p) v) (hK : ∀ i k, K0 (ix6 0 0 0 0 i k) = K (snd p) i k) (k v : Fin 128) :
    nxB S1 (vnT S0 S1 W0 W1 U0) E0 K0 (ix4 0 0 k v) = next U W K E S (snd p) k v := by
  rw [nxB_at]
  simp only [vnT_snd hS1 hW1 hU1, hS1, hE, hK]
  rfl

theorem vnT_pair (hS0 : ∀ i j, S0 (ix4 0 0 i j) = S (fst p) i j) (hS1 : ∀ i j, S1 (ix4 0 0 i j) = S (snd p) i j)
    (hW0 : ∀ i k, W0 (ix6 0 0 0 0 i k) = W (fst p) i k) (hW1 : ∀ i k, W1 (ix6 0 0 0 0 i k) = W (snd p) i k)
    (hU0 : ∀ (i : Fin 64) k, U0 (ix6 0 0 0 0 ⟨i.val, by omega⟩ k) = U (fst p) i k)
    (hU1 : ∀ (i : Fin 64) k, U0 (ix6 0 0 0 0 ⟨64 + i.val, by omega⟩ k) = U (snd p) i k) (h : Fin 8) (hh : h.val / 2 = p.val) (r v : Fin 128) :
    vnT S0 S1 W0 W1 U0 (ix2 r v) = pairRow (vn U W S) h r v := by
  unfold pairRow
  by_cases hr : r.val < 64
  · rw [dif_pos hr]
    refine (vnT_fst (p := p) hS0 hW0 hU0 ⟨r.val, hr⟩ v).trans ?_
    rw [show (⟨h.val / 2 * 2, by have := h.isLt; omega⟩ : Fin 8) = fst p from Fin.ext (by show h.val / 2 * 2 = 2 * p.val; omega)]
  · rw [dif_neg hr]
    have e : (⟨64 + (r.val - 64), by omega⟩ : Fin 128) = r := Fin.ext (by show 64 + (r.val - 64) = r.val; omega)
    have q := vnT_snd (p := p) (S0 := S0) (W0 := W0) hS1 hW1 hU1 ⟨r.val - 64, by omega⟩ v
    rw [show (⟨64 + (⟨r.val - 64, by omega⟩ : Fin 64).val, by omega⟩ : Fin 128) = r from e] at q
    refine q.trans ?_
    rw [show (⟨h.val / 2 * 2 + 1, by have := h.isLt; omega⟩ : Fin 8) = snd p from Fin.ext (by show h.val / 2 * 2 + 1 = 2 * p.val + 1; omega)]

theorem rdT_fst (hS0 : ∀ i j, S0 (ix4 0 0 i j) = S (fst p) i j) (hS1 : ∀ i j, S1 (ix4 0 0 i j) = S (snd p) i j)
    (hW0 : ∀ i k, W0 (ix6 0 0 0 0 i k) = W (fst p) i k) (hW1 : ∀ i k, W1 (ix6 0 0 0 0 i k) = W (snd p) i k)
    (hU0 : ∀ (i : Fin 64) k, U0 (ix6 0 0 0 0 ⟨i.val, by omega⟩ k) = U (fst p) i k)
    (hU1 : ∀ (i : Fin 64) k, U0 (ix6 0 0 0 0 ⟨64 + i.val, by omega⟩ k) = U (snd p) i k)
    (hQ0 : ∀ i k, Q0 (ix6 0 0 0 0 i k) = Q (fst p) i k)
    (hA0 : ∀ (i : Fin 64) r, A0 (ix6 0 0 0 0 ⟨i.val, by omega⟩ r) = A (fst p) i r) (i : Fin 64) (v : Fin 128) :
    rdT S0 S1 W0 W1 U0 Q0 Q1 A0 (ix2 ⟨i.val, by omega⟩ v) = rd U W Q A S (fst p) i v := by
  rw [rdT_at, catT_lo _ _ _ (by simpa using i.isLt)]
  show wsT Q0 S0 (ix2 i v) + _ = _
  rw [wsT_at]
  simp only [vnT_pair hS0 hS1 hW0 hW1 hU0 hU1 (fst p) (by show 2 * p.val / 2 = p.val; omega), hS0, hQ0, hA0]
  rfl

theorem rdT_snd (hS0 : ∀ i j, S0 (ix4 0 0 i j) = S (fst p) i j) (hS1 : ∀ i j, S1 (ix4 0 0 i j) = S (snd p) i j)
    (hW0 : ∀ i k, W0 (ix6 0 0 0 0 i k) = W (fst p) i k) (hW1 : ∀ i k, W1 (ix6 0 0 0 0 i k) = W (snd p) i k)
    (hU0 : ∀ (i : Fin 64) k, U0 (ix6 0 0 0 0 ⟨i.val, by omega⟩ k) = U (fst p) i k)
    (hU1 : ∀ (i : Fin 64) k, U0 (ix6 0 0 0 0 ⟨64 + i.val, by omega⟩ k) = U (snd p) i k)
    (hQ1 : ∀ i k, Q1 (ix6 0 0 0 0 i k) = Q (snd p) i k)
    (hA1 : ∀ (i : Fin 64) r, A0 (ix6 0 0 0 0 ⟨64 + i.val, by omega⟩ r) = A (snd p) i r) (i : Fin 64) (v : Fin 128) :
    rdT S0 S1 W0 W1 U0 Q0 Q1 A0 (ix2 ⟨64 + i.val, by omega⟩ v) = rd U W Q A S (snd p) i v := by
  rw [rdT_at, catT_hi _ _ _ (by simp)]
  have e : (⟨64 + i.val - 64, by omega⟩ : Fin 64) = i := Fin.ext (by simp)
  show wsT Q1 S1 (ix2 (⟨64 + i.val - 64, by omega⟩ : Fin 64) v) + _ = _
  rw [e, wsT_at]
  simp only [vnT_pair hS0 hS1 hW0 hW1 hU0 hU1 (snd p) (by show (2 * p.val + 1) / 2 = p.val; omega), hS1, hQ1, hA1]
  rfl

end Pair

end Cert.InterTile
-- ==== Proof.InterArgs.lean ====
/- The prompt's recurrence from chunk to chunk over the argument arrays: the state each chunk starts from and the rows it reads. -/
module

public import proofs.«01_k».proof.Proof.InterTile

@[expose] public section
set_option maxRecDepth 16384
noncomputable section
open Idealize.ShloMosaic Idealize.ShloMosaic.TcCoe Idealize.SL.Sem
open Idealize.ShloMosaic.Pipeline (Dat)

namespace Cert.InterSpec

/-- The arrays of the chunks, by plain indices: each chunk's 64 rows of 8 heads lie in 4 blocks of 128 rows. -/
structure Chunks where
  u : Fin 512 → Fin 4 → Fin 128 → Fin 128 → EReal
  w : Fin 512 → Fin 4 → Fin 128 → Fin 128 → EReal
  a : Fin 512 → Fin 4 → Fin 128 → Fin 128 → EReal
  q : Fin 512 → Fin 4 → Fin 128 → Fin 128 → EReal
  k : Fin 512 → Fin 4 → Fin 128 → Fin 128 → EReal
  e : Fin 512 → Fin 8 → Fin 128 → EReal

/-- Chunk `n` of sequence `s`. -/
def chunkOf (s : Fin 16) (n : Nat) : Fin 512 := ⟨s.val * 32 + n % 32, by have := s.isLt; omega⟩

/-- The block and the row in it of head `h`'s row `i`. -/
def blkOf (h : Fin 8) : Fin 4 := ⟨h.val / 2, by have := h.isLt; omega⟩
def rowOf (h : Fin 8) (i : Fin 64) : Fin 128 := ⟨h.val % 2 * 64 + i.val, by have := i.isLt; omega⟩

def rowsA (x : Fin 512 → Fin 4 → Fin 128 → Fin 128 → EReal) (s : Fin 16) (n : Nat) : Rows := fun h i k => x (chunkOf s n) (blkOf h) (rowOf h i) k
def lanesA (x : Fin 512 → Fin 8 → Fin 128 → EReal) (s : Fin 16) (n : Nat) : Fin 8 → Fin 128 → EReal := fun h v => x (chunkOf s n) h v

/-- The state chunk `n` of sequence `s` starts from. -/
def stateA (X : Chunks) (s : Fin 16) : Nat → State
  | 0 => fun _ _ _ => 0
  | n + 1 => next (rowsA X.u s n) (rowsA X.w s n) (rowsA X.k s n) (lanesA X.e s n) (stateA X s n)

/-- The rows chunk `n` of sequence `s` reads. -/
def readA (X : Chunks) (s : Fin 16) (n : Nat) : Rows := rd (rowsA X.u s n) (rowsA X.w s n) (rowsA X.q s n) (rowsA X.a s n) (stateA X s n)

/-- Sequence `b` of the group `a`. -/
def seqOf (a b : Fin 4) : Fin 16 := ⟨a.val * 4 + b.val, by omega⟩

/-- The head and the lane of column `n`. -/
def headOf (n : Fin 1024) : Fin 8 := ⟨n.val / 128, by have := n.isLt; omega⟩
def laneOf (n : Fin 1024) : Fin 128 := ⟨n.val % 128, by omega⟩
/-- The place of position `t` in its chunk. -/
def placeOf (t : Fin 2048) : Fin 64 := ⟨t.val % 64, by omega⟩
/-- The row and the column of the activations the gate of position `t`, column `n`, is at. -/
def actRow (a b : Fin 4) (t : Fin 2048) : Fin 32768 := ⟨(a.val * 4 + b.val) * 2048 + t.val, by have := t.isLt; omega⟩
def actCol (n : Fin 1024) : Fin 12288 := ⟨2048 + n.val, by have := n.isLt; omega⟩

/-- The gated output at position `t` of sequence `b` of the group `a`, column `n`. -/
def outAt (X : Chunks) (z : Fin 32768 → Fin 12288 → EReal) (g : Fin 128 → EReal) (a b : Fin 4) (t : Fin 2048) (n : Fin 1024) : EReal :=
  gated (fun y => readA X (seqOf a b) (t.val / 64) (headOf n) (placeOf t) y) (g (laneOf n)) (z (actRow a b t) (actCol n)) (laneOf n)

end Cert.InterSpec
-- ==== Proof.InterLoad.lean ====
/- The prompt's state from chunk to chunk: what one grid point leaves in the scratch state and in the two result blocks, as the functions of
   `InterTile`. -/
module

public import proofs.«01_k».proof.Proof.Gen.InterIdeal.Value
public import proofs.«01_k».proof.Proof.InterTile
public import Idealize.ShloMosaic.Lib.Pipeline.ValueKit
public import Idealize.ShloMosaic.Lib.Pipeline.ReadBack
public import Idealize.ShloMosaic.Lib.ValueIdxRank6

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterSpec

/-- The rows of sequence `s` in a block of pairs: head `h` has half of the rows of pair `h / 2`. -/
def rows (X : S1x4x1x4x128x128.Idx → EReal) (s : Fin 4) : Rows := fun h i k =>
  X (ix6 0 s 0 ⟨h.val / 2, by have := h.isLt; omega⟩ ⟨h.val % 2 * 64 + i.val, by have := i.isLt; omega⟩ k)

/-- The lane factors of sequence `s`. -/
def lanes (X : S1x4x1x8x128.Idx → EReal) (s : Fin 4) : Fin 8 → Fin 128 → EReal := fun h v => X (ix5 0 s 0 h v)

/-- The scratch's states. -/
def held (X : S4x8x128x128.Idx → EReal) (s : Fin 4) : State := fun h k v => X (ix4 s h k v)

/-- The scratch after a point. -/
def GS (x0 x1 x4 : S1x4x1x4x128x128.Idx → EReal) (x5 : S1x4x1x8x128.Idx → EReal) (S : Fin 4 → State) : S4x8x128x128.Idx → EReal := fun y =>
  next (rows x0 (y 0)) (rows x1 (y 0)) (rows x4 (y 0)) (lanes x5 (y 0)) (S (y 0)) (y 1) (y 2) (y 3)

/-- The gated rows of a point. -/
def GO (x0 x1 x2 x3 : S1x4x1x4x128x128.Idx → EReal) (x6 : S1x4x64x1024.Idx → EReal) (x7 : S1x128.Idx → EReal) (S : Fin 4 → State) : S1x4x64x1024.Idx → EReal := fun y =>
  gated (fun v => rd (rows x0 (y 1)) (rows x1 (y 1)) (rows x3 (y 1)) (rows x2 (y 1)) (S (y 1)) ⟨(y 3).val / 128, by have : (y 3).val < 1024 := (y 3).isLt; omega⟩ (y 2) v)
    (x7 (ix2 0 ⟨(y 3).val % 128, by omega⟩)) (x6 (ix4 0 (y 1) (y 2) (y 3))) ⟨(y 3).val % 128, by omega⟩

theorem GO_at (x0 x1 x2 x3 : S1x4x1x4x128x128.Idx → EReal) (x6 : S1x4x64x1024.Idx → EReal) (x7 : S1x128.Idx → EReal) (S : Fin 4 → State)
    (s : Fin 4) (i : Fin 64) (h : Fin 8) (v : Fin 128) (n : Fin 1024) (hn : n.val = h.val * 128 + v.val) : GO x0 x1 x2 x3 x6 x7 S (ix4 0 s i n)
    = gated (fun y => rd (rows x0 s) (rows x1 s) (rows x3 s) (rows x2 s) (S s) h i y) (x7 (ix2 0 v)) (x6 (ix4 0 s i n)) v := by
  have hv := v.isLt
  have e1 : (⟨n.val / 128, by have := n.isLt; omega⟩ : Fin 8) = h := Fin.ext (by show n.val / 128 = h.val; omega)
  have e2 : (⟨n.val % 128, by omega⟩ : Fin 128) = v := Fin.ext (by show n.val % 128 = v.val; omega)
  have q : GO x0 x1 x2 x3 x6 x7 S (ix4 0 s i n) = gated (fun v => rd (rows x0 s) (rows x1 s) (rows x3 s) (rows x2 s) (S s) (⟨n.val / 128, by have := n.isLt; omega⟩ : Fin 8) i v)
    (x7 (ix2 0 (⟨n.val % 128, by omega⟩ : Fin 128))) (x6 (ix4 0 s i n)) (⟨n.val % 128, by omega⟩ : Fin 128) := rfl
  rw [q, e1, e2]

/-! ## Loads -/

/-- A pair's block fits, and a head's half of it. -/
abbrev IU (s p : Nat) : Prop := ∀ a, (![0, s, 0, p, 0, 0] : Fin 6 → Nat) a + (![1, 1, 1, 1, 128, 128] : Fin 6 → Nat) a ≤ S1x4x1x4x128x128.size a
abbrev IW (s p o : Nat) : Prop := ∀ a, (![0, s, 0, p, o, 0] : Fin 6 → Nat) a + (![1, 1, 1, 1, 64, 128] : Fin 6 → Nat) a ≤ S1x4x1x4x128x128.size a

theorem ldR {e : EltTy} (X : Vec Ideal S1x4x1x4x128x128 e) (s p o : Nat) (hs : s < 4) (hp : p < 4) (ho : o + 64 ≤ 128)
    (inb : IW s p o) (i : Fin 64) (k : Fin 128) :
    (View.ld X (Rect.unit (s := S1x4x1x4x128x128) ![0, s, 0, p, o, 0] ![1, 1, 1, 1, 64, 128] inb) : Vec Ideal S1x1x1x1x64x128 e) (ix6 0 0 0 0 i k)
      = X (ix6 0 ⟨s, hs⟩ 0 ⟨p, hp⟩ ⟨o + i.val, by omega⟩ k) := by
  refine View.ld_unit_apply_of X _ _ inb _ _ fun a => ?_
  fin_cases a <;> simp

theorem ldP {e : EltTy} (X : Vec Ideal S1x4x1x4x128x128 e) (s p : Nat) (hs : s < 4) (hp : p < 4)
    (inb : IU s p) (i : Fin 128) (k : Fin 128) :
    (View.ld X (Rect.unit (s := S1x4x1x4x128x128) ![0, s, 0, p, 0, 0] ![1, 1, 1, 1, 128, 128] inb) : Vec Ideal S1x1x1x1x128x128 e) (ix6 0 0 0 0 i k)
      = X (ix6 0 ⟨s, hs⟩ 0 ⟨p, hp⟩ i k) := by
  refine View.ld_unit_apply_of X _ _ inb _ _ fun a => ?_
  fin_cases a <;> simp

theorem ldE (X : Vec Ideal S1x4x1x8x128 .f32) (s h : Nat) (hs : s < 4) (hh : h < 8)
    (inb : ∀ a, (![0, s, 0, h, 0] : Fin 5 → Nat) a + (![1, 1, 1, 1, 128] : Fin 5 → Nat) a ≤ S1x4x1x8x128.size a) (v : Fin 128) :
    (View.ld X (Rect.unit (s := S1x4x1x8x128) ![0, s, 0, h, 0] ![1, 1, 1, 1, 128] inb) : TE) (ix5 0 0 0 0 v) = X (ix5 0 ⟨s, hs⟩ 0 ⟨h, hh⟩ v) := by
  refine View.ld_unit_apply_of X _ _ inb _ _ fun a => ?_
  fin_cases a <;> simp

theorem ldS (X : Vec Ideal S4x8x128x128 .f32) (s h : Nat) (hs : s < 4) (hh : h < 8)
    (inb : ∀ a, (![s, h, 0, 0] : Fin 4 → Nat) a + (![1, 1, 128, 128] : Fin 4 → Nat) a ≤ S4x8x128x128.size a) (i j : Fin 128) :
    (View.ld X (Rect.unit (s := S4x8x128x128) ![s, h, 0, 0] ![1, 1, 128, 128] inb) : TS) (ix4 0 0 i j) = held X ⟨s, hs⟩ ⟨h, hh⟩ i j := by
  refine View.ld_unit_apply_of X _ _ inb _ _ fun a => ?_
  fin_cases a <;> simp

theorem ldZ (X : Vec Ideal S1x4x64x1024 .f32) (s o : Nat) (hs : s < 4) (ho : o + 128 ≤ 1024)
    (inb : ∀ a, (![0, s, 0, o] : Fin 4 → Nat) a + (![1, 1, 64, 128] : Fin 4 → Nat) a ≤ S1x4x64x1024.size a) (i : Fin 64) (v : Fin 128) :
    (View.ld X (Rect.unit (s := S1x4x64x1024) ![0, s, 0, o] ![1, 1, 64, 128] inb) : Vec Ideal S1x1x64x128 .f32) (ix4 0 0 i v) = X (ix4 0 ⟨s, hs⟩ i ⟨o + v.val, by omega⟩) := by
  refine View.ld_unit_apply_of X _ _ inb _ _ fun a => ?_
  fin_cases a <;> simp

theorem embS (s h : Nat) (hs : s < 4) (hh : h < 8)
    (inb : ∀ a, (![s, h, 0, 0] : Fin 4 → Nat) a + (![1, 1, 128, 128] : Fin 4 → Nat) a ≤ S4x8x128x128.size a) (i j : Fin 128) :
    (Rect.unit (s := S4x8x128x128) ![s, h, 0, 0] ![1, 1, 128, 128] inb).emb (ix4 0 0 i j : S1x1x128x128.Idx) = (ix4 ⟨s, hs⟩ ⟨h, hh⟩ i j : S4x8x128x128.Idx) := by
  refine funext fun a => Fin.ext ((Rect.idx_unit_val _ _ inb _ a).trans ?_)
  fin_cases a <;> simp

theorem embO (s : Nat) (hs : s < 4)
    (inb : ∀ a, (![0, s, 0, 0] : Fin 4 → Nat) a + (![1, 1, 64, 1024] : Fin 4 → Nat) a ≤ S1x4x64x1024.size a) (i : Fin 64) (n : Fin 1024) :
    (Rect.unit (s := S1x4x64x1024) ![0, s, 0, 0] ![1, 1, 64, 1024] inb).emb (ix4 0 0 i n : S1x1x64x1024.Idx) = (ix4 0 ⟨s, hs⟩ i n : S1x4x64x1024.Idx) := by
  refine funext fun a => Fin.ext ((Rect.idx_unit_val _ _ inb _ a).trans ?_)
  fin_cases a <;> simp

theorem rows_eq (X : S1x4x1x4x128x128.Idx → EReal) (s : Fin 4) (h : Fin 8) (p : Fin 4) (r : Fin 128) (i : Fin 64) (k : Fin 128)
    (hp : p.val = h.val / 2) (hr : r.val = h.val % 2 * 64 + i.val) : X (ix6 0 s 0 p r k) = rows X s h i k := by
  unfold rows
  rw [show p = ⟨h.val / 2, by have := h.isLt; omega⟩ from Fin.ext hp, show r = ⟨h.val % 2 * 64 + i.val, by have := i.isLt; omega⟩ from Fin.ext hr]

section Piece
variable (x0 : Vec Ideal S1x4x1x4x128x128 .f32) (x1 x2 x3 x4 : Vec Ideal S1x4x1x4x128x128 .bf16) (x5 : Vec Ideal S1x4x1x8x128 .f32) (x6 : Vec Ideal S1x4x64x1024 .f32) (x7 : Vec Ideal S1x128 .f32)
  (s p a b : Nat) (hs : s < 4) (hp : p < 4) (ha : a = 2 * p) (hb : b = 2 * p + 1)

/-- The rectangles of a pair. -/
abbrev rU (s p : Nat) (inb : IU s p) : Rect S1x4x1x4x128x128 := Rect.unit ![0, s, 0, p, 0, 0] ![1, 1, 1, 1, 128, 128] inb
abbrev rW (s p o : Nat) (inb : IW s p o) : Rect S1x4x1x4x128x128 := Rect.unit ![0, s, 0, p, o, 0] ![1, 1, 1, 1, 64, 128] inb
abbrev rE (s h : Nat) (inb : ∀ a, (![0, s, 0, h, 0] : Fin 5 → Nat) a + (![1, 1, 1, 1, 128] : Fin 5 → Nat) a ≤ S1x4x1x8x128.size a) : Rect S1x4x1x8x128 := Rect.unit ![0, s, 0, h, 0] ![1, 1, 1, 1, 128] inb
abbrev rS (s h : Nat) (inb : ∀ a, (![s, h, 0, 0] : Fin 4 → Nat) a + (![1, 1, 128, 128] : Fin 4 → Nat) a ≤ S4x8x128x128.size a) : Rect S4x8x128x128 := Rect.unit ![s, h, 0, 0] ![1, 1, 128, 128] inb
abbrev rZ (s o : Nat) (inb : ∀ a, (![0, s, 0, o] : Fin 4 → Nat) a + (![1, 1, 64, 128] : Fin 4 → Nat) a ≤ S1x4x64x1024.size a) : Rect S1x4x64x1024 := Rect.unit ![0, s, 0, o] ![1, 1, 64, 128] inb
abbrev rO (s : Nat) (inb : ∀ a, (![0, s, 0, 0] : Fin 4 → Nat) a + (![1, 1, 64, 1024] : Fin 4 → Nat) a ≤ S1x4x64x1024.size a) : Rect S1x4x64x1024 := Rect.unit ![0, s, 0, 0] ![1, 1, 64, 1024] inb

include ha hb in
theorem pcA (S : Fin 4 → State) (S0 S1 : TS) (hS0 : ∀ i j, S0 (ix4 0 0 i j) = S ⟨s, hs⟩ ⟨a, by omega⟩ i j)
    (iS) (iU) (iW0) (iW1) (iE) (iK) (x : (rS s a iS).shape.Idx) :
    (nxA S0 (vnT S0 S1 (View.ld x1 (rW s p 0 iW0)) (View.ld x1 (rW s p 64 iW1)) (View.ld x0 (rU s p iU))) (View.ld x5 (rE s a iE)) (View.ld x4 (rW s p 0 iK)) : TS) x
      = GS x0 x1 x4 x5 S ((rS s a iS).emb x) := by
  subst ha hb
  obtain ⟨c, d, k, v, rfl⟩ : ∃ (c d : Fin 1) (k v : Fin 128), x = (ix4 c d k v : S1x1x128x128.Idx) := ⟨x 0, x 1, x 2, x 3, eq_ix4 x⟩
  obtain rfl : c = 0 := Subsingleton.elim _ _
  obtain rfl : d = 0 := Subsingleton.elim _ _
  rw [embS s (2 * p) hs (by omega)]
  exact nxA_pair (p := ⟨p, hp⟩) (U := rows x0 ⟨s, hs⟩) (W := rows x1 ⟨s, hs⟩) (K := rows x4 ⟨s, hs⟩) (E := lanes x5 ⟨s, hs⟩) (S := S ⟨s, hs⟩) hS0
    (fun i k => (ldR x1 s p 0 hs hp (by omega) iW0 i k).trans (rows_eq x1 _ _ _ _ i k (by show p = 2 * p / 2; omega) (by show 0 + i.val = 2 * p % 2 * 64 + i.val; omega)))
    (fun i k => (ldP x0 s p hs hp iU _ k).trans (rows_eq x0 _ _ _ _ i k (by show p = 2 * p / 2; omega) (by show i.val = 2 * p % 2 * 64 + i.val; omega)))
    (fun v => ldE x5 s (2 * p) hs (by omega) iE v)
    (fun i k => (ldR x4 s p 0 hs hp (by omega) iK i k).trans (rows_eq x4 _ _ _ _ i k (by show p = 2 * p / 2; omega) (by show 0 + i.val = 2 * p % 2 * 64 + i.val; omega))) k v

include ha hb in
theorem pcB (S : Fin 4 → State) (S0 S1 : TS) (hS1 : ∀ i j, S1 (ix4 0 0 i j) = S ⟨s, hs⟩ ⟨b, by omega⟩ i j)
    (iS) (iU) (iW0) (iW1) (iE) (iK) (x : (rS s b iS).shape.Idx) :
    (nxB S1 (vnT S0 S1 (View.ld x1 (rW s p 0 iW0)) (View.ld x1 (rW s p 64 iW1)) (View.ld x0 (rU s p iU))) (View.ld x5 (rE s b iE)) (View.ld x4 (rW s p 64 iK)) : TS) x
      = GS x0 x1 x4 x5 S ((rS s b iS).emb x) := by
  subst ha hb
  obtain ⟨c, d, k, v, rfl⟩ : ∃ (c d : Fin 1) (k v : Fin 128), x = (ix4 c d k v : S1x1x128x128.Idx) := ⟨x 0, x 1, x 2, x 3, eq_ix4 x⟩
  obtain rfl : c = 0 := Subsingleton.elim _ _
  obtain rfl : d = 0 := Subsingleton.elim _ _
  rw [embS s (2 * p + 1) hs (by omega)]
  exact nxB_pair (p := ⟨p, hp⟩) (U := rows x0 ⟨s, hs⟩) (W := rows x1 ⟨s, hs⟩) (K := rows x4 ⟨s, hs⟩) (E := lanes x5 ⟨s, hs⟩) (S := S ⟨s, hs⟩) hS1
    (fun i k => (ldR x1 s p 64 hs hp (by omega) iW1 i k).trans (rows_eq x1 _ _ _ _ i k (by show p = (2 * p + 1) / 2; omega) (by show 64 + i.val = (2 * p + 1) % 2 * 64 + i.val; omega)))
    (fun i k => (ldP x0 s p hs hp iU _ k).trans (rows_eq x0 _ _ _ _ i k (by show p = (2 * p + 1) / 2; omega) (by show 64 + i.val = (2 * p + 1) % 2 * 64 + i.val; omega)))
    (fun v => ldE x5 s (2 * p + 1) hs (by omega) iE v)
    (fun i k => (ldR x4 s p 64 hs hp (by omega) iK i k).trans (rows_eq x4 _ _ _ _ i k (by show p = (2 * p + 1) / 2; omega) (by show 64 + i.val = (2 * p + 1) % 2 * 64 + i.val; omega))) k v

end Piece

section Read
variable (x0 : Vec Ideal S1x4x1x4x128x128 .f32) (x1 x2 x3 x4 : Vec Ideal S1x4x1x4x128x128 .bf16) (x5 : Vec Ideal S1x4x1x8x128 .f32) (x6 : Vec Ideal S1x4x64x1024 .f32) (x7 : Vec Ideal S1x128 .f32)
  (s p : Nat) (hs : s < 4) (hp : p < 4)

/-- What a pair reads, over loads. -/
abbrev rdL (S0 S1 : TS) (iU : IU s p) (iA : IU s p) (iW0 : IW s p 0) (iW1 : IW s p 64) (iQ0 : IW s p 0) (iQ1 : IW s p 64) : FVec Ideal S128x128 .f32 :=
  rdT S0 S1 (View.ld x1 (rW s p 0 iW0)) (View.ld x1 (rW s p 64 iW1)) (View.ld x0 (rU s p iU)) (View.ld x3 (rW s p 0 iQ0)) (View.ld x3 (rW s p 64 iQ1)) (View.ld x2 (rU s p iA))

theorem rdA_pair (S : Fin 4 → State) (S0 S1 : TS) (hS0 : ∀ i j, S0 (ix4 0 0 i j) = S ⟨s, hs⟩ ⟨2 * p, by omega⟩ i j) (hS1 : ∀ i j, S1 (ix4 0 0 i j) = S ⟨s, hs⟩ ⟨2 * p + 1, by omega⟩ i j)
    (iU : IU s p) (iA : IU s p) (iW0 : IW s p 0) (iW1 : IW s p 64) (iQ0 : IW s p 0) (iQ1 : IW s p 64) (i : Fin 64) (y : Fin 128) :
    hdA (rdL x0 x1 x2 x3 s p S0 S1 iU iA iW0 iW1 iQ0 iQ1) (ix2 i y) = rd (rows x0 ⟨s, hs⟩) (rows x1 ⟨s, hs⟩) (rows x3 ⟨s, hs⟩) (rows x2 ⟨s, hs⟩) (S ⟨s, hs⟩) (fst ⟨p, hp⟩) i y :=
     (hdA_at _ i y).trans (rdT_fst (p := ⟨p, hp⟩) hS0 hS1
    (fun i k => (ldR x1 s p 0 hs hp (by omega) iW0 i k).trans (rows_eq x1 _ _ _ _ i k (by show p = 2 * p / 2; omega) (by show 0 + i.val = 2 * p % 2 * 64 + i.val; omega)))
    (fun i k => (ldR x1 s p 64 hs hp (by omega) iW1 i k).trans (rows_eq x1 _ _ _ _ i k (by show p = (2 * p + 1) / 2; omega) (by show 64 + i.val = (2 * p + 1) % 2 * 64 + i.val; omega)))
    (fun i k => (ldP x0 s p hs hp iU _ k).trans (rows_eq x0 _ _ _ _ i k (by show p = 2 * p / 2; omega) (by show i.val = 2 * p % 2 * 64 + i.val; omega)))
    (fun i k => (ldP x0 s p hs hp iU _ k).trans (rows_eq x0 _ _ _ _ i k (by show p = (2 * p + 1) / 2; omega) (by show 64 + i.val = (2 * p + 1) % 2 * 64 + i.val; omega)))
    (fun i k => (ldR x3 s p 0 hs hp (by omega) iQ0 i k).trans (rows_eq x3 _ _ _ _ i k (by show p = 2 * p / 2; omega) (by show 0 + i.val = 2 * p % 2 * 64 + i.val; omega)))
    (fun i k => (ldP x2 s p hs hp iA _ k).trans (rows_eq x2 _ _ _ _ i k (by show p = 2 * p / 2; omega) (by show i.val = 2 * p % 2 * 64 + i.val; omega))) i y)

theorem hdA_pair (S : Fin 4 → State) (S0 S1 : TS) (hS0 : ∀ i j, S0 (ix4 0 0 i j) = S ⟨s, hs⟩ ⟨2 * p, by omega⟩ i j) (hS1 : ∀ i j, S1 (ix4 0 0 i j) = S ⟨s, hs⟩ ⟨2 * p + 1, by omega⟩ i j)
    (iU : IU s p) (iA : IU s p) (iW0 : IW s p 0) (iW1 : IW s p 64) (iQ0 : IW s p 0) (iQ1 : IW s p 64) (o : Nat) (ho : o = 2 * p * 128) (iZ) (i : Fin 64) (v : Fin 128) :
    gtT (hdA (rdL x0 x1 x2 x3 s p S0 S1 iU iA iW0 iW1 iQ0 iQ1)) x7 (View.ld x6 (rZ s o iZ)) (ix2 i v) = GO x0 x1 x2 x3 x6 x7 S (ix4 0 ⟨s, hs⟩ i ⟨2 * p * 128 + v.val, by omega⟩) := by
  subst ho
  rw [gtT_at, funext (rdA_pair x0 x1 x2 x3 s p hs hp S S0 S1 hS0 hS1 iU iA iW0 iW1 iQ0 iQ1 i), ldZ x6 s (2 * p * 128) hs (by omega)]
  exact (GO_at x0 x1 x2 x3 x6 x7 S ⟨s, hs⟩ i (fst ⟨p, hp⟩) v _ rfl).symm

theorem rdB_pair (S : Fin 4 → State) (S0 S1 : TS) (hS0 : ∀ i j, S0 (ix4 0 0 i j) = S ⟨s, hs⟩ ⟨2 * p, by omega⟩ i j) (hS1 : ∀ i j, S1 (ix4 0 0 i j) = S ⟨s, hs⟩ ⟨2 * p + 1, by omega⟩ i j)
    (iU : IU s p) (iA : IU s p) (iW0 : IW s p 0) (iW1 : IW s p 64) (iQ0 : IW s p 0) (iQ1 : IW s p 64) (i : Fin 64) (y : Fin 128) :
    hdB (rdL x0 x1 x2 x3 s p S0 S1 iU iA iW0 iW1 iQ0 iQ1) (ix2 i y) = rd (rows x0 ⟨s, hs⟩) (rows x1 ⟨s, hs⟩) (rows x3 ⟨s, hs⟩) (rows x2 ⟨s, hs⟩) (S ⟨s, hs⟩) (snd ⟨p, hp⟩) i y :=
     (hdB_at _ i y).trans (rdT_snd (p := ⟨p, hp⟩) hS0 hS1
    (fun i k => (ldR x1 s p 0 hs hp (by omega) iW0 i k).trans (rows_eq x1 _ _ _ _ i k (by show p = 2 * p / 2; omega) (by show 0 + i.val = 2 * p % 2 * 64 + i.val; omega)))
    (fun i k => (ldR x1 s p 64 hs hp (by omega) iW1 i k).trans (rows_eq x1 _ _ _ _ i k (by show p = (2 * p + 1) / 2; omega) (by show 64 + i.val = (2 * p + 1) % 2 * 64 + i.val; omega)))
    (fun i k => (ldP x0 s p hs hp iU _ k).trans (rows_eq x0 _ _ _ _ i k (by show p = 2 * p / 2; omega) (by show i.val = 2 * p % 2 * 64 + i.val; omega)))
    (fun i k => (ldP x0 s p hs hp iU _ k).trans (rows_eq x0 _ _ _ _ i k (by show p = (2 * p + 1) / 2; omega) (by show 64 + i.val = (2 * p + 1) % 2 * 64 + i.val; omega)))
    (fun i k => (ldR x3 s p 64 hs hp (by omega) iQ1 i k).trans (rows_eq x3 _ _ _ _ i k (by show p = (2 * p + 1) / 2; omega) (by show 64 + i.val = (2 * p + 1) % 2 * 64 + i.val; omega)))
    (fun i k => (ldP x2 s p hs hp iA _ k).trans (rows_eq x2 _ _ _ _ i k (by show p = (2 * p + 1) / 2; omega) (by show 64 + i.val = (2 * p + 1) % 2 * 64 + i.val; omega))) i y)

theorem hdB_pair (S : Fin 4 → State) (S0 S1 : TS) (hS0 : ∀ i j, S0 (ix4 0 0 i j) = S ⟨s, hs⟩ ⟨2 * p, by omega⟩ i j) (hS1 : ∀ i j, S1 (ix4 0 0 i j) = S ⟨s, hs⟩ ⟨2 * p + 1, by omega⟩ i j)
    (iU : IU s p) (iA : IU s p) (iW0 : IW s p 0) (iW1 : IW s p 64) (iQ0 : IW s p 0) (iQ1 : IW s p 64) (o : Nat) (ho : o = (2 * p + 1) * 128) (iZ) (i : Fin 64) (v : Fin 128) :
    gtT (hdB (rdL x0 x1 x2 x3 s p S0 S1 iU iA iW0 iW1 iQ0 iQ1)) x7 (View.ld x6 (rZ s o iZ)) (ix2 i v) = GO x0 x1 x2 x3 x6 x7 S (ix4 0 ⟨s, hs⟩ i ⟨(2 * p + 1) * 128 + v.val, by omega⟩) := by
  subst ho
  rw [gtT_at, funext (rdB_pair x0 x1 x2 x3 s p hs hp S S0 S1 hS0 hS1 iU iA iW0 iW1 iQ0 iQ1 i), ldZ x6 s ((2 * p + 1) * 128) hs (by omega)]
  exact (GO_at x0 x1 x2 x3 x6 x7 S ⟨s, hs⟩ i (snd ⟨p, hp⟩) v _ rfl).symm

end Read

/-- Eight heads' rows side by side, each a block of the gated rows: a block of the gated rows. -/
theorem pcO (s : Nat) (hs : s < 4) (G : S1x4x64x1024.Idx → EReal) (a : Fin 8 → FVec Ideal S64x128 .f32)
    (ha : ∀ (h : Fin 8) (i : Fin 64) (v : Fin 128), a h (ix2 i v) = G (ix4 0 ⟨s, hs⟩ i ⟨h.val * 128 + v.val, by omega⟩)) (iO) (x : (rO s iO).shape.Idx) :
    (catH (a 0) (a 1) (a 2) (a 3) (a 4) (a 5) (a 6) (a 7) : Vec Ideal S1x1x64x1024 .f32) x = G ((rO s iO).emb x) := by
  obtain ⟨c, d, i, n, rfl⟩ : ∃ (c d : Fin 1) (i : Fin 64) (n : Fin 1024), x = (ix4 c d i n : S1x1x64x1024.Idx) := ⟨x 0, x 1, x 2, x 3, eq_ix4 x⟩
  obtain rfl : c = 0 := Subsingleton.elim _ _
  obtain rfl : d = 0 := Subsingleton.elim _ _
  rw [embO s hs]
  have e : (⟨(⟨n.val / 128, by have := n.isLt; omega⟩ : Fin 8).val * 128 + (⟨n.val % 128, by omega⟩ : Fin 128).val, by have := n.isLt; show n.val / 128 * 128 + n.val % 128 < 1024; omega⟩ : Fin 1024) = n :=
    Fin.ext (by show n.val / 128 * 128 + n.val % 128 = n.val; omega)
  have q := (catH_at a i ⟨n.val / 128, by have := n.isLt; omega⟩ ⟨n.val % 128, by omega⟩).trans (ha _ i _)
  rw [e] at q
  exact q

/-- The rectangles the states are stored at, the last store first. -/
def rects : List (Rect S4x8x128x128) := [rS 3 7 inb_S4x8x128x128_S1x1x128x128_3_7_0_0, rS 3 6 inb_S4x8x128x128_S1x1x128x128_3_6_0_0, rS 3 5 inb_S4x8x128x128_S1x1x128x128_3_5_0_0, rS 3 4 inb_S4x8x128x128_S1x1x128x128_3_4_0_0, rS 3 3 inb_S4x8x128x128_S1x1x128x128_3_3_0_0, rS 3 2 inb_S4x8x128x128_S1x1x128x128_3_2_0_0, rS 3 1 inb_S4x8x128x128_S1x1x128x128_3_1_0_0, rS 3 0 inb_S4x8x128x128_S1x1x128x128_3_0_0_0, rS 2 7 inb_S4x8x128x128_S1x1x128x128_2_7_0_0, rS 2 6 inb_S4x8x128x128_S1x1x128x128_2_6_0_0, rS 2 5 inb_S4x8x128x128_S1x1x128x128_2_5_0_0, rS 2 4 inb_S4x8x128x128_S1x1x128x128_2_4_0_0, rS 2 3 inb_S4x8x128x128_S1x1x128x128_2_3_0_0, rS 2 2 inb_S4x8x128x128_S1x1x128x128_2_2_0_0, rS 2 1 inb_S4x8x128x128_S1x1x128x128_2_1_0_0, rS 2 0 inb_S4x8x128x128_S1x1x128x128_2_0_0_0, rS 1 7 inb_S4x8x128x128_S1x1x128x128_1_7_0_0, rS 1 6 inb_S4x8x128x128_S1x1x128x128_1_6_0_0, rS 1 5 inb_S4x8x128x128_S1x1x128x128_1_5_0_0, rS 1 4 inb_S4x8x128x128_S1x1x128x128_1_4_0_0, rS 1 3 inb_S4x8x128x128_S1x1x128x128_1_3_0_0, rS 1 2 inb_S4x8x128x128_S1x1x128x128_1_2_0_0, rS 1 1 inb_S4x8x128x128_S1x1x128x128_1_1_0_0, rS 1 0 inb_S4x8x128x128_S1x1x128x128_1_0_0_0, rS 0 7 inb_S4x8x128x128_S1x1x128x128_0_7_0_0, rS 0 6 inb_S4x8x128x128_S1x1x128x128_0_6_0_0, rS 0 5 inb_S4x8x128x128_S1x1x128x128_0_5_0_0, rS 0 4 inb_S4x8x128x128_S1x1x128x128_0_4_0_0, rS 0 3 inb_S4x8x128x128_S1x1x128x128_0_3_0_0, rS 0 2 inb_S4x8x128x128_S1x1x128x128_0_2_0_0, rS 0 1 inb_S4x8x128x128_S1x1x128x128_0_1_0_0, rS 0 0 inb_S4x8x128x128_S1x1x128x128_0_0_0_0]

theorem cover (y : S4x8x128x128.Idx) : ∃ r ∈ rects, y ∈ r.set := by
  obtain ⟨s, h, k, v, rfl⟩ : ∃ (s : Fin 4) (h : Fin 8) (k v : Fin 128), y = ix4 s h k v := ⟨y 0, y 1, y 2, y 3, eq_ix4 y⟩
  have m : ∀ (a b : Nat) (inb), s.val = a → h.val = b → (ix4 s h k v : S4x8x128x128.Idx) ∈ (rS a b inb).set := by
    intro a b inb ha hb
    refine Rect.mem_set_unit.mpr fun x => ?_
    fin_cases x
    · exact ⟨by show a ≤ s.val; omega, by show s.val < a + 1; omega⟩
    · exact ⟨by show b ≤ h.val; omega, by show h.val < b + 1; omega⟩
    · exact ⟨by show 0 ≤ k.val; omega, by show k.val < 0 + 128; omega⟩
    · exact ⟨by show 0 ≤ v.val; omega, by show v.val < 0 + 128; omega⟩
  have cs : s.val = 0 ∨ s.val = 1 ∨ s.val = 2 ∨ s.val = 3 := by omega
  have ch : h.val = 0 ∨ h.val = 1 ∨ h.val = 2 ∨ h.val = 3 ∨ h.val = 4 ∨ h.val = 5 ∨ h.val = 6 ∨ h.val = 7 := by omega
  rcases cs with cs | cs | cs | cs <;> rcases ch with ch | ch | ch | ch | ch | ch | ch | ch
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), m 0 0 inb_S4x8x128x128_S1x1x128x128_0_0_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), m 0 1 inb_S4x8x128x128_S1x1x128x128_0_1_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), m 0 2 inb_S4x8x128x128_S1x1x128x128_0_2_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), m 0 3 inb_S4x8x128x128_S1x1x128x128_0_3_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), m 0 4 inb_S4x8x128x128_S1x1x128x128_0_4_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), m 0 5 inb_S4x8x128x128_S1x1x128x128_0_5_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), m 0 6 inb_S4x8x128x128_S1x1x128x128_0_6_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), m 0 7 inb_S4x8x128x128_S1x1x128x128_0_7_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), m 1 0 inb_S4x8x128x128_S1x1x128x128_1_0_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), m 1 1 inb_S4x8x128x128_S1x1x128x128_1_1_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), m 1 2 inb_S4x8x128x128_S1x1x128x128_1_2_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), m 1 3 inb_S4x8x128x128_S1x1x128x128_1_3_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), m 1 4 inb_S4x8x128x128_S1x1x128x128_1_4_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), m 1 5 inb_S4x8x128x128_S1x1x128x128_1_5_0_0 cs ch⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), m 1 6 inb_S4x8x128x128_S1x1x128x128_1_6_0_0 cs ch⟩
  · exact ⟨_, .tail _ (.tail _ (.tail _ (.tail _ (.tail _ (.tail _ (.tail _ (.tail _ (.tail _ (.tail _ (.tail _ (.tail _ (.tail _ (.tail _ (.tail _ (.tail _ (.head _)))))))))))))))), m 1 7 inb_S4x8x128x128_S1x1x128x128_1_7_0_0 cs ch⟩
  · exact ⟨_, .tail _ (.tail _ (.tail _ (.tail _ (.tail _ (.tail _ (.tail _ (.tail _ (.tail _ (.tail _ (.tail _ (.tail _ (.tail _ (.tail _ (.tail _ (.head _))))))))))))))), m 2 0 inb_S4x8x128x128_S1x1x128x128_2_0_0_0 cs ch⟩
  · exact ⟨_, .tail _ (.tail _ (.tail _ (.tail _ (.tail _ (.tail _ (.tail _ (.tail _ (.tail _ (.tail _ (.tail _ (.tail _ (.tail _ (.tail _ (.head _)))))))))))))), m 2 1 inb_S4x8x128x128_S1x1x128x128_2_1_0_0 cs ch⟩
  · exact ⟨_, .tail _ (.tail _ (.tail _ (.tail _ (.tail _ (.tail _ (.tail _ (.tail _ (.tail _ (.tail _ (.tail _ (.tail _ (.tail _ (.head _))))))))))))), m 2 2 inb_S4x8x128x128_S1x1x128x128_2_2_0_0 cs ch⟩
  · exact ⟨_, .tail _ (.tail _ (.tail _ (.tail _ (.tail _ (.tail _ (.tail _ (.tail _ (.tail _ (.tail _ (.tail _ (.tail _ (.head _)))))))))))), m 2 3 inb_S4x8x128x128_S1x1x128x128_2_3_0_0 cs ch⟩
  · exact ⟨_, .tail _ (.tail _ (.tail _ (.tail _ (.tail _ (.tail _ (.tail _ (.tail _ (.tail _ (.tail _ (.tail _ (.head _))))))))))), m 2 4 inb_S4x8x128x128_S1x1x128x128_2_4_0_0 cs ch⟩
  · exact ⟨_, .tail _ (.tail _ (.tail _ (.tail _ (.tail _ (.tail _ (.tail _ (.tail _ (.tail _ (.tail _ (.head _)))))))))), m 2 5 inb_S4x8x128x128_S1x1x128x128_2_5_0_0 cs ch⟩
  · exact ⟨_, .tail _ (.tail _ (.tail _ (.tail _ (.tail _ (.tail _ (.tail _ (.tail _ (.tail _ (.head _))))))))), m 2 6 inb_S4x8x128x128_S1x1x128x128_2_6_0_0 cs ch⟩
  · exact ⟨_, .tail _ (.tail _ (.tail _ (.tail _ (.tail _ (.tail _ (.tail _ (.tail _ (.head _)))))))), m 2 7 inb_S4x8x128x128_S1x1x128x128_2_7_0_0 cs ch⟩
  · exact ⟨_, .tail _ (.tail _ (.tail _ (.tail _ (.tail _ (.tail _ (.tail _ (.head _))))))), m 3 0 inb_S4x8x128x128_S1x1x128x128_3_0_0_0 cs ch⟩
  · exact ⟨_, .tail _ (.tail _ (.tail _ (.tail _ (.tail _ (.tail _ (.head _)))))), m 3 1 inb_S4x8x128x128_S1x1x128x128_3_1_0_0 cs ch⟩
  · exact ⟨_, .tail _ (.tail _ (.tail _ (.tail _ (.tail _ (.head _))))), m 3 2 inb_S4x8x128x128_S1x1x128x128_3_2_0_0 cs ch⟩
  · exact ⟨_, .tail _ (.tail _ (.tail _ (.tail _ (.head _)))), m 3 3 inb_S4x8x128x128_S1x1x128x128_3_3_0_0 cs ch⟩
  · exact ⟨_, .tail _ (.tail _ (.tail _ (.head _))), m 3 4 inb_S4x8x128x128_S1x1x128x128_3_4_0_0 cs ch⟩
  · exact ⟨_, .tail _ (.tail _ (.head _)), m 3 5 inb_S4x8x128x128_S1x1x128x128_3_5_0_0 cs ch⟩
  · exact ⟨_, .tail _ (.head _), m 3 6 inb_S4x8x128x128_S1x1x128x128_3_6_0_0 cs ch⟩
  · exact ⟨_, .head _, m 3 7 inb_S4x8x128x128_S1x1x128x128_3_7_0_0 cs ch⟩

/-- The rectangles the gated rows are stored at. -/
def rectsO : List (Rect S1x4x64x1024) := [rO 3 inb_S1x4x64x1024_S1x1x64x1024_0_3_0_0, rO 2 inb_S1x4x64x1024_S1x1x64x1024_0_2_0_0, rO 1 inb_S1x4x64x1024_S1x1x64x1024_0_1_0_0, rO 0 inb_S1x4x64x1024_S1x1x64x1024_0_0_0_0]

theorem coverO (y : S1x4x64x1024.Idx) : ∃ r ∈ rectsO, y ∈ r.set := by
  obtain ⟨b, s, i, n, rfl⟩ : ∃ (b : Fin 1) (s : Fin 4) (i : Fin 64) (n : Fin 1024), y = ix4 b s i n := ⟨y 0, y 1, y 2, y 3, eq_ix4 y⟩
  have m : ∀ (a : Nat) (inb), s.val = a → (ix4 b s i n : S1x4x64x1024.Idx) ∈ (rO a inb).set := by
    intro a inb ha
    refine Rect.mem_set_unit.mpr fun x => ?_
    fin_cases x
    · exact ⟨by show 0 ≤ b.val; omega, by show b.val < 0 + 1; omega⟩
    · exact ⟨by show a ≤ s.val; omega, by show s.val < a + 1; omega⟩
    · exact ⟨by show 0 ≤ i.val; omega, by show i.val < 0 + 64; omega⟩
    · exact ⟨by show 0 ≤ n.val; omega, by show n.val < 0 + 1024; omega⟩
  have cs : s.val = 0 ∨ s.val = 1 ∨ s.val = 2 ∨ s.val = 3 := by omega
  rcases cs with cs | cs | cs | cs
  · exact ⟨_, .tail _ (.tail _ (.tail _ (.head _))), m 0 inb_S1x4x64x1024_S1x1x64x1024_0_0_0_0 cs⟩
  · exact ⟨_, .tail _ (.tail _ (.head _)), m 1 inb_S1x4x64x1024_S1x1x64x1024_0_1_0_0 cs⟩
  · exact ⟨_, .tail _ (.head _), m 2 inb_S1x4x64x1024_S1x1x64x1024_0_2_0_0 cs⟩
  · exact ⟨_, .head _, m 3 inb_S1x4x64x1024_S1x1x64x1024_0_3_0_0 cs⟩

/-- Some piece covers an index when some of the pieces' rectangles does. -/
theorem cov_of {S : Shape} {e : EltTy} (L : List (View.Piece (Elt Ideal) S e)) (R : List (Rect S)) (h : L.map (fun p => p.1) = R) (y : S.Idx)
    (hy : ∃ r ∈ R, y ∈ r.set) : ∃ p ∈ L, y ∈ p.1.set := by
  subst h
  obtain ⟨r, hr, hm⟩ := hy
  obtain ⟨p, hp, rfl⟩ := List.mem_map.mp hr
  exact ⟨p, hp, hm⟩

/-- Stores that are blocks of `G` and cover every index leave `G`. -/
theorem of_pieces {S : Shape} (G : S.Idx → EReal) (L' L : List (View.Piece (Elt Ideal) S .f32)) (R : List (Rect S)) (hR : L.map (fun p => p.1) = R)
    (hc : ∀ y, ∃ r ∈ R, y ∈ r.set) (h : View.PiecesOf (e := .f32) (Val := Elt Ideal) G L) (y : S.Idx) : View.canon (L ++ L') y = G y :=
  View.canon_append_of_piecesOf (e := .f32) (Val := Elt Ideal) G L' L h y (cov_of L R hR y (hc y))

/-- The gated rows of sequence 3. -/
theorem oP3 (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (S : Fin 4 → State) (T0 : TS) (h0 : ∀ i j, T0 (ix4 0 0 i j) = S 3 0 i j) (T1 : TS) (h1 : ∀ i j, T1 (ix4 0 0 i j) = S 3 1 i j) (T2 : TS) (h2 : ∀ i j, T2 (ix4 0 0 i j) = S 3 2 i j) (T3 : TS) (h3 : ∀ i j, T3 (ix4 0 0 i j) = S 3 3 i j) (T4 : TS) (h4 : ∀ i j, T4 (ix4 0 0 i j) = S 3 4 i j) (T5 : TS) (h5 : ∀ i j, T5 (ix4 0 0 i j) = S 3 5 i j) (T6 : TS) (h6 : ∀ i j, T6 (ix4 0 0 i j) = S 3 6 i j) (T7 : TS) (h7 : ∀ i j, T7 (ix4 0 0 i j) = S 3 7 i j) (iO) (x : (rO 3 iO).shape.Idx) :
    (catH (gtT (hdA (rdL x0 x1 x2 x3 3 0 T0 T1 inb_S1x4x1x4x128x128_S1x1x1x1x128x128_0_3_0_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x4x128x128_S1x1x1x1x64x128_0_3_0_0_0_0 inb_S1x4x1x4x128x128_S1x1x1x1x64x128_0_3_0_0_64_0)) x7 (View.ld x6 (rZ 3 0 inb_S1x4x64x1024_S1x1x64x128_0_3_0_0))) (gtT (hdB (rdL x0 x1 x2 x3 3 0 T0 T1 inb_S1x4x1x4x128x128_S1x1x1x1x128x128_0_3_0_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x4x128x128_S1x1x1x1x64x128_0_3_0_0_0_0 inb_S1x4x1x4x128x128_S1x1x1x1x64x128_0_3_0_0_64_0)) x7 (View.ld x6 (rZ 3 128 inb_S1x4x64x1024_S1x1x64x128_0_3_0_128))) (gtT (hdA (rdL x0 x1 x2 x3 3 1 T2 T3 inb_S1x4x1x4x128x128_S1x1x1x1x128x128_0_3_0_1_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x4x128x128_S1x1x1x1x64x128_0_3_0_1_0_0 inb_S1x4x1x4x128x128_S1x1x1x1x64x128_0_3_0_1_64_0)) x7 (View.ld x6 (rZ 3 256 inb_S1x4x64x1024_S1x1x64x128_0_3_0_256))) (gtT (hdB (rdL x0 x1 x2 x3 3 1 T2 T3 inb_S1x4x1x4x128x128_S1x1x1x1x128x128_0_3_0_1_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x4x128x128_S1x1x1x1x64x128_0_3_0_1_0_0 inb_S1x4x1x4x128x128_S1x1x1x1x64x128_0_3_0_1_64_0)) x7 (View.ld x6 (rZ 3 384 inb_S1x4x64x1024_S1x1x64x128_0_3_0_384))) (gtT (hdA (rdL x0 x1 x2 x3 3 2 T4 T5 inb_S1x4x1x4x128x128_S1x1x1x1x128x128_0_3_0_2_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x4x128x128_S1x1x1x1x64x128_0_3_0_2_0_0 inb_S1x4x1x4x128x128_S1x1x1x1x64x128_0_3_0_2_64_0)) x7 (View.ld x6 (rZ 3 512 inb_S1x4x64x1024_S1x1x64x128_0_3_0_512))) (gtT (hdB (rdL x0 x1 x2 x3 3 2 T4 T5 inb_S1x4x1x4x128x128_S1x1x1x1x128x128_0_3_0_2_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x4x128x128_S1x1x1x1x64x128_0_3_0_2_0_0 inb_S1x4x1x4x128x128_S1x1x1x1x64x128_0_3_0_2_64_0)) x7 (View.ld x6 (rZ 3 640 inb_S1x4x64x1024_S1x1x64x128_0_3_0_640))) (gtT (hdA (rdL x0 x1 x2 x3 3 3 T6 T7 inb_S1x4x1x4x128x128_S1x1x1x1x128x128_0_3_0_3_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x4x128x128_S1x1x1x1x64x128_0_3_0_3_0_0 inb_S1x4x1x4x128x128_S1x1x1x1x64x128_0_3_0_3_64_0)) x7 (View.ld x6 (rZ 3 768 inb_S1x4x64x1024_S1x1x64x128_0_3_0_768))) (gtT (hdB (rdL x0 x1 x2 x3 3 3 T6 T7 inb_S1x4x1x4x128x128_S1x1x1x1x128x128_0_3_0_3_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x4x128x128_S1x1x1x1x64x128_0_3_0_3_0_0 inb_S1x4x1x4x128x128_S1x1x1x1x64x128_0_3_0_3_64_0)) x7 (View.ld x6 (rZ 3 896 inb_S1x4x64x1024_S1x1x64x128_0_3_0_896))) : Vec Ideal S1x1x64x1024 .f32) x = GO x0 x1 x2 x3 x6 x7 S ((rO 3 iO).emb x) :=
  pcO 3 (by decide) (GO x0 x1 x2 x3 x6 x7 S) ![gtT (hdA (rdL x0 x1 x2 x3 3 0 T0 T1 inb_S1x4x1x4x128x128_S1x1x1x1x128x128_0_3_0_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x4x128x128_S1x1x1x1x64x128_0_3_0_0_0_0 inb_S1x4x1x4x128x128_S1x1x1x1x64x128_0_3_0_0_64_0)) x7 (View.ld x6 (rZ 3 0 inb_S1x4x64x1024_S1x1x64x128_0_3_0_0)), gtT (hdB (rdL x0 x1 x2 x3 3 0 T0 T1 inb_S1x4x1x4x128x128_S1x1x1x1x128x128_0_3_0_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x4x128x128_S1x1x1x1x64x128_0_3_0_0_0_0 inb_S1x4x1x4x128x128_S1x1x1x1x64x128_0_3_0_0_64_0)) x7 (View.ld x6 (rZ 3 128 inb_S1x4x64x1024_S1x1x64x128_0_3_0_128)), gtT (hdA (rdL x0 x1 x2 x3 3 1 T2 T3 inb_S1x4x1x4x128x128_S1x1x1x1x128x128_0_3_0_1_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x4x128x128_S1x1x1x1x64x128_0_3_0_1_0_0 inb_S1x4x1x4x128x128_S1x1x1x1x64x128_0_3_0_1_64_0)) x7 (View.ld x6 (rZ 3 256 inb_S1x4x64x1024_S1x1x64x128_0_3_0_256)), gtT (hdB (rdL x0 x1 x2 x3 3 1 T2 T3 inb_S1x4x1x4x128x128_S1x1x1x1x128x128_0_3_0_1_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x4x128x128_S1x1x1x1x64x128_0_3_0_1_0_0 inb_S1x4x1x4x128x128_S1x1x1x1x64x128_0_3_0_1_64_0)) x7 (View.ld x6 (rZ 3 384 inb_S1x4x64x1024_S1x1x64x128_0_3_0_384)), gtT (hdA (rdL x0 x1 x2 x3 3 2 T4 T5 inb_S1x4x1x4x128x128_S1x1x1x1x128x128_0_3_0_2_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x4x128x128_S1x1x1x1x64x128_0_3_0_2_0_0 inb_S1x4x1x4x128x128_S1x1x1x1x64x128_0_3_0_2_64_0)) x7 (View.ld x6 (rZ 3 512 inb_S1x4x64x1024_S1x1x64x128_0_3_0_512)), gtT (hdB (rdL x0 x1 x2 x3 3 2 T4 T5 inb_S1x4x1x4x128x128_S1x1x1x1x128x128_0_3_0_2_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x4x128x128_S1x1x1x1x64x128_0_3_0_2_0_0 inb_S1x4x1x4x128x128_S1x1x1x1x64x128_0_3_0_2_64_0)) x7 (View.ld x6 (rZ 3 640 inb_S1x4x64x1024_S1x1x64x128_0_3_0_640)), gtT (hdA (rdL x0 x1 x2 x3 3 3 T6 T7 inb_S1x4x1x4x128x128_S1x1x1x1x128x128_0_3_0_3_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x4x128x128_S1x1x1x1x64x128_0_3_0_3_0_0 inb_S1x4x1x4x128x128_S1x1x1x1x64x128_0_3_0_3_64_0)) x7 (View.ld x6 (rZ 3 768 inb_S1x4x64x1024_S1x1x64x128_0_3_0_768)), gtT (hdB (rdL x0 x1 x2 x3 3 3 T6 T7 inb_S1x4x1x4x128x128_S1x1x1x1x128x128_0_3_0_3_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x4x128x128_S1x1x1x1x64x128_0_3_0_3_0_0 inb_S1x4x1x4x128x128_S1x1x1x1x64x128_0_3_0_3_64_0)) x7 (View.ld x6 (rZ 3 896 inb_S1x4x64x1024_S1x1x64x128_0_3_0_896))]
    (fun h => match h with
      | ⟨0, _⟩ => hdA_pair x0 x1 x2 x3 x6 x7 3 0 (by decide) (by decide) S T0 T1 h0 h1 _ _ _ _ _ _ 0 rfl _
      | ⟨1, _⟩ => hdB_pair x0 x1 x2 x3 x6 x7 3 0 (by decide) (by decide) S T0 T1 h0 h1 _ _ _ _ _ _ 128 rfl _
      | ⟨2, _⟩ => hdA_pair x0 x1 x2 x3 x6 x7 3 1 (by decide) (by decide) S T2 T3 h2 h3 _ _ _ _ _ _ 256 rfl _
      | ⟨3, _⟩ => hdB_pair x0 x1 x2 x3 x6 x7 3 1 (by decide) (by decide) S T2 T3 h2 h3 _ _ _ _ _ _ 384 rfl _
      | ⟨4, _⟩ => hdA_pair x0 x1 x2 x3 x6 x7 3 2 (by decide) (by decide) S T4 T5 h4 h5 _ _ _ _ _ _ 512 rfl _
      | ⟨5, _⟩ => hdB_pair x0 x1 x2 x3 x6 x7 3 2 (by decide) (by decide) S T4 T5 h4 h5 _ _ _ _ _ _ 640 rfl _
      | ⟨6, _⟩ => hdA_pair x0 x1 x2 x3 x6 x7 3 3 (by decide) (by decide) S T6 T7 h6 h7 _ _ _ _ _ _ 768 rfl _
      | ⟨7, _⟩ => hdB_pair x0 x1 x2 x3 x6 x7 3 3 (by decide) (by decide) S T6 T7 h6 h7 _ _ _ _ _ _ 896 rfl _) iO x

/-- The gated rows of sequence 2. -/
theorem oP2 (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (S : Fin 4 → State) (T0 : TS) (h0 : ∀ i j, T0 (ix4 0 0 i j) = S 2 0 i j) (T1 : TS) (h1 : ∀ i j, T1 (ix4 0 0 i j) = S 2 1 i j) (T2 : TS) (h2 : ∀ i j, T2 (ix4 0 0 i j) = S 2 2 i j) (T3 : TS) (h3 : ∀ i j, T3 (ix4 0 0 i j) = S 2 3 i j) (T4 : TS) (h4 : ∀ i j, T4 (ix4 0 0 i j) = S 2 4 i j) (T5 : TS) (h5 : ∀ i j, T5 (ix4 0 0 i j) = S 2 5 i j) (T6 : TS) (h6 : ∀ i j, T6 (ix4 0 0 i j) = S 2 6 i j) (T7 : TS) (h7 : ∀ i j, T7 (ix4 0 0 i j) = S 2 7 i j) (iO) (x : (rO 2 iO).shape.Idx) :
    (catH (gtT (hdA (rdL x0 x1 x2 x3 2 0 T0 T1 inb_S1x4x1x4x128x128_S1x1x1x1x128x128_0_2_0_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x4x128x128_S1x1x1x1x64x128_0_2_0_0_0_0 inb_S1x4x1x4x128x128_S1x1x1x1x64x128_0_2_0_0_64_0)) x7 (View.ld x6 (rZ 2 0 inb_S1x4x64x1024_S1x1x64x128_0_2_0_0))) (gtT (hdB (rdL x0 x1 x2 x3 2 0 T0 T1 inb_S1x4x1x4x128x128_S1x1x1x1x128x128_0_2_0_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x4x128x128_S1x1x1x1x64x128_0_2_0_0_0_0 inb_S1x4x1x4x128x128_S1x1x1x1x64x128_0_2_0_0_64_0)) x7 (View.ld x6 (rZ 2 128 inb_S1x4x64x1024_S1x1x64x128_0_2_0_128))) (gtT (hdA (rdL x0 x1 x2 x3 2 1 T2 T3 inb_S1x4x1x4x128x128_S1x1x1x1x128x128_0_2_0_1_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x4x128x128_S1x1x1x1x64x128_0_2_0_1_0_0 inb_S1x4x1x4x128x128_S1x1x1x1x64x128_0_2_0_1_64_0)) x7 (View.ld x6 (rZ 2 256 inb_S1x4x64x1024_S1x1x64x128_0_2_0_256))) (gtT (hdB (rdL x0 x1 x2 x3 2 1 T2 T3 inb_S1x4x1x4x128x128_S1x1x1x1x128x128_0_2_0_1_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x4x128x128_S1x1x1x1x64x128_0_2_0_1_0_0 inb_S1x4x1x4x128x128_S1x1x1x1x64x128_0_2_0_1_64_0)) x7 (View.ld x6 (rZ 2 384 inb_S1x4x64x1024_S1x1x64x128_0_2_0_384))) (gtT (hdA (rdL x0 x1 x2 x3 2 2 T4 T5 inb_S1x4x1x4x128x128_S1x1x1x1x128x128_0_2_0_2_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x4x128x128_S1x1x1x1x64x128_0_2_0_2_0_0 inb_S1x4x1x4x128x128_S1x1x1x1x64x128_0_2_0_2_64_0)) x7 (View.ld x6 (rZ 2 512 inb_S1x4x64x1024_S1x1x64x128_0_2_0_512))) (gtT (hdB (rdL x0 x1 x2 x3 2 2 T4 T5 inb_S1x4x1x4x128x128_S1x1x1x1x128x128_0_2_0_2_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x4x128x128_S1x1x1x1x64x128_0_2_0_2_0_0 inb_S1x4x1x4x128x128_S1x1x1x1x64x128_0_2_0_2_64_0)) x7 (View.ld x6 (rZ 2 640 inb_S1x4x64x1024_S1x1x64x128_0_2_0_640))) (gtT (hdA (rdL x0 x1 x2 x3 2 3 T6 T7 inb_S1x4x1x4x128x128_S1x1x1x1x128x128_0_2_0_3_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x4x128x128_S1x1x1x1x64x128_0_2_0_3_0_0 inb_S1x4x1x4x128x128_S1x1x1x1x64x128_0_2_0_3_64_0)) x7 (View.ld x6 (rZ 2 768 inb_S1x4x64x1024_S1x1x64x128_0_2_0_768))) (gtT (hdB (rdL x0 x1 x2 x3 2 3 T6 T7 inb_S1x4x1x4x128x128_S1x1x1x1x128x128_0_2_0_3_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x4x128x128_S1x1x1x1x64x128_0_2_0_3_0_0 inb_S1x4x1x4x128x128_S1x1x1x1x64x128_0_2_0_3_64_0)) x7 (View.ld x6 (rZ 2 896 inb_S1x4x64x1024_S1x1x64x128_0_2_0_896))) : Vec Ideal S1x1x64x1024 .f32) x = GO x0 x1 x2 x3 x6 x7 S ((rO 2 iO).emb x) :=
  pcO 2 (by decide) (GO x0 x1 x2 x3 x6 x7 S) ![gtT (hdA (rdL x0 x1 x2 x3 2 0 T0 T1 inb_S1x4x1x4x128x128_S1x1x1x1x128x128_0_2_0_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x4x128x128_S1x1x1x1x64x128_0_2_0_0_0_0 inb_S1x4x1x4x128x128_S1x1x1x1x64x128_0_2_0_0_64_0)) x7 (View.ld x6 (rZ 2 0 inb_S1x4x64x1024_S1x1x64x128_0_2_0_0)), gtT (hdB (rdL x0 x1 x2 x3 2 0 T0 T1 inb_S1x4x1x4x128x128_S1x1x1x1x128x128_0_2_0_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x4x128x128_S1x1x1x1x64x128_0_2_0_0_0_0 inb_S1x4x1x4x128x128_S1x1x1x1x64x128_0_2_0_0_64_0)) x7 (View.ld x6 (rZ 2 128 inb_S1x4x64x1024_S1x1x64x128_0_2_0_128)), gtT (hdA (rdL x0 x1 x2 x3 2 1 T2 T3 inb_S1x4x1x4x128x128_S1x1x1x1x128x128_0_2_0_1_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x4x128x128_S1x1x1x1x64x128_0_2_0_1_0_0 inb_S1x4x1x4x128x128_S1x1x1x1x64x128_0_2_0_1_64_0)) x7 (View.ld x6 (rZ 2 256 inb_S1x4x64x1024_S1x1x64x128_0_2_0_256)), gtT (hdB (rdL x0 x1 x2 x3 2 1 T2 T3 inb_S1x4x1x4x128x128_S1x1x1x1x128x128_0_2_0_1_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x4x128x128_S1x1x1x1x64x128_0_2_0_1_0_0 inb_S1x4x1x4x128x128_S1x1x1x1x64x128_0_2_0_1_64_0)) x7 (View.ld x6 (rZ 2 384 inb_S1x4x64x1024_S1x1x64x128_0_2_0_384)), gtT (hdA (rdL x0 x1 x2 x3 2 2 T4 T5 inb_S1x4x1x4x128x128_S1x1x1x1x128x128_0_2_0_2_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x4x128x128_S1x1x1x1x64x128_0_2_0_2_0_0 inb_S1x4x1x4x128x128_S1x1x1x1x64x128_0_2_0_2_64_0)) x7 (View.ld x6 (rZ 2 512 inb_S1x4x64x1024_S1x1x64x128_0_2_0_512)), gtT (hdB (rdL x0 x1 x2 x3 2 2 T4 T5 inb_S1x4x1x4x128x128_S1x1x1x1x128x128_0_2_0_2_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x4x128x128_S1x1x1x1x64x128_0_2_0_2_0_0 inb_S1x4x1x4x128x128_S1x1x1x1x64x128_0_2_0_2_64_0)) x7 (View.ld x6 (rZ 2 640 inb_S1x4x64x1024_S1x1x64x128_0_2_0_640)), gtT (hdA (rdL x0 x1 x2 x3 2 3 T6 T7 inb_S1x4x1x4x128x128_S1x1x1x1x128x128_0_2_0_3_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x4x128x128_S1x1x1x1x64x128_0_2_0_3_0_0 inb_S1x4x1x4x128x128_S1x1x1x1x64x128_0_2_0_3_64_0)) x7 (View.ld x6 (rZ 2 768 inb_S1x4x64x1024_S1x1x64x128_0_2_0_768)), gtT (hdB (rdL x0 x1 x2 x3 2 3 T6 T7 inb_S1x4x1x4x128x128_S1x1x1x1x128x128_0_2_0_3_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x4x128x128_S1x1x1x1x64x128_0_2_0_3_0_0 inb_S1x4x1x4x128x128_S1x1x1x1x64x128_0_2_0_3_64_0)) x7 (View.ld x6 (rZ 2 896 inb_S1x4x64x1024_S1x1x64x128_0_2_0_896))]
    (fun h => match h with
      | ⟨0, _⟩ => hdA_pair x0 x1 x2 x3 x6 x7 2 0 (by decide) (by decide) S T0 T1 h0 h1 _ _ _ _ _ _ 0 rfl _
      | ⟨1, _⟩ => hdB_pair x0 x1 x2 x3 x6 x7 2 0 (by decide) (by decide) S T0 T1 h0 h1 _ _ _ _ _ _ 128 rfl _
      | ⟨2, _⟩ => hdA_pair x0 x1 x2 x3 x6 x7 2 1 (by decide) (by decide) S T2 T3 h2 h3 _ _ _ _ _ _ 256 rfl _
      | ⟨3, _⟩ => hdB_pair x0 x1 x2 x3 x6 x7 2 1 (by decide) (by decide) S T2 T3 h2 h3 _ _ _ _ _ _ 384 rfl _
      | ⟨4, _⟩ => hdA_pair x0 x1 x2 x3 x6 x7 2 2 (by decide) (by decide) S T4 T5 h4 h5 _ _ _ _ _ _ 512 rfl _
      | ⟨5, _⟩ => hdB_pair x0 x1 x2 x3 x6 x7 2 2 (by decide) (by decide) S T4 T5 h4 h5 _ _ _ _ _ _ 640 rfl _
      | ⟨6, _⟩ => hdA_pair x0 x1 x2 x3 x6 x7 2 3 (by decide) (by decide) S T6 T7 h6 h7 _ _ _ _ _ _ 768 rfl _
      | ⟨7, _⟩ => hdB_pair x0 x1 x2 x3 x6 x7 2 3 (by decide) (by decide) S T6 T7 h6 h7 _ _ _ _ _ _ 896 rfl _) iO x

/-- The gated rows of sequence 1. -/
theorem oP1 (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (S : Fin 4 → State) (T0 : TS) (h0 : ∀ i j, T0 (ix4 0 0 i j) = S 1 0 i j) (T1 : TS) (h1 : ∀ i j, T1 (ix4 0 0 i j) = S 1 1 i j) (T2 : TS) (h2 : ∀ i j, T2 (ix4 0 0 i j) = S 1 2 i j) (T3 : TS) (h3 : ∀ i j, T3 (ix4 0 0 i j) = S 1 3 i j) (T4 : TS) (h4 : ∀ i j, T4 (ix4 0 0 i j) = S 1 4 i j) (T5 : TS) (h5 : ∀ i j, T5 (ix4 0 0 i j) = S 1 5 i j) (T6 : TS) (h6 : ∀ i j, T6 (ix4 0 0 i j) = S 1 6 i j) (T7 : TS) (h7 : ∀ i j, T7 (ix4 0 0 i j) = S 1 7 i j) (iO) (x : (rO 1 iO).shape.Idx) :
    (catH (gtT (hdA (rdL x0 x1 x2 x3 1 0 T0 T1 inb_S1x4x1x4x128x128_S1x1x1x1x128x128_0_1_0_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x4x128x128_S1x1x1x1x64x128_0_1_0_0_0_0 inb_S1x4x1x4x128x128_S1x1x1x1x64x128_0_1_0_0_64_0)) x7 (View.ld x6 (rZ 1 0 inb_S1x4x64x1024_S1x1x64x128_0_1_0_0))) (gtT (hdB (rdL x0 x1 x2 x3 1 0 T0 T1 inb_S1x4x1x4x128x128_S1x1x1x1x128x128_0_1_0_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x4x128x128_S1x1x1x1x64x128_0_1_0_0_0_0 inb_S1x4x1x4x128x128_S1x1x1x1x64x128_0_1_0_0_64_0)) x7 (View.ld x6 (rZ 1 128 inb_S1x4x64x1024_S1x1x64x128_0_1_0_128))) (gtT (hdA (rdL x0 x1 x2 x3 1 1 T2 T3 inb_S1x4x1x4x128x128_S1x1x1x1x128x128_0_1_0_1_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x4x128x128_S1x1x1x1x64x128_0_1_0_1_0_0 inb_S1x4x1x4x128x128_S1x1x1x1x64x128_0_1_0_1_64_0)) x7 (View.ld x6 (rZ 1 256 inb_S1x4x64x1024_S1x1x64x128_0_1_0_256))) (gtT (hdB (rdL x0 x1 x2 x3 1 1 T2 T3 inb_S1x4x1x4x128x128_S1x1x1x1x128x128_0_1_0_1_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x4x128x128_S1x1x1x1x64x128_0_1_0_1_0_0 inb_S1x4x1x4x128x128_S1x1x1x1x64x128_0_1_0_1_64_0)) x7 (View.ld x6 (rZ 1 384 inb_S1x4x64x1024_S1x1x64x128_0_1_0_384))) (gtT (hdA (rdL x0 x1 x2 x3 1 2 T4 T5 inb_S1x4x1x4x128x128_S1x1x1x1x128x128_0_1_0_2_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x4x128x128_S1x1x1x1x64x128_0_1_0_2_0_0 inb_S1x4x1x4x128x128_S1x1x1x1x64x128_0_1_0_2_64_0)) x7 (View.ld x6 (rZ 1 512 inb_S1x4x64x1024_S1x1x64x128_0_1_0_512))) (gtT (hdB (rdL x0 x1 x2 x3 1 2 T4 T5 inb_S1x4x1x4x128x128_S1x1x1x1x128x128_0_1_0_2_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x4x128x128_S1x1x1x1x64x128_0_1_0_2_0_0 inb_S1x4x1x4x128x128_S1x1x1x1x64x128_0_1_0_2_64_0)) x7 (View.ld x6 (rZ 1 640 inb_S1x4x64x1024_S1x1x64x128_0_1_0_640))) (gtT (hdA (rdL x0 x1 x2 x3 1 3 T6 T7 inb_S1x4x1x4x128x128_S1x1x1x1x128x128_0_1_0_3_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x4x128x128_S1x1x1x1x64x128_0_1_0_3_0_0 inb_S1x4x1x4x128x128_S1x1x1x1x64x128_0_1_0_3_64_0)) x7 (View.ld x6 (rZ 1 768 inb_S1x4x64x1024_S1x1x64x128_0_1_0_768))) (gtT (hdB (rdL x0 x1 x2 x3 1 3 T6 T7 inb_S1x4x1x4x128x128_S1x1x1x1x128x128_0_1_0_3_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x4x128x128_S1x1x1x1x64x128_0_1_0_3_0_0 inb_S1x4x1x4x128x128_S1x1x1x1x64x128_0_1_0_3_64_0)) x7 (View.ld x6 (rZ 1 896 inb_S1x4x64x1024_S1x1x64x128_0_1_0_896))) : Vec Ideal S1x1x64x1024 .f32) x = GO x0 x1 x2 x3 x6 x7 S ((rO 1 iO).emb x) :=
  pcO 1 (by decide) (GO x0 x1 x2 x3 x6 x7 S) ![gtT (hdA (rdL x0 x1 x2 x3 1 0 T0 T1 inb_S1x4x1x4x128x128_S1x1x1x1x128x128_0_1_0_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x4x128x128_S1x1x1x1x64x128_0_1_0_0_0_0 inb_S1x4x1x4x128x128_S1x1x1x1x64x128_0_1_0_0_64_0)) x7 (View.ld x6 (rZ 1 0 inb_S1x4x64x1024_S1x1x64x128_0_1_0_0)), gtT (hdB (rdL x0 x1 x2 x3 1 0 T0 T1 inb_S1x4x1x4x128x128_S1x1x1x1x128x128_0_1_0_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x4x128x128_S1x1x1x1x64x128_0_1_0_0_0_0 inb_S1x4x1x4x128x128_S1x1x1x1x64x128_0_1_0_0_64_0)) x7 (View.ld x6 (rZ 1 128 inb_S1x4x64x1024_S1x1x64x128_0_1_0_128)), gtT (hdA (rdL x0 x1 x2 x3 1 1 T2 T3 inb_S1x4x1x4x128x128_S1x1x1x1x128x128_0_1_0_1_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x4x128x128_S1x1x1x1x64x128_0_1_0_1_0_0 inb_S1x4x1x4x128x128_S1x1x1x1x64x128_0_1_0_1_64_0)) x7 (View.ld x6 (rZ 1 256 inb_S1x4x64x1024_S1x1x64x128_0_1_0_256)), gtT (hdB (rdL x0 x1 x2 x3 1 1 T2 T3 inb_S1x4x1x4x128x128_S1x1x1x1x128x128_0_1_0_1_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x4x128x128_S1x1x1x1x64x128_0_1_0_1_0_0 inb_S1x4x1x4x128x128_S1x1x1x1x64x128_0_1_0_1_64_0)) x7 (View.ld x6 (rZ 1 384 inb_S1x4x64x1024_S1x1x64x128_0_1_0_384)), gtT (hdA (rdL x0 x1 x2 x3 1 2 T4 T5 inb_S1x4x1x4x128x128_S1x1x1x1x128x128_0_1_0_2_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x4x128x128_S1x1x1x1x64x128_0_1_0_2_0_0 inb_S1x4x1x4x128x128_S1x1x1x1x64x128_0_1_0_2_64_0)) x7 (View.ld x6 (rZ 1 512 inb_S1x4x64x1024_S1x1x64x128_0_1_0_512)), gtT (hdB (rdL x0 x1 x2 x3 1 2 T4 T5 inb_S1x4x1x4x128x128_S1x1x1x1x128x128_0_1_0_2_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x4x128x128_S1x1x1x1x64x128_0_1_0_2_0_0 inb_S1x4x1x4x128x128_S1x1x1x1x64x128_0_1_0_2_64_0)) x7 (View.ld x6 (rZ 1 640 inb_S1x4x64x1024_S1x1x64x128_0_1_0_640)), gtT (hdA (rdL x0 x1 x2 x3 1 3 T6 T7 inb_S1x4x1x4x128x128_S1x1x1x1x128x128_0_1_0_3_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x4x128x128_S1x1x1x1x64x128_0_1_0_3_0_0 inb_S1x4x1x4x128x128_S1x1x1x1x64x128_0_1_0_3_64_0)) x7 (View.ld x6 (rZ 1 768 inb_S1x4x64x1024_S1x1x64x128_0_1_0_768)), gtT (hdB (rdL x0 x1 x2 x3 1 3 T6 T7 inb_S1x4x1x4x128x128_S1x1x1x1x128x128_0_1_0_3_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x4x128x128_S1x1x1x1x64x128_0_1_0_3_0_0 inb_S1x4x1x4x128x128_S1x1x1x1x64x128_0_1_0_3_64_0)) x7 (View.ld x6 (rZ 1 896 inb_S1x4x64x1024_S1x1x64x128_0_1_0_896))]
    (fun h => match h with
      | ⟨0, _⟩ => hdA_pair x0 x1 x2 x3 x6 x7 1 0 (by decide) (by decide) S T0 T1 h0 h1 _ _ _ _ _ _ 0 rfl _
      | ⟨1, _⟩ => hdB_pair x0 x1 x2 x3 x6 x7 1 0 (by decide) (by decide) S T0 T1 h0 h1 _ _ _ _ _ _ 128 rfl _
      | ⟨2, _⟩ => hdA_pair x0 x1 x2 x3 x6 x7 1 1 (by decide) (by decide) S T2 T3 h2 h3 _ _ _ _ _ _ 256 rfl _
      | ⟨3, _⟩ => hdB_pair x0 x1 x2 x3 x6 x7 1 1 (by decide) (by decide) S T2 T3 h2 h3 _ _ _ _ _ _ 384 rfl _
      | ⟨4, _⟩ => hdA_pair x0 x1 x2 x3 x6 x7 1 2 (by decide) (by decide) S T4 T5 h4 h5 _ _ _ _ _ _ 512 rfl _
      | ⟨5, _⟩ => hdB_pair x0 x1 x2 x3 x6 x7 1 2 (by decide) (by decide) S T4 T5 h4 h5 _ _ _ _ _ _ 640 rfl _
      | ⟨6, _⟩ => hdA_pair x0 x1 x2 x3 x6 x7 1 3 (by decide) (by decide) S T6 T7 h6 h7 _ _ _ _ _ _ 768 rfl _
      | ⟨7, _⟩ => hdB_pair x0 x1 x2 x3 x6 x7 1 3 (by decide) (by decide) S T6 T7 h6 h7 _ _ _ _ _ _ 896 rfl _) iO x

/-- The gated rows of sequence 0. -/
theorem oP0 (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (S : Fin 4 → State) (T0 : TS) (h0 : ∀ i j, T0 (ix4 0 0 i j) = S 0 0 i j) (T1 : TS) (h1 : ∀ i j, T1 (ix4 0 0 i j) = S 0 1 i j) (T2 : TS) (h2 : ∀ i j, T2 (ix4 0 0 i j) = S 0 2 i j) (T3 : TS) (h3 : ∀ i j, T3 (ix4 0 0 i j) = S 0 3 i j) (T4 : TS) (h4 : ∀ i j, T4 (ix4 0 0 i j) = S 0 4 i j) (T5 : TS) (h5 : ∀ i j, T5 (ix4 0 0 i j) = S 0 5 i j) (T6 : TS) (h6 : ∀ i j, T6 (ix4 0 0 i j) = S 0 6 i j) (T7 : TS) (h7 : ∀ i j, T7 (ix4 0 0 i j) = S 0 7 i j) (iO) (x : (rO 0 iO).shape.Idx) :
    (catH (gtT (hdA (rdL x0 x1 x2 x3 0 0 T0 T1 inb_S1x4x1x4x128x128_S1x1x1x1x128x128_0_0_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x4x128x128_S1x1x1x1x64x128_0_0_0_0_0_0 inb_S1x4x1x4x128x128_S1x1x1x1x64x128_0_0_0_0_64_0)) x7 (View.ld x6 (rZ 0 0 inb_S1x4x64x1024_S1x1x64x128_0_0_0_0))) (gtT (hdB (rdL x0 x1 x2 x3 0 0 T0 T1 inb_S1x4x1x4x128x128_S1x1x1x1x128x128_0_0_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x4x128x128_S1x1x1x1x64x128_0_0_0_0_0_0 inb_S1x4x1x4x128x128_S1x1x1x1x64x128_0_0_0_0_64_0)) x7 (View.ld x6 (rZ 0 128 inb_S1x4x64x1024_S1x1x64x128_0_0_0_128))) (gtT (hdA (rdL x0 x1 x2 x3 0 1 T2 T3 inb_S1x4x1x4x128x128_S1x1x1x1x128x128_0_0_0_1_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x4x128x128_S1x1x1x1x64x128_0_0_0_1_0_0 inb_S1x4x1x4x128x128_S1x1x1x1x64x128_0_0_0_1_64_0)) x7 (View.ld x6 (rZ 0 256 inb_S1x4x64x1024_S1x1x64x128_0_0_0_256))) (gtT (hdB (rdL x0 x1 x2 x3 0 1 T2 T3 inb_S1x4x1x4x128x128_S1x1x1x1x128x128_0_0_0_1_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x4x128x128_S1x1x1x1x64x128_0_0_0_1_0_0 inb_S1x4x1x4x128x128_S1x1x1x1x64x128_0_0_0_1_64_0)) x7 (View.ld x6 (rZ 0 384 inb_S1x4x64x1024_S1x1x64x128_0_0_0_384))) (gtT (hdA (rdL x0 x1 x2 x3 0 2 T4 T5 inb_S1x4x1x4x128x128_S1x1x1x1x128x128_0_0_0_2_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x4x128x128_S1x1x1x1x64x128_0_0_0_2_0_0 inb_S1x4x1x4x128x128_S1x1x1x1x64x128_0_0_0_2_64_0)) x7 (View.ld x6 (rZ 0 512 inb_S1x4x64x1024_S1x1x64x128_0_0_0_512))) (gtT (hdB (rdL x0 x1 x2 x3 0 2 T4 T5 inb_S1x4x1x4x128x128_S1x1x1x1x128x128_0_0_0_2_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x4x128x128_S1x1x1x1x64x128_0_0_0_2_0_0 inb_S1x4x1x4x128x128_S1x1x1x1x64x128_0_0_0_2_64_0)) x7 (View.ld x6 (rZ 0 640 inb_S1x4x64x1024_S1x1x64x128_0_0_0_640))) (gtT (hdA (rdL x0 x1 x2 x3 0 3 T6 T7 inb_S1x4x1x4x128x128_S1x1x1x1x128x128_0_0_0_3_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x4x128x128_S1x1x1x1x64x128_0_0_0_3_0_0 inb_S1x4x1x4x128x128_S1x1x1x1x64x128_0_0_0_3_64_0)) x7 (View.ld x6 (rZ 0 768 inb_S1x4x64x1024_S1x1x64x128_0_0_0_768))) (gtT (hdB (rdL x0 x1 x2 x3 0 3 T6 T7 inb_S1x4x1x4x128x128_S1x1x1x1x128x128_0_0_0_3_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x4x128x128_S1x1x1x1x64x128_0_0_0_3_0_0 inb_S1x4x1x4x128x128_S1x1x1x1x64x128_0_0_0_3_64_0)) x7 (View.ld x6 (rZ 0 896 inb_S1x4x64x1024_S1x1x64x128_0_0_0_896))) : Vec Ideal S1x1x64x1024 .f32) x = GO x0 x1 x2 x3 x6 x7 S ((rO 0 iO).emb x) :=
  pcO 0 (by decide) (GO x0 x1 x2 x3 x6 x7 S) ![gtT (hdA (rdL x0 x1 x2 x3 0 0 T0 T1 inb_S1x4x1x4x128x128_S1x1x1x1x128x128_0_0_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x4x128x128_S1x1x1x1x64x128_0_0_0_0_0_0 inb_S1x4x1x4x128x128_S1x1x1x1x64x128_0_0_0_0_64_0)) x7 (View.ld x6 (rZ 0 0 inb_S1x4x64x1024_S1x1x64x128_0_0_0_0)), gtT (hdB (rdL x0 x1 x2 x3 0 0 T0 T1 inb_S1x4x1x4x128x128_S1x1x1x1x128x128_0_0_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x4x128x128_S1x1x1x1x64x128_0_0_0_0_0_0 inb_S1x4x1x4x128x128_S1x1x1x1x64x128_0_0_0_0_64_0)) x7 (View.ld x6 (rZ 0 128 inb_S1x4x64x1024_S1x1x64x128_0_0_0_128)), gtT (hdA (rdL x0 x1 x2 x3 0 1 T2 T3 inb_S1x4x1x4x128x128_S1x1x1x1x128x128_0_0_0_1_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x4x128x128_S1x1x1x1x64x128_0_0_0_1_0_0 inb_S1x4x1x4x128x128_S1x1x1x1x64x128_0_0_0_1_64_0)) x7 (View.ld x6 (rZ 0 256 inb_S1x4x64x1024_S1x1x64x128_0_0_0_256)), gtT (hdB (rdL x0 x1 x2 x3 0 1 T2 T3 inb_S1x4x1x4x128x128_S1x1x1x1x128x128_0_0_0_1_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x4x128x128_S1x1x1x1x64x128_0_0_0_1_0_0 inb_S1x4x1x4x128x128_S1x1x1x1x64x128_0_0_0_1_64_0)) x7 (View.ld x6 (rZ 0 384 inb_S1x4x64x1024_S1x1x64x128_0_0_0_384)), gtT (hdA (rdL x0 x1 x2 x3 0 2 T4 T5 inb_S1x4x1x4x128x128_S1x1x1x1x128x128_0_0_0_2_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x4x128x128_S1x1x1x1x64x128_0_0_0_2_0_0 inb_S1x4x1x4x128x128_S1x1x1x1x64x128_0_0_0_2_64_0)) x7 (View.ld x6 (rZ 0 512 inb_S1x4x64x1024_S1x1x64x128_0_0_0_512)), gtT (hdB (rdL x0 x1 x2 x3 0 2 T4 T5 inb_S1x4x1x4x128x128_S1x1x1x1x128x128_0_0_0_2_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x4x128x128_S1x1x1x1x64x128_0_0_0_2_0_0 inb_S1x4x1x4x128x128_S1x1x1x1x64x128_0_0_0_2_64_0)) x7 (View.ld x6 (rZ 0 640 inb_S1x4x64x1024_S1x1x64x128_0_0_0_640)), gtT (hdA (rdL x0 x1 x2 x3 0 3 T6 T7 inb_S1x4x1x4x128x128_S1x1x1x1x128x128_0_0_0_3_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x4x128x128_S1x1x1x1x64x128_0_0_0_3_0_0 inb_S1x4x1x4x128x128_S1x1x1x1x64x128_0_0_0_3_64_0)) x7 (View.ld x6 (rZ 0 768 inb_S1x4x64x1024_S1x1x64x128_0_0_0_768)), gtT (hdB (rdL x0 x1 x2 x3 0 3 T6 T7 inb_S1x4x1x4x128x128_S1x1x1x1x128x128_0_0_0_3_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x4x128x128_S1x1x1x1x64x128_0_0_0_3_0_0 inb_S1x4x1x4x128x128_S1x1x1x1x64x128_0_0_0_3_64_0)) x7 (View.ld x6 (rZ 0 896 inb_S1x4x64x1024_S1x1x64x128_0_0_0_896))]
    (fun h => match h with
      | ⟨0, _⟩ => hdA_pair x0 x1 x2 x3 x6 x7 0 0 (by decide) (by decide) S T0 T1 h0 h1 _ _ _ _ _ _ 0 rfl _
      | ⟨1, _⟩ => hdB_pair x0 x1 x2 x3 x6 x7 0 0 (by decide) (by decide) S T0 T1 h0 h1 _ _ _ _ _ _ 128 rfl _
      | ⟨2, _⟩ => hdA_pair x0 x1 x2 x3 x6 x7 0 1 (by decide) (by decide) S T2 T3 h2 h3 _ _ _ _ _ _ 256 rfl _
      | ⟨3, _⟩ => hdB_pair x0 x1 x2 x3 x6 x7 0 1 (by decide) (by decide) S T2 T3 h2 h3 _ _ _ _ _ _ 384 rfl _
      | ⟨4, _⟩ => hdA_pair x0 x1 x2 x3 x6 x7 0 2 (by decide) (by decide) S T4 T5 h4 h5 _ _ _ _ _ _ 512 rfl _
      | ⟨5, _⟩ => hdB_pair x0 x1 x2 x3 x6 x7 0 2 (by decide) (by decide) S T4 T5 h4 h5 _ _ _ _ _ _ 640 rfl _
      | ⟨6, _⟩ => hdA_pair x0 x1 x2 x3 x6 x7 0 3 (by decide) (by decide) S T6 T7 h6 h7 _ _ _ _ _ _ 768 rfl _
      | ⟨7, _⟩ => hdB_pair x0 x1 x2 x3 x6 x7 0 3 (by decide) (by decide) S T6 T7 h6 h7 _ _ _ _ _ _ 896 rfl _) iO x

theorem pay2_at (Z : Vec Ideal S4x8x128x128 .f32) (s : Fin 4) (h : Fin 8) (i j : Fin 128) : k0_pay2 (F := Ideal) Z (ix5 0 s h i j) = Z (ix4 s h i j) := by
  unfold k0_pay2
  pointwise []

end Cert.InterTile
-- ==== Proof.InterBlk.lean ====
/- The prompt's recurrence call, point by point: a point holds one chunk of four sequences; the blocks it loads, as entries of
   the argument arrays. -/
module

public import proofs.«01_k».proof.Proof.InterArgs
public import proofs.«01_k».proof.Proof.InterLoad
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterIdeal.Value Cert.InterSpec

variable (m : (ℓ : Loc nD τ sig) → Buf (Elt Ideal) ℓ) (c : Dev nD)

/-- The argument arrays as functions of plain indices. -/
def chunks : Chunks where
  u n p i j := (show FVec Ideal S512x4x128x128 .f32 from m ((c : Thread nD τ).loc main_arg0)) (ix4 n p i j)
  w n p i j := (show FVec Ideal S512x4x128x128 .bf16 from m ((c : Thread nD τ).loc main_arg1)) (ix4 n p i j)
  a n p i j := (show FVec Ideal S512x4x128x128 .bf16 from m ((c : Thread nD τ).loc main_arg2)) (ix4 n p i j)
  q n p i j := (show FVec Ideal S512x4x128x128 .bf16 from m ((c : Thread nD τ).loc main_arg3)) (ix4 n p i j)
  k n p i j := (show FVec Ideal S512x4x128x128 .bf16 from m ((c : Thread nD τ).loc main_arg4)) (ix4 n p i j)
  e n h j := (show FVec Ideal S512x8x128 .f32 from m ((c : Thread nD τ).loc main_arg5)) (ix3 n h j)
def act (r : Fin 32768) (n : Fin 12288) : EReal := (show FVec Ideal S32768x12288 .f32 from m ((c : Thread nD τ).loc main_arg6)) (ix2 r n)
def wgt (v : Fin 128) : EReal := (show FVec Ideal S128 .f32 from m ((c : Thread nD τ).loc main_arg7)) (ix1 v)

theorem idx : ∀ t : Fin cfg0.N, win0_0.index t = ![t.val / 32, 0, t.val % 32, 0, 0, 0] ∧ win0_1.index t = ![t.val / 32, 0, t.val % 32, 0, 0, 0]
    ∧ win0_2.index t = ![t.val / 32, 0, t.val % 32, 0, 0, 0] ∧ win0_3.index t = ![t.val / 32, 0, t.val % 32, 0, 0, 0] ∧ win0_4.index t = ![t.val / 32, 0, t.val % 32, 0, 0, 0]
    ∧ win0_5.index t = ![t.val / 32, 0, t.val % 32, 0, 0] ∧ win0_6.index t = ![t.val / 32, 0, t.val % 32, 2] ∧ win0_7.index t = ![0, 0] ∧ t.val < 128 :=
  (by decide +kernel : ∀ t : Fin grid0.N, _)

theorem lt128 (t : Fin cfg0.N) : t.val < 128 := (idx t).2.2.2.2.2.2.2.2

/-- The group of sequences of point `t`, and its chunk. -/
def grp (t : Fin cfg0.N) : Fin 4 := ⟨t.val / 32, by have := lt128 t; omega⟩
def chk (t : Fin cfg0.N) : Fin 32 := ⟨t.val % 32, by omega⟩

theorem cast6 {e : FTy} (X : FVec Ideal S512x4x128x128 e) (a s : Fin 4) (n : Fin 32) (p : Fin 4) (i j : Fin 128) :
    (shapeCast S4x4x32x4x128x128 X shapeCasts_S512x4x128x128_S4x4x32x4x128x128 : FVec Ideal S4x4x32x4x128x128 e) (ix6 a s n p i j) = X (ix4 ⟨(a.val * 4 + s.val) * 32 + n.val, by omega⟩ p i j) := by
  pointwise []
  exact congrArg (fun n => X (ix4 n p i j)) (Fin.ext (by show a.val * 128 + s.val * 32 + n.val = (a.val * 4 + s.val) * 32 + n.val; omega))

theorem V_u : V m c main_v0 = shapeCast S4x4x32x4x128x128 (show FVec Ideal S512x4x128x128 .f32 from m ((c : Thread nD τ).loc main_arg0)) shapeCasts_S512x4x128x128_S4x4x32x4x128x128 := by
  unfold V hostOps0
  after_results_simp
  rfl

theorem iblk_u (t : Fin cfg0.N) (s p : Fin 4) (i j : Fin 128) : (show Vec Ideal S1x4x1x4x128x128 .f32 from iblk m c 0 t) (ix6 0 s 0 p i j)
    = (show FVec Ideal S4x4x32x4x128x128 .f32 from V m c main_v0) (ix6 (grp t) s (chk t) p i j) := by
  unfold iblk grp chk
  generalize V m c = U
  blk_point [iblk, idx t]

theorem rows_u (t : Fin cfg0.N) (s : Fin 4) : rows (show Vec Ideal S1x4x1x4x128x128 .f32 from iblk m c 0 t) s = rowsA (chunks m c).u (seqOf (grp t) s) (t.val % 32) := by
  funext h i j
  refine (iblk_u m c t s _ _ j).trans ?_
  rw [V_u]
  refine (cast6 (show FVec Ideal S512x4x128x128 .f32 from m ((c : Thread nD τ).loc main_arg0)) (grp t) s (chk t) _ _ j).trans ?_
  exact congrArg (fun n => (show FVec Ideal S512x4x128x128 .f32 from m ((c : Thread nD τ).loc main_arg0)) (ix4 n _ _ j)) (Fin.ext (by show (t.val / 32 * 4 + s.val) * 32 + t.val % 32 = (t.val / 32 * 4 + s.val) * 32 + t.val % 32 % 32; omega))

theorem V_w : V m c main_v1 = shapeCast S4x4x32x4x128x128 (show FVec Ideal S512x4x128x128 .bf16 from m ((c : Thread nD τ).loc main_arg1)) shapeCasts_S512x4x128x128_S4x4x32x4x128x128 := by
  unfold V hostOps0
  after_results_simp
  rfl

theorem iblk_w (t : Fin cfg0.N) (s p : Fin 4) (i j : Fin 128) : (show Vec Ideal S1x4x1x4x128x128 .bf16 from iblk m c 1 t) (ix6 0 s 0 p i j)
    = (show FVec Ideal S4x4x32x4x128x128 .bf16 from V m c main_v1) (ix6 (grp t) s (chk t) p i j) := by
  unfold iblk grp chk
  generalize V m c = U
  blk_point [iblk, idx t]

theorem rows_w (t : Fin cfg0.N) (s : Fin 4) : rows (show Vec Ideal S1x4x1x4x128x128 .bf16 from iblk m c 1 t) s = rowsA (chunks m c).w (seqOf (grp t) s) (t.val % 32) := by
  funext h i j
  refine (iblk_w m c t s _ _ j).trans ?_
  rw [V_w]
  refine (cast6 (show FVec Ideal S512x4x128x128 .bf16 from m ((c : Thread nD τ).loc main_arg1)) (grp t) s (chk t) _ _ j).trans ?_
  exact congrArg (fun n => (show FVec Ideal S512x4x128x128 .bf16 from m ((c : Thread nD τ).loc main_arg1)) (ix4 n _ _ j)) (Fin.ext (by show (t.val / 32 * 4 + s.val) * 32 + t.val % 32 = (t.val / 32 * 4 + s.val) * 32 + t.val % 32 % 32; omega))

theorem V_a : V m c main_v2 = shapeCast S4x4x32x4x128x128 (show FVec Ideal S512x4x128x128 .bf16 from m ((c : Thread nD τ).loc main_arg2)) shapeCasts_S512x4x128x128_S4x4x32x4x128x128 := by
  unfold V hostOps0
  after_results_simp
  rfl

theorem iblk_a (t : Fin cfg0.N) (s p : Fin 4) (i j : Fin 128) : (show Vec Ideal S1x4x1x4x128x128 .bf16 from iblk m c 2 t) (ix6 0 s 0 p i j)
    = (show FVec Ideal S4x4x32x4x128x128 .bf16 from V m c main_v2) (ix6 (grp t) s (chk t) p i j) := by
  unfold iblk grp chk
  generalize V m c = U
  blk_point [iblk, idx t]

theorem rows_a (t : Fin cfg0.N) (s : Fin 4) : rows (show Vec Ideal S1x4x1x4x128x128 .bf16 from iblk m c 2 t) s = rowsA (chunks m c).a (seqOf (grp t) s) (t.val % 32) := by
  funext h i j
  refine (iblk_a m c t s _ _ j).trans ?_
  rw [V_a]
  refine (cast6 (show FVec Ideal S512x4x128x128 .bf16 from m ((c : Thread nD τ).loc main_arg2)) (grp t) s (chk t) _ _ j).trans ?_
  exact congrArg (fun n => (show FVec Ideal S512x4x128x128 .bf16 from m ((c : Thread nD τ).loc main_arg2)) (ix4 n _ _ j)) (Fin.ext (by show (t.val / 32 * 4 + s.val) * 32 + t.val % 32 = (t.val / 32 * 4 + s.val) * 32 + t.val % 32 % 32; omega))

theorem V_q : V m c main_v3 = shapeCast S4x4x32x4x128x128 (show FVec Ideal S512x4x128x128 .bf16 from m ((c : Thread nD τ).loc main_arg3)) shapeCasts_S512x4x128x128_S4x4x32x4x128x128 := by
  unfold V hostOps0
  after_results_simp
  rfl

theorem iblk_q (t : Fin cfg0.N) (s p : Fin 4) (i j : Fin 128) : (show Vec Ideal S1x4x1x4x128x128 .bf16 from iblk m c 3 t) (ix6 0 s 0 p i j)
    = (show FVec Ideal S4x4x32x4x128x128 .bf16 from V m c main_v3) (ix6 (grp t) s (chk t) p i j) := by
  unfold iblk grp chk
  generalize V m c = U
  blk_point [iblk, idx t]

theorem rows_q (t : Fin cfg0.N) (s : Fin 4) : rows (show Vec Ideal S1x4x1x4x128x128 .bf16 from iblk m c 3 t) s = rowsA (chunks m c).q (seqOf (grp t) s) (t.val % 32) := by
  funext h i j
  refine (iblk_q m c t s _ _ j).trans ?_
  rw [V_q]
  refine (cast6 (show FVec Ideal S512x4x128x128 .bf16 from m ((c : Thread nD τ).loc main_arg3)) (grp t) s (chk t) _ _ j).trans ?_
  exact congrArg (fun n => (show FVec Ideal S512x4x128x128 .bf16 from m ((c : Thread nD τ).loc main_arg3)) (ix4 n _ _ j)) (Fin.ext (by show (t.val / 32 * 4 + s.val) * 32 + t.val % 32 = (t.val / 32 * 4 + s.val) * 32 + t.val % 32 % 32; omega))

theorem V_k : V m c main_v4 = shapeCast S4x4x32x4x128x128 (show FVec Ideal S512x4x128x128 .bf16 from m ((c : Thread nD τ).loc main_arg4)) shapeCasts_S512x4x128x128_S4x4x32x4x128x128 := by
  unfold V hostOps0
  after_results_simp
  rfl

theorem iblk_k (t : Fin cfg0.N) (s p : Fin 4) (i j : Fin 128) : (show Vec Ideal S1x4x1x4x128x128 .bf16 from iblk m c 4 t) (ix6 0 s 0 p i j)
    = (show FVec Ideal S4x4x32x4x128x128 .bf16 from V m c main_v4) (ix6 (grp t) s (chk t) p i j) := by
  unfold iblk grp chk
  generalize V m c = U
  blk_point [iblk, idx t]

theorem rows_k (t : Fin cfg0.N) (s : Fin 4) : rows (show Vec Ideal S1x4x1x4x128x128 .bf16 from iblk m c 4 t) s = rowsA (chunks m c).k (seqOf (grp t) s) (t.val % 32) := by
  funext h i j
  refine (iblk_k m c t s _ _ j).trans ?_
  rw [V_k]
  refine (cast6 (show FVec Ideal S512x4x128x128 .bf16 from m ((c : Thread nD τ).loc main_arg4)) (grp t) s (chk t) _ _ j).trans ?_
  exact congrArg (fun n => (show FVec Ideal S512x4x128x128 .bf16 from m ((c : Thread nD τ).loc main_arg4)) (ix4 n _ _ j)) (Fin.ext (by show (t.val / 32 * 4 + s.val) * 32 + t.val % 32 = (t.val / 32 * 4 + s.val) * 32 + t.val % 32 % 32; omega))

theorem V_e : V m c main_v5 = shapeCast S4x4x32x8x128 (show FVec Ideal S512x8x128 .f32 from m ((c : Thread nD τ).loc main_arg5)) shapeCasts_S512x8x128_S4x4x32x8x128 := by
  unfold V hostOps0
  after_results_simp
  rfl

theorem iblk_e (t : Fin cfg0.N) (s : Fin 4) (h : Fin 8) (j : Fin 128) : (show Vec Ideal S1x4x1x8x128 .f32 from iblk m c 5 t) (ix5 0 s 0 h j)
    = (show FVec Ideal S4x4x32x8x128 .f32 from V m c main_v5) (ix5 (grp t) s (chk t) h j) := by
  unfold iblk grp chk
  generalize V m c = U
  blk_point [iblk, idx t]

theorem cast5 (X : FVec Ideal S512x8x128 .f32) (a s : Fin 4) (n : Fin 32) (h : Fin 8) (j : Fin 128) :
    (shapeCast S4x4x32x8x128 X shapeCasts_S512x8x128_S4x4x32x8x128 : FVec Ideal S4x4x32x8x128 .f32) (ix5 a s n h j) = X (ix3 ⟨(a.val * 4 + s.val) * 32 + n.val, by omega⟩ h j) := by
  pointwise []
  exact congrArg (fun n => X (ix3 n h j)) (Fin.ext (by show a.val * 128 + s.val * 32 + n.val = (a.val * 4 + s.val) * 32 + n.val; omega))

theorem lanes_e (t : Fin cfg0.N) (s : Fin 4) : lanes (show Vec Ideal S1x4x1x8x128 .f32 from iblk m c 5 t) s = lanesA (chunks m c).e (seqOf (grp t) s) (t.val % 32) := by
  funext h j
  refine (iblk_e m c t s h j).trans ?_
  rw [V_e]
  refine (cast5 (show FVec Ideal S512x8x128 .f32 from m ((c : Thread nD τ).loc main_arg5)) (grp t) s (chk t) h j).trans ?_
  exact congrArg (fun n => (show FVec Ideal S512x8x128 .f32 from m ((c : Thread nD τ).loc main_arg5)) (ix3 n h j)) (Fin.ext (by show (t.val / 32 * 4 + s.val) * 32 + t.val % 32 = (t.val / 32 * 4 + s.val) * 32 + t.val % 32 % 32; omega))

theorem V_z : V m c main_v6 = shapeCast S4x4x2048x12288 (show FVec Ideal S32768x12288 .f32 from m ((c : Thread nD τ).loc main_arg6)) shapeCasts_S32768x12288_S4x4x2048x12288 := by
  unfold V hostOps0
  after_results_simp
  rfl

/-- The position of row `i` of point `t`'s chunk. -/
def pos (t : Fin cfg0.N) (i : Fin 64) : Fin 2048 := ⟨t.val % 32 * 64 + i.val, by have := i.isLt; omega⟩

theorem iblk_z (t : Fin cfg0.N) (s : Fin 4) (i : Fin 64) (n : Fin 1024) : (show Vec Ideal S1x4x64x1024 .f32 from iblk m c 6 t) (ix4 0 s i n)
    = (show FVec Ideal S4x4x2048x12288 .f32 from V m c main_v6) (ix4 (grp t) s (pos t i) (actCol n)) := by
  unfold iblk grp pos actCol
  generalize V m c = U
  blk_point [iblk, idx t]

theorem cast4 (X : FVec Ideal S32768x12288 .f32) (a s : Fin 4) (n : Fin 2048) (h : Fin 12288) :
    (shapeCast S4x4x2048x12288 X shapeCasts_S32768x12288_S4x4x2048x12288 : FVec Ideal S4x4x2048x12288 .f32) (ix4 a s n h) = X (ix2 (actRow a s n) h) := by
  unfold actRow
  pointwise []
  exact congrArg (fun n => X (ix2 n h)) (Fin.ext (by show a.val * 8192 + s.val * 2048 + n.val = (a.val * 4 + s.val) * 2048 + n.val; omega))

theorem gate_z (t : Fin cfg0.N) (s : Fin 4) (i : Fin 64) (n : Fin 1024) : (show Vec Ideal S1x4x64x1024 .f32 from iblk m c 6 t) (ix4 0 s i n) = act m c (actRow (grp t) s (pos t i)) (actCol n) := by
  refine (iblk_z m c t s i n).trans ?_
  rw [V_z]
  exact cast4 (show FVec Ideal S32768x12288 .f32 from m ((c : Thread nD τ).loc main_arg6)) (grp t) s (pos t i) (actCol n)

theorem V_g : V m c main_v7 = shapeCast S1x128 (show FVec Ideal S128 .f32 from m ((c : Thread nD τ).loc main_arg7)) shapeCasts_S128_S1x128 := by
  unfold V hostOps0
  after_results_simp
  rfl

theorem iblk_g (t : Fin cfg0.N) (v : Fin 128) : (show Vec Ideal S1x128 .f32 from iblk m c 7 t) (ix2 0 v)
    = (show FVec Ideal S1x128 .f32 from V m c main_v7) (ix2 0 v) := by
  unfold iblk
  generalize V m c = U
  blk_point [iblk, idx t]

theorem wgt_g (t : Fin cfg0.N) (v : Fin 128) : (show Vec Ideal S1x128 .f32 from iblk m c 7 t) (ix2 0 v) = wgt m c v := by
  refine (iblk_g m c t v).trans ?_
  rw [V_g]
  unfold wgt
  pointwise []

end Cert.InterTile
-- ==== Proof.InterBodyA.lean ====
/- The prompt's state from chunk to chunk: what the point of the first chunk leaves in the scratch and in the result blocks. -/
module

public import proofs.«01_k».proof.Proof.InterLoad
public import Idealize.ShloMosaic.Lib.Pipeline.ValueKit
public import Idealize.ShloMosaic.Lib.Pipeline.ReadBack
public import Idealize.ShloMosaic.Lib.ValueIdxRank6

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterSpec

/-- The states at the first chunk. -/
def zero : Fin 4 → State := fun _ _ _ _ => 0

/-- A load of the scratch after it is filled with zeros. -/
abbrev zl (m : Memref sig .tc .vmem S4x8x128x128 .f32) (s h : Nat) (inb : ∀ a, (![s, h, 0, 0] : Fin 4 → Nat) a + (![1, 1, 128, 128] : Fin 4 → Nat) a ≤ S4x8x128x128.size a) : TS :=
  m.view.readCov [⟨Rect.unit ![0, 0, 0, 0] ![4, 8, 128, 128] inb_S4x8x128x128_S4x8x128x128_0_0_0_0, (k0_pay3 : FVec Ideal S4x8x128x128 .f32)⟩] (rS s h inb).toLoadRect

theorem zl_at (m : Memref sig .tc .vmem S4x8x128x128 .f32) (s h : Nat) (inb : ∀ a, (![s, h, 0, 0] : Fin 4 → Nat) a + (![1, 1, 128, 128] : Fin 4 → Nat) a ≤ S4x8x128x128.size a) (i j : Fin 128) : zl m s h inb (ix4 0 0 i j) = 0 := by
  unfold zl
  rw [View.readCov_fill _ _ _ _ _ (by decide)]
  show k0_pay3 (F := Ideal) _ = 0
  unfold k0_pay3
  rw [shapeCast_self]
  exact Ideal.ofBits_zero_f32

set_option maxHeartbeats 4000000 in
theorem sA (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : cond0_0 i) (hc1 : ¬cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (y : S4x8x128x128.Idx) : sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = GS x0 x1 x4 x5 zero y := by
  unfold sout0_A_0
  frame_out
  refine of_pieces (GS x0 x1 x4 x5 zero) [_] [_, _, _, _, _, _, _, _, _, _, _, _, _, _, _, _, _, _, _, _, _, _, _, _, _, _, _, _, _, _, _, _] rects ?_ cover ?_ y
  · rfl
  exact ⟨pcB x0 x1 x4 x5 3 3 6 7 (by decide) (by decide) rfl rfl zero (zl arg12 3 6 _) (zl arg12 3 7 _) (zl_at arg12 3 7 _) inb_S4x8x128x128_S1x1x128x128_3_7_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_7_0 inb_S1x4x1x4x128x128_S1x1x1x1x64x128_0_3_0_3_64_0,
    pcA x0 x1 x4 x5 3 3 6 7 (by decide) (by decide) rfl rfl zero (zl arg12 3 6 _) (zl arg12 3 7 _) (zl_at arg12 3 6 _) inb_S4x8x128x128_S1x1x128x128_3_6_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_6_0 inb_S1x4x1x4x128x128_S1x1x1x1x64x128_0_3_0_3_0_0,
    pcB x0 x1 x4 x5 3 2 4 5 (by decide) (by decide) rfl rfl zero (zl arg12 3 4 _) (zl arg12 3 5 _) (zl_at arg12 3 5 _) inb_S4x8x128x128_S1x1x128x128_3_5_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_5_0 inb_S1x4x1x4x128x128_S1x1x1x1x64x128_0_3_0_2_64_0,
    pcA x0 x1 x4 x5 3 2 4 5 (by decide) (by decide) rfl rfl zero (zl arg12 3 4 _) (zl arg12 3 5 _) (zl_at arg12 3 4 _) inb_S4x8x128x128_S1x1x128x128_3_4_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_4_0 inb_S1x4x1x4x128x128_S1x1x1x1x64x128_0_3_0_2_0_0,
    pcB x0 x1 x4 x5 3 1 2 3 (by decide) (by decide) rfl rfl zero (zl arg12 3 2 _) (zl arg12 3 3 _) (zl_at arg12 3 3 _) inb_S4x8x128x128_S1x1x128x128_3_3_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_3_0 inb_S1x4x1x4x128x128_S1x1x1x1x64x128_0_3_0_1_64_0,
    pcA x0 x1 x4 x5 3 1 2 3 (by decide) (by decide) rfl rfl zero (zl arg12 3 2 _) (zl arg12 3 3 _) (zl_at arg12 3 2 _) inb_S4x8x128x128_S1x1x128x128_3_2_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_2_0 inb_S1x4x1x4x128x128_S1x1x1x1x64x128_0_3_0_1_0_0,
    pcB x0 x1 x4 x5 3 0 0 1 (by decide) (by decide) rfl rfl zero (zl arg12 3 0 _) (zl arg12 3 1 _) (zl_at arg12 3 1 _) inb_S4x8x128x128_S1x1x128x128_3_1_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_1_0 inb_S1x4x1x4x128x128_S1x1x1x1x64x128_0_3_0_0_64_0,
    pcA x0 x1 x4 x5 3 0 0 1 (by decide) (by decide) rfl rfl zero (zl arg12 3 0 _) (zl arg12 3 1 _) (zl_at arg12 3 0 _) inb_S4x8x128x128_S1x1x128x128_3_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_0_0 inb_S1x4x1x4x128x128_S1x1x1x1x64x128_0_3_0_0_0_0,
    pcB x0 x1 x4 x5 2 3 6 7 (by decide) (by decide) rfl rfl zero (zl arg12 2 6 _) (zl arg12 2 7 _) (zl_at arg12 2 7 _) inb_S4x8x128x128_S1x1x128x128_2_7_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_7_0 inb_S1x4x1x4x128x128_S1x1x1x1x64x128_0_2_0_3_64_0,
    pcA x0 x1 x4 x5 2 3 6 7 (by decide) (by decide) rfl rfl zero (zl arg12 2 6 _) (zl arg12 2 7 _) (zl_at arg12 2 6 _) inb_S4x8x128x128_S1x1x128x128_2_6_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_6_0 inb_S1x4x1x4x128x128_S1x1x1x1x64x128_0_2_0_3_0_0,
    pcB x0 x1 x4 x5 2 2 4 5 (by decide) (by decide) rfl rfl zero (zl arg12 2 4 _) (zl arg12 2 5 _) (zl_at arg12 2 5 _) inb_S4x8x128x128_S1x1x128x128_2_5_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_5_0 inb_S1x4x1x4x128x128_S1x1x1x1x64x128_0_2_0_2_64_0,
    pcA x0 x1 x4 x5 2 2 4 5 (by decide) (by decide) rfl rfl zero (zl arg12 2 4 _) (zl arg12 2 5 _) (zl_at arg12 2 4 _) inb_S4x8x128x128_S1x1x128x128_2_4_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_4_0 inb_S1x4x1x4x128x128_S1x1x1x1x64x128_0_2_0_2_0_0,
    pcB x0 x1 x4 x5 2 1 2 3 (by decide) (by decide) rfl rfl zero (zl arg12 2 2 _) (zl arg12 2 3 _) (zl_at arg12 2 3 _) inb_S4x8x128x128_S1x1x128x128_2_3_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_3_0 inb_S1x4x1x4x128x128_S1x1x1x1x64x128_0_2_0_1_64_0,
    pcA x0 x1 x4 x5 2 1 2 3 (by decide) (by decide) rfl rfl zero (zl arg12 2 2 _) (zl arg12 2 3 _) (zl_at arg12 2 2 _) inb_S4x8x128x128_S1x1x128x128_2_2_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_2_0 inb_S1x4x1x4x128x128_S1x1x1x1x64x128_0_2_0_1_0_0,
    pcB x0 x1 x4 x5 2 0 0 1 (by decide) (by decide) rfl rfl zero (zl arg12 2 0 _) (zl arg12 2 1 _) (zl_at arg12 2 1 _) inb_S4x8x128x128_S1x1x128x128_2_1_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_1_0 inb_S1x4x1x4x128x128_S1x1x1x1x64x128_0_2_0_0_64_0,
    pcA x0 x1 x4 x5 2 0 0 1 (by decide) (by decide) rfl rfl zero (zl arg12 2 0 _) (zl arg12 2 1 _) (zl_at arg12 2 0 _) inb_S4x8x128x128_S1x1x128x128_2_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_0_0 inb_S1x4x1x4x128x128_S1x1x1x1x64x128_0_2_0_0_0_0,
    pcB x0 x1 x4 x5 1 3 6 7 (by decide) (by decide) rfl rfl zero (zl arg12 1 6 _) (zl arg12 1 7 _) (zl_at arg12 1 7 _) inb_S4x8x128x128_S1x1x128x128_1_7_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_7_0 inb_S1x4x1x4x128x128_S1x1x1x1x64x128_0_1_0_3_64_0,
    pcA x0 x1 x4 x5 1 3 6 7 (by decide) (by decide) rfl rfl zero (zl arg12 1 6 _) (zl arg12 1 7 _) (zl_at arg12 1 6 _) inb_S4x8x128x128_S1x1x128x128_1_6_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_6_0 inb_S1x4x1x4x128x128_S1x1x1x1x64x128_0_1_0_3_0_0,
    pcB x0 x1 x4 x5 1 2 4 5 (by decide) (by decide) rfl rfl zero (zl arg12 1 4 _) (zl arg12 1 5 _) (zl_at arg12 1 5 _) inb_S4x8x128x128_S1x1x128x128_1_5_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_5_0 inb_S1x4x1x4x128x128_S1x1x1x1x64x128_0_1_0_2_64_0,
    pcA x0 x1 x4 x5 1 2 4 5 (by decide) (by decide) rfl rfl zero (zl arg12 1 4 _) (zl arg12 1 5 _) (zl_at arg12 1 4 _) inb_S4x8x128x128_S1x1x128x128_1_4_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_4_0 inb_S1x4x1x4x128x128_S1x1x1x1x64x128_0_1_0_2_0_0,
    pcB x0 x1 x4 x5 1 1 2 3 (by decide) (by decide) rfl rfl zero (zl arg12 1 2 _) (zl arg12 1 3 _) (zl_at arg12 1 3 _) inb_S4x8x128x128_S1x1x128x128_1_3_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_3_0 inb_S1x4x1x4x128x128_S1x1x1x1x64x128_0_1_0_1_64_0,
    pcA x0 x1 x4 x5 1 1 2 3 (by decide) (by decide) rfl rfl zero (zl arg12 1 2 _) (zl arg12 1 3 _) (zl_at arg12 1 2 _) inb_S4x8x128x128_S1x1x128x128_1_2_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_2_0 inb_S1x4x1x4x128x128_S1x1x1x1x64x128_0_1_0_1_0_0,
    pcB x0 x1 x4 x5 1 0 0 1 (by decide) (by decide) rfl rfl zero (zl arg12 1 0 _) (zl arg12 1 1 _) (zl_at arg12 1 1 _) inb_S4x8x128x128_S1x1x128x128_1_1_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_1_0 inb_S1x4x1x4x128x128_S1x1x1x1x64x128_0_1_0_0_64_0,
    pcA x0 x1 x4 x5 1 0 0 1 (by decide) (by decide) rfl rfl zero (zl arg12 1 0 _) (zl arg12 1 1 _) (zl_at arg12 1 0 _) inb_S4x8x128x128_S1x1x128x128_1_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_0_0 inb_S1x4x1x4x128x128_S1x1x1x1x64x128_0_1_0_0_0_0,
    pcB x0 x1 x4 x5 0 3 6 7 (by decide) (by decide) rfl rfl zero (zl arg12 0 6 _) (zl arg12 0 7 _) (zl_at arg12 0 7 _) inb_S4x8x128x128_S1x1x128x128_0_7_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_7_0 inb_S1x4x1x4x128x128_S1x1x1x1x64x128_0_0_0_3_64_0,
    pcA x0 x1 x4 x5 0 3 6 7 (by decide) (by decide) rfl rfl zero (zl arg12 0 6 _) (zl arg12 0 7 _) (zl_at arg12 0 6 _) inb_S4x8x128x128_S1x1x128x128_0_6_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_6_0 inb_S1x4x1x4x128x128_S1x1x1x1x64x128_0_0_0_3_0_0,
    pcB x0 x1 x4 x5 0 2 4 5 (by decide) (by decide) rfl rfl zero (zl arg12 0 4 _) (zl arg12 0 5 _) (zl_at arg12 0 5 _) inb_S4x8x128x128_S1x1x128x128_0_5_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_5_0 inb_S1x4x1x4x128x128_S1x1x1x1x64x128_0_0_0_2_64_0,
    pcA x0 x1 x4 x5 0 2 4 5 (by decide) (by decide) rfl rfl zero (zl arg12 0 4 _) (zl arg12 0 5 _) (zl_at arg12 0 4 _) inb_S4x8x128x128_S1x1x128x128_0_4_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_4_0 inb_S1x4x1x4x128x128_S1x1x1x1x64x128_0_0_0_2_0_0,
    pcB x0 x1 x4 x5 0 1 2 3 (by decide) (by decide) rfl rfl zero (zl arg12 0 2 _) (zl arg12 0 3 _) (zl_at arg12 0 3 _) inb_S4x8x128x128_S1x1x128x128_0_3_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_3_0 inb_S1x4x1x4x128x128_S1x1x1x1x64x128_0_0_0_1_64_0,
    pcA x0 x1 x4 x5 0 1 2 3 (by decide) (by decide) rfl rfl zero (zl arg12 0 2 _) (zl arg12 0 3 _) (zl_at arg12 0 2 _) inb_S4x8x128x128_S1x1x128x128_0_2_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_2_0 inb_S1x4x1x4x128x128_S1x1x1x1x64x128_0_0_0_1_0_0,
    pcB x0 x1 x4 x5 0 0 0 1 (by decide) (by decide) rfl rfl zero (zl arg12 0 0 _) (zl arg12 0 1 _) (zl_at arg12 0 1 _) inb_S4x8x128x128_S1x1x128x128_0_1_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_1_0 inb_S1x4x1x4x128x128_S1x1x1x1x64x128_0_0_0_0_64_0,
    pcA x0 x1 x4 x5 0 0 0 1 (by decide) (by decide) rfl rfl zero (zl arg12 0 0 _) (zl arg12 0 1 _) (zl_at arg12 0 0 _) inb_S4x8x128x128_S1x1x128x128_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_0_0 inb_S1x4x1x4x128x128_S1x1x1x1x64x128_0_0_0_0_0_0, trivial⟩

set_option maxHeartbeats 4000000 in
theorem oA (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : cond0_0 i) (hc1 : ¬cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (y : S1x4x64x1024.Idx) : out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = GO x0 x1 x2 x3 x6 x7 zero y := by
  unfold out0_A_8
  frame_out
  refine of_pieces (GO x0 x1 x2 x3 x6 x7 zero) [] [_, _, _, _] rectsO ?_ coverO ?_ y
  · rfl
  exact ⟨oP3 x0 x1 x2 x3 x4 x5 x6 x7 zero (zl arg12 3 0 _) (zl_at arg12 3 0 _) (zl arg12 3 1 _) (zl_at arg12 3 1 _) (zl arg12 3 2 _) (zl_at arg12 3 2 _) (zl arg12 3 3 _) (zl_at arg12 3 3 _) (zl arg12 3 4 _) (zl_at arg12 3 4 _) (zl arg12 3 5 _) (zl_at arg12 3 5 _) (zl arg12 3 6 _) (zl_at arg12 3 6 _) (zl arg12 3 7 _) (zl_at arg12 3 7 _) inb_S1x4x64x1024_S1x1x64x1024_0_3_0_0,
    oP2 x0 x1 x2 x3 x4 x5 x6 x7 zero (zl arg12 2 0 _) (zl_at arg12 2 0 _) (zl arg12 2 1 _) (zl_at arg12 2 1 _) (zl arg12 2 2 _) (zl_at arg12 2 2 _) (zl arg12 2 3 _) (zl_at arg12 2 3 _) (zl arg12 2 4 _) (zl_at arg12 2 4 _) (zl arg12 2 5 _) (zl_at arg12 2 5 _) (zl arg12 2 6 _) (zl_at arg12 2 6 _) (zl arg12 2 7 _) (zl_at arg12 2 7 _) inb_S1x4x64x1024_S1x1x64x1024_0_2_0_0,
    oP1 x0 x1 x2 x3 x4 x5 x6 x7 zero (zl arg12 1 0 _) (zl_at arg12 1 0 _) (zl arg12 1 1 _) (zl_at arg12 1 1 _) (zl arg12 1 2 _) (zl_at arg12 1 2 _) (zl arg12 1 3 _) (zl_at arg12 1 3 _) (zl arg12 1 4 _) (zl_at arg12 1 4 _) (zl arg12 1 5 _) (zl_at arg12 1 5 _) (zl arg12 1 6 _) (zl_at arg12 1 6 _) (zl arg12 1 7 _) (zl_at arg12 1 7 _) inb_S1x4x64x1024_S1x1x64x1024_0_1_0_0,
    oP0 x0 x1 x2 x3 x4 x5 x6 x7 zero (zl arg12 0 0 _) (zl_at arg12 0 0 _) (zl arg12 0 1 _) (zl_at arg12 0 1 _) (zl arg12 0 2 _) (zl_at arg12 0 2 _) (zl arg12 0 3 _) (zl_at arg12 0 3 _) (zl arg12 0 4 _) (zl_at arg12 0 4 _) (zl arg12 0 5 _) (zl_at arg12 0 5 _) (zl arg12 0 6 _) (zl_at arg12 0 6 _) (zl arg12 0 7 _) (zl_at arg12 0 7 _) inb_S1x4x64x1024_S1x1x64x1024_0_0_0_0, trivial⟩

end Cert.InterTile
-- ==== Proof.InterBodyB.lean ====
/- The prompt's state from chunk to chunk: what the point of a chunk in the middle leaves in the scratch and in the result blocks. -/
module

public import proofs.«01_k».proof.Proof.InterLoad
public import Idealize.ShloMosaic.Lib.Pipeline.ValueKit
public import Idealize.ShloMosaic.Lib.Pipeline.ReadBack
public import Idealize.ShloMosaic.Lib.ValueIdxRank6

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterSpec

set_option maxHeartbeats 4000000 in
theorem sB (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : ¬cond0_0 i) (hc1 : ¬cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (xs0 : Vec Ideal S4x8x128x128 .f32) (y : S4x8x128x128.Idx) : sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y = GS x0 x1 x4 x5 (held xs0) y := by
  unfold sout0_B_0
  frame_out
  refine of_pieces (GS x0 x1 x4 x5 (held xs0)) [] [_, _, _, _, _, _, _, _, _, _, _, _, _, _, _, _, _, _, _, _, _, _, _, _, _, _, _, _, _, _, _, _] rects ?_ cover ?_ y
  · rfl
  exact ⟨pcB x0 x1 x4 x5 3 3 6 7 (by decide) (by decide) rfl rfl (held xs0) (View.ld xs0 (rS 3 6 _)) (View.ld xs0 (rS 3 7 _)) (ldS xs0 3 7 (by decide) (by decide) _) inb_S4x8x128x128_S1x1x128x128_3_7_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_7_0 inb_S1x4x1x4x128x128_S1x1x1x1x64x128_0_3_0_3_64_0,
    pcA x0 x1 x4 x5 3 3 6 7 (by decide) (by decide) rfl rfl (held xs0) (View.ld xs0 (rS 3 6 _)) (View.ld xs0 (rS 3 7 _)) (ldS xs0 3 6 (by decide) (by decide) _) inb_S4x8x128x128_S1x1x128x128_3_6_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_6_0 inb_S1x4x1x4x128x128_S1x1x1x1x64x128_0_3_0_3_0_0,
    pcB x0 x1 x4 x5 3 2 4 5 (by decide) (by decide) rfl rfl (held xs0) (View.ld xs0 (rS 3 4 _)) (View.ld xs0 (rS 3 5 _)) (ldS xs0 3 5 (by decide) (by decide) _) inb_S4x8x128x128_S1x1x128x128_3_5_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_5_0 inb_S1x4x1x4x128x128_S1x1x1x1x64x128_0_3_0_2_64_0,
    pcA x0 x1 x4 x5 3 2 4 5 (by decide) (by decide) rfl rfl (held xs0) (View.ld xs0 (rS 3 4 _)) (View.ld xs0 (rS 3 5 _)) (ldS xs0 3 4 (by decide) (by decide) _) inb_S4x8x128x128_S1x1x128x128_3_4_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_4_0 inb_S1x4x1x4x128x128_S1x1x1x1x64x128_0_3_0_2_0_0,
    pcB x0 x1 x4 x5 3 1 2 3 (by decide) (by decide) rfl rfl (held xs0) (View.ld xs0 (rS 3 2 _)) (View.ld xs0 (rS 3 3 _)) (ldS xs0 3 3 (by decide) (by decide) _) inb_S4x8x128x128_S1x1x128x128_3_3_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_3_0 inb_S1x4x1x4x128x128_S1x1x1x1x64x128_0_3_0_1_64_0,
    pcA x0 x1 x4 x5 3 1 2 3 (by decide) (by decide) rfl rfl (held xs0) (View.ld xs0 (rS 3 2 _)) (View.ld xs0 (rS 3 3 _)) (ldS xs0 3 2 (by decide) (by decide) _) inb_S4x8x128x128_S1x1x128x128_3_2_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_2_0 inb_S1x4x1x4x128x128_S1x1x1x1x64x128_0_3_0_1_0_0,
    pcB x0 x1 x4 x5 3 0 0 1 (by decide) (by decide) rfl rfl (held xs0) (View.ld xs0 (rS 3 0 _)) (View.ld xs0 (rS 3 1 _)) (ldS xs0 3 1 (by decide) (by decide) _) inb_S4x8x128x128_S1x1x128x128_3_1_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_1_0 inb_S1x4x1x4x128x128_S1x1x1x1x64x128_0_3_0_0_64_0,
    pcA x0 x1 x4 x5 3 0 0 1 (by decide) (by decide) rfl rfl (held xs0) (View.ld xs0 (rS 3 0 _)) (View.ld xs0 (rS 3 1 _)) (ldS xs0 3 0 (by decide) (by decide) _) inb_S4x8x128x128_S1x1x128x128_3_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_0_0 inb_S1x4x1x4x128x128_S1x1x1x1x64x128_0_3_0_0_0_0,
    pcB x0 x1 x4 x5 2 3 6 7 (by decide) (by decide) rfl rfl (held xs0) (View.ld xs0 (rS 2 6 _)) (View.ld xs0 (rS 2 7 _)) (ldS xs0 2 7 (by decide) (by decide) _) inb_S4x8x128x128_S1x1x128x128_2_7_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_7_0 inb_S1x4x1x4x128x128_S1x1x1x1x64x128_0_2_0_3_64_0,
    pcA x0 x1 x4 x5 2 3 6 7 (by decide) (by decide) rfl rfl (held xs0) (View.ld xs0 (rS 2 6 _)) (View.ld xs0 (rS 2 7 _)) (ldS xs0 2 6 (by decide) (by decide) _) inb_S4x8x128x128_S1x1x128x128_2_6_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_6_0 inb_S1x4x1x4x128x128_S1x1x1x1x64x128_0_2_0_3_0_0,
    pcB x0 x1 x4 x5 2 2 4 5 (by decide) (by decide) rfl rfl (held xs0) (View.ld xs0 (rS 2 4 _)) (View.ld xs0 (rS 2 5 _)) (ldS xs0 2 5 (by decide) (by decide) _) inb_S4x8x128x128_S1x1x128x128_2_5_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_5_0 inb_S1x4x1x4x128x128_S1x1x1x1x64x128_0_2_0_2_64_0,
    pcA x0 x1 x4 x5 2 2 4 5 (by decide) (by decide) rfl rfl (held xs0) (View.ld xs0 (rS 2 4 _)) (View.ld xs0 (rS 2 5 _)) (ldS xs0 2 4 (by decide) (by decide) _) inb_S4x8x128x128_S1x1x128x128_2_4_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_4_0 inb_S1x4x1x4x128x128_S1x1x1x1x64x128_0_2_0_2_0_0,
    pcB x0 x1 x4 x5 2 1 2 3 (by decide) (by decide) rfl rfl (held xs0) (View.ld xs0 (rS 2 2 _)) (View.ld xs0 (rS 2 3 _)) (ldS xs0 2 3 (by decide) (by decide) _) inb_S4x8x128x128_S1x1x128x128_2_3_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_3_0 inb_S1x4x1x4x128x128_S1x1x1x1x64x128_0_2_0_1_64_0,
    pcA x0 x1 x4 x5 2 1 2 3 (by decide) (by decide) rfl rfl (held xs0) (View.ld xs0 (rS 2 2 _)) (View.ld xs0 (rS 2 3 _)) (ldS xs0 2 2 (by decide) (by decide) _) inb_S4x8x128x128_S1x1x128x128_2_2_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_2_0 inb_S1x4x1x4x128x128_S1x1x1x1x64x128_0_2_0_1_0_0,
    pcB x0 x1 x4 x5 2 0 0 1 (by decide) (by decide) rfl rfl (held xs0) (View.ld xs0 (rS 2 0 _)) (View.ld xs0 (rS 2 1 _)) (ldS xs0 2 1 (by decide) (by decide) _) inb_S4x8x128x128_S1x1x128x128_2_1_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_1_0 inb_S1x4x1x4x128x128_S1x1x1x1x64x128_0_2_0_0_64_0,
    pcA x0 x1 x4 x5 2 0 0 1 (by decide) (by decide) rfl rfl (held xs0) (View.ld xs0 (rS 2 0 _)) (View.ld xs0 (rS 2 1 _)) (ldS xs0 2 0 (by decide) (by decide) _) inb_S4x8x128x128_S1x1x128x128_2_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_0_0 inb_S1x4x1x4x128x128_S1x1x1x1x64x128_0_2_0_0_0_0,
    pcB x0 x1 x4 x5 1 3 6 7 (by decide) (by decide) rfl rfl (held xs0) (View.ld xs0 (rS 1 6 _)) (View.ld xs0 (rS 1 7 _)) (ldS xs0 1 7 (by decide) (by decide) _) inb_S4x8x128x128_S1x1x128x128_1_7_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_7_0 inb_S1x4x1x4x128x128_S1x1x1x1x64x128_0_1_0_3_64_0,
    pcA x0 x1 x4 x5 1 3 6 7 (by decide) (by decide) rfl rfl (held xs0) (View.ld xs0 (rS 1 6 _)) (View.ld xs0 (rS 1 7 _)) (ldS xs0 1 6 (by decide) (by decide) _) inb_S4x8x128x128_S1x1x128x128_1_6_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_6_0 inb_S1x4x1x4x128x128_S1x1x1x1x64x128_0_1_0_3_0_0,
    pcB x0 x1 x4 x5 1 2 4 5 (by decide) (by decide) rfl rfl (held xs0) (View.ld xs0 (rS 1 4 _)) (View.ld xs0 (rS 1 5 _)) (ldS xs0 1 5 (by decide) (by decide) _) inb_S4x8x128x128_S1x1x128x128_1_5_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_5_0 inb_S1x4x1x4x128x128_S1x1x1x1x64x128_0_1_0_2_64_0,
    pcA x0 x1 x4 x5 1 2 4 5 (by decide) (by decide) rfl rfl (held xs0) (View.ld xs0 (rS 1 4 _)) (View.ld xs0 (rS 1 5 _)) (ldS xs0 1 4 (by decide) (by decide) _) inb_S4x8x128x128_S1x1x128x128_1_4_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_4_0 inb_S1x4x1x4x128x128_S1x1x1x1x64x128_0_1_0_2_0_0,
    pcB x0 x1 x4 x5 1 1 2 3 (by decide) (by decide) rfl rfl (held xs0) (View.ld xs0 (rS 1 2 _)) (View.ld xs0 (rS 1 3 _)) (ldS xs0 1 3 (by decide) (by decide) _) inb_S4x8x128x128_S1x1x128x128_1_3_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_3_0 inb_S1x4x1x4x128x128_S1x1x1x1x64x128_0_1_0_1_64_0,
    pcA x0 x1 x4 x5 1 1 2 3 (by decide) (by decide) rfl rfl (held xs0) (View.ld xs0 (rS 1 2 _)) (View.ld xs0 (rS 1 3 _)) (ldS xs0 1 2 (by decide) (by decide) _) inb_S4x8x128x128_S1x1x128x128_1_2_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_2_0 inb_S1x4x1x4x128x128_S1x1x1x1x64x128_0_1_0_1_0_0,
    pcB x0 x1 x4 x5 1 0 0 1 (by decide) (by decide) rfl rfl (held xs0) (View.ld xs0 (rS 1 0 _)) (View.ld xs0 (rS 1 1 _)) (ldS xs0 1 1 (by decide) (by decide) _) inb_S4x8x128x128_S1x1x128x128_1_1_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_1_0 inb_S1x4x1x4x128x128_S1x1x1x1x64x128_0_1_0_0_64_0,
    pcA x0 x1 x4 x5 1 0 0 1 (by decide) (by decide) rfl rfl (held xs0) (View.ld xs0 (rS 1 0 _)) (View.ld xs0 (rS 1 1 _)) (ldS xs0 1 0 (by decide) (by decide) _) inb_S4x8x128x128_S1x1x128x128_1_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_0_0 inb_S1x4x1x4x128x128_S1x1x1x1x64x128_0_1_0_0_0_0,
    pcB x0 x1 x4 x5 0 3 6 7 (by decide) (by decide) rfl rfl (held xs0) (View.ld xs0 (rS 0 6 _)) (View.ld xs0 (rS 0 7 _)) (ldS xs0 0 7 (by decide) (by decide) _) inb_S4x8x128x128_S1x1x128x128_0_7_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_7_0 inb_S1x4x1x4x128x128_S1x1x1x1x64x128_0_0_0_3_64_0,
    pcA x0 x1 x4 x5 0 3 6 7 (by decide) (by decide) rfl rfl (held xs0) (View.ld xs0 (rS 0 6 _)) (View.ld xs0 (rS 0 7 _)) (ldS xs0 0 6 (by decide) (by decide) _) inb_S4x8x128x128_S1x1x128x128_0_6_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_6_0 inb_S1x4x1x4x128x128_S1x1x1x1x64x128_0_0_0_3_0_0,
    pcB x0 x1 x4 x5 0 2 4 5 (by decide) (by decide) rfl rfl (held xs0) (View.ld xs0 (rS 0 4 _)) (View.ld xs0 (rS 0 5 _)) (ldS xs0 0 5 (by decide) (by decide) _) inb_S4x8x128x128_S1x1x128x128_0_5_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_5_0 inb_S1x4x1x4x128x128_S1x1x1x1x64x128_0_0_0_2_64_0,
    pcA x0 x1 x4 x5 0 2 4 5 (by decide) (by decide) rfl rfl (held xs0) (View.ld xs0 (rS 0 4 _)) (View.ld xs0 (rS 0 5 _)) (ldS xs0 0 4 (by decide) (by decide) _) inb_S4x8x128x128_S1x1x128x128_0_4_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_4_0 inb_S1x4x1x4x128x128_S1x1x1x1x64x128_0_0_0_2_0_0,
    pcB x0 x1 x4 x5 0 1 2 3 (by decide) (by decide) rfl rfl (held xs0) (View.ld xs0 (rS 0 2 _)) (View.ld xs0 (rS 0 3 _)) (ldS xs0 0 3 (by decide) (by decide) _) inb_S4x8x128x128_S1x1x128x128_0_3_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_3_0 inb_S1x4x1x4x128x128_S1x1x1x1x64x128_0_0_0_1_64_0,
    pcA x0 x1 x4 x5 0 1 2 3 (by decide) (by decide) rfl rfl (held xs0) (View.ld xs0 (rS 0 2 _)) (View.ld xs0 (rS 0 3 _)) (ldS xs0 0 2 (by decide) (by decide) _) inb_S4x8x128x128_S1x1x128x128_0_2_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_2_0 inb_S1x4x1x4x128x128_S1x1x1x1x64x128_0_0_0_1_0_0,
    pcB x0 x1 x4 x5 0 0 0 1 (by decide) (by decide) rfl rfl (held xs0) (View.ld xs0 (rS 0 0 _)) (View.ld xs0 (rS 0 1 _)) (ldS xs0 0 1 (by decide) (by decide) _) inb_S4x8x128x128_S1x1x128x128_0_1_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_1_0 inb_S1x4x1x4x128x128_S1x1x1x1x64x128_0_0_0_0_64_0,
    pcA x0 x1 x4 x5 0 0 0 1 (by decide) (by decide) rfl rfl (held xs0) (View.ld xs0 (rS 0 0 _)) (View.ld xs0 (rS 0 1 _)) (ldS xs0 0 0 (by decide) (by decide) _) inb_S4x8x128x128_S1x1x128x128_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_0_0 inb_S1x4x1x4x128x128_S1x1x1x1x64x128_0_0_0_0_0_0, trivial⟩

set_option maxHeartbeats 4000000 in
theorem oB (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : ¬cond0_0 i) (hc1 : ¬cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (xs0 : Vec Ideal S4x8x128x128 .f32) (y : S1x4x64x1024.Idx) : out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y = GO x0 x1 x2 x3 x6 x7 (held xs0) y := by
  unfold out0_B_8
  frame_out
  refine of_pieces (GO x0 x1 x2 x3 x6 x7 (held xs0)) [] [_, _, _, _] rectsO ?_ coverO ?_ y
  · rfl
  exact ⟨oP3 x0 x1 x2 x3 x4 x5 x6 x7 (held xs0) (View.ld xs0 (rS 3 0 _)) (ldS xs0 3 0 (by decide) (by decide) _) (View.ld xs0 (rS 3 1 _)) (ldS xs0 3 1 (by decide) (by decide) _) (View.ld xs0 (rS 3 2 _)) (ldS xs0 3 2 (by decide) (by decide) _) (View.ld xs0 (rS 3 3 _)) (ldS xs0 3 3 (by decide) (by decide) _) (View.ld xs0 (rS 3 4 _)) (ldS xs0 3 4 (by decide) (by decide) _) (View.ld xs0 (rS 3 5 _)) (ldS xs0 3 5 (by decide) (by decide) _) (View.ld xs0 (rS 3 6 _)) (ldS xs0 3 6 (by decide) (by decide) _) (View.ld xs0 (rS 3 7 _)) (ldS xs0 3 7 (by decide) (by decide) _) inb_S1x4x64x1024_S1x1x64x1024_0_3_0_0,
    oP2 x0 x1 x2 x3 x4 x5 x6 x7 (held xs0) (View.ld xs0 (rS 2 0 _)) (ldS xs0 2 0 (by decide) (by decide) _) (View.ld xs0 (rS 2 1 _)) (ldS xs0 2 1 (by decide) (by decide) _) (View.ld xs0 (rS 2 2 _)) (ldS xs0 2 2 (by decide) (by decide) _) (View.ld xs0 (rS 2 3 _)) (ldS xs0 2 3 (by decide) (by decide) _) (View.ld xs0 (rS 2 4 _)) (ldS xs0 2 4 (by decide) (by decide) _) (View.ld xs0 (rS 2 5 _)) (ldS xs0 2 5 (by decide) (by decide) _) (View.ld xs0 (rS 2 6 _)) (ldS xs0 2 6 (by decide) (by decide) _) (View.ld xs0 (rS 2 7 _)) (ldS xs0 2 7 (by decide) (by decide) _) inb_S1x4x64x1024_S1x1x64x1024_0_2_0_0,
    oP1 x0 x1 x2 x3 x4 x5 x6 x7 (held xs0) (View.ld xs0 (rS 1 0 _)) (ldS xs0 1 0 (by decide) (by decide) _) (View.ld xs0 (rS 1 1 _)) (ldS xs0 1 1 (by decide) (by decide) _) (View.ld xs0 (rS 1 2 _)) (ldS xs0 1 2 (by decide) (by decide) _) (View.ld xs0 (rS 1 3 _)) (ldS xs0 1 3 (by decide) (by decide) _) (View.ld xs0 (rS 1 4 _)) (ldS xs0 1 4 (by decide) (by decide) _) (View.ld xs0 (rS 1 5 _)) (ldS xs0 1 5 (by decide) (by decide) _) (View.ld xs0 (rS 1 6 _)) (ldS xs0 1 6 (by decide) (by decide) _) (View.ld xs0 (rS 1 7 _)) (ldS xs0 1 7 (by decide) (by decide) _) inb_S1x4x64x1024_S1x1x64x1024_0_1_0_0,
    oP0 x0 x1 x2 x3 x4 x5 x6 x7 (held xs0) (View.ld xs0 (rS 0 0 _)) (ldS xs0 0 0 (by decide) (by decide) _) (View.ld xs0 (rS 0 1 _)) (ldS xs0 0 1 (by decide) (by decide) _) (View.ld xs0 (rS 0 2 _)) (ldS xs0 0 2 (by decide) (by decide) _) (View.ld xs0 (rS 0 3 _)) (ldS xs0 0 3 (by decide) (by decide) _) (View.ld xs0 (rS 0 4 _)) (ldS xs0 0 4 (by decide) (by decide) _) (View.ld xs0 (rS 0 5 _)) (ldS xs0 0 5 (by decide) (by decide) _) (View.ld xs0 (rS 0 6 _)) (ldS xs0 0 6 (by decide) (by decide) _) (View.ld xs0 (rS 0 7 _)) (ldS xs0 0 7 (by decide) (by decide) _) inb_S1x4x64x1024_S1x1x64x1024_0_0_0_0, trivial⟩

end Cert.InterTile
-- ==== Proof.InterBodyC.lean ====
/- The prompt's state from chunk to chunk: what the point of the last chunk leaves in the scratch and in the result blocks. -/
module

public import proofs.«01_k».proof.Proof.InterLoad
public import Idealize.ShloMosaic.Lib.Pipeline.ValueKit
public import Idealize.ShloMosaic.Lib.Pipeline.ReadBack
public import Idealize.ShloMosaic.Lib.ValueIdxRank6

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterSpec

set_option maxHeartbeats 4000000 in
theorem sC (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : ¬cond0_0 i) (hc1 : cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (xs0 : Vec Ideal S4x8x128x128 .f32) (y : S4x8x128x128.Idx) : sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y = GS x0 x1 x4 x5 (held xs0) y := by
  unfold sout0_C_0
  frame_out
  refine of_pieces (GS x0 x1 x4 x5 (held xs0)) [] [_, _, _, _, _, _, _, _, _, _, _, _, _, _, _, _, _, _, _, _, _, _, _, _, _, _, _, _, _, _, _, _] rects ?_ cover ?_ y
  · rfl
  exact ⟨pcB x0 x1 x4 x5 3 3 6 7 (by decide) (by decide) rfl rfl (held xs0) (View.ld xs0 (rS 3 6 _)) (View.ld xs0 (rS 3 7 _)) (ldS xs0 3 7 (by decide) (by decide) _) inb_S4x8x128x128_S1x1x128x128_3_7_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_7_0 inb_S1x4x1x4x128x128_S1x1x1x1x64x128_0_3_0_3_64_0,
    pcA x0 x1 x4 x5 3 3 6 7 (by decide) (by decide) rfl rfl (held xs0) (View.ld xs0 (rS 3 6 _)) (View.ld xs0 (rS 3 7 _)) (ldS xs0 3 6 (by decide) (by decide) _) inb_S4x8x128x128_S1x1x128x128_3_6_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_6_0 inb_S1x4x1x4x128x128_S1x1x1x1x64x128_0_3_0_3_0_0,
    pcB x0 x1 x4 x5 3 2 4 5 (by decide) (by decide) rfl rfl (held xs0) (View.ld xs0 (rS 3 4 _)) (View.ld xs0 (rS 3 5 _)) (ldS xs0 3 5 (by decide) (by decide) _) inb_S4x8x128x128_S1x1x128x128_3_5_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_5_0 inb_S1x4x1x4x128x128_S1x1x1x1x64x128_0_3_0_2_64_0,
    pcA x0 x1 x4 x5 3 2 4 5 (by decide) (by decide) rfl rfl (held xs0) (View.ld xs0 (rS 3 4 _)) (View.ld xs0 (rS 3 5 _)) (ldS xs0 3 4 (by decide) (by decide) _) inb_S4x8x128x128_S1x1x128x128_3_4_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_4_0 inb_S1x4x1x4x128x128_S1x1x1x1x64x128_0_3_0_2_0_0,
    pcB x0 x1 x4 x5 3 1 2 3 (by decide) (by decide) rfl rfl (held xs0) (View.ld xs0 (rS 3 2 _)) (View.ld xs0 (rS 3 3 _)) (ldS xs0 3 3 (by decide) (by decide) _) inb_S4x8x128x128_S1x1x128x128_3_3_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_3_0 inb_S1x4x1x4x128x128_S1x1x1x1x64x128_0_3_0_1_64_0,
    pcA x0 x1 x4 x5 3 1 2 3 (by decide) (by decide) rfl rfl (held xs0) (View.ld xs0 (rS 3 2 _)) (View.ld xs0 (rS 3 3 _)) (ldS xs0 3 2 (by decide) (by decide) _) inb_S4x8x128x128_S1x1x128x128_3_2_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_2_0 inb_S1x4x1x4x128x128_S1x1x1x1x64x128_0_3_0_1_0_0,
    pcB x0 x1 x4 x5 3 0 0 1 (by decide) (by decide) rfl rfl (held xs0) (View.ld xs0 (rS 3 0 _)) (View.ld xs0 (rS 3 1 _)) (ldS xs0 3 1 (by decide) (by decide) _) inb_S4x8x128x128_S1x1x128x128_3_1_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_1_0 inb_S1x4x1x4x128x128_S1x1x1x1x64x128_0_3_0_0_64_0,
    pcA x0 x1 x4 x5 3 0 0 1 (by decide) (by decide) rfl rfl (held xs0) (View.ld xs0 (rS 3 0 _)) (View.ld xs0 (rS 3 1 _)) (ldS xs0 3 0 (by decide) (by decide) _) inb_S4x8x128x128_S1x1x128x128_3_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_0_0 inb_S1x4x1x4x128x128_S1x1x1x1x64x128_0_3_0_0_0_0,
    pcB x0 x1 x4 x5 2 3 6 7 (by decide) (by decide) rfl rfl (held xs0) (View.ld xs0 (rS 2 6 _)) (View.ld xs0 (rS 2 7 _)) (ldS xs0 2 7 (by decide) (by decide) _) inb_S4x8x128x128_S1x1x128x128_2_7_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_7_0 inb_S1x4x1x4x128x128_S1x1x1x1x64x128_0_2_0_3_64_0,
    pcA x0 x1 x4 x5 2 3 6 7 (by decide) (by decide) rfl rfl (held xs0) (View.ld xs0 (rS 2 6 _)) (View.ld xs0 (rS 2 7 _)) (ldS xs0 2 6 (by decide) (by decide) _) inb_S4x8x128x128_S1x1x128x128_2_6_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_6_0 inb_S1x4x1x4x128x128_S1x1x1x1x64x128_0_2_0_3_0_0,
    pcB x0 x1 x4 x5 2 2 4 5 (by decide) (by decide) rfl rfl (held xs0) (View.ld xs0 (rS 2 4 _)) (View.ld xs0 (rS 2 5 _)) (ldS xs0 2 5 (by decide) (by decide) _) inb_S4x8x128x128_S1x1x128x128_2_5_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_5_0 inb_S1x4x1x4x128x128_S1x1x1x1x64x128_0_2_0_2_64_0,
    pcA x0 x1 x4 x5 2 2 4 5 (by decide) (by decide) rfl rfl (held xs0) (View.ld xs0 (rS 2 4 _)) (View.ld xs0 (rS 2 5 _)) (ldS xs0 2 4 (by decide) (by decide) _) inb_S4x8x128x128_S1x1x128x128_2_4_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_4_0 inb_S1x4x1x4x128x128_S1x1x1x1x64x128_0_2_0_2_0_0,
    pcB x0 x1 x4 x5 2 1 2 3 (by decide) (by decide) rfl rfl (held xs0) (View.ld xs0 (rS 2 2 _)) (View.ld xs0 (rS 2 3 _)) (ldS xs0 2 3 (by decide) (by decide) _) inb_S4x8x128x128_S1x1x128x128_2_3_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_3_0 inb_S1x4x1x4x128x128_S1x1x1x1x64x128_0_2_0_1_64_0,
    pcA x0 x1 x4 x5 2 1 2 3 (by decide) (by decide) rfl rfl (held xs0) (View.ld xs0 (rS 2 2 _)) (View.ld xs0 (rS 2 3 _)) (ldS xs0 2 2 (by decide) (by decide) _) inb_S4x8x128x128_S1x1x128x128_2_2_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_2_0 inb_S1x4x1x4x128x128_S1x1x1x1x64x128_0_2_0_1_0_0,
    pcB x0 x1 x4 x5 2 0 0 1 (by decide) (by decide) rfl rfl (held xs0) (View.ld xs0 (rS 2 0 _)) (View.ld xs0 (rS 2 1 _)) (ldS xs0 2 1 (by decide) (by decide) _) inb_S4x8x128x128_S1x1x128x128_2_1_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_1_0 inb_S1x4x1x4x128x128_S1x1x1x1x64x128_0_2_0_0_64_0,
    pcA x0 x1 x4 x5 2 0 0 1 (by decide) (by decide) rfl rfl (held xs0) (View.ld xs0 (rS 2 0 _)) (View.ld xs0 (rS 2 1 _)) (ldS xs0 2 0 (by decide) (by decide) _) inb_S4x8x128x128_S1x1x128x128_2_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_0_0 inb_S1x4x1x4x128x128_S1x1x1x1x64x128_0_2_0_0_0_0,
    pcB x0 x1 x4 x5 1 3 6 7 (by decide) (by decide) rfl rfl (held xs0) (View.ld xs0 (rS 1 6 _)) (View.ld xs0 (rS 1 7 _)) (ldS xs0 1 7 (by decide) (by decide) _) inb_S4x8x128x128_S1x1x128x128_1_7_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_7_0 inb_S1x4x1x4x128x128_S1x1x1x1x64x128_0_1_0_3_64_0,
    pcA x0 x1 x4 x5 1 3 6 7 (by decide) (by decide) rfl rfl (held xs0) (View.ld xs0 (rS 1 6 _)) (View.ld xs0 (rS 1 7 _)) (ldS xs0 1 6 (by decide) (by decide) _) inb_S4x8x128x128_S1x1x128x128_1_6_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_6_0 inb_S1x4x1x4x128x128_S1x1x1x1x64x128_0_1_0_3_0_0,
    pcB x0 x1 x4 x5 1 2 4 5 (by decide) (by decide) rfl rfl (held xs0) (View.ld xs0 (rS 1 4 _)) (View.ld xs0 (rS 1 5 _)) (ldS xs0 1 5 (by decide) (by decide) _) inb_S4x8x128x128_S1x1x128x128_1_5_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_5_0 inb_S1x4x1x4x128x128_S1x1x1x1x64x128_0_1_0_2_64_0,
    pcA x0 x1 x4 x5 1 2 4 5 (by decide) (by decide) rfl rfl (held xs0) (View.ld xs0 (rS 1 4 _)) (View.ld xs0 (rS 1 5 _)) (ldS xs0 1 4 (by decide) (by decide) _) inb_S4x8x128x128_S1x1x128x128_1_4_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_4_0 inb_S1x4x1x4x128x128_S1x1x1x1x64x128_0_1_0_2_0_0,
    pcB x0 x1 x4 x5 1 1 2 3 (by decide) (by decide) rfl rfl (held xs0) (View.ld xs0 (rS 1 2 _)) (View.ld xs0 (rS 1 3 _)) (ldS xs0 1 3 (by decide) (by decide) _) inb_S4x8x128x128_S1x1x128x128_1_3_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_3_0 inb_S1x4x1x4x128x128_S1x1x1x1x64x128_0_1_0_1_64_0,
    pcA x0 x1 x4 x5 1 1 2 3 (by decide) (by decide) rfl rfl (held xs0) (View.ld xs0 (rS 1 2 _)) (View.ld xs0 (rS 1 3 _)) (ldS xs0 1 2 (by decide) (by decide) _) inb_S4x8x128x128_S1x1x128x128_1_2_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_2_0 inb_S1x4x1x4x128x128_S1x1x1x1x64x128_0_1_0_1_0_0,
    pcB x0 x1 x4 x5 1 0 0 1 (by decide) (by decide) rfl rfl (held xs0) (View.ld xs0 (rS 1 0 _)) (View.ld xs0 (rS 1 1 _)) (ldS xs0 1 1 (by decide) (by decide) _) inb_S4x8x128x128_S1x1x128x128_1_1_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_1_0 inb_S1x4x1x4x128x128_S1x1x1x1x64x128_0_1_0_0_64_0,
    pcA x0 x1 x4 x5 1 0 0 1 (by decide) (by decide) rfl rfl (held xs0) (View.ld xs0 (rS 1 0 _)) (View.ld xs0 (rS 1 1 _)) (ldS xs0 1 0 (by decide) (by decide) _) inb_S4x8x128x128_S1x1x128x128_1_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_0_0 inb_S1x4x1x4x128x128_S1x1x1x1x64x128_0_1_0_0_0_0,
    pcB x0 x1 x4 x5 0 3 6 7 (by decide) (by decide) rfl rfl (held xs0) (View.ld xs0 (rS 0 6 _)) (View.ld xs0 (rS 0 7 _)) (ldS xs0 0 7 (by decide) (by decide) _) inb_S4x8x128x128_S1x1x128x128_0_7_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_7_0 inb_S1x4x1x4x128x128_S1x1x1x1x64x128_0_0_0_3_64_0,
    pcA x0 x1 x4 x5 0 3 6 7 (by decide) (by decide) rfl rfl (held xs0) (View.ld xs0 (rS 0 6 _)) (View.ld xs0 (rS 0 7 _)) (ldS xs0 0 6 (by decide) (by decide) _) inb_S4x8x128x128_S1x1x128x128_0_6_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_6_0 inb_S1x4x1x4x128x128_S1x1x1x1x64x128_0_0_0_3_0_0,
    pcB x0 x1 x4 x5 0 2 4 5 (by decide) (by decide) rfl rfl (held xs0) (View.ld xs0 (rS 0 4 _)) (View.ld xs0 (rS 0 5 _)) (ldS xs0 0 5 (by decide) (by decide) _) inb_S4x8x128x128_S1x1x128x128_0_5_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_5_0 inb_S1x4x1x4x128x128_S1x1x1x1x64x128_0_0_0_2_64_0,
    pcA x0 x1 x4 x5 0 2 4 5 (by decide) (by decide) rfl rfl (held xs0) (View.ld xs0 (rS 0 4 _)) (View.ld xs0 (rS 0 5 _)) (ldS xs0 0 4 (by decide) (by decide) _) inb_S4x8x128x128_S1x1x128x128_0_4_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_4_0 inb_S1x4x1x4x128x128_S1x1x1x1x64x128_0_0_0_2_0_0,
    pcB x0 x1 x4 x5 0 1 2 3 (by decide) (by decide) rfl rfl (held xs0) (View.ld xs0 (rS 0 2 _)) (View.ld xs0 (rS 0 3 _)) (ldS xs0 0 3 (by decide) (by decide) _) inb_S4x8x128x128_S1x1x128x128_0_3_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_3_0 inb_S1x4x1x4x128x128_S1x1x1x1x64x128_0_0_0_1_64_0,
    pcA x0 x1 x4 x5 0 1 2 3 (by decide) (by decide) rfl rfl (held xs0) (View.ld xs0 (rS 0 2 _)) (View.ld xs0 (rS 0 3 _)) (ldS xs0 0 2 (by decide) (by decide) _) inb_S4x8x128x128_S1x1x128x128_0_2_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_2_0 inb_S1x4x1x4x128x128_S1x1x1x1x64x128_0_0_0_1_0_0,
    pcB x0 x1 x4 x5 0 0 0 1 (by decide) (by decide) rfl rfl (held xs0) (View.ld xs0 (rS 0 0 _)) (View.ld xs0 (rS 0 1 _)) (ldS xs0 0 1 (by decide) (by decide) _) inb_S4x8x128x128_S1x1x128x128_0_1_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_1_0 inb_S1x4x1x4x128x128_S1x1x1x1x64x128_0_0_0_0_64_0,
    pcA x0 x1 x4 x5 0 0 0 1 (by decide) (by decide) rfl rfl (held xs0) (View.ld xs0 (rS 0 0 _)) (View.ld xs0 (rS 0 1 _)) (ldS xs0 0 0 (by decide) (by decide) _) inb_S4x8x128x128_S1x1x128x128_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_0_0 inb_S1x4x1x4x128x128_S1x1x1x1x64x128_0_0_0_0_0_0, trivial⟩

set_option maxHeartbeats 4000000 in
theorem oC (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : ¬cond0_0 i) (hc1 : cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (xs0 : Vec Ideal S4x8x128x128 .f32) (y : S1x4x64x1024.Idx) : out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y = GO x0 x1 x2 x3 x6 x7 (held xs0) y := by
  unfold out0_C_8
  frame_out
  refine of_pieces (GO x0 x1 x2 x3 x6 x7 (held xs0)) [] [_, _, _, _] rectsO ?_ coverO ?_ y
  · rfl
  exact ⟨oP3 x0 x1 x2 x3 x4 x5 x6 x7 (held xs0) (View.ld xs0 (rS 3 0 _)) (ldS xs0 3 0 (by decide) (by decide) _) (View.ld xs0 (rS 3 1 _)) (ldS xs0 3 1 (by decide) (by decide) _) (View.ld xs0 (rS 3 2 _)) (ldS xs0 3 2 (by decide) (by decide) _) (View.ld xs0 (rS 3 3 _)) (ldS xs0 3 3 (by decide) (by decide) _) (View.ld xs0 (rS 3 4 _)) (ldS xs0 3 4 (by decide) (by decide) _) (View.ld xs0 (rS 3 5 _)) (ldS xs0 3 5 (by decide) (by decide) _) (View.ld xs0 (rS 3 6 _)) (ldS xs0 3 6 (by decide) (by decide) _) (View.ld xs0 (rS 3 7 _)) (ldS xs0 3 7 (by decide) (by decide) _) inb_S1x4x64x1024_S1x1x64x1024_0_3_0_0,
    oP2 x0 x1 x2 x3 x4 x5 x6 x7 (held xs0) (View.ld xs0 (rS 2 0 _)) (ldS xs0 2 0 (by decide) (by decide) _) (View.ld xs0 (rS 2 1 _)) (ldS xs0 2 1 (by decide) (by decide) _) (View.ld xs0 (rS 2 2 _)) (ldS xs0 2 2 (by decide) (by decide) _) (View.ld xs0 (rS 2 3 _)) (ldS xs0 2 3 (by decide) (by decide) _) (View.ld xs0 (rS 2 4 _)) (ldS xs0 2 4 (by decide) (by decide) _) (View.ld xs0 (rS 2 5 _)) (ldS xs0 2 5 (by decide) (by decide) _) (View.ld xs0 (rS 2 6 _)) (ldS xs0 2 6 (by decide) (by decide) _) (View.ld xs0 (rS 2 7 _)) (ldS xs0 2 7 (by decide) (by decide) _) inb_S1x4x64x1024_S1x1x64x1024_0_2_0_0,
    oP1 x0 x1 x2 x3 x4 x5 x6 x7 (held xs0) (View.ld xs0 (rS 1 0 _)) (ldS xs0 1 0 (by decide) (by decide) _) (View.ld xs0 (rS 1 1 _)) (ldS xs0 1 1 (by decide) (by decide) _) (View.ld xs0 (rS 1 2 _)) (ldS xs0 1 2 (by decide) (by decide) _) (View.ld xs0 (rS 1 3 _)) (ldS xs0 1 3 (by decide) (by decide) _) (View.ld xs0 (rS 1 4 _)) (ldS xs0 1 4 (by decide) (by decide) _) (View.ld xs0 (rS 1 5 _)) (ldS xs0 1 5 (by decide) (by decide) _) (View.ld xs0 (rS 1 6 _)) (ldS xs0 1 6 (by decide) (by decide) _) (View.ld xs0 (rS 1 7 _)) (ldS xs0 1 7 (by decide) (by decide) _) inb_S1x4x64x1024_S1x1x64x1024_0_1_0_0,
    oP0 x0 x1 x2 x3 x4 x5 x6 x7 (held xs0) (View.ld xs0 (rS 0 0 _)) (ldS xs0 0 0 (by decide) (by decide) _) (View.ld xs0 (rS 0 1 _)) (ldS xs0 0 1 (by decide) (by decide) _) (View.ld xs0 (rS 0 2 _)) (ldS xs0 0 2 (by decide) (by decide) _) (View.ld xs0 (rS 0 3 _)) (ldS xs0 0 3 (by decide) (by decide) _) (View.ld xs0 (rS 0 4 _)) (ldS xs0 0 4 (by decide) (by decide) _) (View.ld xs0 (rS 0 5 _)) (ldS xs0 0 5 (by decide) (by decide) _) (View.ld xs0 (rS 0 6 _)) (ldS xs0 0 6 (by decide) (by decide) _) (View.ld xs0 (rS 0 7 _)) (ldS xs0 0 7 (by decide) (by decide) _) inb_S1x4x64x1024_S1x1x64x1024_0_0_0_0, trivial⟩

set_option maxHeartbeats 4000000 in
theorem f9 (c : Dev nD) (i : grid0.Coords) (arg2 : Memref sig .tc .vmem S1x4x1x4x128x128 .f32) (harg2 : arg2.IsWhole) (arg3 : Memref sig .tc .vmem S1x4x1x4x128x128 .bf16) (harg3 : arg3.IsWhole) (arg4 : Memref sig .tc .vmem S1x4x1x4x128x128 .bf16) (harg4 : arg4.IsWhole) (arg5 : Memref sig .tc .vmem S1x4x1x4x128x128 .bf16) (harg5 : arg5.IsWhole) (arg6 : Memref sig .tc .vmem S1x4x1x4x128x128 .bf16) (harg6 : arg6.IsWhole) (arg7 : Memref sig .tc .vmem S1x4x1x8x128 .f32) (harg7 : arg7.IsWhole) (arg8 : Memref sig .tc .vmem S1x4x64x1024 .f32) (harg8 : arg8.IsWhole) (arg9 : Memref sig .tc .vmem S1x128 .f32) (harg9 : arg9.IsWhole) (arg10 : Memref sig .tc .vmem S1x4x64x1024 .f32) (harg10 : arg10.IsWhole) (arg11 : Memref sig .tc .vmem S1x4x8x128x128 .f32) (harg11 : arg11.IsWhole) (arg12 : Memref sig .tc .vmem S4x8x128x128 .f32) (harg12 : arg12.IsWhole) (hc0 : ¬cond0_0 i) (hc1 : cond0_1 i) (x0 : Vec Ideal S1x4x1x4x128x128 .f32) (x1 : Vec Ideal S1x4x1x4x128x128 .bf16) (x2 : Vec Ideal S1x4x1x4x128x128 .bf16) (x3 : Vec Ideal S1x4x1x4x128x128 .bf16) (x4 : Vec Ideal S1x4x1x4x128x128 .bf16) (x5 : Vec Ideal S1x4x1x8x128 .f32) (x6 : Vec Ideal S1x4x64x1024 .f32) (x7 : Vec Ideal S1x128 .f32) (xs0 : Vec Ideal S4x8x128x128 .f32) (s : Fin 4) (h : Fin 8) (p q : Fin 128) : out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix5 0 s h p q) = GS x0 x1 x4 x5 (held xs0) (ix4 s h p q) := by
  unfold out0_C_9
  frame_out
  rw [pay2_at, View.readCov_eq_canon']
  have e : (Rect.unit (s := S4x8x128x128) ![0, 0, 0, 0] ![4, 8, 128, 128] inb_S4x8x128x128_S4x8x128x128_0_0_0_0).toLoadRect.idx (ix4 s h p q : S4x8x128x128.Idx) = (ix4 s h p q : S4x8x128x128.Idx) := by
    refine funext fun a => Fin.ext ((Rect.idx_unit_val _ _ _ _ a).trans ?_)
    fin_cases a <;> simp
  refine (of_pieces (GS x0 x1 x4 x5 (held xs0)) [] [_, _, _, _, _, _, _, _, _, _, _, _, _, _, _, _, _, _, _, _, _, _, _, _, _, _, _, _, _, _, _, _] rects ?_ cover ?_ _).trans (congrArg _ e)
  · rfl
  exact ⟨pcB x0 x1 x4 x5 3 3 6 7 (by decide) (by decide) rfl rfl (held xs0) (View.ld xs0 (rS 3 6 _)) (View.ld xs0 (rS 3 7 _)) (ldS xs0 3 7 (by decide) (by decide) _) inb_S4x8x128x128_S1x1x128x128_3_7_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_7_0 inb_S1x4x1x4x128x128_S1x1x1x1x64x128_0_3_0_3_64_0,
    pcA x0 x1 x4 x5 3 3 6 7 (by decide) (by decide) rfl rfl (held xs0) (View.ld xs0 (rS 3 6 _)) (View.ld xs0 (rS 3 7 _)) (ldS xs0 3 6 (by decide) (by decide) _) inb_S4x8x128x128_S1x1x128x128_3_6_0_0 inb_S1x4x1x4x128x128_S1x1x1x1x128x128_0_3_0_3_0_0 inb_S1x4x1x4x128x128_S1x1x1x1x64x128_0_3_0_3_0_0 inb_S1x4x1x4x128x128_S1x1x1x1x64x128_0_3_0_3_64_0 inb_S1x4x1x8x128_S1x1x1x1x128_0_3_0_6_0 inb_S1x4x1x4x128x128_S1x1x1x1x64x128_0_3_0_3_0_0,
    pcB x0 x1 x4 x5 3 2 4 5 (by decide) (by decide) rfl rfl (held xs0) (View.ld xs0 (rS 3 4 _)) (View.ld xs0 (rS 3 5 _)) (ldS xs0 3 5 (by decide) (by decide) _) inb_S4x8x128x128_S1x1x128x128_3_5_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_5_0 inb_S1x4x1x4x128x128_S1x1x1x1x64x128_0_3_0_2_64_0,
    pcA x0 x1 x4 x5 3 2 4 5 (by decide) (by decide) rfl rfl (held xs0) (View.ld xs0 (rS 3 4 _)) (View.ld xs0 (rS 3 5 _)) (ldS xs0 3 4 (by decide) (by decide) _) inb_S4x8x128x128_S1x1x128x128_3_4_0_0 inb_S1x4x1x4x128x128_S1x1x1x1x128x128_0_3_0_2_0_0 inb_S1x4x1x4x128x128_S1x1x1x1x64x128_0_3_0_2_0_0 inb_S1x4x1x4x128x128_S1x1x1x1x64x128_0_3_0_2_64_0 inb_S1x4x1x8x128_S1x1x1x1x128_0_3_0_4_0 inb_S1x4x1x4x128x128_S1x1x1x1x64x128_0_3_0_2_0_0,
    pcB x0 x1 x4 x5 3 1 2 3 (by decide) (by decide) rfl rfl (held xs0) (View.ld xs0 (rS 3 2 _)) (View.ld xs0 (rS 3 3 _)) (ldS xs0 3 3 (by decide) (by decide) _) inb_S4x8x128x128_S1x1x128x128_3_3_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_3_0 inb_S1x4x1x4x128x128_S1x1x1x1x64x128_0_3_0_1_64_0,
    pcA x0 x1 x4 x5 3 1 2 3 (by decide) (by decide) rfl rfl (held xs0) (View.ld xs0 (rS 3 2 _)) (View.ld xs0 (rS 3 3 _)) (ldS xs0 3 2 (by decide) (by decide) _) inb_S4x8x128x128_S1x1x128x128_3_2_0_0 inb_S1x4x1x4x128x128_S1x1x1x1x128x128_0_3_0_1_0_0 inb_S1x4x1x4x128x128_S1x1x1x1x64x128_0_3_0_1_0_0 inb_S1x4x1x4x128x128_S1x1x1x1x64x128_0_3_0_1_64_0 inb_S1x4x1x8x128_S1x1x1x1x128_0_3_0_2_0 inb_S1x4x1x4x128x128_S1x1x1x1x64x128_0_3_0_1_0_0,
    pcB x0 x1 x4 x5 3 0 0 1 (by decide) (by decide) rfl rfl (held xs0) (View.ld xs0 (rS 3 0 _)) (View.ld xs0 (rS 3 1 _)) (ldS xs0 3 1 (by decide) (by decide) _) inb_S4x8x128x128_S1x1x128x128_3_1_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_1_0 inb_S1x4x1x4x128x128_S1x1x1x1x64x128_0_3_0_0_64_0,
    pcA x0 x1 x4 x5 3 0 0 1 (by decide) (by decide) rfl rfl (held xs0) (View.ld xs0 (rS 3 0 _)) (View.ld xs0 (rS 3 1 _)) (ldS xs0 3 0 (by decide) (by decide) _) inb_S4x8x128x128_S1x1x128x128_3_0_0_0 inb_S1x4x1x4x128x128_S1x1x1x1x128x128_0_3_0_0_0_0 inb_S1x4x1x4x128x128_S1x1x1x1x64x128_0_3_0_0_0_0 inb_S1x4x1x4x128x128_S1x1x1x1x64x128_0_3_0_0_64_0 inb_S1x4x1x8x128_S1x1x1x1x128_0_3_0_0_0 inb_S1x4x1x4x128x128_S1x1x1x1x64x128_0_3_0_0_0_0,
    pcB x0 x1 x4 x5 2 3 6 7 (by decide) (by decide) rfl rfl (held xs0) (View.ld xs0 (rS 2 6 _)) (View.ld xs0 (rS 2 7 _)) (ldS xs0 2 7 (by decide) (by decide) _) inb_S4x8x128x128_S1x1x128x128_2_7_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_7_0 inb_S1x4x1x4x128x128_S1x1x1x1x64x128_0_2_0_3_64_0,
    pcA x0 x1 x4 x5 2 3 6 7 (by decide) (by decide) rfl rfl (held xs0) (View.ld xs0 (rS 2 6 _)) (View.ld xs0 (rS 2 7 _)) (ldS xs0 2 6 (by decide) (by decide) _) inb_S4x8x128x128_S1x1x128x128_2_6_0_0 inb_S1x4x1x4x128x128_S1x1x1x1x128x128_0_2_0_3_0_0 inb_S1x4x1x4x128x128_S1x1x1x1x64x128_0_2_0_3_0_0 inb_S1x4x1x4x128x128_S1x1x1x1x64x128_0_2_0_3_64_0 inb_S1x4x1x8x128_S1x1x1x1x128_0_2_0_6_0 inb_S1x4x1x4x128x128_S1x1x1x1x64x128_0_2_0_3_0_0,
    pcB x0 x1 x4 x5 2 2 4 5 (by decide) (by decide) rfl rfl (held xs0) (View.ld xs0 (rS 2 4 _)) (View.ld xs0 (rS 2 5 _)) (ldS xs0 2 5 (by decide) (by decide) _) inb_S4x8x128x128_S1x1x128x128_2_5_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_5_0 inb_S1x4x1x4x128x128_S1x1x1x1x64x128_0_2_0_2_64_0,
    pcA x0 x1 x4 x5 2 2 4 5 (by decide) (by decide) rfl rfl (held xs0) (View.ld xs0 (rS 2 4 _)) (View.ld xs0 (rS 2 5 _)) (ldS xs0 2 4 (by decide) (by decide) _) inb_S4x8x128x128_S1x1x128x128_2_4_0_0 inb_S1x4x1x4x128x128_S1x1x1x1x128x128_0_2_0_2_0_0 inb_S1x4x1x4x128x128_S1x1x1x1x64x128_0_2_0_2_0_0 inb_S1x4x1x4x128x128_S1x1x1x1x64x128_0_2_0_2_64_0 inb_S1x4x1x8x128_S1x1x1x1x128_0_2_0_4_0 inb_S1x4x1x4x128x128_S1x1x1x1x64x128_0_2_0_2_0_0,
    pcB x0 x1 x4 x5 2 1 2 3 (by decide) (by decide) rfl rfl (held xs0) (View.ld xs0 (rS 2 2 _)) (View.ld xs0 (rS 2 3 _)) (ldS xs0 2 3 (by decide) (by decide) _) inb_S4x8x128x128_S1x1x128x128_2_3_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_3_0 inb_S1x4x1x4x128x128_S1x1x1x1x64x128_0_2_0_1_64_0,
    pcA x0 x1 x4 x5 2 1 2 3 (by decide) (by decide) rfl rfl (held xs0) (View.ld xs0 (rS 2 2 _)) (View.ld xs0 (rS 2 3 _)) (ldS xs0 2 2 (by decide) (by decide) _) inb_S4x8x128x128_S1x1x128x128_2_2_0_0 inb_S1x4x1x4x128x128_S1x1x1x1x128x128_0_2_0_1_0_0 inb_S1x4x1x4x128x128_S1x1x1x1x64x128_0_2_0_1_0_0 inb_S1x4x1x4x128x128_S1x1x1x1x64x128_0_2_0_1_64_0 inb_S1x4x1x8x128_S1x1x1x1x128_0_2_0_2_0 inb_S1x4x1x4x128x128_S1x1x1x1x64x128_0_2_0_1_0_0,
    pcB x0 x1 x4 x5 2 0 0 1 (by decide) (by decide) rfl rfl (held xs0) (View.ld xs0 (rS 2 0 _)) (View.ld xs0 (rS 2 1 _)) (ldS xs0 2 1 (by decide) (by decide) _) inb_S4x8x128x128_S1x1x128x128_2_1_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_1_0 inb_S1x4x1x4x128x128_S1x1x1x1x64x128_0_2_0_0_64_0,
    pcA x0 x1 x4 x5 2 0 0 1 (by decide) (by decide) rfl rfl (held xs0) (View.ld xs0 (rS 2 0 _)) (View.ld xs0 (rS 2 1 _)) (ldS xs0 2 0 (by decide) (by decide) _) inb_S4x8x128x128_S1x1x128x128_2_0_0_0 inb_S1x4x1x4x128x128_S1x1x1x1x128x128_0_2_0_0_0_0 inb_S1x4x1x4x128x128_S1x1x1x1x64x128_0_2_0_0_0_0 inb_S1x4x1x4x128x128_S1x1x1x1x64x128_0_2_0_0_64_0 inb_S1x4x1x8x128_S1x1x1x1x128_0_2_0_0_0 inb_S1x4x1x4x128x128_S1x1x1x1x64x128_0_2_0_0_0_0,
    pcB x0 x1 x4 x5 1 3 6 7 (by decide) (by decide) rfl rfl (held xs0) (View.ld xs0 (rS 1 6 _)) (View.ld xs0 (rS 1 7 _)) (ldS xs0 1 7 (by decide) (by decide) _) inb_S4x8x128x128_S1x1x128x128_1_7_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_7_0 inb_S1x4x1x4x128x128_S1x1x1x1x64x128_0_1_0_3_64_0,
    pcA x0 x1 x4 x5 1 3 6 7 (by decide) (by decide) rfl rfl (held xs0) (View.ld xs0 (rS 1 6 _)) (View.ld xs0 (rS 1 7 _)) (ldS xs0 1 6 (by decide) (by decide) _) inb_S4x8x128x128_S1x1x128x128_1_6_0_0 inb_S1x4x1x4x128x128_S1x1x1x1x128x128_0_1_0_3_0_0 inb_S1x4x1x4x128x128_S1x1x1x1x64x128_0_1_0_3_0_0 inb_S1x4x1x4x128x128_S1x1x1x1x64x128_0_1_0_3_64_0 inb_S1x4x1x8x128_S1x1x1x1x128_0_1_0_6_0 inb_S1x4x1x4x128x128_S1x1x1x1x64x128_0_1_0_3_0_0,
    pcB x0 x1 x4 x5 1 2 4 5 (by decide) (by decide) rfl rfl (held xs0) (View.ld xs0 (rS 1 4 _)) (View.ld xs0 (rS 1 5 _)) (ldS xs0 1 5 (by decide) (by decide) _) inb_S4x8x128x128_S1x1x128x128_1_5_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_5_0 inb_S1x4x1x4x128x128_S1x1x1x1x64x128_0_1_0_2_64_0,
    pcA x0 x1 x4 x5 1 2 4 5 (by decide) (by decide) rfl rfl (held xs0) (View.ld xs0 (rS 1 4 _)) (View.ld xs0 (rS 1 5 _)) (ldS xs0 1 4 (by decide) (by decide) _) inb_S4x8x128x128_S1x1x128x128_1_4_0_0 inb_S1x4x1x4x128x128_S1x1x1x1x128x128_0_1_0_2_0_0 inb_S1x4x1x4x128x128_S1x1x1x1x64x128_0_1_0_2_0_0 inb_S1x4x1x4x128x128_S1x1x1x1x64x128_0_1_0_2_64_0 inb_S1x4x1x8x128_S1x1x1x1x128_0_1_0_4_0 inb_S1x4x1x4x128x128_S1x1x1x1x64x128_0_1_0_2_0_0,
    pcB x0 x1 x4 x5 1 1 2 3 (by decide) (by decide) rfl rfl (held xs0) (View.ld xs0 (rS 1 2 _)) (View.ld xs0 (rS 1 3 _)) (ldS xs0 1 3 (by decide) (by decide) _) inb_S4x8x128x128_S1x1x128x128_1_3_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_3_0 inb_S1x4x1x4x128x128_S1x1x1x1x64x128_0_1_0_1_64_0,
    pcA x0 x1 x4 x5 1 1 2 3 (by decide) (by decide) rfl rfl (held xs0) (View.ld xs0 (rS 1 2 _)) (View.ld xs0 (rS 1 3 _)) (ldS xs0 1 2 (by decide) (by decide) _) inb_S4x8x128x128_S1x1x128x128_1_2_0_0 inb_S1x4x1x4x128x128_S1x1x1x1x128x128_0_1_0_1_0_0 inb_S1x4x1x4x128x128_S1x1x1x1x64x128_0_1_0_1_0_0 inb_S1x4x1x4x128x128_S1x1x1x1x64x128_0_1_0_1_64_0 inb_S1x4x1x8x128_S1x1x1x1x128_0_1_0_2_0 inb_S1x4x1x4x128x128_S1x1x1x1x64x128_0_1_0_1_0_0,
    pcB x0 x1 x4 x5 1 0 0 1 (by decide) (by decide) rfl rfl (held xs0) (View.ld xs0 (rS 1 0 _)) (View.ld xs0 (rS 1 1 _)) (ldS xs0 1 1 (by decide) (by decide) _) inb_S4x8x128x128_S1x1x128x128_1_1_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_1_0 inb_S1x4x1x4x128x128_S1x1x1x1x64x128_0_1_0_0_64_0,
    pcA x0 x1 x4 x5 1 0 0 1 (by decide) (by decide) rfl rfl (held xs0) (View.ld xs0 (rS 1 0 _)) (View.ld xs0 (rS 1 1 _)) (ldS xs0 1 0 (by decide) (by decide) _) inb_S4x8x128x128_S1x1x128x128_1_0_0_0 inb_S1x4x1x4x128x128_S1x1x1x1x128x128_0_1_0_0_0_0 inb_S1x4x1x4x128x128_S1x1x1x1x64x128_0_1_0_0_0_0 inb_S1x4x1x4x128x128_S1x1x1x1x64x128_0_1_0_0_64_0 inb_S1x4x1x8x128_S1x1x1x1x128_0_1_0_0_0 inb_S1x4x1x4x128x128_S1x1x1x1x64x128_0_1_0_0_0_0,
    pcB x0 x1 x4 x5 0 3 6 7 (by decide) (by decide) rfl rfl (held xs0) (View.ld xs0 (rS 0 6 _)) (View.ld xs0 (rS 0 7 _)) (ldS xs0 0 7 (by decide) (by decide) _) inb_S4x8x128x128_S1x1x128x128_0_7_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_7_0 inb_S1x4x1x4x128x128_S1x1x1x1x64x128_0_0_0_3_64_0,
    pcA x0 x1 x4 x5 0 3 6 7 (by decide) (by decide) rfl rfl (held xs0) (View.ld xs0 (rS 0 6 _)) (View.ld xs0 (rS 0 7 _)) (ldS xs0 0 6 (by decide) (by decide) _) inb_S4x8x128x128_S1x1x128x128_0_6_0_0 inb_S1x4x1x4x128x128_S1x1x1x1x128x128_0_0_0_3_0_0 inb_S1x4x1x4x128x128_S1x1x1x1x64x128_0_0_0_3_0_0 inb_S1x4x1x4x128x128_S1x1x1x1x64x128_0_0_0_3_64_0 inb_S1x4x1x8x128_S1x1x1x1x128_0_0_0_6_0 inb_S1x4x1x4x128x128_S1x1x1x1x64x128_0_0_0_3_0_0,
    pcB x0 x1 x4 x5 0 2 4 5 (by decide) (by decide) rfl rfl (held xs0) (View.ld xs0 (rS 0 4 _)) (View.ld xs0 (rS 0 5 _)) (ldS xs0 0 5 (by decide) (by decide) _) inb_S4x8x128x128_S1x1x128x128_0_5_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_5_0 inb_S1x4x1x4x128x128_S1x1x1x1x64x128_0_0_0_2_64_0,
    pcA x0 x1 x4 x5 0 2 4 5 (by decide) (by decide) rfl rfl (held xs0) (View.ld xs0 (rS 0 4 _)) (View.ld xs0 (rS 0 5 _)) (ldS xs0 0 4 (by decide) (by decide) _) inb_S4x8x128x128_S1x1x128x128_0_4_0_0 inb_S1x4x1x4x128x128_S1x1x1x1x128x128_0_0_0_2_0_0 inb_S1x4x1x4x128x128_S1x1x1x1x64x128_0_0_0_2_0_0 inb_S1x4x1x4x128x128_S1x1x1x1x64x128_0_0_0_2_64_0 inb_S1x4x1x8x128_S1x1x1x1x128_0_0_0_4_0 inb_S1x4x1x4x128x128_S1x1x1x1x64x128_0_0_0_2_0_0,
    pcB x0 x1 x4 x5 0 1 2 3 (by decide) (by decide) rfl rfl (held xs0) (View.ld xs0 (rS 0 2 _)) (View.ld xs0 (rS 0 3 _)) (ldS xs0 0 3 (by decide) (by decide) _) inb_S4x8x128x128_S1x1x128x128_0_3_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_3_0 inb_S1x4x1x4x128x128_S1x1x1x1x64x128_0_0_0_1_64_0,
    pcA x0 x1 x4 x5 0 1 2 3 (by decide) (by decide) rfl rfl (held xs0) (View.ld xs0 (rS 0 2 _)) (View.ld xs0 (rS 0 3 _)) (ldS xs0 0 2 (by decide) (by decide) _) inb_S4x8x128x128_S1x1x128x128_0_2_0_0 inb_S1x4x1x4x128x128_S1x1x1x1x128x128_0_0_0_1_0_0 inb_S1x4x1x4x128x128_S1x1x1x1x64x128_0_0_0_1_0_0 inb_S1x4x1x4x128x128_S1x1x1x1x64x128_0_0_0_1_64_0 inb_S1x4x1x8x128_S1x1x1x1x128_0_0_0_2_0 inb_S1x4x1x4x128x128_S1x1x1x1x64x128_0_0_0_1_0_0,
    pcB x0 x1 x4 x5 0 0 0 1 (by decide) (by decide) rfl rfl (held xs0) (View.ld xs0 (rS 0 0 _)) (View.ld xs0 (rS 0 1 _)) (ldS xs0 0 1 (by decide) (by decide) _) inb_S4x8x128x128_S1x1x128x128_0_1_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_1_0 inb_S1x4x1x4x128x128_S1x1x1x1x64x128_0_0_0_0_64_0,
    pcA x0 x1 x4 x5 0 0 0 1 (by decide) (by decide) rfl rfl (held xs0) (View.ld xs0 (rS 0 0 _)) (View.ld xs0 (rS 0 1 _)) (ldS xs0 0 0 (by decide) (by decide) _) inb_S4x8x128x128_S1x1x128x128_0_0_0_0 inb_S1x4x1x4x128x128_S1x1x1x1x128x128_0_0_0_0_0_0 inb_S1x4x1x4x128x128_S1x1x1x1x64x128_0_0_0_0_0_0 inb_S1x4x1x4x128x128_S1x1x1x1x64x128_0_0_0_0_64_0 inb_S1x4x1x8x128_S1x1x1x1x128_0_0_0_0_0 inb_S1x4x1x4x128x128_S1x1x1x1x64x128_0_0_0_0_0_0, trivial⟩

end Cert.InterTile
-- ==== Proof.InterFinal.lean ====
/- The prompt's recurrence call over its whole grid: the scratch carries each sequence's state from chunk to chunk, so the two
   results are the recurrence over the argument arrays. -/
module

public import proofs.«01_k».proof.Proof.InterBlk
public import proofs.«01_k».proof.Proof.InterBodyA
public import proofs.«01_k».proof.Proof.InterBodyB
public import proofs.«01_k».proof.Proof.InterBodyC
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)

namespace Cert.InterTile
open Cert.InterIdeal Cert.InterIdeal.Gen Cert.InterIdeal.Value Cert.InterSpec

variable (m : (ℓ : Loc nD τ sig) → Buf (Elt Ideal) ℓ) (c : Dev nD)

/-- The scratch after point `t`, over the states before it. -/
theorem GS_at (t : Fin cfg0.N) (S : Fin 4 → State) (s : Fin 4) (h : Fin 8) (k v : Fin 128)
    (hS : S s = stateA (chunks m c) (seqOf (grp t) s) (t.val % 32)) :
    GS (iblk m c 0 t) (iblk m c 1 t) (iblk m c 4 t) (iblk m c 5 t) S (ix4 s h k v) = stateA (chunks m c) (seqOf (grp t) s) (t.val % 32 + 1) h k v := by
  show next (rows (show Vec Ideal S1x4x1x4x128x128 .f32 from iblk m c 0 t) s) (rows (show Vec Ideal S1x4x1x4x128x128 .bf16 from iblk m c 1 t) s) (rows (show Vec Ideal S1x4x1x4x128x128 .bf16 from iblk m c 4 t) s)
    (lanes (show Vec Ideal S1x4x1x8x128 .f32 from iblk m c 5 t) s) (S s) h k v = _
  rw [rows_u, rows_w, rows_k, lanes_e, hS]
  rfl

/-- The gated rows of point `t`, over the states before it. -/
theorem GO_blk (t : Fin cfg0.N) (S : Fin 4 → State) (s : Fin 4) (i : Fin 64) (n : Fin 1024)
    (hS : S s = stateA (chunks m c) (seqOf (grp t) s) (t.val % 32)) :
    GO (iblk m c 0 t) (iblk m c 1 t) (iblk m c 2 t) (iblk m c 3 t) (iblk m c 6 t) (iblk m c 7 t) S (ix4 0 s i n)
      = gated (fun y => readA (chunks m c) (seqOf (grp t) s) (t.val % 32) (headOf n) i y) (wgt m c (laneOf n)) (act m c (actRow (grp t) s (pos t i)) (actCol n)) (laneOf n) := by
  show gated (fun y => rd (rows (show Vec Ideal S1x4x1x4x128x128 .f32 from iblk m c 0 t) s) (rows (show Vec Ideal S1x4x1x4x128x128 .bf16 from iblk m c 1 t) s) (rows (show Vec Ideal S1x4x1x4x128x128 .bf16 from iblk m c 3 t) s)
    (rows (show Vec Ideal S1x4x1x4x128x128 .bf16 from iblk m c 2 t) s) (S s) (headOf n) i y) ((show Vec Ideal S1x128 .f32 from iblk m c 7 t) (ix2 0 (laneOf n)))
    ((show Vec Ideal S1x4x64x1024 .f32 from iblk m c 6 t) (ix4 0 s i n)) (laneOf n) = _
  rw [rows_u, rows_w, rows_q, rows_a, wgt_g, gate_z, hS]
  rfl

theorem grp_pred (t : Fin cfg0.N) (h0 : ¬t.val % 32 = 0) (n : Nat) (hn : n < cfg0.N) (e : n + 1 = t.val) : grp ⟨n, hn⟩ = grp t ∧ n % 32 + 1 = t.val % 32 :=
  ⟨Fin.ext (by show n / 32 = t.val / 32; omega), by omega⟩

/-- The scratch after every point. -/
theorem scratch : ∀ (n : Nat) (hn : n < cfg0.N) (s : Fin 4), held (outsAt0 m c n hn).2.2 s = stateA (chunks m c) (seqOf (grp ⟨n, hn⟩) s) (n % 32 + 1) := by
  intro n
  induction n with
  | zero =>
    intro hn s
    funext h k v
    have e := congrArg (fun p => p.2.2) (outsAt0_A m c ⟨0, hn⟩ rfl (by show ¬0 % 32 = 31; decide))
    dsimp only at e
    exact (congrFun e (ix4 s h k v)).trans ((sA _ _ _ _ _ _ _ _ _ _ _ _ _ _ _ _ _ _ _ _ _ _ _ _ _ _ _ _ _ _ _ _ _ _ (ix4 s h k v)).trans (GS_at m c ⟨0, hn⟩ zero s h k v rfl))
  | succ n ih =>
    intro hn s
    funext h k v
    by_cases h0 : (n + 1) % 32 = 0
    · have h1 : ¬(n + 1) % 32 = 31 := by omega
      have e := congrArg (fun p => p.2.2) (outsAt0_A m c ⟨n + 1, hn⟩ h0 h1)
      dsimp only at e
      refine (congrFun e (ix4 s h k v)).trans ((sA _ _ _ _ _ _ _ _ _ _ _ _ _ _ _ _ _ _ _ _ _ _ _ _ _ _ _ _ _ _ _ _ _ _ (ix4 s h k v)).trans (GS_at m c ⟨n + 1, hn⟩ zero s h k v ?_))
      show zero s = stateA _ _ ((n + 1) % 32)
      rw [h0]
      rfl
    · have hp := grp_pred ⟨n + 1, hn⟩ h0 n (by omega) rfl
      have hS : held (outsAt0 m c n (by omega)).2.2 s = stateA (chunks m c) (seqOf (grp ⟨n + 1, hn⟩) s) ((n + 1) % 32) := by
        rw [ih (by omega) s, hp.1, hp.2]
      by_cases h1 : (n + 1) % 32 = 31
      · have e := congrArg (fun p => p.2.2) (outsAt0_C m c ⟨n + 1, hn⟩ h0 h1)
        dsimp only at e
        exact (congrFun e (ix4 s h k v)).trans ((sC _ _ _ _ _ _ _ _ _ _ _ _ _ _ _ _ _ _ _ _ _ _ _ _ _ _ _ _ _ _ _ _ _ _ _ (ix4 s h k v)).trans (GS_at m c ⟨n + 1, hn⟩ (held (outsAt0 m c n (by omega)).2.2) s h k v hS))
      · have e := congrArg (fun p => p.2.2) (outsAt0_B m c ⟨n + 1, hn⟩ h0 h1)
        dsimp only at e
        exact (congrFun e (ix4 s h k v)).trans ((sB _ _ _ _ _ _ _ _ _ _ _ _ _ _ _ _ _ _ _ _ _ _ _ _ _ _ _ _ _ _ _ _ _ _ _ (ix4 s h k v)).trans (GS_at m c ⟨n + 1, hn⟩ (held (outsAt0 m c n (by omega)).2.2) s h k v hS))

/-- The scratch before a point that isn't the first of its sequences. -/
theorem scratch_pred (t : Fin cfg0.N) (h0 : ¬t.val % 32 = 0) (s : Fin 4) :
    held (outsAt0 m c (t.val - 1) (Nat.lt_of_le_of_lt (Nat.sub_le _ _) t.isLt)).2.2 s = stateA (chunks m c) (seqOf (grp t) s) (t.val % 32) := by
  have hp := grp_pred t h0 (t.val - 1) (Nat.lt_of_le_of_lt (Nat.sub_le _ _) t.isLt) (by omega)
  rw [scratch m c (t.val - 1) _ s, hp.1, hp.2]

/-- The gated rows every point leaves. -/
theorem gated_blk (t : Fin cfg0.N) (s : Fin 4) (i : Fin 64) (n : Fin 1024) : (show Vec Ideal S1x4x64x1024 .f32 from (outsAt0 m c t.val t.isLt).1) (ix4 0 s i n)
    = gated (fun y => readA (chunks m c) (seqOf (grp t) s) (t.val % 32) (headOf n) i y) (wgt m c (laneOf n)) (act m c (actRow (grp t) s (pos t i)) (actCol n)) (laneOf n) := by
  by_cases h0 : t.val % 32 = 0
  · have h1 : ¬t.val % 32 = 31 := by omega
    have e := congrArg (fun p => p.1) (outsAt0_A m c t h0 h1)
    dsimp only at e
    refine (congrFun e (ix4 0 s i n)).trans ((oA _ _ _ _ _ _ _ _ _ _ _ _ _ _ _ _ _ _ _ _ _ _ _ _ _ _ _ _ _ _ _ _ _ _ (ix4 0 s i n)).trans (GO_blk m c t zero s i n ?_))
    rw [h0]
    rfl
  · by_cases h1 : t.val % 32 = 31
    · have e := congrArg (fun p => p.1) (outsAt0_C m c t h0 h1)
      dsimp only at e
      exact (congrFun e (ix4 0 s i n)).trans ((oC _ _ _ _ _ _ _ _ _ _ _ _ _ _ _ _ _ _ _ _ _ _ _ _ _ _ _ _ _ _ _ _ _ _ _ (ix4 0 s i n)).trans (GO_blk m c t _ s i n (scratch_pred m c t h0 s)))
    · have e := congrArg (fun p => p.1) (outsAt0_B m c t h0 h1)
      dsimp only at e
      exact (congrFun e (ix4 0 s i n)).trans ((oB _ _ _ _ _ _ _ _ _ _ _ _ _ _ _ _ _ _ _ _ _ _ _ _ _ _ _ _ _ _ _ _ _ _ _ (ix4 0 s i n)).trans (GO_blk m c t _ s i n (scratch_pred m c t h0 s)))

/-- The states the last point of a group of sequences writes out. -/
theorem state_blk (t : Fin cfg0.N) (h1 : t.val % 32 = 31) (s : Fin 4) (h : Fin 8) (p q : Fin 128) : (show Vec Ideal S1x4x8x128x128 .f32 from (outsAt0 m c t.val t.isLt).2.1) (ix5 0 s h p q)
    = stateA (chunks m c) (seqOf (grp t) s) 32 h p q := by
  have h0 : ¬t.val % 32 = 0 := by omega
  have e := congrArg (fun p => p.2.1) (outsAt0_C m c t h0 h1)
  dsimp only at e
  refine (congrFun e (ix5 0 s h p q)).trans ((f9 _ _ _ _ _ _ _ _ _ _ _ _ _ _ _ _ _ _ _ _ _ _ _ _ _ _ _ _ _ _ _ _ _ _ _ s h p q).trans ((GS_at m c t _ s h p q (scratch_pred m c t h0 s)).trans ?_))
  rw [h1]

/-- The first result at an index. -/
theorem G8_at (a b : Fin 4) (t : Fin 2048) (n : Fin 1024) : G8 m c (ix4 a b t n) = outAt (chunks m c) (act m c) (wgt m c) a b t n := by
  have ha := a.isLt
  have hb := b.isLt
  have ht := t.isLt
  have hn := n.isLt
  have hp : pt8Of (ix4 a b t n) = 32 * a.val + t.val / 64 := by
    show 32 * (a.val / 1 - 0) + 32 * (b.val / 4 - 0) + 1 * (t.val / 64 - 0) + 1 * (n.val / 1024 - 0) = _
    omega
  have hN : pt8Of (ix4 a b t n) < cfg0.N := by rw [hp, show cfg0.N = 128 from N_0]; omega
  have hl : loc8Of (ix4 a b t n) = ix4 (0 : Fin 1) b (placeOf t) n := by
    funext k
    fin_cases k
    · exact Subsingleton.elim (α := Fin 1) _ _
    · exact Fin.ext (Nat.mod_eq_of_lt hb)
    · rfl
    · exact Fin.ext (Nat.mod_eq_of_lt hn)
  unfold G8
  rw [dif_pos hN, ← outsAt0_sweep m c _ hN, hl]
  refine (gated_blk m c ⟨pt8Of (ix4 a b t n), hN⟩ b (placeOf t) n).trans ?_
  have hg : grp ⟨pt8Of (ix4 a b t n), hN⟩ = a := Fin.ext (by show pt8Of (ix4 a b t n) / 32 = a.val; rw [hp]; omega)
  have hm : pt8Of (ix4 a b t n) % 32 = t.val / 64 := by rw [hp]; omega
  have hq : pos ⟨pt8Of (ix4 a b t n), hN⟩ (placeOf t) = t := Fin.ext (by show pt8Of (ix4 a b t n) % 32 * 64 + t.val % 64 = t.val; rw [hm]; omega)
  rw [hg, hq]
  show gated (fun y => readA (chunks m c) (seqOf a b) (pt8Of (ix4 a b t n) % 32) (headOf n) (placeOf t) y) _ _ _ = _
  rw [hm]
  rfl

/-- The second result at an index. -/
theorem G9_at (a b : Fin 4) (h : Fin 8) (i j : Fin 128) : G9 m c (ix5 a b h i j) = stateA (chunks m c) (seqOf a b) 32 h i j := by
  have ha := a.isLt
  have hb := b.isLt
  have hh := h.isLt
  have hi := i.isLt
  have hj := j.isLt
  have hp : pt9Of (ix5 a b h i j) = 32 * a.val + 31 := by
    show 32 * (1 * (a.val / 1 - 0) + 1 * (b.val / 4 - 0) + 1 * (h.val / 8 - 0) + 1 * (i.val / 128 - 0) + 1 * (j.val / 128 - 0)) + 31 = _
    omega
  have hN : pt9Of (ix5 a b h i j) < cfg0.N := by rw [hp, show cfg0.N = 128 from N_0]; omega
  have hl : loc9Of (ix5 a b h i j) = ix5 (0 : Fin 1) b h i j := by
    funext k
    fin_cases k
    · exact Subsingleton.elim (α := Fin 1) _ _
    · exact Fin.ext (Nat.mod_eq_of_lt hb)
    · exact Fin.ext (Nat.mod_eq_of_lt hh)
    · exact Fin.ext (Nat.mod_eq_of_lt hi)
    · exact Fin.ext (Nat.mod_eq_of_lt hj)
  unfold G9
  rw [dif_pos hN, ← outsAt0_sweep m c _ hN, hl]
  refine (state_blk m c ⟨pt9Of (ix5 a b h i j), hN⟩ (by show pt9Of (ix5 a b h i j) % 32 = 31; rw [hp]; omega) b h i j).trans ?_
  have hg : grp ⟨pt9Of (ix5 a b h i j), hN⟩ = a := Fin.ext (by show pt9Of (ix5 a b h i j) / 32 = a.val; rw [hp]; omega)
  rw [hg]

end Cert.InterTile
-- ==== Proof.InterRef.lean ====
/- The reference's trips at an index: the state after a trip and the rows it writes, as the functions of `InterTile`. -/
module

public import proofs.«01_k».proof.Proof.Gen.InterReferenceIdeal.Run
public import proofs.«01_k».proof.Proof.InterTile
public import Idealize.ShloMosaic.Lib.Pointwise
public import Idealize.ShloMosaic.Lib.DynamicIndex

@[expose] public section
set_option maxRecDepth 16384
noncomputable section
open Idealize.ShloMosaic Idealize.ShloMosaic.TcCoe Idealize.SL.Sem

namespace Cert.InterReferenceIdeal.InterRef
open Cert.InterReferenceIdeal Cert.InterReferenceIdeal.Gen Cert.InterReferenceIdeal.Value Cert.InterSpec

/-- One chunk's rows of sequence `s`. -/
def rowsT (T : FVec Ideal S1x16x8x64x128 .f32) (s : Fin 16) : Rows := fun h i k => T (ix5 0 s h i k)

/-- The new values of a trip, over the trip's slices. -/
def vnT (TU TW : FVec Ideal S1x16x8x64x128 .f32) (S : FVec Ideal S16x8x128x128 .f32) : FVec Ideal S16x8x64x128 .f32 :=
  subf (shapeCast S16x8x64x128 TU shapeCasts_S1x16x8x64x128_S16x8x64x128)
    (Host.dotGeneral dot_S16x8x64x128_S16x8x128x128_S16x8x64x128_3_2_2_3_01_01 none (shapeCast S16x8x64x128 TW shapeCasts_S1x16x8x64x128_S16x8x64x128 : FVec Ideal S16x8x64x128 .f32) S)

theorem vnT_at (TU TW : FVec Ideal S1x16x8x64x128 .f32) (S : FVec Ideal S16x8x128x128 .f32) (s : Fin 16) (h : Fin 8) (i : Fin 64) (v : Fin 128) :
    vnT TU TW S (ix4 s h i v) = vn (rowsT TU s) (rowsT TW s) (fun h k v => S (ix4 s h k v)) h i v := by
  unfold vnT vn rowsT
  pointwise []

theorem next_tile (TU TW TK : FVec Ideal S1x16x8x64x128 .f32) (TE : FVec Ideal S1x16x8x1x128 .f32) (S : FVec Ideal S16x8x128x128 .f32) (s : Fin 16) (h : Fin 8) (k v : Fin 128) :
    (addf (mulf S (broadcastInDim S16x8x128x128 ![0, 1, 2, 3] bcast_S16x8x1x128_S16x8x128x128_0_1_2_3 (shapeCast S16x8x1x128 TE shapeCasts_S1x16x8x1x128_S16x8x1x128 : FVec Ideal S16x8x1x128 .f32)))
      (Host.dotGeneral dot_S16x8x64x128_S16x8x64x128_S16x8x128x128_2_2_3_3_01_01 none (shapeCast S16x8x64x128 TK shapeCasts_S1x16x8x64x128_S16x8x64x128 : FVec Ideal S16x8x64x128 .f32) (vnT TU TW S)) : FVec Ideal S16x8x128x128 .f32) (ix4 s h k v)
    = next (rowsT TU s) (rowsT TW s) (rowsT TK s) (fun h v => TE (ix5 0 s h 0 v)) (fun h k v => S (ix4 s h k v)) h k v := by
  unfold next
  simp only [← vnT_at]
  unfold rowsT
  pointwise []

theorem pair_at (T : FVec Ideal S16x8x64x128 .f32) (s : Fin 16) (h : Fin 8) (r v : Fin 128) :
    (shapeCast S16x4x128x128 T shapeCasts_S16x8x64x128_S16x4x128x128 : FVec Ideal S16x4x128x128 .f32) (ix4 s ⟨h.val / 2, by have := h.isLt; omega⟩ r v) = pairRow (fun h i v => T (ix4 s h i v)) h r v := by
  have hr := r.isLt
  have hh := h.isLt
  unfold pairRow
  pointwise []
  by_cases h1 : r.val < 64
  · rw [dif_pos h1]
    exact congrArg₂ (fun a b => T (ix4 s a b v)) (Fin.ext (by show h.val / 2 * 2 + r.val / 64 = h.val / 2 * 2; omega)) (Fin.ext (by show r.val % 64 = r.val; omega))
  · rw [dif_neg h1]
    exact congrArg₂ (fun a b => T (ix4 s a b v)) (Fin.ext (by show h.val / 2 * 2 + r.val / 64 = h.val / 2 * 2 + 1; omega)) (Fin.ext (by show r.val % 64 = r.val - 64; omega))

theorem back_at (T : FVec Ideal S16x4x128x128 .f32) (s : Fin 16) (h : Fin 8) (i : Fin 64) (v : Fin 128) :
    (shapeCast S16x8x64x128 T shapeCasts_S16x4x128x128_S16x8x64x128 : FVec Ideal S16x8x64x128 .f32) (ix4 s h i v) = T (ix4 s ⟨h.val / 2, by have := h.isLt; omega⟩ ⟨h.val % 2 * 64 + i.val, by omega⟩ v) := by
  pointwise []

theorem rd_tile (TU TW TQ : FVec Ideal S1x16x8x64x128 .f32) (TA : FVec Ideal S1x16x4x128x128 .f32) (S : FVec Ideal S16x8x128x128 .f32) (s : Fin 16) (h : Fin 8) (i : Fin 64) (v : Fin 128) :
    (addf (Host.dotGeneral dot_S16x8x64x128_S16x8x128x128_S16x8x64x128_3_2_2_3_01_01 none (shapeCast S16x8x64x128 TQ shapeCasts_S1x16x8x64x128_S16x8x64x128 : FVec Ideal S16x8x64x128 .f32) S)
      (shapeCast S16x8x64x128 (Host.dotGeneral dot_S16x4x128x128_S16x4x128x128_S16x4x128x128_3_2_2_3_01_01 none (shapeCast S16x4x128x128 TA shapeCasts_S1x16x4x128x128_S16x4x128x128 : FVec Ideal S16x4x128x128 .f32)
        (shapeCast S16x4x128x128 (vnT TU TW S) shapeCasts_S16x8x64x128_S16x4x128x128 : FVec Ideal S16x4x128x128 .f32)) shapeCasts_S16x4x128x128_S16x8x64x128) : FVec Ideal S16x8x64x128 .f32) (ix4 s h i v)
    = rd (rowsT TU s) (rowsT TW s) (rowsT TQ s) (fun h i r => TA (ix5 0 s ⟨h.val / 2, by have := h.isLt; omega⟩ ⟨h.val % 2 * 64 + i.val, by omega⟩ r)) (fun h k v => S (ix4 s h k v)) h i v := by
  unfold rd
  have e : ∀ r, pairRow (vn (rowsT TU s) (rowsT TW s) (fun h k v => S (ix4 s h k v))) h r v
      = (shapeCast S16x4x128x128 (vnT TU TW S) shapeCasts_S16x8x64x128_S16x4x128x128 : FVec Ideal S16x4x128x128 .f32) (ix4 s ⟨h.val / 2, by have := h.isLt; omega⟩ r v) := fun r => by
    rw [pair_at]
    exact congrArg (fun f => pairRow f h r v) (funext fun h => funext fun i => funext fun v => (vnT_at TU TW S s h i v).symm)
  simp only [e]
  generalize (shapeCast S16x4x128x128 (vnT TU TW S) shapeCasts_S16x8x64x128_S16x4x128x128 : FVec Ideal S16x4x128x128 .f32) = N
  rw [addf_apply, back_at]
  unfold rowsT
  pointwise []

/-! ## A trip -/

variable (V : Valuation τ sig (Elt Ideal)) (n : Fin 32)

/-- Where a trip's slices start. -/
def start : Fin 5 → Int := fun k =>
  (((![V (Proc.devRef .tc main_v18_6), constantI S_ 32 0#32, constantI S_ 32 0#32, constantI S_ 32 0#32, constantI S_ 32 0#32] : Fin 5 → (⟨S_, .i32⟩ : BufTy).Contents (Elt Ideal))) k (Shape.Idx.first h_S_)).toInt

theorem start_eq (hc : V (Proc.devRef .tc main_v18_6) = fun _ => BitVec.ofNat 32 n.val) (a : Fin 5) : start V a = ((![n.val, 0, 0, 0, 0] : Fin 5 → Nat) a : Int) := by
  have hn := n.isLt
  unfold start
  rw [hc]
  fin_cases a
  · exact toInt_ofNat_of_lt (by show n.val < 2 ^ 31; omega)
  all_goals rfl

theorem fitsR : S32x16x8x64x128.Slices ![n.val, 0, 0, 0, 0] S1x16x8x64x128 := ⟨rfl, fun a => by
  have hn := n.isLt
  fin_cases a
  · show n.val + 1 ≤ 32; omega
  all_goals simp⟩

theorem fitsA : S32x16x4x128x128.Slices ![n.val, 0, 0, 0, 0] S1x16x4x128x128 := ⟨rfl, fun a => by
  have hn := n.isLt
  fin_cases a
  · show n.val + 1 ≤ 32; omega
  all_goals simp⟩

theorem fitsE : S32x16x8x1x128.Slices ![n.val, 0, 0, 0, 0] S1x16x8x1x128 := ⟨rfl, fun a => by
  have hn := n.isLt
  fin_cases a
  · show n.val + 1 ≤ 32; omega
  all_goals simp⟩

theorem dsR (hc : V (Proc.devRef .tc main_v18_6) = fun _ => BitVec.ofNat 32 n.val) (X : FVec Ideal S32x16x8x64x128 .f32) (s : Fin 16) (h : Fin 8) (i : Fin 64) (k : Fin 128) :
    (Host.dynamicSlice S1x16x8x64x128 X (start V) sliceFits_S32x16x8x64x128_S1x16x8x64x128 : FVec Ideal S1x16x8x64x128 .f32) (ix5 0 s h i k) = X (ix5 n s h i k) := by
  rw [Host.dynamicSlice_eq_extractStridedSlice _ X (start V) _ _ (fitsR n) (start_eq V n hc)]
  pointwise []

theorem dsA (hc : V (Proc.devRef .tc main_v18_6) = fun _ => BitVec.ofNat 32 n.val) (X : FVec Ideal S32x16x4x128x128 .f32) (s : Fin 16) (p : Fin 4) (i : Fin 128) (k : Fin 128) :
    (Host.dynamicSlice S1x16x4x128x128 X (start V) sliceFits_S32x16x4x128x128_S1x16x4x128x128 : FVec Ideal S1x16x4x128x128 .f32) (ix5 0 s p i k) = X (ix5 n s p i k) := by
  rw [Host.dynamicSlice_eq_extractStridedSlice _ X (start V) _ _ (fitsA n) (start_eq V n hc)]
  pointwise []

theorem dsE (hc : V (Proc.devRef .tc main_v18_6) = fun _ => BitVec.ofNat 32 n.val) (X : FVec Ideal S32x16x8x1x128 .f32) (s : Fin 16) (h : Fin 8) (k : Fin 128) :
    (Host.dynamicSlice S1x16x8x1x128 X (start V) sliceFits_S32x16x8x1x128_S1x16x8x1x128 : FVec Ideal S1x16x8x1x128 .f32) (ix5 0 s h 0 k) = X (ix5 n s h 0 k) := by
  rw [Host.dynamicSlice_eq_extractStridedSlice _ X (start V) _ _ (fitsE n) (start_eq V n hc)]
  pointwise []

theorem lift_at (X : FVec Ideal S16x8x64x128 .f32) (s : Fin 16) (h : Fin 8) (i : Fin 64) (k : Fin 128) :
    (broadcastInDim S1x16x8x64x128 ![1, 2, 3, 4] bcast_S16x8x64x128_S1x16x8x64x128_1_2_3_4 X : FVec Ideal S1x16x8x64x128 .f32) (ix5 0 s h i k) = X (ix4 s h i k) := by
  pointwise []

theorem dus (hc : V (Proc.devRef .tc main_v18_6) = fun _ => BitVec.ofNat 32 n.val) (X : FVec Ideal S32x16x8x64x128 .f32) (Y : FVec Ideal S1x16x8x64x128 .f32) (c : Fin 32) (s : Fin 16) (h : Fin 8) (i : Fin 64) (k : Fin 128) :
    (Host.dynamicUpdateSlice X Y (start V) updateFits_S32x16x8x64x128_S1x16x8x64x128 : FVec Ideal S32x16x8x64x128 .f32) (ix5 c s h i k) = if c = n then Y (ix5 0 s h i k) else X (ix5 c s h i k) := by
  have hn := n.isLt
  rw [Host.dynamicUpdateSlice_eq_updateSlice X Y (start V) _ ![n.val, 0, 0, 0, 0] (fun a => by
    rw [start_eq V n hc]
    fin_cases a
    · show (min (max ((n.val : Nat) : Int) 0) ((32 - 1 : Nat) : Int)).toNat = n.val; omega
    all_goals rfl) (fitsR n)]
  pointwise []
  by_cases e : c = n
  · subst e
    rw [if_pos rfl, dif_pos ⟨le_refl _, Nat.lt_succ_self _⟩]
    exact congrArg (fun a => Y (ix5 a s h i k)) (Fin.ext (Nat.sub_self _))
  · have e' : c.val ≠ n.val := fun q => e (Fin.ext q)
    rw [if_neg e, dif_neg (by omega)]

/-- A chunk's rows of sequence `s`, in the arrays a trip slices. -/
def rowsV (X : FVec Ideal S32x16x8x64x128 .f32) (c : Fin 32) (s : Fin 16) : Rows := fun h i k => X (ix5 c s h i k)
def lanesV (X : FVec Ideal S32x16x8x1x128 .f32) (c : Fin 32) (s : Fin 16) : Fin 8 → Fin 128 → EReal := fun h v => X (ix5 c s h 0 v)
def pairsV (X : FVec Ideal S32x16x4x128x128 .f32) (c : Fin 32) (s : Fin 16) : Rows := fun h i r => X (ix5 c s ⟨h.val / 2, by have := h.isLt; omega⟩ ⟨h.val % 2 * 64 + i.val, by omega⟩ r)
def stateV (X : FVec Ideal S16x8x128x128 .f32) (s : Fin 16) : State := fun h k v => X (ix4 s h k v)

theorem step7 (hc : V (Proc.devRef .tc main_v18_6) = fun _ => BitVec.ofNat 32 n.val) (s : Fin 16) (h : Fin 8) (k v : Fin 128) :
    (show FVec Ideal S16x8x128x128 .f32 from step_main_v18_7 V) (ix4 s h k v)
      = next (rowsV (V (Proc.devRef .tc main_v18_0)) n s) (rowsV (V (Proc.devRef .tc main_v18_1)) n s) (rowsV (V (Proc.devRef .tc main_v18_4)) n s) (lanesV (V (Proc.devRef .tc main_v18_5)) n s)
        (stateV (V (Proc.devRef .tc main_v18_7)) s) h k v := by
  refine (next_tile (Host.dynamicSlice S1x16x8x64x128 (V (Proc.devRef .tc main_v18_0)) (start V) sliceFits_S32x16x8x64x128_S1x16x8x64x128)
    (Host.dynamicSlice S1x16x8x64x128 (V (Proc.devRef .tc main_v18_1)) (start V) sliceFits_S32x16x8x64x128_S1x16x8x64x128)
    (Host.dynamicSlice S1x16x8x64x128 (V (Proc.devRef .tc main_v18_4)) (start V) sliceFits_S32x16x8x64x128_S1x16x8x64x128)
    (Host.dynamicSlice S1x16x8x1x128 (V (Proc.devRef .tc main_v18_5)) (start V) sliceFits_S32x16x8x1x128_S1x16x8x1x128) (V (Proc.devRef .tc main_v18_7)) s h k v).trans ?_
  unfold rowsT
  simp only [dsR V n hc, dsE V n hc]
  rfl

theorem step8 (hc : V (Proc.devRef .tc main_v18_6) = fun _ => BitVec.ofNat 32 n.val) (c : Fin 32) (s : Fin 16) (h : Fin 8) (i : Fin 64) (v : Fin 128) :
    (show FVec Ideal S32x16x8x64x128 .f32 from step_main_v18_8 V) (ix5 c s h i v) = if c = n then
      rd (rowsV (V (Proc.devRef .tc main_v18_0)) n s) (rowsV (V (Proc.devRef .tc main_v18_1)) n s) (rowsV (V (Proc.devRef .tc main_v18_3)) n s) (pairsV (V (Proc.devRef .tc main_v18_2)) n s)
        (stateV (V (Proc.devRef .tc main_v18_7)) s) h i v
      else (show FVec Ideal S32x16x8x64x128 .f32 from V (Proc.devRef .tc main_v18_8)) (ix5 c s h i v) := by
  refine (dus V n hc (V (Proc.devRef .tc main_v18_8)) _ c s h i v).trans ?_
  refine if_congr Iff.rfl ?_ rfl
  rw [lift_at]
  refine (rd_tile (Host.dynamicSlice S1x16x8x64x128 (V (Proc.devRef .tc main_v18_0)) (start V) sliceFits_S32x16x8x64x128_S1x16x8x64x128)
    (Host.dynamicSlice S1x16x8x64x128 (V (Proc.devRef .tc main_v18_1)) (start V) sliceFits_S32x16x8x64x128_S1x16x8x64x128)
    (Host.dynamicSlice S1x16x8x64x128 (V (Proc.devRef .tc main_v18_3)) (start V) sliceFits_S32x16x8x64x128_S1x16x8x64x128)
    (Host.dynamicSlice S1x16x4x128x128 (V (Proc.devRef .tc main_v18_2)) (start V) sliceFits_S32x16x4x128x128_S1x16x4x128x128) (V (Proc.devRef .tc main_v18_7)) s h i v).trans ?_
  unfold rowsT
  simp only [dsR V n hc, dsA V n hc]
  rfl

end Cert.InterReferenceIdeal.InterRef
-- ==== Proof.InterRefEnd.lean ====
/- The reference's loop unrolled: what the carried arrays hold before each trip, and the two results at an index. -/
module

public import proofs.«01_k».proof.Proof.InterRef
public import proofs.«01_k».proof.Proof.InterArgs

@[expose] public section
set_option maxRecDepth 16384
noncomputable section
open Idealize.ShloMosaic Idealize.ShloMosaic.TcCoe Idealize.SL.Sem
open Idealize.ShloMosaic.StableHlo

namespace Cert.InterReferenceIdeal.InterRef
open Cert.InterReferenceIdeal Cert.InterReferenceIdeal.Gen Cert.InterReferenceIdeal.Value Cert.InterSpec

/-! ## The arrays the trips slice, over the chunks' arrays -/

/-- The chunks' rows, a chunk's of every sequence at the front. -/
def front (X : FVec Ideal S512x4x128x128 .f32) : FVec Ideal S32x16x8x64x128 .f32 :=
  transpose S32x16x8x64x128 [1, 0, 2, 3, 4] (shapeCast S16x32x8x64x128 X shapeCasts_S512x4x128x128_S16x32x8x64x128) transposes_S16x32x8x64x128_S32x16x8x64x128_1_0_2_3_4

theorem front_at (X : FVec Ideal S512x4x128x128 .f32) (n : Fin 32) (s : Fin 16) : rowsV (front X) n s = rowsA (fun c p i j => X (ix4 c p i j)) s n.val := by
  funext h i k
  have hn := n.isLt
  have hi := i.isLt
  unfold rowsV rowsA front chunkOf blkOf rowOf
  pointwise []
  refine congrArg (fun a => X (ix4 a _ _ k)) (Fin.ext ?_)
  show s.val * 32 + n.val = s.val * 32 + n.val % 32
  omega

def frontA (X : FVec Ideal S512x4x128x128 .f32) : FVec Ideal S32x16x4x128x128 .f32 :=
  transpose S32x16x4x128x128 [1, 0, 2, 3, 4] (shapeCast S16x32x4x128x128 X shapeCasts_S512x4x128x128_S16x32x4x128x128) transposes_S16x32x4x128x128_S32x16x4x128x128_1_0_2_3_4

theorem frontA_at (X : FVec Ideal S512x4x128x128 .f32) (n : Fin 32) (s : Fin 16) : pairsV (frontA X) n s = rowsA (fun c p i j => X (ix4 c p i j)) s n.val := by
  funext h i k
  have hn := n.isLt
  have hi := i.isLt
  unfold pairsV rowsA frontA chunkOf blkOf rowOf
  pointwise []
  refine congrArg (fun a => X (ix4 a _ _ k)) (Fin.ext ?_)
  show s.val * 32 + n.val = s.val * 32 + n.val % 32
  omega

def frontE (X : FVec Ideal S512x8x128 .f32) : FVec Ideal S32x16x8x1x128 .f32 :=
  transpose S32x16x8x1x128 [1, 0, 2, 3, 4] (shapeCast S16x32x8x1x128 X shapeCasts_S512x8x128_S16x32x8x1x128) transposes_S16x32x8x1x128_S32x16x8x1x128_1_0_2_3_4

theorem frontE_at (X : FVec Ideal S512x8x128 .f32) (n : Fin 32) (s : Fin 16) : lanesV (frontE X) n s = lanesA (fun c h j => X (ix3 c h j)) s n.val := by
  funext h k
  have hn := n.isLt
  unfold lanesV lanesA frontE chunkOf
  pointwise []
  refine congrArg (fun a => X (ix3 a h k)) (Fin.ext ?_)
  show s.val * 32 + n.val = s.val * 32 + n.val % 32
  omega

/-! ## The loop's entry -/

variable (m : (ℓ : Loc nD τ sig) → Buf (Elt Ideal) ℓ) (c : Dev nD)

/-- The argument arrays as functions of plain indices. -/
def chunks : Chunks where
  u n p i j := (show FVec Ideal S512x4x128x128 .f32 from m ((c.tc : Thread nD τ).loc main_arg0)) (ix4 n p i j)
  w n p i j := (show FVec Ideal S512x4x128x128 .bf16 from m ((c.tc : Thread nD τ).loc main_arg1)) (ix4 n p i j)
  a n p i j := (show FVec Ideal S512x4x128x128 .bf16 from m ((c.tc : Thread nD τ).loc main_arg2)) (ix4 n p i j)
  q n p i j := (show FVec Ideal S512x4x128x128 .bf16 from m ((c.tc : Thread nD τ).loc main_arg3)) (ix4 n p i j)
  k n p i j := (show FVec Ideal S512x4x128x128 .bf16 from m ((c.tc : Thread nD τ).loc main_arg4)) (ix4 n p i j)
  e n h j := (show FVec Ideal S512x8x128 .f32 from m ((c.tc : Thread nD τ).loc main_arg5)) (ix3 n h j)
def act (r : Fin 32768) (n : Fin 12288) : EReal := (show FVec Ideal S32768x12288 .f32 from m ((c.tc : Thread nD τ).loc main_arg6)) (ix2 r n)
def wgt (v : Fin 128) : EReal := (show FVec Ideal S128 .f32 from m ((c.tc : Thread nD τ).loc main_arg7)) (ix1 v)

/-- The contents before trip `k`. -/
def before (k : Nat) : Valuation τ sig (Elt Ideal) := STEP^[k] (entryContents preI m c)

theorem before_succ (k : Nat) : before m c (k + 1) = STEP (before m c k) := Function.iterate_succ_apply' _ _ _

set_option maxHeartbeats 1000000 in
theorem entry0 : entryContents preI m c (Proc.devRef .tc main_v18_0) = front (show FVec Ideal S512x4x128x128 .f32 from m ((c.tc : Thread nD τ).loc main_arg0)) := by
  simp only [entryContents, afterL_cons, afterL_nil]
  after_reads_simp
  rfl

set_option maxHeartbeats 1000000 in
theorem entry1 : entryContents preI m c (Proc.devRef .tc main_v18_1) = front (extf .f32 (show FVec Ideal S512x4x128x128 .bf16 from m ((c.tc : Thread nD τ).loc main_arg1)) bitsLt_bf16_f32) := by
  simp only [entryContents, afterL_cons, afterL_nil]
  after_reads_simp
  rfl

set_option maxHeartbeats 1000000 in
theorem entry2 : entryContents preI m c (Proc.devRef .tc main_v18_2) = frontA (extf .f32 (show FVec Ideal S512x4x128x128 .bf16 from m ((c.tc : Thread nD τ).loc main_arg2)) bitsLt_bf16_f32) := by
  simp only [entryContents, afterL_cons, afterL_nil]
  after_reads_simp
  rfl

set_option maxHeartbeats 1000000 in
theorem entry3 : entryContents preI m c (Proc.devRef .tc main_v18_3) = front (extf .f32 (show FVec Ideal S512x4x128x128 .bf16 from m ((c.tc : Thread nD τ).loc main_arg3)) bitsLt_bf16_f32) := by
  simp only [entryContents, afterL_cons, afterL_nil]
  after_reads_simp
  rfl

set_option maxHeartbeats 1000000 in
theorem entry4 : entryContents preI m c (Proc.devRef .tc main_v18_4) = front (extf .f32 (show FVec Ideal S512x4x128x128 .bf16 from m ((c.tc : Thread nD τ).loc main_arg4)) bitsLt_bf16_f32) := by
  simp only [entryContents, afterL_cons, afterL_nil]
  after_reads_simp
  rfl

set_option maxHeartbeats 1000000 in
theorem entry5 : entryContents preI m c (Proc.devRef .tc main_v18_5) = frontE (show FVec Ideal S512x8x128 .f32 from m ((c.tc : Thread nD τ).loc main_arg5)) := by
  simp only [entryContents, afterL_cons, afterL_nil]
  after_reads_simp
  rfl

set_option maxHeartbeats 1000000 in
theorem entry7 : entryContents preI m c (Proc.devRef .tc main_v18_7) = (broadcastInDim S16x8x128x128 ![] bcast_S_S16x8x128x128 (constant S_ .f32 0x00000000#32) : FVec Ideal S16x8x128x128 .f32) := by
  simp only [entryContents, afterL_cons, afterL_nil]
  after_reads_simp
  rfl

theorem keep0 : ∀ k, before m c k (Proc.devRef .tc main_v18_0) = front (show FVec Ideal S512x4x128x128 .f32 from m ((c.tc : Thread nD τ).loc main_arg0))
  | 0 => entry0 m c
  | k + 1 => by rw [before_succ, STEP_main_v18_0]; exact keep0 k

theorem keep1 : ∀ k, before m c k (Proc.devRef .tc main_v18_1) = front (extf .f32 (show FVec Ideal S512x4x128x128 .bf16 from m ((c.tc : Thread nD τ).loc main_arg1)) bitsLt_bf16_f32)
  | 0 => entry1 m c
  | k + 1 => by rw [before_succ, STEP_main_v18_1]; exact keep1 k

theorem keep2 : ∀ k, before m c k (Proc.devRef .tc main_v18_2) = frontA (extf .f32 (show FVec Ideal S512x4x128x128 .bf16 from m ((c.tc : Thread nD τ).loc main_arg2)) bitsLt_bf16_f32)
  | 0 => entry2 m c
  | k + 1 => by rw [before_succ, STEP_main_v18_2]; exact keep2 k

theorem keep3 : ∀ k, before m c k (Proc.devRef .tc main_v18_3) = front (extf .f32 (show FVec Ideal S512x4x128x128 .bf16 from m ((c.tc : Thread nD τ).loc main_arg3)) bitsLt_bf16_f32)
  | 0 => entry3 m c
  | k + 1 => by rw [before_succ, STEP_main_v18_3]; exact keep3 k

theorem keep4 : ∀ k, before m c k (Proc.devRef .tc main_v18_4) = front (extf .f32 (show FVec Ideal S512x4x128x128 .bf16 from m ((c.tc : Thread nD τ).loc main_arg4)) bitsLt_bf16_f32)
  | 0 => entry4 m c
  | k + 1 => by rw [before_succ, STEP_main_v18_4]; exact keep4 k

theorem keep5 : ∀ k, before m c k (Proc.devRef .tc main_v18_5) = frontE (show FVec Ideal S512x8x128 .f32 from m ((c.tc : Thread nD τ).loc main_arg5))
  | 0 => entry5 m c
  | k + 1 => by rw [before_succ, STEP_main_v18_5]; exact keep5 k

theorem at_u (k : Nat) (n : Fin 32) (s : Fin 16) : rowsV (before m c k (Proc.devRef .tc main_v18_0)) n s = rowsA (chunks m c).u s n.val := by
  rw [keep0]
  exact front_at _ n s

theorem at_w (k : Nat) (n : Fin 32) (s : Fin 16) : rowsV (before m c k (Proc.devRef .tc main_v18_1)) n s = rowsA (chunks m c).w s n.val := by
  rw [keep1]
  exact front_at _ n s

theorem at_a (k : Nat) (n : Fin 32) (s : Fin 16) : pairsV (before m c k (Proc.devRef .tc main_v18_2)) n s = rowsA (chunks m c).a s n.val := by
  rw [keep2]
  exact frontA_at _ n s

theorem at_q (k : Nat) (n : Fin 32) (s : Fin 16) : rowsV (before m c k (Proc.devRef .tc main_v18_3)) n s = rowsA (chunks m c).q s n.val := by
  rw [keep3]
  exact front_at _ n s

theorem at_k (k : Nat) (n : Fin 32) (s : Fin 16) : rowsV (before m c k (Proc.devRef .tc main_v18_4)) n s = rowsA (chunks m c).k s n.val := by
  rw [keep4]
  exact front_at _ n s

theorem at_e (k : Nat) (n : Fin 32) (s : Fin 16) : lanesV (before m c k (Proc.devRef .tc main_v18_5)) n s = lanesA (chunks m c).e s n.val := by
  rw [keep5]
  exact frontE_at _ n s

/-- The counter before trip `k`. -/
theorem counter : ∀ k, before m c k (Proc.devRef .tc main_v18_6) = fun _ => BitVec.ofNat 32 k
  | 0 => ctr_entry m c
  | k + 1 => by
    rw [before_succ, STEP_main_v18_6]
    unfold step_main_v18_6
    rw [counter k]
    funext i
    exact (BitVec.ofNat_add (n := 32) k 1).symm

/-- The states before trip `k`. -/
theorem state_at (s : Fin 16) : ∀ k, k ≤ 32 → stateV (before m c k (Proc.devRef .tc main_v18_7)) s = stateA (chunks m c) s k
  | 0, _ => by
    rw [show before m c 0 (Proc.devRef .tc main_v18_7) = _ from entry7 m c]
    funext h k v
    unfold stateV stateA
    pointwise []
    try exact Ideal.ofBits_zero_f32
  | k + 1, hk => by
    funext h i v
    rw [before_succ, STEP_main_v18_7]
    refine (step7 (before m c k) ⟨k, by omega⟩ (counter m c k) s h i v).trans ?_
    rw [at_u, at_w, at_k, at_e, state_at s k (by omega)]
    rfl

/-- The rows of the chunks before trip `k` are in place. -/
theorem read_at (s : Fin 16) (h : Fin 8) (i : Fin 64) (v : Fin 128) : ∀ k, k ≤ 32 → ∀ n : Fin 32, n.val < k →
    (show FVec Ideal S32x16x8x64x128 .f32 from before m c k (Proc.devRef .tc main_v18_8)) (ix5 n s h i v) = readA (chunks m c) s n.val h i v
  | 0, _, n, hn => absurd hn (Nat.not_lt_zero _)
  | k + 1, hk, n, hn => by
    rw [before_succ, STEP_main_v18_8]
    refine (step8 (before m c k) ⟨k, by omega⟩ (counter m c k) n s h i v).trans ?_
    by_cases e : n = ⟨k, by omega⟩
    · rw [if_pos e, at_u, at_w, at_q, at_a, state_at m c s k (by omega), e]
      rfl
    · rw [if_neg e]
      exact read_at s h i v k (by omega) n (by have : n.val ≠ k := fun q => e (Fin.ext q); omega)

/-! ## The results -/

section
variable (V : Valuation τ sig (Elt Ideal)) (a b : Fin 4)

set_option maxHeartbeats 4000000 in
theorem v37_at (t : Fin 2048) (n : Fin 1024) : (show FVec Ideal S4x4x2048x1024 .f32 from out_main_v37 V) (ix4 a b t n)
    = gated (fun y => (show FVec Ideal S32x16x8x64x128 .f32 from V (Proc.devRef .tc main_v18_8)) (ix5 ⟨t.val / 64, by have := t.isLt; omega⟩ (seqOf a b) (headOf n) (placeOf t) y))
      ((show FVec Ideal S128 .f32 from V (Proc.devRef .tc main_arg7)) (ix1 (laneOf n))) ((show FVec Ideal S32768x12288 .f32 from V (Proc.devRef .tc main_arg6)) (ix2 (actRow a b t) (actCol n))) (laneOf n) := by
  have ha := a.isLt
  have hb := b.isLt
  have ht := t.isLt
  have hn := n.isLt
  unfold out_main_v37 gated seqOf headOf placeOf laneOf actRow actCol
  generalize V (Proc.devRef .tc main_v18_8) = O
  generalize V (Proc.devRef .tc main_arg7) = G
  generalize V (Proc.devRef .tc main_arg6) = Z
  have e : (⟨(a.val * 4 + b.val) * 2048 + t.val, by omega⟩ : Fin 32768) = ⟨a.val * 8192 + b.val * 2048 + t.val, by omega⟩ := Fin.ext (by show (a.val * 4 + b.val) * 2048 + t.val = a.val * 8192 + b.val * 2048 + t.val; omega)
  rw [e]
  pointwise []
  rfl

theorem v38_at (h : Fin 8) (i j : Fin 128) : (show FVec Ideal S4x4x8x128x128 .f32 from out_main_v38 V) (ix5 a b h i j)
    = stateV (V (Proc.devRef .tc main_v18_7)) (seqOf a b) h i j := by
  unfold out_main_v38 stateV seqOf
  generalize V (Proc.devRef .tc main_v18_7) = S
  pointwise []
end

theorem res37 (a b : Fin 4) (t : Fin 2048) (n : Fin 1024) : (show FVec Ideal S4x4x2048x1024 .f32 from out_main_v37 (before m c 32)) (ix4 a b t n)
    = outAt (chunks m c) (act m c) (wgt m c) a b t n := by
  refine (v37_at (before m c 32) a b t n).trans ?_
  rw [show before m c 32 (Proc.devRef .tc main_arg7) = _ from iter_main_arg7 m c 32, show before m c 32 (Proc.devRef .tc main_arg6) = _ from iter_main_arg6 m c 32]
  unfold outAt
  refine congrArg (fun f => gated f _ _ _) (funext fun y => ?_)
  exact read_at m c (seqOf a b) (headOf n) (placeOf t) y 32 (le_refl _) ⟨t.val / 64, by have := t.isLt; omega⟩ (by show t.val / 64 < 32; have := t.isLt; omega)

theorem res38 (a b : Fin 4) (h : Fin 8) (i j : Fin 128) : (show FVec Ideal S4x4x8x128x128 .f32 from out_main_v38 (before m c 32)) (ix5 a b h i j)
    = stateA (chunks m c) (seqOf a b) 32 h i j := by
  refine (v38_at (before m c 32) a b h i j).trans ?_
  rw [state_at m c (seqOf a b) 32 (le_refl _)]

end Cert.InterReferenceIdeal.InterRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ReferenceIdeal.Run
public import proofs.«01_k».proof.Proof.Gen.MergeStep
public import proofs.«01_k».proof.Proof.Gen.MergeStep.Frame
public import proofs.«01_k».proof.Proof.Gen.MergeStepIdeal
public import proofs.«01_k».proof.Proof.Gen.MergeStepIdeal.Frame
public import proofs.«01_k».proof.Proof.Gen.MergeStepIdeal.Value
public import proofs.«01_k».proof.Proof.Gen.MergeStepReferenceIdeal
public import proofs.«01_k».proof.Proof.Gen.MergeStepReferenceIdeal.Run
public import proofs.«01_k».proof.Proof.Gen.ProjStep
public import proofs.«01_k».proof.Proof.Gen.ProjStep.Skeleton
public import proofs.«01_k».proof.Proof.Gen.ProjStep.Launch
public import proofs.«01_k».proof.Proof.Gen.ProjStep.Points
public import proofs.«01_k».proof.Proof.Gen.ProjStep.Frame
public import proofs.«01_k».proof.Proof.Gen.ProjStepIdeal
public import proofs.«01_k».proof.Proof.Gen.ProjStepIdeal.Skeleton
public import proofs.«01_k».proof.Proof.Gen.ProjStepIdeal.Launch
public import proofs.«01_k».proof.Proof.Gen.ProjStepIdeal.Points
public import proofs.«01_k».proof.Proof.Gen.ProjStepIdeal.Frame
public import proofs.«01_k».proof.Proof.Gen.ProjStepReferenceIdeal
public import proofs.«01_k».proof.Proof.Gen.ProjStepReferenceIdeal.Run
public import proofs.«01_k».proof.Proof.Gen.Inter
public import proofs.«01_k».proof.Proof.Gen.Inter.Skeleton
public import proofs.«01_k».proof.Proof.Gen.Inter.Launch
public import proofs.«01_k».proof.Proof.Gen.Inter.Points
public import proofs.«01_k».proof.Proof.Gen.Inter.Frame
public import proofs.«01_k».proof.Proof.Gen.InterIdeal
public import proofs.«01_k».proof.Proof.Gen.InterIdeal.Skeleton
public import proofs.«01_k».proof.Proof.Gen.InterIdeal.Launch
public import proofs.«01_k».proof.Proof.Gen.InterIdeal.Points
public import proofs.«01_k».proof.Proof.Gen.InterIdeal.Frame
public import proofs.«01_k».proof.Proof.Gen.InterIdeal.Value
public import proofs.«01_k».proof.Proof.Gen.InterReferenceIdeal
public import proofs.«01_k».proof.Proof.Gen.InterReferenceIdeal.Run
public import proofs.«01_k».proof.Proof.RecFinal
public import proofs.«01_k».proof.Proof.RecRef
public import proofs.«01_k».proof.Proof.RecPre
public import proofs.«01_k».proof.Proof.MergeRef
public import proofs.«01_k».proof.Proof.ProjFinal
public import proofs.«01_k».proof.Proof.ProjBits
public import proofs.«01_k».proof.Proof.ProjRef
public import proofs.«01_k».proof.Proof.MergeStepRef
public import proofs.«01_k».proof.Proof.ProjStepFinal
public import proofs.«01_k».proof.Proof.ProjStepBits
public import proofs.«01_k».proof.Proof.ProjStepRef
public import proofs.«01_k».proof.Proof.InterFinal
public import proofs.«01_k».proof.Proof.InterRefEnd
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
open Cert.KernelIdeal.RecValue Cert.ReferenceIdeal.RecValue

variable (m : (ℓ : Loc Cert.KernelIdeal.nD Cert.KernelIdeal.τ Cert.KernelIdeal.sig) → Buf (Elt Ideal) ℓ) (c : Dev Cert.KernelIdeal.nD)

/-- The reference's state and output over the kernel's argument arrays. -/
def refState (b : Fin 32) (h : Fin 8) (i j : Fin 128) : EReal :=
  Rec.stateR (Rec.kA (aQ m c) (aC m c) (aW m c) b h) (Rec.vA (aQ m c) (aC m c) (aW m c) b h) (aS m c b h)
    (Rec.decay (aL m c h) (aA m c b h) (aD m c h)) (Ideal.logistic (aB m c b h)) i j
def refOut (b : Fin 32) (h : Fin 8) (l : Fin 128) : EReal :=
  Rec.gated (fun l => Rec.outR (Rec.qA (aQ m c) (aC m c) (aW m c) b h) (Rec.kA (aQ m c) (aC m c) (aW m c) b h) (Rec.vA (aQ m c) (aC m c) (aW m c) b h) (aS m c b h)
    (Rec.decay (aL m c h) (aA m c b h) (aD m c h)) (Ideal.logistic (aB m c b h)) l) (aN m c l) (aZ m c b h l) l

theorem act_re (hp : Cert.Pre_KernelIdeal_finite m) (b : Fin 32) (n : Fin 3072) : Rec.Re (Rec.actA (aQ m c) (aC m c) (aW m c) b n) := by
  obtain ⟨h0, h4, -, h6⟩ := pre_parts m hp c
  have hQ : ∀ b n, Rec.Re (aQ m c b n) := fun b n => h0 (ix3 b 0 n)
  have hC : ∀ b i n, Rec.Re (aC m c b i n) := fun b i n => h4 (ix3 b i n)
  have hW : ∀ i n, Rec.Re (aW m c i n) := fun i n => h6 (ix2 i n)
  exact Rec.Re.silu ((((hC _ _ _).mul (hW _ _)).add ((hC _ _ _).mul (hW _ _))).add ((hC _ _ _).mul (hW _ _)) |>.add ((hQ _ _).mul (hW _ _)))

theorem state_eq (hp : Cert.Pre_KernelIdeal_finite m) (b : Fin 32) (h : Fin 8) (i j : Fin 128) : G11 m c (ix4 b h i j) = refState m c b h i j :=
  Rec.state_eq (fun _ => Rec.Re.nrm (fun _ => act_re m c hp _ _) _) (fun _ => act_re m c hp _ _) (fun i j => (pre_parts m hp c).2.2.1 (ix4 b h i j))
    (Rec.Re.decay _ _ _) (Rec.Re.logistic _) i j

theorem out_eq (hp : Cert.Pre_KernelIdeal_finite m) (b : Fin 32) (h : Fin 8) (l : Fin 128) : G10 m c (ix3 b h l) = refOut m c b h l :=
  gated_congr l (fun l => Rec.out_eq (fun _ => (Rec.Re.nrm (fun _ => act_re m c hp _ _) _).mul Rec.scale_re) (fun _ => Rec.Re.nrm (fun _ => act_re m c hp _ _) _) (fun _ => act_re m c hp _ _)
    (fun i j => (pre_parts m hp c).2.2.1 (ix4 b h i j)) (Rec.Re.decay _ _ _) (Rec.Re.logistic _) l) rfl rfl
end

section
open Cert.KernelIdeal.RecValue Cert.ReferenceIdeal.RecValue Idealize.ShloMosaic.StableHlo

/-- The two results of the kernel are the two results of the reference, whenever the convolution's and the state's arrays are finite. -/
theorem alg : Cert.algebraic_KernelIdeal_ReferenceIdeal_pre_finite := by
  intro m g m' g' hpre hagree
  have hO : ∀ c, Cert.ReferenceIdeal.Value.val2 (launchContents m' c) (Proc.devRef .tc Cert.ReferenceIdeal.main_v103) = G10 m c := by
    intro c
    obtain ⟨e0, e1, e2, e3, e4, e5, e6, e7, e8, e9⟩ := hagree c
    refine funext fun y => ?_
    obtain ⟨b, h, l, rfl⟩ : ∃ (b : Fin 32) (h : Fin 8) (l : Fin 128), y = ix3 b h l := ⟨y 0, y 1, y 2, eq_ix3 y⟩
    refine (v103_at (launchContents m' c) b h l).trans (Eq.trans ?_ (out_eq m c hpre b h l).symm)
    unfold rQ rA rB rZ rC rS rW rL rD rN refOut aQ aA aB aZ aC aS aW aL aD aN
    simp only [launchContents_devRef, ← e0, ← e1, ← e2, ← e3, ← e4, ← e5, ← e6, ← e7, ← e8, ← e9]
  have hS : ∀ c, Cert.ReferenceIdeal.Value.val2 (launchContents m' c) (Proc.devRef .tc Cert.ReferenceIdeal.main_v86) = G11 m c := by
    intro c
    obtain ⟨e0, e1, e2, e3, e4, e5, e6, e7, e8, e9⟩ := hagree c
    refine funext fun y => ?_
    obtain ⟨b, h, i, j, rfl⟩ : ∃ (b : Fin 32) (h : Fin 8) (i j : Fin 128), y = ix4 b h i j := ⟨y 0, y 1, y 2, y 3, eq_ix4 y⟩
    refine (v86_at (launchContents m' c) b h i j).trans (Eq.trans ?_ (state_eq m c hpre b h i j).symm)
    unfold rQ rA rB rC rS rW rL rD refState aQ aA aB aC aS aW aL aD
    simp only [launchContents_devRef, ← e0, ← e1, ← e2, ← e3, ← e4, ← e5, ← e6, ← e7, ← e8, ← e9]
  refine ⟨fun c => G10 m c, fun c => G11 m c, ?_, ?_⟩
  · refine (θ_run _ _ _).mono (fun r h c => ⟨((h.1 c).1 10).trans (final10 m c), ((h.1 c).1 11).trans (final11 m c), h.2 c⟩)
      (θ_run_and (Cert.KernelIdeal.Gen.run_main m g) (Cert.KernelIdeal.Gen.unchanged m g))
  · exact (θ_run _ _ _).mono (fun r h c => ⟨(h c).1.trans ((Cert.ReferenceIdeal.Value.val2_main_v103 _).symm.trans (hO c)),
      (h c).2.1.trans ((Cert.ReferenceIdeal.Value.val2_main_v86 _).symm.trans (hS c)), (h c).2.2⟩) (Cert.ReferenceIdeal.Value.run m' g')
end

theorem frame_ref : Cert.quiescent_ReferenceIdeal := fun m ρ _ =>
  (θ_run _ _ _).mono (fun r h => ⟨fun c => (h c).2.2, Idealize.ShloMosaic.sem_eq_zero_of_no_sems (by decide) r.2⟩) (Cert.ReferenceIdeal.Value.run m ρ)

section
open Cert.MergeIdeal.MergeValue

/-- The merge call's result is its reference's, for any arguments. -/
theorem alg_merge : Cert.algebraic_MergeIdeal_MergeReferenceIdeal := by
  intro m g m' g' _ hagree
  refine ⟨fun c => G m c, ?_, ?_⟩
  · exact (θ_run _ _ _).mono (fun r h c => ⟨(h c).1.trans (final m c), (h c).2⟩) (Cert.MergeIdeal.Value.run_blocks m g)
  · refine (θ_run _ _ _).mono (fun r h c => ⟨(h c).1.trans ?_, (h c).2⟩) (Cert.MergeReferenceIdeal.Value.run m' g')
    obtain ⟨e0, e1, e2, e3, e4, e5, e6⟩ := hagree c
    rw [e0, e1, e2, e3, e4, e5, e6]
    refine funext fun y => ?_
    obtain ⟨i, l, rfl⟩ : ∃ (i : Fin 32768) (l : Fin 2048), y = ix2 i l := ⟨y 0, y 1, eq_ix2 y⟩
    exact Cert.MergeReferenceIdeal.MergeValue.refOut_at _ _ _ _ _ _ _ i l
end

theorem frame_merge_ref : Cert.quiescent_MergeReferenceIdeal := fun m ρ _ =>
  (θ_run _ _ _).mono (fun r h => ⟨fun c => (h c).2, Idealize.ShloMosaic.sem_eq_zero_of_no_sems (by decide) r.2⟩) (Cert.MergeReferenceIdeal.Value.run m ρ)

section
open Cert.ProjTile Cert.ProjRef

/-- The input projection's four results are its reference's, for any arguments. -/
theorem alg_proj : Cert.algebraic_ProjIdeal_ProjReferenceIdeal := by
  intro m g m' g' _ hagree
  refine ⟨fun c => G4 m c, fun c => GR m c 10240, fun c => GR m c 10752, fun c => GR m c 11264, ?_, ?_⟩
  · refine (θ_run _ _ _).mono (fun r h c => ⟨((h.1 c).1 4).trans (final4 m c), ((h.1 c).1 5).trans (final5 m c), ((h.1 c).1 6).trans (final6 m c),
      ((h.1 c).1 7).trans (final7 m c), h.2.1 c⟩) (θ_run_and (Cert.ProjFrame.run_main m g) (Cert.ProjFrame.frame_all m g))
  · have hrow : ∀ (c : Dev Cert.ProjReferenceIdeal.nD) (r : Fin 32768) (j : Fin 11816), raw (m' ((c.tc : Thread Cert.ProjReferenceIdeal.nD Cert.ProjReferenceIdeal.τ).loc Cert.ProjReferenceIdeal.main_arg0))
        (m' ((c.tc : Thread Cert.ProjReferenceIdeal.nD Cert.ProjReferenceIdeal.τ).loc Cert.ProjReferenceIdeal.main_arg1))
        (m' ((c.tc : Thread Cert.ProjReferenceIdeal.nD Cert.ProjReferenceIdeal.τ).loc Cert.ProjReferenceIdeal.main_arg2)) (ix2 r j)
        = ∑ k, Cert.ProjSpec.normRow (aX m c r) (aNw m c) k * aW m c k j := by
      intro c r j
      obtain ⟨e0, e1, e2, -, -, -⟩ := hagree c
      rw [e0, e1, e2]
      exact raw_at _ _ _ r j
    refine (θ_run _ _ _).mono (fun r h c => ⟨(h c).1.trans ?_, (h c).2.1.trans ?_, (h c).2.2.1.trans ?_, (h c).2.2.2.1.trans ?_, (h c).2.2.2.2⟩)
      (Cert.ProjReferenceIdeal.Value.run m' g')
    · obtain ⟨-, -, -, e3, e4, e5⟩ := hagree c
      rw [res79, e3, e4, e5]
      refine funext fun y => ?_
      obtain ⟨i, l, rfl⟩ : ∃ (i : Fin 32768) (l : Fin 12288), y = ix2 i l := ⟨y 0, y 1, eq_ix2 y⟩
      exact columns_at _ _ _ _ i _ _ _ (hrow c i) l
    · refine funext fun y => ?_
      obtain ⟨n, d, rfl⟩ : ∃ (n : Fin 131072) (d : Fin 128), y = ix2 n d := ⟨y 0, y 1, eq_ix2 y⟩
      exact cmpKv_at _ (m ((c : Thread Cert.ProjIdeal.nD Cert.ProjIdeal.τ).loc Cert.ProjIdeal.main_arg3)) (m ((c : Thread Cert.ProjIdeal.nD Cert.ProjIdeal.τ).loc Cert.ProjIdeal.main_arg4)) (m ((c : Thread Cert.ProjIdeal.nD Cert.ProjIdeal.τ).loc Cert.ProjIdeal.main_arg5)) _ _ _ _ (hrow c _) n d rfl
    · obtain ⟨-, -, -, -, e4, -⟩ := hagree c
      rw [res81, e4]
      refine funext fun y => ?_
      obtain ⟨n, d, rfl⟩ : ∃ (n : Fin 131072) (d : Fin 128), y = ix2 n d := ⟨y 0, y 1, eq_ix2 y⟩
      exact selKv_at _ (m ((c : Thread Cert.ProjIdeal.nD Cert.ProjIdeal.τ).loc Cert.ProjIdeal.main_arg3)) _ (m ((c : Thread Cert.ProjIdeal.nD Cert.ProjIdeal.τ).loc Cert.ProjIdeal.main_arg5)) _ _ _ _ (hrow c _) n d rfl
    · obtain ⟨-, -, -, -, -, e5⟩ := hagree c
      rw [res82, e5]
      refine funext fun y => ?_
      obtain ⟨n, d, rfl⟩ : ∃ (n : Fin 131072) (d : Fin 128), y = ix2 n d := ⟨y 0, y 1, eq_ix2 y⟩
      exact winKv_at _ (m ((c : Thread Cert.ProjIdeal.nD Cert.ProjIdeal.τ).loc Cert.ProjIdeal.main_arg3)) (m ((c : Thread Cert.ProjIdeal.nD Cert.ProjIdeal.τ).loc Cert.ProjIdeal.main_arg4)) _ _ _ _ _ (hrow c _) n d rfl
end

theorem frame_proj_ideal : Cert.quiescent_ProjIdeal := fun m ρ _ => Cert.ProjFrame.frame_all (F := Ideal) m ρ
theorem frame_proj_ref : Cert.quiescent_ProjReferenceIdeal := fun m ρ _ =>
  (θ_run _ _ _).mono (fun r h => ⟨fun c => (h c).2.2.2.2, Idealize.ShloMosaic.sem_eq_zero_of_no_sems (by decide) r.2⟩) (Cert.ProjReferenceIdeal.Value.run m ρ)

section
open Cert.MergeStepIdeal.MergeStepValue

/-- Over the sample batch the merge call's result is its reference's, for any arguments. -/
theorem alg_merge_step : Cert.algebraic_MergeStepIdeal_MergeStepReferenceIdeal := by
  intro m g m' g' _ hagree
  refine ⟨fun c => G m c, ?_, ?_⟩
  · exact (θ_run _ _ _).mono (fun r h c => ⟨(h c).1.trans (final m c), (h c).2⟩) (Cert.MergeStepIdeal.Value.run_blocks m g)
  · refine (θ_run _ _ _).mono (fun r h c => ⟨(h c).1.trans ?_, (h c).2⟩) (Cert.MergeStepReferenceIdeal.Value.run m' g')
    obtain ⟨e0, e1, e2, e3, e4, e5, e6⟩ := hagree c
    rw [e0, e1, e2, e3, e4, e5, e6]
    refine funext fun y => ?_
    obtain ⟨i, l, rfl⟩ : ∃ (i : Fin 32) (l : Fin 2048), y = ix2 i l := ⟨y 0, y 1, eq_ix2 y⟩
    exact Cert.MergeStepReferenceIdeal.MergeStepValue.refOut_at _ _ _ _ _ _ _ i l
end

theorem frame_merge_step_ref : Cert.quiescent_MergeStepReferenceIdeal := fun m ρ _ =>
  (θ_run _ _ _).mono (fun r h => ⟨fun c => (h c).2, Idealize.ShloMosaic.sem_eq_zero_of_no_sems (by decide) r.2⟩) (Cert.MergeStepReferenceIdeal.Value.run m ρ)

section
open Cert.ProjStepTile Cert.ProjStepRef

/-- Over the sample batch the input projection's four results are its reference's, for any arguments. -/
theorem alg_proj_step : Cert.algebraic_ProjStepIdeal_ProjStepReferenceIdeal := by
  intro m g m' g' _ hagree
  refine ⟨fun c => G4 m c, fun c => GR m c 10240, fun c => GR m c 10752, fun c => GR m c 11264, ?_, ?_⟩
  · refine (θ_run _ _ _).mono (fun r h c => ⟨((h.1 c).1 4).trans (final4 m c), ((h.1 c).1 5).trans (final5 m c), ((h.1 c).1 6).trans (final6 m c),
      ((h.1 c).1 7).trans (final7 m c), h.2.1 c⟩) (θ_run_and (Cert.ProjStepFrame.run_main m g) (Cert.ProjStepFrame.frame_all m g))
  · have hrow : ∀ (c : Dev Cert.ProjStepReferenceIdeal.nD) (r : Fin 32) (j : Fin 11816), raw (m' ((c.tc : Thread Cert.ProjStepReferenceIdeal.nD Cert.ProjStepReferenceIdeal.τ).loc Cert.ProjStepReferenceIdeal.main_arg0))
        (m' ((c.tc : Thread Cert.ProjStepReferenceIdeal.nD Cert.ProjStepReferenceIdeal.τ).loc Cert.ProjStepReferenceIdeal.main_arg1))
        (m' ((c.tc : Thread Cert.ProjStepReferenceIdeal.nD Cert.ProjStepReferenceIdeal.τ).loc Cert.ProjStepReferenceIdeal.main_arg2)) (ix2 r j)
        = ∑ k, Cert.ProjSpec.normRow (aX m c r) (aNw m c) k * aW m c k j := by
      intro c r j
      obtain ⟨e0, e1, e2, -, -, -⟩ := hagree c
      rw [e0, e1, e2]
      exact raw_at _ _ _ r j
    refine (θ_run _ _ _).mono (fun r h c => ⟨(h c).1.trans ?_, (h c).2.1.trans ?_, (h c).2.2.1.trans ?_, (h c).2.2.2.1.trans ?_, (h c).2.2.2.2⟩)
      (Cert.ProjStepReferenceIdeal.Value.run m' g')
    · obtain ⟨-, -, -, e3, e4, e5⟩ := hagree c
      rw [res79, e3, e4, e5]
      refine funext fun y => ?_
      obtain ⟨i, l, rfl⟩ : ∃ (i : Fin 32) (l : Fin 12288), y = ix2 i l := ⟨y 0, y 1, eq_ix2 y⟩
      exact columns_at _ _ _ _ i _ _ _ (hrow c i) l
    · refine funext fun y => ?_
      obtain ⟨n, d, rfl⟩ : ∃ (n : Fin 128) (d : Fin 128), y = ix2 n d := ⟨y 0, y 1, eq_ix2 y⟩
      exact cmpKv_at _ (m ((c : Thread Cert.ProjStepIdeal.nD Cert.ProjStepIdeal.τ).loc Cert.ProjStepIdeal.main_arg3)) (m ((c : Thread Cert.ProjStepIdeal.nD Cert.ProjStepIdeal.τ).loc Cert.ProjStepIdeal.main_arg4)) (m ((c : Thread Cert.ProjStepIdeal.nD Cert.ProjStepIdeal.τ).loc Cert.ProjStepIdeal.main_arg5)) _ _ _ _ (hrow c _) n d rfl
    · obtain ⟨-, -, -, -, e4, -⟩ := hagree c
      rw [res81, e4]
      refine funext fun y => ?_
      obtain ⟨n, d, rfl⟩ : ∃ (n : Fin 128) (d : Fin 128), y = ix2 n d := ⟨y 0, y 1, eq_ix2 y⟩
      exact selKv_at _ (m ((c : Thread Cert.ProjStepIdeal.nD Cert.ProjStepIdeal.τ).loc Cert.ProjStepIdeal.main_arg3)) _ (m ((c : Thread Cert.ProjStepIdeal.nD Cert.ProjStepIdeal.τ).loc Cert.ProjStepIdeal.main_arg5)) _ _ _ _ (hrow c _) n d rfl
    · obtain ⟨-, -, -, -, -, e5⟩ := hagree c
      rw [res82, e5]
      refine funext fun y => ?_
      obtain ⟨n, d, rfl⟩ : ∃ (n : Fin 128) (d : Fin 128), y = ix2 n d := ⟨y 0, y 1, eq_ix2 y⟩
      exact winKv_at _ (m ((c : Thread Cert.ProjStepIdeal.nD Cert.ProjStepIdeal.τ).loc Cert.ProjStepIdeal.main_arg3)) (m ((c : Thread Cert.ProjStepIdeal.nD Cert.ProjStepIdeal.τ).loc Cert.ProjStepIdeal.main_arg4)) _ _ _ _ _ (hrow c _) n d rfl
end

theorem frame_proj_step_ideal : Cert.quiescent_ProjStepIdeal := fun m ρ _ => Cert.ProjStepFrame.frame_all (F := Ideal) m ρ
theorem frame_proj_step_ref : Cert.quiescent_ProjStepReferenceIdeal := fun m ρ _ =>
  (θ_run _ _ _).mono (fun r h => ⟨fun c => (h c).2.2.2.2, Idealize.ShloMosaic.sem_eq_zero_of_no_sems (by decide) r.2⟩) (Cert.ProjStepReferenceIdeal.Value.run m ρ)

/-- The prompt's recurrence between chunks: both results are the reference's, for any arguments. -/
theorem alg_inter : Cert.algebraic_InterIdeal_InterReferenceIdeal := by
  intro m g m' g' _ hagree
  have hX : ∀ c, Cert.InterReferenceIdeal.InterRef.chunks m' c = Cert.InterTile.chunks m c := by
    intro c
    obtain ⟨e0, e1, e2, e3, e4, e5, e6, e7⟩ := hagree c
    unfold Cert.InterReferenceIdeal.InterRef.chunks Cert.InterTile.chunks
    rw [e0, e1, e2, e3, e4, e5]
  have hz : ∀ c, Cert.InterReferenceIdeal.InterRef.act m' c = Cert.InterTile.act m c := by
    intro c
    obtain ⟨e0, e1, e2, e3, e4, e5, e6, e7⟩ := hagree c
    unfold Cert.InterReferenceIdeal.InterRef.act Cert.InterTile.act
    rw [e6]
  have hg : ∀ c, Cert.InterReferenceIdeal.InterRef.wgt m' c = Cert.InterTile.wgt m c := by
    intro c
    obtain ⟨e0, e1, e2, e3, e4, e5, e6, e7⟩ := hagree c
    unfold Cert.InterReferenceIdeal.InterRef.wgt Cert.InterTile.wgt
    rw [e7]
  refine ⟨fun c => Cert.InterIdeal.Value.G8 m c, fun c => Cert.InterIdeal.Value.G9 m c, Cert.InterIdeal.Value.run m g, ?_⟩
  refine (θ_run _ _ _).mono (fun r h c => ⟨(h c).1.trans (funext fun y => ?_), (h c).2.1.trans (funext fun y => ?_), (h c).2.2⟩)
    (Cert.InterReferenceIdeal.Value.run m' g')
  · obtain ⟨a, b, t, n, rfl⟩ : ∃ (a b : Fin 4) (t : Fin 2048) (n : Fin 1024), y = ix4 a b t n := ⟨y 0, y 1, y 2, y 3, eq_ix4 y⟩
    refine (Cert.InterReferenceIdeal.InterRef.res37 m' c a b t n).trans (Eq.trans ?_ (Cert.InterTile.G8_at m c a b t n).symm)
    rw [hX, hz, hg]
  · obtain ⟨a, b, h, i, j, rfl⟩ : ∃ (a b : Fin 4) (h : Fin 8) (i j : Fin 128), y = ix5 a b h i j := ⟨y 0, y 1, y 2, y 3, y 4, eq_ix5 y⟩
    refine (Cert.InterReferenceIdeal.InterRef.res38 m' c a b h i j).trans (Eq.trans ?_ (Cert.InterTile.G9_at m c a b h i j).symm)
    rw [hX]

theorem frame_inter_ref : Cert.quiescent_InterReferenceIdeal := fun m ρ _ =>
  (θ_run _ _ _).mono (fun r h => ⟨fun c => (h c).2.2, Idealize.ShloMosaic.sem_eq_zero_of_no_sems (by decide) r.2⟩) (Cert.InterReferenceIdeal.Value.run m ρ)

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts, Cert.Proj.Gen.facts, Cert.ProjIdeal.Gen.facts, Cert.ProjReferenceIdeal.Gen.facts,
  Cert.MergeStep.Gen.facts, Cert.MergeStepIdeal.Gen.facts, Cert.MergeStepReferenceIdeal.Gen.facts, Cert.ProjStep.Gen.facts, Cert.ProjStepIdeal.Gen.facts, Cert.ProjStepReferenceIdeal.Gen.facts,
  Cert.Inter.Gen.facts, Cert.InterIdeal.Gen.facts, Cert.InterReferenceIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Merge.Gen.frame m ρ, fun m ρ _ => Cert.MergeIdeal.Gen.frame m ρ, frame_merge_ref,
  Cert.ProjBits.frame, frame_proj_ideal, frame_proj_ref,
  fun m ρ _ => Cert.MergeStep.Gen.frame m ρ, fun m ρ _ => Cert.MergeStepIdeal.Gen.frame m ρ, frame_merge_step_ref,
  Cert.ProjStepBits.frame, frame_proj_step_ideal, frame_proj_step_ref,
  fun m ρ _ => Cert.Inter.Gen.frame m ρ, fun m ρ _ => Cert.InterIdeal.Gen.frame m ρ, frame_inter_ref,
  trivial, alg, trivial, alg_merge, trivial, alg_proj, trivial, alg_merge_step, trivial, alg_proj_step,
  trivial, alg_inter⟩

end Cert.Proof

end
